-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerReferenceIdeal (m : (ℓ : Loc Cert.LayerReferenceIdeal.nD Cert.LayerReferenceIdeal.τ Cert.LayerReferenceIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesIdeal_finite_weights [hPre_finite_weights : Cert.Pre_finite_weights.Facts] (m : (ℓ : Loc Cert.StatesIdeal.nD Cert.StatesIdeal.τ Cert.StatesIdeal.sig) → Buf (Elt Ideal) ℓ) : Prop :=
  ∀ c : Dev Cert.StatesIdeal.nD,
    (Cert.Pre_finite_weights.fn (F := Ideal) (m ((c.tc : Thread Cert.StatesIdeal.nD Cert.StatesIdeal.τ).loc Cert.StatesIdeal.main_arg0)) (m ((c.tc : Thread Cert.StatesIdeal.nD Cert.StatesIdeal.τ).loc Cert.StatesIdeal.main_arg1)) (m ((c.tc : Thread Cert.StatesIdeal.nD Cert.StatesIdeal.τ).loc Cert.StatesIdeal.main_arg2)) (m ((c.tc : Thread Cert.StatesIdeal.nD Cert.StatesIdeal.τ).loc Cert.StatesIdeal.main_arg3)) (m ((c.tc : Thread Cert.StatesIdeal.nD Cert.StatesIdeal.τ).loc Cert.StatesIdeal.main_arg4)) (m ((c.tc : Thread Cert.StatesIdeal.nD Cert.StatesIdeal.τ).loc Cert.StatesIdeal.main_arg5)) (m ((c.tc : Thread Cert.StatesIdeal.nD Cert.StatesIdeal.τ).loc Cert.StatesIdeal.main_arg6))) = (fun _ => 1#1)

def Pre_StatesReferenceIdeal (m : (ℓ : Loc Cert.StatesReferenceIdeal.nD Cert.StatesReferenceIdeal.τ Cert.StatesReferenceIdeal.sig) → Buf (Elt Ideal) ℓ) : Prop :=
  True

def Pre_StatesReferenceIdeal_finite_weights [hPre_finite_weights : Cert.Pre_finite_weights.Facts] (m : (ℓ : Loc Cert.StatesReferenceIdeal.nD Cert.StatesReferenceIdeal.τ Cert.StatesReferenceIdeal.sig) → Buf (Elt Ideal) ℓ) : Prop :=
  ∀ c : Dev Cert.StatesReferenceIdeal.nD,
    (Cert.Pre_finite_weights.fn (F := Ideal) (m ((c.tc : Thread Cert.StatesReferenceIdeal.nD Cert.StatesReferenceIdeal.τ).loc Cert.StatesReferenceIdeal.main_arg0)) (m ((c.tc : Thread Cert.StatesReferenceIdeal.nD Cert.StatesReferenceIdeal.τ).loc Cert.StatesReferenceIdeal.main_arg1)) (m ((c.tc : Thread Cert.StatesReferenceIdeal.nD Cert.StatesReferenceIdeal.τ).loc Cert.StatesReferenceIdeal.main_arg2)) (m ((c.tc : Thread Cert.StatesReferenceIdeal.nD Cert.StatesReferenceIdeal.τ).loc Cert.StatesReferenceIdeal.main_arg3)) (m ((c.tc : Thread Cert.StatesReferenceIdeal.nD Cert.StatesReferenceIdeal.τ).loc Cert.StatesReferenceIdeal.main_arg4)) (m ((c.tc : Thread Cert.StatesReferenceIdeal.nD Cert.StatesReferenceIdeal.τ).loc Cert.StatesReferenceIdeal.main_arg5)) (m ((c.tc : Thread Cert.StatesReferenceIdeal.nD Cert.StatesReferenceIdeal.τ).loc Cert.StatesReferenceIdeal.main_arg6))) = (fun _ => 1#1)

def Pre_SampleMerge (m : (ℓ : Loc Cert.SampleMerge.nD Cert.SampleMerge.τ Cert.SampleMerge.sig) → Buf (Elt Bits) ℓ) : Prop :=
  True

def Pre_SampleMergeIdeal (m : (ℓ : Loc Cert.SampleMergeIdeal.nD Cert.SampleMergeIdeal.τ Cert.SampleMergeIdeal.sig) → Buf (Elt Ideal) ℓ) : Prop :=
  True

def Pre_SampleMergeReferenceIdeal (m : (ℓ : Loc Cert.SampleMergeReferenceIdeal.nD Cert.SampleMergeReferenceIdeal.τ Cert.SampleMergeReferenceIdeal.sig) → Buf (Elt Ideal) ℓ) : Prop :=
  True

def Pre_SampleStates (m : (ℓ : Loc Cert.SampleStates.nD Cert.SampleStates.τ Cert.SampleStates.sig) → Buf (Elt Bits) ℓ) : Prop :=
  True

def Pre_SampleStatesIdeal (m : (ℓ : Loc Cert.SampleStatesIdeal.nD Cert.SampleStatesIdeal.τ Cert.SampleStatesIdeal.sig) → Buf (Elt Ideal) ℓ) : Prop :=
  True

def Pre_SampleStatesIdeal_sample_finite_weights [hPre_sample_finite_weights : Cert.Pre_sample_finite_weights.Facts] (m : (ℓ : Loc Cert.SampleStatesIdeal.nD Cert.SampleStatesIdeal.τ Cert.SampleStatesIdeal.sig) → Buf (Elt Ideal) ℓ) : Prop :=
  ∀ c : Dev Cert.SampleStatesIdeal.nD,
    (Cert.Pre_sample_finite_weights.fn (F := Ideal) (m ((c.tc : Thread Cert.SampleStatesIdeal.nD Cert.SampleStatesIdeal.τ).loc Cert.SampleStatesIdeal.main_arg0)) (m ((c.tc : Thread Cert.SampleStatesIdeal.nD Cert.SampleStatesIdeal.τ).loc Cert.SampleStatesIdeal.main_arg1)) (m ((c.tc : Thread Cert.SampleStatesIdeal.nD Cert.SampleStatesIdeal.τ).loc Cert.SampleStatesIdeal.main_arg2)) (m ((c.tc : Thread Cert.SampleStatesIdeal.nD Cert.SampleStatesIdeal.τ).loc Cert.SampleStatesIdeal.main_arg3)) (m ((c.tc : Thread Cert.SampleStatesIdeal.nD Cert.SampleStatesIdeal.τ).loc Cert.SampleStatesIdeal.main_arg4)) (m ((c.tc : Thread Cert.SampleStatesIdeal.nD Cert.SampleStatesIdeal.τ).loc Cert.SampleStatesIdeal.main_arg5)) (m ((c.tc : Thread Cert.SampleStatesIdeal.nD Cert.SampleStatesIdeal.τ).loc Cert.SampleStatesIdeal.main_arg6)) (m ((c.tc : Thread Cert.SampleStatesIdeal.nD Cert.SampleStatesIdeal.τ).loc Cert.SampleStatesIdeal.main_arg7))) = (fun _ => 1#1)

def Pre_SampleStatesReferenceIdeal (m : (ℓ : Loc Cert.SampleStatesReferenceIdeal.nD Cert.SampleStatesReferenceIdeal.τ Cert.SampleStatesReferenceIdeal.sig) → Buf (Elt Ideal) ℓ) : Prop :=
  True

def Pre_SampleStatesReferenceIdeal_sample_finite_weights [hPre_sample_finite_weights : Cert.Pre_sample_finite_weights.Facts] (m : (ℓ : Loc Cert.SampleStatesReferenceIdeal.nD Cert.SampleStatesReferenceIdeal.τ Cert.SampleStatesReferenceIdeal.sig) → Buf (Elt Ideal) ℓ) : Prop :=
  ∀ c : Dev Cert.SampleStatesReferenceIdeal.nD,
    (Cert.Pre_sample_finite_weights.fn (F := Ideal) (m ((c.tc : Thread Cert.SampleStatesReferenceIdeal.nD Cert.SampleStatesReferenceIdeal.τ).loc Cert.SampleStatesReferenceIdeal.main_arg0)) (m ((c.tc : Thread Cert.SampleStatesReferenceIdeal.nD Cert.SampleStatesReferenceIdeal.τ).loc Cert.SampleStatesReferenceIdeal.main_arg1)) (m ((c.tc : Thread Cert.SampleStatesReferenceIdeal.nD Cert.SampleStatesReferenceIdeal.τ).loc Cert.SampleStatesReferenceIdeal.main_arg2)) (m ((c.tc : Thread Cert.SampleStatesReferenceIdeal.nD Cert.SampleStatesReferenceIdeal.τ).loc Cert.SampleStatesReferenceIdeal.main_arg3)) (m ((c.tc : Thread Cert.SampleStatesReferenceIdeal.nD Cert.SampleStatesReferenceIdeal.τ).loc Cert.SampleStatesReferenceIdeal.main_arg4)) (m ((c.tc : Thread Cert.SampleStatesReferenceIdeal.nD Cert.SampleStatesReferenceIdeal.τ).loc Cert.SampleStatesReferenceIdeal.main_arg5)) (m ((c.tc : Thread Cert.SampleStatesReferenceIdeal.nD Cert.SampleStatesReferenceIdeal.τ).loc Cert.SampleStatesReferenceIdeal.main_arg6)) (m ((c.tc : Thread Cert.SampleStatesReferenceIdeal.nD Cert.SampleStatesReferenceIdeal.τ).loc Cert.SampleStatesReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4)
      ∧ r.2.mem ((c.tc : Thread Cert.States.nD Cert.States.τ).loc Cert.States.main_arg5) = m ((c.tc : Thread Cert.States.nD Cert.States.τ).loc Cert.States.main_arg5)
      ∧ r.2.mem ((c.tc : Thread Cert.States.nD Cert.States.τ).loc Cert.States.main_arg6) = m ((c.tc : Thread Cert.States.nD Cert.States.τ).loc Cert.States.main_arg6))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ r.2.sem = fun _ => 0)

def quiescent_StatesIdeal_pre_finite_weights [hStatesIdeal : Cert.StatesIdeal.Facts] [hPre_finite_weights : Cert.Pre_finite_weights.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal_finite_weights m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ r.2.sem = fun _ => 0)

def quiescent_StatesReferenceIdeal [hStatesReferenceIdeal : Cert.StatesReferenceIdeal.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1)
      ∧ r.2.mem ((c.tc : Thread Cert.StatesReferenceIdeal.nD Cert.StatesReferenceIdeal.τ).loc Cert.StatesReferenceIdeal.main_arg2) = m ((c.tc : Thread Cert.StatesReferenceIdeal.nD Cert.StatesReferenceIdeal.τ).loc Cert.StatesReferenceIdeal.main_arg2)
      ∧ r.2.mem ((c.tc : Thread Cert.StatesReferenceIdeal.nD Cert.StatesReferenceIdeal.τ).loc Cert.StatesReferenceIdeal.main_arg3) = m ((c.tc : Thread Cert.StatesReferenceIdeal.nD Cert.StatesReferenceIdeal.τ).loc Cert.StatesReferenceIdeal.main_arg3)
      ∧ r.2.mem ((c.tc : Thread Cert.StatesReferenceIdeal.nD Cert.StatesReferenceIdeal.τ).loc Cert.StatesReferenceIdeal.main_arg4) = m ((c.tc : Thread Cert.StatesReferenceIdeal.nD Cert.StatesReferenceIdeal.τ).loc Cert.StatesReferenceIdeal.main_arg4)
      ∧ r.2.mem ((c.tc : Thread Cert.StatesReferenceIdeal.nD Cert.StatesReferenceIdeal.τ).loc Cert.StatesReferenceIdeal.main_arg5) = m ((c.tc : Thread Cert.StatesReferenceIdeal.nD Cert.StatesReferenceIdeal.τ).loc Cert.StatesReferenceIdeal.main_arg5)
      ∧ r.2.mem ((c.tc : Thread Cert.StatesReferenceIdeal.nD Cert.StatesReferenceIdeal.τ).loc Cert.StatesReferenceIdeal.main_arg6) = m ((c.tc : Thread Cert.StatesReferenceIdeal.nD Cert.StatesReferenceIdeal.τ).loc Cert.StatesReferenceIdeal.main_arg6))
      ∧ r.2.sem = fun _ => 0)

def quiescent_StatesReferenceIdeal_pre_finite_weights [hStatesReferenceIdeal : Cert.StatesReferenceIdeal.Facts] [hPre_finite_weights : Cert.Pre_finite_weights.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal_finite_weights m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1)
      ∧ r.2.mem ((c.tc : Thread Cert.StatesReferenceIdeal.nD Cert.StatesReferenceIdeal.τ).loc Cert.StatesReferenceIdeal.main_arg2) = m ((c.tc : Thread Cert.StatesReferenceIdeal.nD Cert.StatesReferenceIdeal.τ).loc Cert.StatesReferenceIdeal.main_arg2)
      ∧ r.2.mem ((c.tc : Thread Cert.StatesReferenceIdeal.nD Cert.StatesReferenceIdeal.τ).loc Cert.StatesReferenceIdeal.main_arg3) = m ((c.tc : Thread Cert.StatesReferenceIdeal.nD Cert.StatesReferenceIdeal.τ).loc Cert.StatesReferenceIdeal.main_arg3)
      ∧ r.2.mem ((c.tc : Thread Cert.StatesReferenceIdeal.nD Cert.StatesReferenceIdeal.τ).loc Cert.StatesReferenceIdeal.main_arg4) = m ((c.tc : Thread Cert.StatesReferenceIdeal.nD Cert.StatesReferenceIdeal.τ).loc Cert.StatesReferenceIdeal.main_arg4)
      ∧ r.2.mem ((c.tc : Thread Cert.StatesReferenceIdeal.nD Cert.StatesReferenceIdeal.τ).loc Cert.StatesReferenceIdeal.main_arg5) = m ((c.tc : Thread Cert.StatesReferenceIdeal.nD Cert.StatesReferenceIdeal.τ).loc Cert.StatesReferenceIdeal.main_arg5)
      ∧ r.2.mem ((c.tc : Thread Cert.StatesReferenceIdeal.nD Cert.StatesReferenceIdeal.τ).loc Cert.StatesReferenceIdeal.main_arg6) = m ((c.tc : Thread Cert.StatesReferenceIdeal.nD Cert.StatesReferenceIdeal.τ).loc Cert.StatesReferenceIdeal.main_arg6))
      ∧ r.2.sem = fun _ => 0)

def quiescent_SampleMerge [hSampleMerge : Cert.SampleMerge.Facts] : Prop :=
  ∀ (m : (ℓ : Loc Cert.SampleMerge.nD Cert.SampleMerge.τ Cert.SampleMerge.sig) → Buf (Elt Bits) ℓ) (g : Dev Cert.SampleMerge.nD → PrngReg), Pre_SampleMerge m →
    θ_run (Cert.SampleMerge.defs (F := Bits)) (onTc (τ := Cert.SampleMerge.τ) (Cert.SampleMerge.main (F := Bits))) ⟨m, fun _ => 0, g⟩ (fun r => (∀ c : Dev Cert.SampleMerge.nD,
      r.2.mem ((c.tc : Thread Cert.SampleMerge.nD Cert.SampleMerge.τ).loc Cert.SampleMerge.main_arg0) = m ((c.tc : Thread Cert.SampleMerge.nD Cert.SampleMerge.τ).loc Cert.SampleMerge.main_arg0)
      ∧ r.2.mem ((c.tc : Thread Cert.SampleMerge.nD Cert.SampleMerge.τ).loc Cert.SampleMerge.main_arg1) = m ((c.tc : Thread Cert.SampleMerge.nD Cert.SampleMerge.τ).loc Cert.SampleMerge.main_arg1)
      ∧ r.2.mem ((c.tc : Thread Cert.SampleMerge.nD Cert.SampleMerge.τ).loc Cert.SampleMerge.main_arg2) = m ((c.tc : Thread Cert.SampleMerge.nD Cert.SampleMerge.τ).loc Cert.SampleMerge.main_arg2)
      ∧ r.2.mem ((c.tc : Thread Cert.SampleMerge.nD Cert.SampleMerge.τ).loc Cert.SampleMerge.main_arg3) = m ((c.tc : Thread Cert.SampleMerge.nD Cert.SampleMerge.τ).loc Cert.SampleMerge.main_arg3)
      ∧ r.2.mem ((c.tc : Thread Cert.SampleMerge.nD Cert.SampleMerge.τ).loc Cert.SampleMerge.main_arg4) = m ((c.tc : Thread Cert.SampleMerge.nD Cert.SampleMerge.τ).loc Cert.SampleMerge.main_arg4)
      ∧ r.2.mem ((c.tc : Thread Cert.SampleMerge.nD Cert.SampleMerge.τ).loc Cert.SampleMerge.main_arg5) = m ((c.tc : Thread Cert.SampleMerge.nD Cert.SampleMerge.τ).loc Cert.SampleMerge.main_arg5)
      ∧ r.2.mem ((c.tc : Thread Cert.SampleMerge.nD Cert.SampleMerge.τ).loc Cert.SampleMerge.main_arg6) = m ((c.tc : Thread Cert.SampleMerge.nD Cert.SampleMerge.τ).loc Cert.SampleMerge.main_arg6)
      ∧ r.2.mem ((c.tc : Thread Cert.SampleMerge.nD Cert.SampleMerge.τ).loc Cert.SampleMerge.main_arg7) = m ((c.tc : Thread Cert.SampleMerge.nD Cert.SampleMerge.τ).loc Cert.SampleMerge.main_arg7)
      ∧ r.2.mem ((c.tc : Thread Cert.SampleMerge.nD Cert.SampleMerge.τ).loc Cert.SampleMerge.main_arg8) = m ((c.tc : Thread Cert.SampleMerge.nD Cert.SampleMerge.τ).loc Cert.SampleMerge.main_arg8)
      ∧ r.2.mem ((c.tc : Thread Cert.SampleMerge.nD Cert.SampleMerge.τ).loc Cert.SampleMerge.main_arg9) = m ((c.tc : Thread Cert.SampleMerge.nD Cert.SampleMerge.τ).loc Cert.SampleMerge.main_arg9)
      ∧ r.2.mem ((c.tc : Thread Cert.SampleMerge.nD Cert.SampleMerge.τ).loc Cert.SampleMerge.main_arg10) = m ((c.tc : Thread Cert.SampleMerge.nD Cert.SampleMerge.τ).loc Cert.SampleMerge.main_arg10)
      ∧ r.2.mem ((c.tc : Thread Cert.SampleMerge.nD Cert.SampleMerge.τ).loc Cert.SampleMerge.main_arg11) = m ((c.tc : Thread Cert.SampleMerge.nD Cert.SampleMerge.τ).loc Cert.SampleMerge.main_arg11))
      ∧ r.2.sem = fun _ => 0)

def quiescent_SampleMergeIdeal [hSampleMergeIdeal : Cert.SampleMergeIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg), Pre_SampleMergeIdeal m →
    θ_run (Cert.SampleMergeIdeal.defs (F := Ideal)) (onTc (τ := Cert.SampleMergeIdeal.τ) (Cert.SampleMergeIdeal.main (F := Ideal))) ⟨m, fun _ => 0, g⟩ (fun r => (∀ c : Dev Cert.SampleMergeIdeal.nD,
      r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
      ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
      ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
      ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
      ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4)
      ∧ r.2.mem ((c.tc : Thread Cert.SampleMergeIdeal.nD Cert.SampleMergeIdeal.τ).loc Cert.SampleMergeIdeal.main_arg5) = m ((c.tc : Thread Cert.SampleMergeIdeal.nD Cert.SampleMergeIdeal.τ).loc Cert.SampleMergeIdeal.main_arg5)
      ∧ r.2.mem ((c.tc : Thread Cert.SampleMergeIdeal.nD Cert.SampleMergeIdeal.τ).loc Cert.SampleMergeIdeal.main_arg6) = m ((c.tc : Thread Cert.SampleMergeIdeal.nD Cert.SampleMergeIdeal.τ).loc Cert.SampleMergeIdeal.main_arg6)
      ∧ r.2.mem ((c.tc : Thread Cert.SampleMergeIdeal.nD Cert.SampleMergeIdeal.τ).loc Cert.SampleMergeIdeal.main_arg7) = m ((c.tc : Thread Cert.SampleMergeIdeal.nD Cert.SampleMergeIdeal.τ).loc Cert.SampleMergeIdeal.main_arg7)
      ∧ r.2.mem ((c.tc : Thread Cert.SampleMergeIdeal.nD Cert.SampleMergeIdeal.τ).loc Cert.SampleMergeIdeal.main_arg8) = m ((c.tc : Thread Cert.SampleMergeIdeal.nD Cert.SampleMergeIdeal.τ).loc Cert.SampleMergeIdeal.main_arg8)
      ∧ r.2.mem ((c.tc : Thread Cert.SampleMergeIdeal.nD Cert.SampleMergeIdeal.τ).loc Cert.SampleMergeIdeal.main_arg9) = m ((c.tc : Thread Cert.SampleMergeIdeal.nD Cert.SampleMergeIdeal.τ).loc Cert.SampleMergeIdeal.main_arg9)
      ∧ r.2.mem ((c.tc : Thread Cert.SampleMergeIdeal.nD Cert.SampleMergeIdeal.τ).loc Cert.SampleMergeIdeal.main_arg10) = m ((c.tc : Thread Cert.SampleMergeIdeal.nD Cert.SampleMergeIdeal.τ).loc Cert.SampleMergeIdeal.main_arg10)
      ∧ r.2.mem ((c.tc : Thread Cert.SampleMergeIdeal.nD Cert.SampleMergeIdeal.τ).loc Cert.SampleMergeIdeal.main_arg11) = m ((c.tc : Thread Cert.SampleMergeIdeal.nD Cert.SampleMergeIdeal.τ).loc Cert.SampleMergeIdeal.main_arg11))
      ∧ r.2.sem = fun _ => 0)

def quiescent_SampleMergeReferenceIdeal [hSampleMergeReferenceIdeal : Cert.SampleMergeReferenceIdeal.Facts] : Prop :=
  ∀ (m : (ℓ : Loc Cert.SampleMergeReferenceIdeal.nD Cert.SampleMergeReferenceIdeal.τ Cert.SampleMergeReferenceIdeal.sig) → Buf (Elt Ideal) ℓ) (g : Dev Cert.SampleMergeReferenceIdeal.nD → PrngReg), Pre_SampleMergeReferenceIdeal m →
    θ_run (Cert.SampleMergeReferenceIdeal.defs (F := Ideal)) (onTc (τ := Cert.SampleMergeReferenceIdeal.τ) (Cert.SampleMergeReferenceIdeal.main (F := Ideal))) ⟨m, fun _ => 0, g⟩ (fun r => (∀ c : Dev Cert.SampleMergeReferenceIdeal.nD,
      r.2.mem ((c.tc : Thread Cert.SampleMergeReferenceIdeal.nD Cert.SampleMergeReferenceIdeal.τ).loc Cert.SampleMergeReferenceIdeal.main_arg0) = m ((c.tc : Thread Cert.SampleMergeReferenceIdeal.nD Cert.SampleMergeReferenceIdeal.τ).loc Cert.SampleMergeReferenceIdeal.main_arg0)
      ∧ r.2.mem ((c.tc : Thread Cert.SampleMergeReferenceIdeal.nD Cert.SampleMergeReferenceIdeal.τ).loc Cert.SampleMergeReferenceIdeal.main_arg1) = m ((c.tc : Thread Cert.SampleMergeReferenceIdeal.nD Cert.SampleMergeReferenceIdeal.τ).loc Cert.SampleMergeReferenceIdeal.main_arg1)
      ∧ r.2.mem ((c.tc : Thread Cert.SampleMergeReferenceIdeal.nD Cert.SampleMergeReferenceIdeal.τ).loc Cert.SampleMergeReferenceIdeal.main_arg2) = m ((c.tc : Thread Cert.SampleMergeReferenceIdeal.nD Cert.SampleMergeReferenceIdeal.τ).loc Cert.SampleMergeReferenceIdeal.main_arg2)
      ∧ r.2.mem ((c.tc : Thread Cert.SampleMergeReferenceIdeal.nD Cert.SampleMergeReferenceIdeal.τ).loc Cert.SampleMergeReferenceIdeal.main_arg3) = m ((c.tc : Thread Cert.SampleMergeReferenceIdeal.nD Cert.SampleMergeReferenceIdeal.τ).loc Cert.SampleMergeReferenceIdeal.main_arg3)
      ∧ r.2.mem ((c.tc : Thread Cert.SampleMergeReferenceIdeal.nD Cert.SampleMergeReferenceIdeal.τ).loc Cert.SampleMergeReferenceIdeal.main_arg4) = m ((c.tc : Thread Cert.SampleMergeReferenceIdeal.nD Cert.SampleMergeReferenceIdeal.τ).loc Cert.SampleMergeReferenceIdeal.main_arg4)
      ∧ r.2.mem ((c.tc : Thread Cert.SampleMergeReferenceIdeal.nD Cert.SampleMergeReferenceIdeal.τ).loc Cert.SampleMergeReferenceIdeal.main_arg5) = m ((c.tc : Thread Cert.SampleMergeReferenceIdeal.nD Cert.SampleMergeReferenceIdeal.τ).loc Cert.SampleMergeReferenceIdeal.main_arg5)
      ∧ r.2.mem ((c.tc : Thread Cert.SampleMergeReferenceIdeal.nD Cert.SampleMergeReferenceIdeal.τ).loc Cert.SampleMergeReferenceIdeal.main_arg6) = m ((c.tc : Thread Cert.SampleMergeReferenceIdeal.nD Cert.SampleMergeReferenceIdeal.τ).loc Cert.SampleMergeReferenceIdeal.main_arg6)
      ∧ r.2.mem ((c.tc : Thread Cert.SampleMergeReferenceIdeal.nD Cert.SampleMergeReferenceIdeal.τ).loc Cert.SampleMergeReferenceIdeal.main_arg7) = m ((c.tc : Thread Cert.SampleMergeReferenceIdeal.nD Cert.SampleMergeReferenceIdeal.τ).loc Cert.SampleMergeReferenceIdeal.main_arg7)
      ∧ r.2.mem ((c.tc : Thread Cert.SampleMergeReferenceIdeal.nD Cert.SampleMergeReferenceIdeal.τ).loc Cert.SampleMergeReferenceIdeal.main_arg8) = m ((c.tc : Thread Cert.SampleMergeReferenceIdeal.nD Cert.SampleMergeReferenceIdeal.τ).loc Cert.SampleMergeReferenceIdeal.main_arg8)
      ∧ r.2.mem ((c.tc : Thread Cert.SampleMergeReferenceIdeal.nD Cert.SampleMergeReferenceIdeal.τ).loc Cert.SampleMergeReferenceIdeal.main_arg9) = m ((c.tc : Thread Cert.SampleMergeReferenceIdeal.nD Cert.SampleMergeReferenceIdeal.τ).loc Cert.SampleMergeReferenceIdeal.main_arg9)
      ∧ r.2.mem ((c.tc : Thread Cert.SampleMergeReferenceIdeal.nD Cert.SampleMergeReferenceIdeal.τ).loc Cert.SampleMergeReferenceIdeal.main_arg10) = m ((c.tc : Thread Cert.SampleMergeReferenceIdeal.nD Cert.SampleMergeReferenceIdeal.τ).loc Cert.SampleMergeReferenceIdeal.main_arg10)
      ∧ r.2.mem ((c.tc : Thread Cert.SampleMergeReferenceIdeal.nD Cert.SampleMergeReferenceIdeal.τ).loc Cert.SampleMergeReferenceIdeal.main_arg11) = m ((c.tc : Thread Cert.SampleMergeReferenceIdeal.nD Cert.SampleMergeReferenceIdeal.τ).loc Cert.SampleMergeReferenceIdeal.main_arg11))
      ∧ r.2.sem = fun _ => 0)

def quiescent_SampleStates [hSampleStates : Cert.SampleStates.Facts] : Prop :=
  ∀ (m : (ℓ : Loc Cert.SampleStates.nD Cert.SampleStates.τ Cert.SampleStates.sig) → Buf (Elt Bits) ℓ) (g : Dev Cert.SampleStates.nD → PrngReg), Pre_SampleStates m →
    θ_run (Cert.SampleStates.defs (F := Bits)) (onTc (τ := Cert.SampleStates.τ) (Cert.SampleStates.main (F := Bits))) ⟨m, fun _ => 0, g⟩ (fun r => (∀ c : Dev Cert.SampleStates.nD,
      r.2.mem ((c.tc : Thread Cert.SampleStates.nD Cert.SampleStates.τ).loc Cert.SampleStates.main_arg0) = m ((c.tc : Thread Cert.SampleStates.nD Cert.SampleStates.τ).loc Cert.SampleStates.main_arg0)
      ∧ r.2.mem ((c.tc : Thread Cert.SampleStates.nD Cert.SampleStates.τ).loc Cert.SampleStates.main_arg1) = m ((c.tc : Thread Cert.SampleStates.nD Cert.SampleStates.τ).loc Cert.SampleStates.main_arg1)
      ∧ r.2.mem ((c.tc : Thread Cert.SampleStates.nD Cert.SampleStates.τ).loc Cert.SampleStates.main_arg2) = m ((c.tc : Thread Cert.SampleStates.nD Cert.SampleStates.τ).loc Cert.SampleStates.main_arg2)
      ∧ r.2.mem ((c.tc : Thread Cert.SampleStates.nD Cert.SampleStates.τ).loc Cert.SampleStates.main_arg3) = m ((c.tc : Thread Cert.SampleStates.nD Cert.SampleStates.τ).loc Cert.SampleStates.main_arg3)
      ∧ r.2.mem ((c.tc : Thread Cert.SampleStates.nD Cert.SampleStates.τ).loc Cert.SampleStates.main_arg4) = m ((c.tc : Thread Cert.SampleStates.nD Cert.SampleStates.τ).loc Cert.SampleStates.main_arg4)
      ∧ r.2.mem ((c.tc : Thread Cert.SampleStates.nD Cert.SampleStates.τ).loc Cert.SampleStates.main_arg5) = m ((c.tc : Thread Cert.SampleStates.nD Cert.SampleStates.τ).loc Cert.SampleStates.main_arg5)
      ∧ r.2.mem ((c.tc : Thread Cert.SampleStates.nD Cert.SampleStates.τ).loc Cert.SampleStates.main_arg6) = m ((c.tc : Thread Cert.SampleStates.nD Cert.SampleStates.τ).loc Cert.SampleStates.main_arg6)
      ∧ r.2.mem ((c.tc : Thread Cert.SampleStates.nD Cert.SampleStates.τ).loc Cert.SampleStates.main_arg7) = m ((c.tc : Thread Cert.SampleStates.nD Cert.SampleStates.τ).loc Cert.SampleStates.main_arg7))
      ∧ r.2.sem = fun _ => 0)

def quiescent_SampleStatesIdeal [hSampleStatesIdeal : Cert.SampleStatesIdeal.Facts] : Prop :=
  ∀ (m : (ℓ : Loc Cert.SampleStatesIdeal.nD Cert.SampleStatesIdeal.τ Cert.SampleStatesIdeal.sig) → Buf (Elt Ideal) ℓ) (g : Dev Cert.SampleStatesIdeal.nD → PrngReg), Pre_SampleStatesIdeal m →
    θ_run (Cert.SampleStatesIdeal.defs (F := Ideal)) (onTc (τ := Cert.SampleStatesIdeal.τ) (Cert.SampleStatesIdeal.main (F := Ideal))) ⟨m, fun _ => 0, g⟩ (fun r => (∀ c : Dev Cert.SampleStatesIdeal.nD,
      r.2.mem ((c.tc : Thread Cert.SampleStatesIdeal.nD Cert.SampleStatesIdeal.τ).loc Cert.SampleStatesIdeal.main_arg0) = m ((c.tc : Thread Cert.SampleStatesIdeal.nD Cert.SampleStatesIdeal.τ).loc Cert.SampleStatesIdeal.main_arg0)
      ∧ r.2.mem ((c.tc : Thread Cert.SampleStatesIdeal.nD Cert.SampleStatesIdeal.τ).loc Cert.SampleStatesIdeal.main_arg1) = m ((c.tc : Thread Cert.SampleStatesIdeal.nD Cert.SampleStatesIdeal.τ).loc Cert.SampleStatesIdeal.main_arg1)
      ∧ r.2.mem ((c.tc : Thread Cert.SampleStatesIdeal.nD Cert.SampleStatesIdeal.τ).loc Cert.SampleStatesIdeal.main_arg2) = m ((c.tc : Thread Cert.SampleStatesIdeal.nD Cert.SampleStatesIdeal.τ).loc Cert.SampleStatesIdeal.main_arg2)
      ∧ r.2.mem ((c.tc : Thread Cert.SampleStatesIdeal.nD Cert.SampleStatesIdeal.τ).loc Cert.SampleStatesIdeal.main_arg3) = m ((c.tc : Thread Cert.SampleStatesIdeal.nD Cert.SampleStatesIdeal.τ).loc Cert.SampleStatesIdeal.main_arg3)
      ∧ r.2.mem ((c.tc : Thread Cert.SampleStatesIdeal.nD Cert.SampleStatesIdeal.τ).loc Cert.SampleStatesIdeal.main_arg4) = m ((c.tc : Thread Cert.SampleStatesIdeal.nD Cert.SampleStatesIdeal.τ).loc Cert.SampleStatesIdeal.main_arg4)
      ∧ r.2.mem ((c.tc : Thread Cert.SampleStatesIdeal.nD Cert.SampleStatesIdeal.τ).loc Cert.SampleStatesIdeal.main_arg5) = m ((c.tc : Thread Cert.SampleStatesIdeal.nD Cert.SampleStatesIdeal.τ).loc Cert.SampleStatesIdeal.main_arg5)
      ∧ r.2.mem ((c.tc : Thread Cert.SampleStatesIdeal.nD Cert.SampleStatesIdeal.τ).loc Cert.SampleStatesIdeal.main_arg6) = m ((c.tc : Thread Cert.SampleStatesIdeal.nD Cert.SampleStatesIdeal.τ).loc Cert.SampleStatesIdeal.main_arg6)
      ∧ r.2.mem ((c.tc : Thread Cert.SampleStatesIdeal.nD Cert.SampleStatesIdeal.τ).loc Cert.SampleStatesIdeal.main_arg7) = m ((c.tc : Thread Cert.SampleStatesIdeal.nD Cert.SampleStatesIdeal.τ).loc Cert.SampleStatesIdeal.main_arg7))
      ∧ r.2.sem = fun _ => 0)

def quiescent_SampleStatesIdeal_pre_sample_finite_weights [hSampleStatesIdeal : Cert.SampleStatesIdeal.Facts] [hPre_sample_finite_weights : Cert.Pre_sample_finite_weights.Facts] : Prop :=
  ∀ (m : (ℓ : Loc Cert.SampleStatesIdeal.nD Cert.SampleStatesIdeal.τ Cert.SampleStatesIdeal.sig) → Buf (Elt Ideal) ℓ) (g : Dev Cert.SampleStatesIdeal.nD → PrngReg), Pre_SampleStatesIdeal_sample_finite_weights m →
    θ_run (Cert.SampleStatesIdeal.defs (F := Ideal)) (onTc (τ := Cert.SampleStatesIdeal.τ) (Cert.SampleStatesIdeal.main (F := Ideal))) ⟨m, fun _ => 0, g⟩ (fun r => (∀ c : Dev Cert.SampleStatesIdeal.nD,
      r.2.mem ((c.tc : Thread Cert.SampleStatesIdeal.nD Cert.SampleStatesIdeal.τ).loc Cert.SampleStatesIdeal.main_arg0) = m ((c.tc : Thread Cert.SampleStatesIdeal.nD Cert.SampleStatesIdeal.τ).loc Cert.SampleStatesIdeal.main_arg0)
      ∧ r.2.mem ((c.tc : Thread Cert.SampleStatesIdeal.nD Cert.SampleStatesIdeal.τ).loc Cert.SampleStatesIdeal.main_arg1) = m ((c.tc : Thread Cert.SampleStatesIdeal.nD Cert.SampleStatesIdeal.τ).loc Cert.SampleStatesIdeal.main_arg1)
      ∧ r.2.mem ((c.tc : Thread Cert.SampleStatesIdeal.nD Cert.SampleStatesIdeal.τ).loc Cert.SampleStatesIdeal.main_arg2) = m ((c.tc : Thread Cert.SampleStatesIdeal.nD Cert.SampleStatesIdeal.τ).loc Cert.SampleStatesIdeal.main_arg2)
      ∧ r.2.mem ((c.tc : Thread Cert.SampleStatesIdeal.nD Cert.SampleStatesIdeal.τ).loc Cert.SampleStatesIdeal.main_arg3) = m ((c.tc : Thread Cert.SampleStatesIdeal.nD Cert.SampleStatesIdeal.τ).loc Cert.SampleStatesIdeal.main_arg3)
      ∧ r.2.mem ((c.tc : Thread Cert.SampleStatesIdeal.nD Cert.SampleStatesIdeal.τ).loc Cert.SampleStatesIdeal.main_arg4) = m ((c.tc : Thread Cert.SampleStatesIdeal.nD Cert.SampleStatesIdeal.τ).loc Cert.SampleStatesIdeal.main_arg4)
      ∧ r.2.mem ((c.tc : Thread Cert.SampleStatesIdeal.nD Cert.SampleStatesIdeal.τ).loc Cert.SampleStatesIdeal.main_arg5) = m ((c.tc : Thread Cert.SampleStatesIdeal.nD Cert.SampleStatesIdeal.τ).loc Cert.SampleStatesIdeal.main_arg5)
      ∧ r.2.mem ((c.tc : Thread Cert.SampleStatesIdeal.nD Cert.SampleStatesIdeal.τ).loc Cert.SampleStatesIdeal.main_arg6) = m ((c.tc : Thread Cert.SampleStatesIdeal.nD Cert.SampleStatesIdeal.τ).loc Cert.SampleStatesIdeal.main_arg6)
      ∧ r.2.mem ((c.tc : Thread Cert.SampleStatesIdeal.nD Cert.SampleStatesIdeal.τ).loc Cert.SampleStatesIdeal.main_arg7) = m ((c.tc : Thread Cert.SampleStatesIdeal.nD Cert.SampleStatesIdeal.τ).loc Cert.SampleStatesIdeal.main_arg7))
      ∧ r.2.sem = fun _ => 0)

def quiescent_SampleStatesReferenceIdeal [hSampleStatesReferenceIdeal : Cert.SampleStatesReferenceIdeal.Facts] : Prop :=
  ∀ (m : (ℓ : Loc Cert.SampleStatesReferenceIdeal.nD Cert.SampleStatesReferenceIdeal.τ Cert.SampleStatesReferenceIdeal.sig) → Buf (Elt Ideal) ℓ) (g : Dev Cert.SampleStatesReferenceIdeal.nD → PrngReg), Pre_SampleStatesReferenceIdeal m →
    θ_run (Cert.SampleStatesReferenceIdeal.defs (F := Ideal)) (onTc (τ := Cert.SampleStatesReferenceIdeal.τ) (Cert.SampleStatesReferenceIdeal.main (F := Ideal))) ⟨m, fun _ => 0, g⟩ (fun r => (∀ c : Dev Cert.SampleStatesReferenceIdeal.nD,
      r.2.mem ((c.tc : Thread Cert.SampleStatesReferenceIdeal.nD Cert.SampleStatesReferenceIdeal.τ).loc Cert.SampleStatesReferenceIdeal.main_arg0) = m ((c.tc : Thread Cert.SampleStatesReferenceIdeal.nD Cert.SampleStatesReferenceIdeal.τ).loc Cert.SampleStatesReferenceIdeal.main_arg0)
      ∧ r.2.mem ((c.tc : Thread Cert.SampleStatesReferenceIdeal.nD Cert.SampleStatesReferenceIdeal.τ).loc Cert.SampleStatesReferenceIdeal.main_arg1) = m ((c.tc : Thread Cert.SampleStatesReferenceIdeal.nD Cert.SampleStatesReferenceIdeal.τ).loc Cert.SampleStatesReferenceIdeal.main_arg1)
      ∧ r.2.mem ((c.tc : Thread Cert.SampleStatesReferenceIdeal.nD Cert.SampleStatesReferenceIdeal.τ).loc Cert.SampleStatesReferenceIdeal.main_arg2) = m ((c.tc : Thread Cert.SampleStatesReferenceIdeal.nD Cert.SampleStatesReferenceIdeal.τ).loc Cert.SampleStatesReferenceIdeal.main_arg2)
      ∧ r.2.mem ((c.tc : Thread Cert.SampleStatesReferenceIdeal.nD Cert.SampleStatesReferenceIdeal.τ).loc Cert.SampleStatesReferenceIdeal.main_arg3) = m ((c.tc : Thread Cert.SampleStatesReferenceIdeal.nD Cert.SampleStatesReferenceIdeal.τ).loc Cert.SampleStatesReferenceIdeal.main_arg3)
      ∧ r.2.mem ((c.tc : Thread Cert.SampleStatesReferenceIdeal.nD Cert.SampleStatesReferenceIdeal.τ).loc Cert.SampleStatesReferenceIdeal.main_arg4) = m ((c.tc : Thread Cert.SampleStatesReferenceIdeal.nD Cert.SampleStatesReferenceIdeal.τ).loc Cert.SampleStatesReferenceIdeal.main_arg4)
      ∧ r.2.mem ((c.tc : Thread Cert.SampleStatesReferenceIdeal.nD Cert.SampleStatesReferenceIdeal.τ).loc Cert.SampleStatesReferenceIdeal.main_arg5) = m ((c.tc : Thread Cert.SampleStatesReferenceIdeal.nD Cert.SampleStatesReferenceIdeal.τ).loc Cert.SampleStatesReferenceIdeal.main_arg5)
      ∧ r.2.mem ((c.tc : Thread Cert.SampleStatesReferenceIdeal.nD Cert.SampleStatesReferenceIdeal.τ).loc Cert.SampleStatesReferenceIdeal.main_arg6) = m ((c.tc : Thread Cert.SampleStatesReferenceIdeal.nD Cert.SampleStatesReferenceIdeal.τ).loc Cert.SampleStatesReferenceIdeal.main_arg6)
      ∧ r.2.mem ((c.tc : Thread Cert.SampleStatesReferenceIdeal.nD Cert.SampleStatesReferenceIdeal.τ).loc Cert.SampleStatesReferenceIdeal.main_arg7) = m ((c.tc : Thread Cert.SampleStatesReferenceIdeal.nD Cert.SampleStatesReferenceIdeal.τ).loc Cert.SampleStatesReferenceIdeal.main_arg7))
      ∧ r.2.sem = fun _ => 0)

def quiescent_SampleStatesReferenceIdeal_pre_sample_finite_weights [hSampleStatesReferenceIdeal : Cert.SampleStatesReferenceIdeal.Facts] [hPre_sample_finite_weights : Cert.Pre_sample_finite_weights.Facts] : Prop :=
  ∀ (m : (ℓ : Loc Cert.SampleStatesReferenceIdeal.nD Cert.SampleStatesReferenceIdeal.τ Cert.SampleStatesReferenceIdeal.sig) → Buf (Elt Ideal) ℓ) (g : Dev Cert.SampleStatesReferenceIdeal.nD → PrngReg), Pre_SampleStatesReferenceIdeal_sample_finite_weights m →
    θ_run (Cert.SampleStatesReferenceIdeal.defs (F := Ideal)) (onTc (τ := Cert.SampleStatesReferenceIdeal.τ) (Cert.SampleStatesReferenceIdeal.main (F := Ideal))) ⟨m, fun _ => 0, g⟩ (fun r => (∀ c : Dev Cert.SampleStatesReferenceIdeal.nD,
      r.2.mem ((c.tc : Thread Cert.SampleStatesReferenceIdeal.nD Cert.SampleStatesReferenceIdeal.τ).loc Cert.SampleStatesReferenceIdeal.main_arg0) = m ((c.tc : Thread Cert.SampleStatesReferenceIdeal.nD Cert.SampleStatesReferenceIdeal.τ).loc Cert.SampleStatesReferenceIdeal.main_arg0)
      ∧ r.2.mem ((c.tc : Thread Cert.SampleStatesReferenceIdeal.nD Cert.SampleStatesReferenceIdeal.τ).loc Cert.SampleStatesReferenceIdeal.main_arg1) = m ((c.tc : Thread Cert.SampleStatesReferenceIdeal.nD Cert.SampleStatesReferenceIdeal.τ).loc Cert.SampleStatesReferenceIdeal.main_arg1)
      ∧ r.2.mem ((c.tc : Thread Cert.SampleStatesReferenceIdeal.nD Cert.SampleStatesReferenceIdeal.τ).loc Cert.SampleStatesReferenceIdeal.main_arg2) = m ((c.tc : Thread Cert.SampleStatesReferenceIdeal.nD Cert.SampleStatesReferenceIdeal.τ).loc Cert.SampleStatesReferenceIdeal.main_arg2)
      ∧ r.2.mem ((c.tc : Thread Cert.SampleStatesReferenceIdeal.nD Cert.SampleStatesReferenceIdeal.τ).loc Cert.SampleStatesReferenceIdeal.main_arg3) = m ((c.tc : Thread Cert.SampleStatesReferenceIdeal.nD Cert.SampleStatesReferenceIdeal.τ).loc Cert.SampleStatesReferenceIdeal.main_arg3)
      ∧ r.2.mem ((c.tc : Thread Cert.SampleStatesReferenceIdeal.nD Cert.SampleStatesReferenceIdeal.τ).loc Cert.SampleStatesReferenceIdeal.main_arg4) = m ((c.tc : Thread Cert.SampleStatesReferenceIdeal.nD Cert.SampleStatesReferenceIdeal.τ).loc Cert.SampleStatesReferenceIdeal.main_arg4)
      ∧ r.2.mem ((c.tc : Thread Cert.SampleStatesReferenceIdeal.nD Cert.SampleStatesReferenceIdeal.τ).loc Cert.SampleStatesReferenceIdeal.main_arg5) = m ((c.tc : Thread Cert.SampleStatesReferenceIdeal.nD Cert.SampleStatesReferenceIdeal.τ).loc Cert.SampleStatesReferenceIdeal.main_arg5)
      ∧ r.2.mem ((c.tc : Thread Cert.SampleStatesReferenceIdeal.nD Cert.SampleStatesReferenceIdeal.τ).loc Cert.SampleStatesReferenceIdeal.main_arg6) = m ((c.tc : Thread Cert.SampleStatesReferenceIdeal.nD Cert.SampleStatesReferenceIdeal.τ).loc Cert.SampleStatesReferenceIdeal.main_arg6)
      ∧ r.2.mem ((c.tc : Thread Cert.SampleStatesReferenceIdeal.nD Cert.SampleStatesReferenceIdeal.τ).loc Cert.SampleStatesReferenceIdeal.main_arg7) = m ((c.tc : Thread Cert.SampleStatesReferenceIdeal.nD Cert.SampleStatesReferenceIdeal.τ).loc Cert.SampleStatesReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "exp2_scale" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v59) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Layer_LayerIdeal : Prop :=
  True

def algebraic_LayerIdeal_LayerReferenceIdeal [hLayerIdeal : Cert.LayerIdeal.Facts] [hLayerReferenceIdeal : Cert.LayerReferenceIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)
      ∧ m' ((c.tc : Thread Cert.LayerReferenceIdeal.nD Cert.LayerReferenceIdeal.τ).loc Cert.LayerReferenceIdeal.main_arg7) = m ((c.tc : Thread Cert.LayerIdeal.nD Cert.LayerIdeal.τ).loc Cert.LayerIdeal.main_arg7)
      ∧ m' ((c.tc : Thread Cert.LayerReferenceIdeal.nD Cert.LayerReferenceIdeal.τ).loc Cert.LayerReferenceIdeal.main_arg8) = m ((c.tc : Thread Cert.LayerIdeal.nD Cert.LayerIdeal.τ).loc Cert.LayerIdeal.main_arg8)
      ∧ m' ((c.tc : Thread Cert.LayerReferenceIdeal.nD Cert.LayerReferenceIdeal.τ).loc Cert.LayerReferenceIdeal.main_arg9) = m ((c.tc : Thread Cert.LayerIdeal.nD Cert.LayerIdeal.τ).loc Cert.LayerIdeal.main_arg9)
      ∧ m' ((c.tc : Thread Cert.LayerReferenceIdeal.nD Cert.LayerReferenceIdeal.τ).loc Cert.LayerReferenceIdeal.main_arg10) = m ((c.tc : Thread Cert.LayerIdeal.nD Cert.LayerIdeal.τ).loc Cert.LayerIdeal.main_arg10)
      ∧ m' ((c.tc : Thread Cert.LayerReferenceIdeal.nD Cert.LayerReferenceIdeal.τ).loc Cert.LayerReferenceIdeal.main_arg11) = m ((c.tc : Thread Cert.LayerIdeal.nD Cert.LayerIdeal.τ).loc Cert.LayerIdeal.main_arg11)) →
    ∃ (v0 : (c : Dev Cert.LayerIdeal.nD) → Buf (Elt Ideal) ((c.tc : Thread Cert.LayerIdeal.nD Cert.LayerIdeal.τ).loc Cert.LayerIdeal.main_v8)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v8) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v46) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8)
          ∧ r.2.mem ((c.tc : Thread Cert.LayerReferenceIdeal.nD Cert.LayerReferenceIdeal.τ).loc Cert.LayerReferenceIdeal.main_arg9) = m' ((c.tc : Thread Cert.LayerReferenceIdeal.nD Cert.LayerReferenceIdeal.τ).loc Cert.LayerReferenceIdeal.main_arg9)
          ∧ r.2.mem ((c.tc : Thread Cert.LayerReferenceIdeal.nD Cert.LayerReferenceIdeal.τ).loc Cert.LayerReferenceIdeal.main_arg10) = m' ((c.tc : Thread Cert.LayerReferenceIdeal.nD Cert.LayerReferenceIdeal.τ).loc Cert.LayerReferenceIdeal.main_arg10)
          ∧ r.2.mem ((c.tc : Thread Cert.LayerReferenceIdeal.nD Cert.LayerReferenceIdeal.τ).loc Cert.LayerReferenceIdeal.main_arg11) = m' ((c.tc : Thread Cert.LayerReferenceIdeal.nD Cert.LayerReferenceIdeal.τ).loc Cert.LayerReferenceIdeal.main_arg11))

def preserves_States_StatesIdeal : Prop :=
  True

def algebraic_StatesIdeal_StatesReferenceIdeal_pre_finite_weights [hStatesIdeal : Cert.StatesIdeal.Facts] [hStatesReferenceIdeal : Cert.StatesReferenceIdeal.Facts] [hPre_finite_weights : Cert.Pre_finite_weights.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesReferenceIdeal.nD Cert.StatesReferenceIdeal.τ Cert.StatesReferenceIdeal.sig) → Buf (Elt Ideal) ℓ) (g' : Dev Cert.StatesReferenceIdeal.nD → PrngReg), Pre_StatesIdeal_finite_weights m →
    (∀ c : Dev Cert.StatesIdeal.nD,
      m' ((c.tc : Thread Cert.StatesReferenceIdeal.nD Cert.StatesReferenceIdeal.τ).loc Cert.StatesReferenceIdeal.main_arg0) = m ((c.tc : Thread Cert.StatesIdeal.nD Cert.StatesIdeal.τ).loc Cert.StatesIdeal.main_arg0)
      ∧ m' ((c.tc : Thread Cert.StatesReferenceIdeal.nD Cert.StatesReferenceIdeal.τ).loc Cert.StatesReferenceIdeal.main_arg1) = m ((c.tc : Thread Cert.StatesIdeal.nD Cert.StatesIdeal.τ).loc Cert.StatesIdeal.main_arg1)
      ∧ m' ((c.tc : Thread Cert.StatesReferenceIdeal.nD Cert.StatesReferenceIdeal.τ).loc Cert.StatesReferenceIdeal.main_arg2) = m ((c.tc : Thread Cert.StatesIdeal.nD Cert.StatesIdeal.τ).loc Cert.StatesIdeal.main_arg2)
      ∧ m' ((c.tc : Thread Cert.StatesReferenceIdeal.nD Cert.StatesReferenceIdeal.τ).loc Cert.StatesReferenceIdeal.main_arg3) = m ((c.tc : Thread Cert.StatesIdeal.nD Cert.StatesIdeal.τ).loc Cert.StatesIdeal.main_arg3)
      ∧ m' ((c.tc : Thread Cert.StatesReferenceIdeal.nD Cert.StatesReferenceIdeal.τ).loc Cert.StatesReferenceIdeal.main_arg4) = m ((c.tc : Thread Cert.StatesIdeal.nD Cert.StatesIdeal.τ).loc Cert.StatesIdeal.main_arg4)
      ∧ m' ((c.tc : Thread Cert.StatesReferenceIdeal.nD Cert.StatesReferenceIdeal.τ).loc Cert.StatesReferenceIdeal.main_arg5) = m ((c.tc : Thread Cert.StatesIdeal.nD Cert.StatesIdeal.τ).loc Cert.StatesIdeal.main_arg5)
      ∧ m' ((c.tc : Thread Cert.StatesReferenceIdeal.nD Cert.StatesReferenceIdeal.τ).loc Cert.StatesReferenceIdeal.main_arg6) = m ((c.tc : Thread Cert.StatesIdeal.nD Cert.StatesIdeal.τ).loc Cert.StatesIdeal.main_arg6)) →
    ∃ (v0 : (c : Dev Cert.StatesIdeal.nD) → Buf (Elt Ideal) ((c.tc : Thread Cert.StatesIdeal.nD Cert.StatesIdeal.τ).loc Cert.StatesIdeal.main_v88)) (v1 : (c : Dev Cert.StatesIdeal.nD) → Buf (Elt Ideal) ((c.tc : Thread Cert.StatesIdeal.nD Cert.StatesIdeal.τ).loc Cert.StatesIdeal.main_v89)) (v2 : (c : Dev Cert.StatesIdeal.nD) → Buf (Elt Ideal) ((c.tc : Thread Cert.StatesIdeal.nD Cert.StatesIdeal.τ).loc Cert.StatesIdeal.main_v90)) (v3 : (c : Dev Cert.StatesIdeal.nD) → Buf (Elt Ideal) ((c.tc : Thread Cert.StatesIdeal.nD Cert.StatesIdeal.τ).loc Cert.StatesIdeal.main_v91)) (v4 : (c : Dev Cert.StatesIdeal.nD) → Buf (Elt Ideal) ((c.tc : Thread Cert.StatesIdeal.nD Cert.StatesIdeal.τ).loc Cert.StatesIdeal.main_v92)) (v5 : (c : Dev Cert.StatesIdeal.nD) → Buf (Elt Ideal) ((c.tc : Thread Cert.StatesIdeal.nD Cert.StatesIdeal.τ).loc Cert.StatesIdeal.main_v85)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v88) = v0 c
          ∧ r.2.mem ((c.tc : Thread Cert.StatesIdeal.nD Cert.StatesIdeal.τ).loc Cert.StatesIdeal.main_v89) = v1 c
          ∧ r.2.mem ((c.tc : Thread Cert.StatesIdeal.nD Cert.StatesIdeal.τ).loc Cert.StatesIdeal.main_v90) = v2 c
          ∧ r.2.mem ((c.tc : Thread Cert.StatesIdeal.nD Cert.StatesIdeal.τ).loc Cert.StatesIdeal.main_v91) = v3 c
          ∧ r.2.mem ((c.tc : Thread Cert.StatesIdeal.nD Cert.StatesIdeal.τ).loc Cert.StatesIdeal.main_v92) = v4 c
          ∧ r.2.mem ((c.tc : Thread Cert.StatesIdeal.nD Cert.StatesIdeal.τ).loc Cert.StatesIdeal.main_v85) = v5 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
          ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
          ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6))
      ∧ θ_run (Cert.StatesReferenceIdeal.defs (F := Ideal)) (onTc (τ := Cert.StatesReferenceIdeal.τ) (Cert.StatesReferenceIdeal.main (F := Ideal))) ⟨m', fun _ => 0, g'⟩ (fun r => ∀ c : Dev Cert.StatesReferenceIdeal.nD,
          r.2.mem ((c.tc : Thread Cert.StatesReferenceIdeal.nD Cert.StatesReferenceIdeal.τ).loc Cert.StatesReferenceIdeal.main_v37) = v0 c
          ∧ r.2.mem ((c.tc : Thread Cert.StatesReferenceIdeal.nD Cert.StatesReferenceIdeal.τ).loc Cert.StatesReferenceIdeal.main_v38) = v1 c
          ∧ r.2.mem ((c.tc : Thread Cert.StatesReferenceIdeal.nD Cert.StatesReferenceIdeal.τ).loc Cert.StatesReferenceIdeal.main_v69) = v2 c
          ∧ r.2.mem ((c.tc : Thread Cert.StatesReferenceIdeal.nD Cert.StatesReferenceIdeal.τ).loc Cert.StatesReferenceIdeal.main_v86) = v3 c
          ∧ r.2.mem ((c.tc : Thread Cert.StatesReferenceIdeal.nD Cert.StatesReferenceIdeal.τ).loc Cert.StatesReferenceIdeal.main_v36) = v4 c
          ∧ r.2.mem ((c.tc : Thread Cert.StatesReferenceIdeal.nD Cert.StatesReferenceIdeal.τ).loc Cert.StatesReferenceIdeal.main_v34) = v5 c
          ∧ r.2.mem ((c.tc : Thread Cert.StatesReferenceIdeal.nD Cert.StatesReferenceIdeal.τ).loc Cert.StatesReferenceIdeal.main_arg0) = m' ((c.tc : Thread Cert.StatesReferenceIdeal.nD Cert.StatesReferenceIdeal.τ).loc Cert.StatesReferenceIdeal.main_arg0)
          ∧ r.2.mem ((c.tc : Thread Cert.StatesReferenceIdeal.nD Cert.StatesReferenceIdeal.τ).loc Cert.StatesReferenceIdeal.main_arg1) = m' ((c.tc : Thread Cert.StatesReferenceIdeal.nD Cert.StatesReferenceIdeal.τ).loc Cert.StatesReferenceIdeal.main_arg1)
          ∧ r.2.mem ((c.tc : Thread Cert.StatesReferenceIdeal.nD Cert.StatesReferenceIdeal.τ).loc Cert.StatesReferenceIdeal.main_arg2) = m' ((c.tc : Thread Cert.StatesReferenceIdeal.nD Cert.StatesReferenceIdeal.τ).loc Cert.StatesReferenceIdeal.main_arg2)
          ∧ r.2.mem ((c.tc : Thread Cert.StatesReferenceIdeal.nD Cert.StatesReferenceIdeal.τ).loc Cert.StatesReferenceIdeal.main_arg3) = m' ((c.tc : Thread Cert.StatesReferenceIdeal.nD Cert.StatesReferenceIdeal.τ).loc Cert.StatesReferenceIdeal.main_arg3)
          ∧ r.2.mem ((c.tc : Thread Cert.StatesReferenceIdeal.nD Cert.StatesReferenceIdeal.τ).loc Cert.StatesReferenceIdeal.main_arg4) = m' ((c.tc : Thread Cert.StatesReferenceIdeal.nD Cert.StatesReferenceIdeal.τ).loc Cert.StatesReferenceIdeal.main_arg4)
          ∧ r.2.mem ((c.tc : Thread Cert.StatesReferenceIdeal.nD Cert.StatesReferenceIdeal.τ).loc Cert.StatesReferenceIdeal.main_arg5) = m' ((c.tc : Thread Cert.StatesReferenceIdeal.nD Cert.StatesReferenceIdeal.τ).loc Cert.StatesReferenceIdeal.main_arg5)
          ∧ r.2.mem ((c.tc : Thread Cert.StatesReferenceIdeal.nD Cert.StatesReferenceIdeal.τ).loc Cert.StatesReferenceIdeal.main_arg6) = m' ((c.tc : Thread Cert.StatesReferenceIdeal.nD Cert.StatesReferenceIdeal.τ).loc Cert.StatesReferenceIdeal.main_arg6))

def preserves_SampleMerge_SampleMergeIdeal : Prop :=
  True

def algebraic_SampleMergeIdeal_SampleMergeReferenceIdeal [hSampleMergeIdeal : Cert.SampleMergeIdeal.Facts] [hSampleMergeReferenceIdeal : Cert.SampleMergeReferenceIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg)
    (m' : (ℓ : Loc Cert.SampleMergeReferenceIdeal.nD Cert.SampleMergeReferenceIdeal.τ Cert.SampleMergeReferenceIdeal.sig) → Buf (Elt Ideal) ℓ) (g' : Dev Cert.SampleMergeReferenceIdeal.nD → PrngReg), Pre_SampleMergeIdeal m →
    (∀ c : Dev Cert.SampleMergeIdeal.nD,
      m' ((c.tc : Thread Cert.SampleMergeReferenceIdeal.nD Cert.SampleMergeReferenceIdeal.τ).loc Cert.SampleMergeReferenceIdeal.main_arg0) = m ((c.tc : Thread Cert.SampleMergeIdeal.nD Cert.SampleMergeIdeal.τ).loc Cert.SampleMergeIdeal.main_arg0)
      ∧ m' ((c.tc : Thread Cert.SampleMergeReferenceIdeal.nD Cert.SampleMergeReferenceIdeal.τ).loc Cert.SampleMergeReferenceIdeal.main_arg1) = m ((c.tc : Thread Cert.SampleMergeIdeal.nD Cert.SampleMergeIdeal.τ).loc Cert.SampleMergeIdeal.main_arg1)
      ∧ m' ((c.tc : Thread Cert.SampleMergeReferenceIdeal.nD Cert.SampleMergeReferenceIdeal.τ).loc Cert.SampleMergeReferenceIdeal.main_arg2) = m ((c.tc : Thread Cert.SampleMergeIdeal.nD Cert.SampleMergeIdeal.τ).loc Cert.SampleMergeIdeal.main_arg2)
      ∧ m' ((c.tc : Thread Cert.SampleMergeReferenceIdeal.nD Cert.SampleMergeReferenceIdeal.τ).loc Cert.SampleMergeReferenceIdeal.main_arg3) = m ((c.tc : Thread Cert.SampleMergeIdeal.nD Cert.SampleMergeIdeal.τ).loc Cert.SampleMergeIdeal.main_arg3)
      ∧ m' ((c.tc : Thread Cert.SampleMergeReferenceIdeal.nD Cert.SampleMergeReferenceIdeal.τ).loc Cert.SampleMergeReferenceIdeal.main_arg4) = m ((c.tc : Thread Cert.SampleMergeIdeal.nD Cert.SampleMergeIdeal.τ).loc Cert.SampleMergeIdeal.main_arg4)
      ∧ m' ((c.tc : Thread Cert.SampleMergeReferenceIdeal.nD Cert.SampleMergeReferenceIdeal.τ).loc Cert.SampleMergeReferenceIdeal.main_arg5) = m ((c.tc : Thread Cert.SampleMergeIdeal.nD Cert.SampleMergeIdeal.τ).loc Cert.SampleMergeIdeal.main_arg5)
      ∧ m' ((c.tc : Thread Cert.SampleMergeReferenceIdeal.nD Cert.SampleMergeReferenceIdeal.τ).loc Cert.SampleMergeReferenceIdeal.main_arg6) = m ((c.tc : Thread Cert.SampleMergeIdeal.nD Cert.SampleMergeIdeal.τ).loc Cert.SampleMergeIdeal.main_arg6)
      ∧ m' ((c.tc : Thread Cert.SampleMergeReferenceIdeal.nD Cert.SampleMergeReferenceIdeal.τ).loc Cert.SampleMergeReferenceIdeal.main_arg7) = m ((c.tc : Thread Cert.SampleMergeIdeal.nD Cert.SampleMergeIdeal.τ).loc Cert.SampleMergeIdeal.main_arg7)
      ∧ m' ((c.tc : Thread Cert.SampleMergeReferenceIdeal.nD Cert.SampleMergeReferenceIdeal.τ).loc Cert.SampleMergeReferenceIdeal.main_arg8) = m ((c.tc : Thread Cert.SampleMergeIdeal.nD Cert.SampleMergeIdeal.τ).loc Cert.SampleMergeIdeal.main_arg8)
      ∧ m' ((c.tc : Thread Cert.SampleMergeReferenceIdeal.nD Cert.SampleMergeReferenceIdeal.τ).loc Cert.SampleMergeReferenceIdeal.main_arg9) = m ((c.tc : Thread Cert.SampleMergeIdeal.nD Cert.SampleMergeIdeal.τ).loc Cert.SampleMergeIdeal.main_arg9)
      ∧ m' ((c.tc : Thread Cert.SampleMergeReferenceIdeal.nD Cert.SampleMergeReferenceIdeal.τ).loc Cert.SampleMergeReferenceIdeal.main_arg10) = m ((c.tc : Thread Cert.SampleMergeIdeal.nD Cert.SampleMergeIdeal.τ).loc Cert.SampleMergeIdeal.main_arg10)
      ∧ m' ((c.tc : Thread Cert.SampleMergeReferenceIdeal.nD Cert.SampleMergeReferenceIdeal.τ).loc Cert.SampleMergeReferenceIdeal.main_arg11) = m ((c.tc : Thread Cert.SampleMergeIdeal.nD Cert.SampleMergeIdeal.τ).loc Cert.SampleMergeIdeal.main_arg11)) →
    ∃ (v0 : (c : Dev Cert.SampleMergeIdeal.nD) → Buf (Elt Ideal) ((c.tc : Thread Cert.SampleMergeIdeal.nD Cert.SampleMergeIdeal.τ).loc Cert.SampleMergeIdeal.main_v8)),
      θ_run (Cert.SampleMergeIdeal.defs (F := Ideal)) (onTc (τ := Cert.SampleMergeIdeal.τ) (Cert.SampleMergeIdeal.main (F := Ideal))) ⟨m, fun _ => 0, g⟩ (fun r => ∀ c : Dev Cert.SampleMergeIdeal.nD,
          r.2.mem ((c.tc : Thread Cert.SampleMergeIdeal.nD Cert.SampleMergeIdeal.τ).loc Cert.SampleMergeIdeal.main_v8) = v0 c
          ∧ r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
          ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
          ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
          ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
          ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4)
          ∧ r.2.mem ((c.tc : Thread Cert.SampleMergeIdeal.nD Cert.SampleMergeIdeal.τ).loc Cert.SampleMergeIdeal.main_arg5) = m ((c.tc : Thread Cert.SampleMergeIdeal.nD Cert.SampleMergeIdeal.τ).loc Cert.SampleMergeIdeal.main_arg5)
          ∧ r.2.mem ((c.tc : Thread Cert.SampleMergeIdeal.nD Cert.SampleMergeIdeal.τ).loc Cert.SampleMergeIdeal.main_arg6) = m ((c.tc : Thread Cert.SampleMergeIdeal.nD Cert.SampleMergeIdeal.τ).loc Cert.SampleMergeIdeal.main_arg6)
          ∧ r.2.mem ((c.tc : Thread Cert.SampleMergeIdeal.nD Cert.SampleMergeIdeal.τ).loc Cert.SampleMergeIdeal.main_arg7) = m ((c.tc : Thread Cert.SampleMergeIdeal.nD Cert.SampleMergeIdeal.τ).loc Cert.SampleMergeIdeal.main_arg7)
          ∧ r.2.mem ((c.tc : Thread Cert.SampleMergeIdeal.nD Cert.SampleMergeIdeal.τ).loc Cert.SampleMergeIdeal.main_arg8) = m ((c.tc : Thread Cert.SampleMergeIdeal.nD Cert.SampleMergeIdeal.τ).loc Cert.SampleMergeIdeal.main_arg8)
          ∧ r.2.mem ((c.tc : Thread Cert.SampleMergeIdeal.nD Cert.SampleMergeIdeal.τ).loc Cert.SampleMergeIdeal.main_arg9) = m ((c.tc : Thread Cert.SampleMergeIdeal.nD Cert.SampleMergeIdeal.τ).loc Cert.SampleMergeIdeal.main_arg9)
          ∧ r.2.mem ((c.tc : Thread Cert.SampleMergeIdeal.nD Cert.SampleMergeIdeal.τ).loc Cert.SampleMergeIdeal.main_arg10) = m ((c.tc : Thread Cert.SampleMergeIdeal.nD Cert.SampleMergeIdeal.τ).loc Cert.SampleMergeIdeal.main_arg10)
          ∧ r.2.mem ((c.tc : Thread Cert.SampleMergeIdeal.nD Cert.SampleMergeIdeal.τ).loc Cert.SampleMergeIdeal.main_arg11) = m ((c.tc : Thread Cert.SampleMergeIdeal.nD Cert.SampleMergeIdeal.τ).loc Cert.SampleMergeIdeal.main_arg11))
      ∧ θ_run (Cert.SampleMergeReferenceIdeal.defs (F := Ideal)) (onTc (τ := Cert.SampleMergeReferenceIdeal.τ) (Cert.SampleMergeReferenceIdeal.main (F := Ideal))) ⟨m', fun _ => 0, g'⟩ (fun r => ∀ c : Dev Cert.SampleMergeReferenceIdeal.nD,
          r.2.mem ((c.tc : Thread Cert.SampleMergeReferenceIdeal.nD Cert.SampleMergeReferenceIdeal.τ).loc Cert.SampleMergeReferenceIdeal.main_v59) = v0 c
          ∧ r.2.mem ((c.tc : Thread Cert.SampleMergeReferenceIdeal.nD Cert.SampleMergeReferenceIdeal.τ).loc Cert.SampleMergeReferenceIdeal.main_arg0) = m' ((c.tc : Thread Cert.SampleMergeReferenceIdeal.nD Cert.SampleMergeReferenceIdeal.τ).loc Cert.SampleMergeReferenceIdeal.main_arg0)
          ∧ r.2.mem ((c.tc : Thread Cert.SampleMergeReferenceIdeal.nD Cert.SampleMergeReferenceIdeal.τ).loc Cert.SampleMergeReferenceIdeal.main_arg1) = m' ((c.tc : Thread Cert.SampleMergeReferenceIdeal.nD Cert.SampleMergeReferenceIdeal.τ).loc Cert.SampleMergeReferenceIdeal.main_arg1)
          ∧ r.2.mem ((c.tc : Thread Cert.SampleMergeReferenceIdeal.nD Cert.SampleMergeReferenceIdeal.τ).loc Cert.SampleMergeReferenceIdeal.main_arg2) = m' ((c.tc : Thread Cert.SampleMergeReferenceIdeal.nD Cert.SampleMergeReferenceIdeal.τ).loc Cert.SampleMergeReferenceIdeal.main_arg2)
          ∧ r.2.mem ((c.tc : Thread Cert.SampleMergeReferenceIdeal.nD Cert.SampleMergeReferenceIdeal.τ).loc Cert.SampleMergeReferenceIdeal.main_arg3) = m' ((c.tc : Thread Cert.SampleMergeReferenceIdeal.nD Cert.SampleMergeReferenceIdeal.τ).loc Cert.SampleMergeReferenceIdeal.main_arg3)
          ∧ r.2.mem ((c.tc : Thread Cert.SampleMergeReferenceIdeal.nD Cert.SampleMergeReferenceIdeal.τ).loc Cert.SampleMergeReferenceIdeal.main_arg4) = m' ((c.tc : Thread Cert.SampleMergeReferenceIdeal.nD Cert.SampleMergeReferenceIdeal.τ).loc Cert.SampleMergeReferenceIdeal.main_arg4)
          ∧ r.2.mem ((c.tc : Thread Cert.SampleMergeReferenceIdeal.nD Cert.SampleMergeReferenceIdeal.τ).loc Cert.SampleMergeReferenceIdeal.main_arg5) = m' ((c.tc : Thread Cert.SampleMergeReferenceIdeal.nD Cert.SampleMergeReferenceIdeal.τ).loc Cert.SampleMergeReferenceIdeal.main_arg5)
          ∧ r.2.mem ((c.tc : Thread Cert.SampleMergeReferenceIdeal.nD Cert.SampleMergeReferenceIdeal.τ).loc Cert.SampleMergeReferenceIdeal.main_arg6) = m' ((c.tc : Thread Cert.SampleMergeReferenceIdeal.nD Cert.SampleMergeReferenceIdeal.τ).loc Cert.SampleMergeReferenceIdeal.main_arg6)
          ∧ r.2.mem ((c.tc : Thread Cert.SampleMergeReferenceIdeal.nD Cert.SampleMergeReferenceIdeal.τ).loc Cert.SampleMergeReferenceIdeal.main_arg7) = m' ((c.tc : Thread Cert.SampleMergeReferenceIdeal.nD Cert.SampleMergeReferenceIdeal.τ).loc Cert.SampleMergeReferenceIdeal.main_arg7)
          ∧ r.2.mem ((c.tc : Thread Cert.SampleMergeReferenceIdeal.nD Cert.SampleMergeReferenceIdeal.τ).loc Cert.SampleMergeReferenceIdeal.main_arg8) = m' ((c.tc : Thread Cert.SampleMergeReferenceIdeal.nD Cert.SampleMergeReferenceIdeal.τ).loc Cert.SampleMergeReferenceIdeal.main_arg8)
          ∧ r.2.mem ((c.tc : Thread Cert.SampleMergeReferenceIdeal.nD Cert.SampleMergeReferenceIdeal.τ).loc Cert.SampleMergeReferenceIdeal.main_arg9) = m' ((c.tc : Thread Cert.SampleMergeReferenceIdeal.nD Cert.SampleMergeReferenceIdeal.τ).loc Cert.SampleMergeReferenceIdeal.main_arg9)
          ∧ r.2.mem ((c.tc : Thread Cert.SampleMergeReferenceIdeal.nD Cert.SampleMergeReferenceIdeal.τ).loc Cert.SampleMergeReferenceIdeal.main_arg10) = m' ((c.tc : Thread Cert.SampleMergeReferenceIdeal.nD Cert.SampleMergeReferenceIdeal.τ).loc Cert.SampleMergeReferenceIdeal.main_arg10)
          ∧ r.2.mem ((c.tc : Thread Cert.SampleMergeReferenceIdeal.nD Cert.SampleMergeReferenceIdeal.τ).loc Cert.SampleMergeReferenceIdeal.main_arg11) = m' ((c.tc : Thread Cert.SampleMergeReferenceIdeal.nD Cert.SampleMergeReferenceIdeal.τ).loc Cert.SampleMergeReferenceIdeal.main_arg11))

def preserves_SampleStates_SampleStatesIdeal : Prop :=
  True

def algebraic_SampleStatesIdeal_SampleStatesReferenceIdeal_pre_sample_finite_weights [hSampleStatesIdeal : Cert.SampleStatesIdeal.Facts] [hSampleStatesReferenceIdeal : Cert.SampleStatesReferenceIdeal.Facts] [hPre_sample_finite_weights : Cert.Pre_sample_finite_weights.Facts] : Prop :=
  ∀ (m : (ℓ : Loc Cert.SampleStatesIdeal.nD Cert.SampleStatesIdeal.τ Cert.SampleStatesIdeal.sig) → Buf (Elt Ideal) ℓ) (g : Dev Cert.SampleStatesIdeal.nD → PrngReg)
    (m' : (ℓ : Loc Cert.SampleStatesReferenceIdeal.nD Cert.SampleStatesReferenceIdeal.τ Cert.SampleStatesReferenceIdeal.sig) → Buf (Elt Ideal) ℓ) (g' : Dev Cert.SampleStatesReferenceIdeal.nD → PrngReg), Pre_SampleStatesIdeal_sample_finite_weights m →
    (∀ c : Dev Cert.SampleStatesIdeal.nD,
      m' ((c.tc : Thread Cert.SampleStatesReferenceIdeal.nD Cert.SampleStatesReferenceIdeal.τ).loc Cert.SampleStatesReferenceIdeal.main_arg0) = m ((c.tc : Thread Cert.SampleStatesIdeal.nD Cert.SampleStatesIdeal.τ).loc Cert.SampleStatesIdeal.main_arg0)
      ∧ m' ((c.tc : Thread Cert.SampleStatesReferenceIdeal.nD Cert.SampleStatesReferenceIdeal.τ).loc Cert.SampleStatesReferenceIdeal.main_arg1) = m ((c.tc : Thread Cert.SampleStatesIdeal.nD Cert.SampleStatesIdeal.τ).loc Cert.SampleStatesIdeal.main_arg1)
      ∧ m' ((c.tc : Thread Cert.SampleStatesReferenceIdeal.nD Cert.SampleStatesReferenceIdeal.τ).loc Cert.SampleStatesReferenceIdeal.main_arg2) = m ((c.tc : Thread Cert.SampleStatesIdeal.nD Cert.SampleStatesIdeal.τ).loc Cert.SampleStatesIdeal.main_arg2)
      ∧ m' ((c.tc : Thread Cert.SampleStatesReferenceIdeal.nD Cert.SampleStatesReferenceIdeal.τ).loc Cert.SampleStatesReferenceIdeal.main_arg3) = m ((c.tc : Thread Cert.SampleStatesIdeal.nD Cert.SampleStatesIdeal.τ).loc Cert.SampleStatesIdeal.main_arg3)
      ∧ m' ((c.tc : Thread Cert.SampleStatesReferenceIdeal.nD Cert.SampleStatesReferenceIdeal.τ).loc Cert.SampleStatesReferenceIdeal.main_arg4) = m ((c.tc : Thread Cert.SampleStatesIdeal.nD Cert.SampleStatesIdeal.τ).loc Cert.SampleStatesIdeal.main_arg4)
      ∧ m' ((c.tc : Thread Cert.SampleStatesReferenceIdeal.nD Cert.SampleStatesReferenceIdeal.τ).loc Cert.SampleStatesReferenceIdeal.main_arg5) = m ((c.tc : Thread Cert.SampleStatesIdeal.nD Cert.SampleStatesIdeal.τ).loc Cert.SampleStatesIdeal.main_arg5)
      ∧ m' ((c.tc : Thread Cert.SampleStatesReferenceIdeal.nD Cert.SampleStatesReferenceIdeal.τ).loc Cert.SampleStatesReferenceIdeal.main_arg6) = m ((c.tc : Thread Cert.SampleStatesIdeal.nD Cert.SampleStatesIdeal.τ).loc Cert.SampleStatesIdeal.main_arg6)
      ∧ m' ((c.tc : Thread Cert.SampleStatesReferenceIdeal.nD Cert.SampleStatesReferenceIdeal.τ).loc Cert.SampleStatesReferenceIdeal.main_arg7) = m ((c.tc : Thread Cert.SampleStatesIdeal.nD Cert.SampleStatesIdeal.τ).loc Cert.SampleStatesIdeal.main_arg7)) →
    ∃ (v0 : (c : Dev Cert.SampleStatesIdeal.nD) → Buf (Elt Ideal) ((c.tc : Thread Cert.SampleStatesIdeal.nD Cert.SampleStatesIdeal.τ).loc Cert.SampleStatesIdeal.main_v90)) (v1 : (c : Dev Cert.SampleStatesIdeal.nD) → Buf (Elt Ideal) ((c.tc : Thread Cert.SampleStatesIdeal.nD Cert.SampleStatesIdeal.τ).loc Cert.SampleStatesIdeal.main_v91)) (v2 : (c : Dev Cert.SampleStatesIdeal.nD) → Buf (Elt Ideal) ((c.tc : Thread Cert.SampleStatesIdeal.nD Cert.SampleStatesIdeal.τ).loc Cert.SampleStatesIdeal.main_v92)) (v3 : (c : Dev Cert.SampleStatesIdeal.nD) → Buf (Elt Ideal) ((c.tc : Thread Cert.SampleStatesIdeal.nD Cert.SampleStatesIdeal.τ).loc Cert.SampleStatesIdeal.main_v93)) (v4 : (c : Dev Cert.SampleStatesIdeal.nD) → Buf (Elt Ideal) ((c.tc : Thread Cert.SampleStatesIdeal.nD Cert.SampleStatesIdeal.τ).loc Cert.SampleStatesIdeal.main_v94)) (v5 : (c : Dev Cert.SampleStatesIdeal.nD) → Buf (Elt Ideal) ((c.tc : Thread Cert.SampleStatesIdeal.nD Cert.SampleStatesIdeal.τ).loc Cert.SampleStatesIdeal.main_v88)),
      θ_run (Cert.SampleStatesIdeal.defs (F := Ideal)) (onTc (τ := Cert.SampleStatesIdeal.τ) (Cert.SampleStatesIdeal.main (F := Ideal))) ⟨m, fun _ => 0, g⟩ (fun r => ∀ c : Dev Cert.SampleStatesIdeal.nD,
          r.2.mem ((c.tc : Thread Cert.SampleStatesIdeal.nD Cert.SampleStatesIdeal.τ).loc Cert.SampleStatesIdeal.main_v90) = v0 c
          ∧ r.2.mem ((c.tc : Thread Cert.SampleStatesIdeal.nD Cert.SampleStatesIdeal.τ).loc Cert.SampleStatesIdeal.main_v91) = v1 c
          ∧ r.2.mem ((c.tc : Thread Cert.SampleStatesIdeal.nD Cert.SampleStatesIdeal.τ).loc Cert.SampleStatesIdeal.main_v92) = v2 c
          ∧ r.2.mem ((c.tc : Thread Cert.SampleStatesIdeal.nD Cert.SampleStatesIdeal.τ).loc Cert.SampleStatesIdeal.main_v93) = v3 c
          ∧ r.2.mem ((c.tc : Thread Cert.SampleStatesIdeal.nD Cert.SampleStatesIdeal.τ).loc Cert.SampleStatesIdeal.main_v94) = v4 c
          ∧ r.2.mem ((c.tc : Thread Cert.SampleStatesIdeal.nD Cert.SampleStatesIdeal.τ).loc Cert.SampleStatesIdeal.main_v88) = v5 c
          ∧ r.2.mem ((c.tc : Thread Cert.SampleStatesIdeal.nD Cert.SampleStatesIdeal.τ).loc Cert.SampleStatesIdeal.main_arg0) = m ((c.tc : Thread Cert.SampleStatesIdeal.nD Cert.SampleStatesIdeal.τ).loc Cert.SampleStatesIdeal.main_arg0)
          ∧ r.2.mem ((c.tc : Thread Cert.SampleStatesIdeal.nD Cert.SampleStatesIdeal.τ).loc Cert.SampleStatesIdeal.main_arg1) = m ((c.tc : Thread Cert.SampleStatesIdeal.nD Cert.SampleStatesIdeal.τ).loc Cert.SampleStatesIdeal.main_arg1)
          ∧ r.2.mem ((c.tc : Thread Cert.SampleStatesIdeal.nD Cert.SampleStatesIdeal.τ).loc Cert.SampleStatesIdeal.main_arg2) = m ((c.tc : Thread Cert.SampleStatesIdeal.nD Cert.SampleStatesIdeal.τ).loc Cert.SampleStatesIdeal.main_arg2)
          ∧ r.2.mem ((c.tc : Thread Cert.SampleStatesIdeal.nD Cert.SampleStatesIdeal.τ).loc Cert.SampleStatesIdeal.main_arg3) = m ((c.tc : Thread Cert.SampleStatesIdeal.nD Cert.SampleStatesIdeal.τ).loc Cert.SampleStatesIdeal.main_arg3)
          ∧ r.2.mem ((c.tc : Thread Cert.SampleStatesIdeal.nD Cert.SampleStatesIdeal.τ).loc Cert.SampleStatesIdeal.main_arg4) = m ((c.tc : Thread Cert.SampleStatesIdeal.nD Cert.SampleStatesIdeal.τ).loc Cert.SampleStatesIdeal.main_arg4)
          ∧ r.2.mem ((c.tc : Thread Cert.SampleStatesIdeal.nD Cert.SampleStatesIdeal.τ).loc Cert.SampleStatesIdeal.main_arg5) = m ((c.tc : Thread Cert.SampleStatesIdeal.nD Cert.SampleStatesIdeal.τ).loc Cert.SampleStatesIdeal.main_arg5)
          ∧ r.2.mem ((c.tc : Thread Cert.SampleStatesIdeal.nD Cert.SampleStatesIdeal.τ).loc Cert.SampleStatesIdeal.main_arg6) = m ((c.tc : Thread Cert.SampleStatesIdeal.nD Cert.SampleStatesIdeal.τ).loc Cert.SampleStatesIdeal.main_arg6)
          ∧ r.2.mem ((c.tc : Thread Cert.SampleStatesIdeal.nD Cert.SampleStatesIdeal.τ).loc Cert.SampleStatesIdeal.main_arg7) = m ((c.tc : Thread Cert.SampleStatesIdeal.nD Cert.SampleStatesIdeal.τ).loc Cert.SampleStatesIdeal.main_arg7))
      ∧ θ_run (Cert.SampleStatesReferenceIdeal.defs (F := Ideal)) (onTc (τ := Cert.SampleStatesReferenceIdeal.τ) (Cert.SampleStatesReferenceIdeal.main (F := Ideal))) ⟨m', fun _ => 0, g'⟩ (fun r => ∀ c : Dev Cert.SampleStatesReferenceIdeal.nD,
          r.2.mem ((c.tc : Thread Cert.SampleStatesReferenceIdeal.nD Cert.SampleStatesReferenceIdeal.τ).loc Cert.SampleStatesReferenceIdeal.main_v38) = v0 c
          ∧ r.2.mem ((c.tc : Thread Cert.SampleStatesReferenceIdeal.nD Cert.SampleStatesReferenceIdeal.τ).loc Cert.SampleStatesReferenceIdeal.main_v39) = v1 c
          ∧ r.2.mem ((c.tc : Thread Cert.SampleStatesReferenceIdeal.nD Cert.SampleStatesReferenceIdeal.τ).loc Cert.SampleStatesReferenceIdeal.main_v70) = v2 c
          ∧ r.2.mem ((c.tc : Thread Cert.SampleStatesReferenceIdeal.nD Cert.SampleStatesReferenceIdeal.τ).loc Cert.SampleStatesReferenceIdeal.main_v87) = v3 c
          ∧ r.2.mem ((c.tc : Thread Cert.SampleStatesReferenceIdeal.nD Cert.SampleStatesReferenceIdeal.τ).loc Cert.SampleStatesReferenceIdeal.main_v37) = v4 c
          ∧ r.2.mem ((c.tc : Thread Cert.SampleStatesReferenceIdeal.nD Cert.SampleStatesReferenceIdeal.τ).loc Cert.SampleStatesReferenceIdeal.main_v35) = v5 c
          ∧ r.2.mem ((c.tc : Thread Cert.SampleStatesReferenceIdeal.nD Cert.SampleStatesReferenceIdeal.τ).loc Cert.SampleStatesReferenceIdeal.main_arg0) = m' ((c.tc : Thread Cert.SampleStatesReferenceIdeal.nD Cert.SampleStatesReferenceIdeal.τ).loc Cert.SampleStatesReferenceIdeal.main_arg0)
          ∧ r.2.mem ((c.tc : Thread Cert.SampleStatesReferenceIdeal.nD Cert.SampleStatesReferenceIdeal.τ).loc Cert.SampleStatesReferenceIdeal.main_arg1) = m' ((c.tc : Thread Cert.SampleStatesReferenceIdeal.nD Cert.SampleStatesReferenceIdeal.τ).loc Cert.SampleStatesReferenceIdeal.main_arg1)
          ∧ r.2.mem ((c.tc : Thread Cert.SampleStatesReferenceIdeal.nD Cert.SampleStatesReferenceIdeal.τ).loc Cert.SampleStatesReferenceIdeal.main_arg2) = m' ((c.tc : Thread Cert.SampleStatesReferenceIdeal.nD Cert.SampleStatesReferenceIdeal.τ).loc Cert.SampleStatesReferenceIdeal.main_arg2)
          ∧ r.2.mem ((c.tc : Thread Cert.SampleStatesReferenceIdeal.nD Cert.SampleStatesReferenceIdeal.τ).loc Cert.SampleStatesReferenceIdeal.main_arg3) = m' ((c.tc : Thread Cert.SampleStatesReferenceIdeal.nD Cert.SampleStatesReferenceIdeal.τ).loc Cert.SampleStatesReferenceIdeal.main_arg3)
          ∧ r.2.mem ((c.tc : Thread Cert.SampleStatesReferenceIdeal.nD Cert.SampleStatesReferenceIdeal.τ).loc Cert.SampleStatesReferenceIdeal.main_arg4) = m' ((c.tc : Thread Cert.SampleStatesReferenceIdeal.nD Cert.SampleStatesReferenceIdeal.τ).loc Cert.SampleStatesReferenceIdeal.main_arg4)
          ∧ r.2.mem ((c.tc : Thread Cert.SampleStatesReferenceIdeal.nD Cert.SampleStatesReferenceIdeal.τ).loc Cert.SampleStatesReferenceIdeal.main_arg5) = m' ((c.tc : Thread Cert.SampleStatesReferenceIdeal.nD Cert.SampleStatesReferenceIdeal.τ).loc Cert.SampleStatesReferenceIdeal.main_arg5)
          ∧ r.2.mem ((c.tc : Thread Cert.SampleStatesReferenceIdeal.nD Cert.SampleStatesReferenceIdeal.τ).loc Cert.SampleStatesReferenceIdeal.main_arg6) = m' ((c.tc : Thread Cert.SampleStatesReferenceIdeal.nD Cert.SampleStatesReferenceIdeal.τ).loc Cert.SampleStatesReferenceIdeal.main_arg6)
          ∧ r.2.mem ((c.tc : Thread Cert.SampleStatesReferenceIdeal.nD Cert.SampleStatesReferenceIdeal.τ).loc Cert.SampleStatesReferenceIdeal.main_arg7) = m' ((c.tc : Thread Cert.SampleStatesReferenceIdeal.nD Cert.SampleStatesReferenceIdeal.τ).loc Cert.SampleStatesReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hLayer : Cert.Layer.Facts) (hLayerIdeal : Cert.LayerIdeal.Facts) (hLayerReferenceIdeal : Cert.LayerReferenceIdeal.Facts) (hStates : Cert.States.Facts) (hStatesIdeal : Cert.StatesIdeal.Facts) (hStatesReferenceIdeal : Cert.StatesReferenceIdeal.Facts) (hSampleMerge : Cert.SampleMerge.Facts) (hSampleMergeIdeal : Cert.SampleMergeIdeal.Facts) (hSampleMergeReferenceIdeal : Cert.SampleMergeReferenceIdeal.Facts) (hSampleStates : Cert.SampleStates.Facts) (hSampleStatesIdeal : Cert.SampleStatesIdeal.Facts) (hSampleStatesReferenceIdeal : Cert.SampleStatesReferenceIdeal.Facts) (hPre_finite : Cert.Pre_finite.Facts) (hPre_finite_weights : Cert.Pre_finite_weights.Facts) (hPre_sample_finite_weights : Cert.Pre_sample_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Layer (hLayer := hLayer)
    ∧ quiescent_LayerIdeal (hLayerIdeal := hLayerIdeal)
    ∧ quiescent_LayerReferenceIdeal (hLayerReferenceIdeal := hLayerReferenceIdeal)
    ∧ quiescent_States (hStates := hStates)
    ∧ quiescent_StatesIdeal (hStatesIdeal := hStatesIdeal)
    ∧ quiescent_StatesIdeal_pre_finite_weights (hStatesIdeal := hStatesIdeal) (hPre_finite_weights := hPre_finite_weights)
    ∧ quiescent_StatesReferenceIdeal (hStatesReferenceIdeal := hStatesReferenceIdeal)
    ∧ quiescent_StatesReferenceIdeal_pre_finite_weights (hStatesReferenceIdeal := hStatesReferenceIdeal) (hPre_finite_weights := hPre_finite_weights)
    ∧ quiescent_SampleMerge (hSampleMerge := hSampleMerge)
    ∧ quiescent_SampleMergeIdeal (hSampleMergeIdeal := hSampleMergeIdeal)
    ∧ quiescent_SampleMergeReferenceIdeal (hSampleMergeReferenceIdeal := hSampleMergeReferenceIdeal)
    ∧ quiescent_SampleStates (hSampleStates := hSampleStates)
    ∧ quiescent_SampleStatesIdeal (hSampleStatesIdeal := hSampleStatesIdeal)
    ∧ quiescent_SampleStatesIdeal_pre_sample_finite_weights (hSampleStatesIdeal := hSampleStatesIdeal) (hPre_sample_finite_weights := hPre_sample_finite_weights)
    ∧ quiescent_SampleStatesReferenceIdeal (hSampleStatesReferenceIdeal := hSampleStatesReferenceIdeal)
    ∧ quiescent_SampleStatesReferenceIdeal_pre_sample_finite_weights (hSampleStatesReferenceIdeal := hSampleStatesReferenceIdeal) (hPre_sample_finite_weights := hPre_sample_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Layer_LayerIdeal
    ∧ algebraic_LayerIdeal_LayerReferenceIdeal (hLayerIdeal := hLayerIdeal) (hLayerReferenceIdeal := hLayerReferenceIdeal)
    ∧ preserves_States_StatesIdeal
    ∧ algebraic_StatesIdeal_StatesReferenceIdeal_pre_finite_weights (hStatesIdeal := hStatesIdeal) (hStatesReferenceIdeal := hStatesReferenceIdeal) (hPre_finite_weights := hPre_finite_weights)
    ∧ preserves_SampleMerge_SampleMergeIdeal
    ∧ algebraic_SampleMergeIdeal_SampleMergeReferenceIdeal (hSampleMergeIdeal := hSampleMergeIdeal) (hSampleMergeReferenceIdeal := hSampleMergeReferenceIdeal)
    ∧ preserves_SampleStates_SampleStatesIdeal
    ∧ algebraic_SampleStatesIdeal_SampleStatesReferenceIdeal_pre_sample_finite_weights (hSampleStatesIdeal := hSampleStatesIdeal) (hSampleStatesReferenceIdeal := hSampleStatesReferenceIdeal) (hPre_sample_finite_weights := hPre_sample_finite_weights)
-- ==== Pre_finite.lean ====
abbrev S8x32768x256 : Shape := ⟨3, ![8, 32768, 256]⟩
abbrev S8x32768x32 : Shape := ⟨3, ![8, 32768, 32]⟩
abbrev S32768x256 : Shape := ⟨2, ![32768, 256]⟩
abbrev S32768x32 : Shape := ⟨2, ![32768, 32]⟩
abbrev S256x8x64 : Shape := ⟨3, ![256, 8, 64]⟩
abbrev S_ : Shape := ⟨0, ![]⟩

class Facts : Prop where
  bitsLt_bf16_f32 : FTy.bits .bf16 < FTy.bits .f32
  bcast_S_S8x32768x256 : S_.BroadcastsInDim S8x32768x256 (![] : Fin 0 → Fin S8x32768x256.rank)
  reducesTo_S8x32768x256_S_d0_1_2 : S8x32768x256.ReducesTo [0, 1, 2] S_
  h_S_ : 0 < S_.numel
  bcast_S_S8x32768x32 : S_.BroadcastsInDim S8x32768x32 (![] : Fin 0 → Fin S8x32768x32.rank)
  reducesTo_S8x32768x32_S_d0_1_2 : S8x32768x32.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S32768x32 : S_.BroadcastsInDim S32768x32 (![] : Fin 0 → Fin S32768x32.rank)
  reducesTo_S32768x32_S_d0_1 : S32768x32.ReducesTo [0, 1] S_

variable [Facts]

def fn_part1 {F : FTy → Type} [FloatOps F] (main_v16 : IVec S_ 1) (main_v17 : FVec F S32768x32 .f32) : IVec S_ 1 :=
  let main_v18 : FVec F S32768x32 .f32 := Host.absf main_v17
  let main_cst_4 : FVec F S_ .f32 := constant S_ .f32 0x7F800000#32
  let main_v19 : FVec F S32768x32 .f32 := broadcastInDim S32768x32 ![] bcast_S_S32768x32 main_cst_4
  let main_v20 : IVec S32768x32 1 := cmpf .olt main_v18 main_v19
  let main_c_5 : IVec S_ 1 := constantI S_ 1 1#1
  let main_v21 : IVec S_ 1 := (fun x v => Host.reduce IntOp.andi x v reducesTo_S32768x32_S_d0_1 h_S_) main_v20 main_c_5
  let main_v22 : IVec S_ 1 := andi main_v16 main_v21
  main_v22

def fn {F : FTy → Type} [FloatOps F] (main_arg0 : FVec F S8x32768x256 .bf16) (main_arg1 : FVec F S8x32768x32 .bf16) (main_arg2 : FVec F S32768x256 .bf16) (main_arg3 : FVec F S32768x32 .bf16) (main_arg4 : FVec F S256x8x64 .f32) : IVec S_ 1 :=
  let main_v0 : FVec F S8x32768x256 .f32 := (extf .f32 · bitsLt_bf16_f32) main_arg0
  let main_v1 : FVec F S8x32768x256 .f32 := Host.absf main_v0
  let main_cst : FVec F S_ .f32 := constant S_ .f32 0x7F800000#32
  let main_v2 : FVec F S8x32768x256 .f32 := broadcastInDim S8x32768x256 ![] bcast_S_S8x32768x256 main_cst
  let main_v3 : IVec S8x32768x256 1 := cmpf .olt main_v1 main_v2
  let main_c : IVec S_ 1 := constantI S_ 1 1#1
  let main_v4 : IVec S_ 1 := (fun x v => Host.reduce IntOp.andi x v reducesTo_S8x32768x256_S_d0_1_2 h_S_) main_v3 main_c
  let main_v5 : FVec F S8x32768x32 .f32 := (extf .f32 · bitsLt_bf16_f32) main_arg1
  let main_v6 : FVec F S8x32768x32 .f32 := Host.absf main_v5
  let main_cst_0 : FVec F S_ .f32 := constant S_ .f32 0x7F800000#32
  let main_v7 : FVec F S8x32768x32 .f32 := broadcastInDim S8x32768x32 ![] bcast_S_S8x32768x32 main_cst_0
  let main_v8 : IVec S8x32768x32 1 := cmpf .olt main_v6 main_v7
  let main_c_1 : IVec S_ 1 := constantI S_ 1 1#1
  let main_v9 : IVec S_ 1 := (fun x v => Host.reduce IntOp.andi x v reducesTo_S8x32768x32_S_d0_1_2 h_S_) main_v8 main_c_1
  let main_v10 : IVec S_ 1 := andi main_v4 main_v9
  let main_v11 : FVec F S32768x256 .f32 := (extf .f32 · bitsLt_bf16_f32) main_arg2
  let main_v12 : FVec F S32768x256 .f32 := Host.absf main_v11
  let main_cst_2 : FVec F S_ .f32 := constant S_ .f32 0x7F800000#32
  let main_v13 : FVec F S32768x256 .f32 := broadcastInDim S32768x256 ![] bcast_S_S32768x256 main_cst_2
  let main_v14 : IVec S32768x256 1 := cmpf .olt main_v12 main_v13
  let main_c_3 : IVec S_ 1 := constantI S_ 1 1#1
  let main_v15 : IVec S_ 1 := (fun x v => Host.reduce IntOp.andi x v reducesTo_S32768x256_S_d0_1 h_S_) main_v14 main_c_3
  let main_v16 : IVec S_ 1 := andi main_v10 main_v15
  let main_v17 : FVec F S32768x32 .f32 := (extf .f32 · bitsLt_bf16_f32) main_arg3
  fn_part1 (F := F) main_v16 main_v17
-- ==== Pre_finite_weights.lean ====
abbrev S8x4096x1024 : Shape := ⟨3, ![8, 4096, 1024]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6944 : S_.BroadcastsInDim S1024x6944 (![] : Fin 0 → Fin S1024x6944.rank)
  reducesTo_S1024x6944_S_d0_1 : S1024x6944.ReducesTo [0, 1] S_

variable [Facts]

def fn {F : FTy → Type} [FloatOps F] (main_arg0 : FVec F S8x4096x1024 .f32) (main_arg1 : FVec F S1024 .f32) (main_arg2 : FVec F S1024x6944 .f32) (main_arg3 : FVec F S256 .f32) (main_arg4 : FVec F S256x768 .f32) (main_arg5 : FVec F S256 .f32) (main_arg6 : FVec F S256x8x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6944 .f32 := Host.absf main_arg2
  let main_cst_0 : FVec F S_ .f32 := constant S_ .f32 0x7F800000#32
  let main_v5 : FVec F S1024x6944 .f32 := broadcastInDim S1024x6944 ![] bcast_S_S1024x6944 main_cst_0
  let main_v6 : IVec S1024x6944 1 := cmpf .olt main_v4 main_v5
  let main_c_1 : IVec S_ 1 := constantI S_ 1 1#1
  let main_v7 : IVec S_ 1 := (fun x v => Host.reduce IntOp.andi x v reducesTo_S1024x6944_S_d0_1 h_S_) main_v6 main_c_1
  let main_v8 : IVec S_ 1 := andi main_v3 main_v7
  main_v8
-- ==== Pre_sample_finite_weights.lean ====
abbrev S128x8x1024 : Shape := ⟨3, ![128, 8, 1024]⟩
abbrev S128x30x512 : Shape := ⟨3, ![128, 30, 512]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6944 : S_.BroadcastsInDim S1024x6944 (![] : Fin 0 → Fin S1024x6944.rank)
  reducesTo_S1024x6944_S_d0_1 : S1024x6944.ReducesTo [0, 1] S_

variable [Facts]

def fn {F : FTy → Type} [FloatOps F] (main_arg0 : FVec F S128x8x1024 .f32) (main_arg1 : FVec F S128x30x512 .f32) (main_arg2 : FVec F S1024 .f32) (main_arg3 : FVec F S1024x6944 .f32) (main_arg4 : FVec F S256 .f32) (main_arg5 : FVec F S256x768 .f32) (main_arg6 : FVec F S256 .f32) (main_arg7 : FVec F S256x8x64 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6944 .f32 := Host.absf main_arg3
  let main_cst_0 : FVec F S_ .f32 := constant S_ .f32 0x7F800000#32
  let main_v5 : FVec F S1024x6944 .f32 := broadcastInDim S1024x6944 ![] bcast_S_S1024x6944 main_cst_0
  let main_v6 : IVec S1024x6944 1 := cmpf .olt main_v4 main_v5
  let main_c_1 : IVec S_ 1 := constantI S_ 1 1#1
  let main_v7 : IVec S_ 1 := (fun x v => Host.reduce IntOp.andi x v reducesTo_S1024x6944_S_d0_1 h_S_) main_v6 main_c_1
  let main_v8 : IVec S_ 1 := andi main_v3 main_v7
  main_v8
-- ==== Kernel.lean ====
abbrev S8x32768x256 : Shape := ⟨3, ![8, 32768, 256]⟩
abbrev S8x32768x32 : Shape := ⟨3, ![8, 32768, 32]⟩
abbrev S32768x256 : Shape := ⟨2, ![32768, 256]⟩
abbrev S32768x32 : Shape := ⟨2, ![32768, 32]⟩
abbrev S256x8x64 : Shape := ⟨3, ![256, 8, 64]⟩
abbrev S256x512 : Shape := ⟨2, ![256, 512]⟩
abbrev S512 : Shape := ⟨1, ![512]⟩
abbrev S_ : Shape := ⟨0, ![]⟩
abbrev S1x1x512 : Shape := ⟨3, ![1, 1, 512]⟩
abbrev S8 : Shape := ⟨1, ![8]⟩
abbrev S8x1x1 : Shape := ⟨3, ![8, 1, 1]⟩
abbrev S8x1x512 : Shape := ⟨3, ![8, 1, 512]⟩
abbrev S1x256x512 : Shape := ⟨3, ![1, 256, 512]⟩
abbrev S8x256x512 : Shape := ⟨3, ![8, 256, 512]⟩
abbrev S32768x512 : Shape := ⟨2, ![32768, 512]⟩
abbrev S8x128x256 : Shape := ⟨3, ![8, 128, 256]⟩
abbrev S8x128x32 : Shape := ⟨3, ![8, 128, 32]⟩
abbrev S4096x256 : Shape := ⟨2, ![4096, 256]⟩
abbrev S4096x32 : Shape := ⟨2, ![4096, 32]⟩
abbrev S128x512 : Shape := ⟨2, ![128, 512]⟩
abbrev S2x1024x256 : Shape := ⟨3, ![2, 1024, 256]⟩
abbrev S1024x128 : Shape := ⟨2, ![1024, 128]⟩
abbrev S1024x256 : Shape := ⟨2, ![1024, 256]⟩
abbrev S1024x32 : Shape := ⟨2, ![1024, 32]⟩
abbrev S256x256 : Shape := ⟨2, ![256, 256]⟩
abbrev S256x32 : Shape := ⟨2, ![256, 32]⟩
abbrev S1x1024x256 : Shape := ⟨3, ![1, 1024, 256]⟩
abbrev S1024 : Shape := ⟨1, ![1024]⟩
abbrev S1024x1 : Shape := ⟨2, ![1024, 1]⟩
abbrev S128x256 : Shape := ⟨2, ![128, 256]⟩

abbrev nBuf : Space → Nat
  | .hbm => 40
  | .vmem => 15
  | .smem => 0
  | _ => 0

abbrev bufTy : (tb : Table) → Fin (tcTables nBuf tb) → BufTy
  | .hbm, ⟨0, _⟩ => ⟨S8x32768x256, .bf16⟩
  | .hbm, ⟨1, _⟩ => ⟨S8x32768x32, .bf16⟩
  | .hbm, ⟨2, _⟩ => ⟨S32768x256, .bf16⟩
  | .hbm, ⟨3, _⟩ => ⟨S32768x32, .bf16⟩
  | .hbm, ⟨4, _⟩ => ⟨S256x8x64, .f32⟩
  | .hbm, ⟨5, _⟩ => ⟨S256x512, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S1x1x512, .i32⟩
  | .hbm, ⟨26, _⟩ => ⟨S8, .i32⟩
  | .hbm, ⟨27, _⟩ => ⟨S8x1x1, .i32⟩
  | .hbm, ⟨28, _⟩ => ⟨S8x1x512, .i32⟩
  | .hbm, ⟨29, _⟩ => ⟨S8x1x512, .i32⟩
  | .hbm, ⟨30, _⟩ => ⟨S8x1x512, .i1⟩
  | .hbm, ⟨31, _⟩ => ⟨S1x256x512, .f32⟩
  | .hbm, ⟨32, _⟩ => ⟨S_, .f32⟩
  | .hbm, ⟨33, _⟩ => ⟨S_, .f32⟩
  | .hbm, ⟨34, _⟩ => ⟨S8x256x512, .i1⟩
  | .hbm, ⟨35, _⟩ => ⟨S8x256x512, .f32⟩
  | .hbm, ⟨36, _⟩ => ⟨S8x256x512, .f32⟩
  | .hbm, ⟨37, _⟩ => ⟨S8x256x512, .f32⟩
  | .hbm, ⟨38, _⟩ => ⟨S8x256x512, .bf16⟩
  | .hbm, ⟨39, _⟩ => ⟨S32768x512, .f32⟩
  | .local _ .vmem, ⟨0, _⟩ => ⟨S8x128x256, .bf16⟩
  | .local _ .vmem, ⟨1, _⟩ => ⟨S8x128x256, .bf16⟩
  | .local _ .vmem, ⟨2, _⟩ => ⟨S8x128x32, .bf16⟩
  | .local _ .vmem, ⟨3, _⟩ => ⟨S8x128x32, .bf16⟩
  | .local _ .vmem, ⟨4, _⟩ => ⟨S4096x256, .bf16⟩
  | .local _ .vmem, ⟨5, _⟩ => ⟨S4096x256, .bf16⟩
  | .local _ .vmem, ⟨6, _⟩ => ⟨S4096x32, .bf16⟩
  | .local _ .vmem, ⟨7, _⟩ => ⟨S4096x32, .bf16⟩
  | .local _ .vmem, ⟨8, _⟩ => ⟨S8x256x512, .bf16⟩
  | .local _ .vmem, ⟨9, _⟩ => ⟨S128x512, .f32⟩
  | .local _ .vmem, ⟨10, _⟩ => ⟨S128x512, .f32⟩
  | .local _ .vmem, ⟨11, _⟩ => ⟨S2x1024x256, .f32⟩
  | .local _ .vmem, ⟨12, _⟩ => ⟨S1024x128, .f32⟩
  | .local _ .vmem, ⟨13, _⟩ => ⟨S1024x128, .f32⟩
  | .local _ .vmem, ⟨14, _⟩ => ⟨S1024x256, .f32⟩
  | _, _ => ⟨S8x32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 32], ![false, false]⟩

def k0_mult1 : BitVec 32 :=
  let c0_i32_18 : BitVec 32 := 0#32
  c0_i32_18
def k0_mult2 : BitVec 32 :=
  let c0_i32_21 : BitVec 32 := 0#32
  c0_i32_21
@[reducible] def k0_t1_loop (i : grid0.Coords) : Scf.Loop 32 :=
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_36 : BitVec 32 := 1#32
  ⟨c0_i32_34, v68, c1_i32_36⟩
def k0_mult3 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c1_i32_87 : BitVec 32 := 1#32
  let v154 : BitVec 32 := Scalar.addi v153 c1_i32_87
  let c256_i32_88 : BitVec 32 := 256#32
  let v155 : BitVec 32 := Scalar.muli v154 c256_i32_88
  v155
def k0_off1 (i : grid0.Coords) (k0_t1 : Fin (k0_t1_loop i).trips) (c1_i32_87 : BitVec 32) : Fin 2 → Nat :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let v154 : BitVec 32 := Scalar.addi v153 c1_i32_87
  let c256_i32_88 : BitVec 32 := 256#32
  let v155 : BitVec 32 := Scalar.muli v154 c256_i32_88
  let v156 : BitVec 32 := v155
  let v157 : Index := Scalar.indexCast v156
  let c0_89 : Index := 0#32
  ![v157.toNat, 0]
def k0_mult4 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c1_i32_87 : BitVec 32 := 1#32
  let v154 : BitVec 32 := Scalar.addi v153 c1_i32_87
  let c256_i32_91 : BitVec 32 := 256#32
  let v160 : BitVec 32 := Scalar.muli v154 c256_i32_91
  v160
def k0_off2 (i : grid0.Coords) (k0_t1 : Fin (k0_t1_loop i).trips) (c1_i32_87 : BitVec 32) : Fin 2 → Nat :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let v154 : BitVec 32 := Scalar.addi v153 c1_i32_87
  let c256_i32_91 : BitVec 32 := 256#32
  let v160 : BitVec 32 := Scalar.muli v154 c256_i32_91
  let v161 : BitVec 32 := v160
  let v162 : Index := Scalar.indexCast v161
  let c0_92 : Index := 0#32
  ![v162.toNat, 0]
def k0_mult5 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c256_i32_100 : BitVec 32 := 256#32
  let v171 : BitVec 32 := Scalar.muli v153 c256_i32_100
  v171
def k0_off3 (i : grid0.Coords) (k0_t1 : Fin (k0_t1_loop i).trips) : Fin 2 → Nat :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c256_i32_100 : BitVec 32 := 256#32
  let v171 : BitVec 32 := Scalar.muli v153 c256_i32_100
  let v172 : BitVec 32 := v171
  let v173 : Index := Scalar.indexCast v172
  let c0_101 : Index := 0#32
  ![v173.toNat, 0]
def k0_mult6 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c2_i32_119 : BitVec 32 := 2#32
  let v210 : BitVec 32 := Scalar.addi v153 c2_i32_119
  let c256_i32_120 : BitVec 32 := 256#32
  let v211 : BitVec 32 := Scalar.muli v210 c256_i32_120
  v211
def k0_mult7 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c2_i32_119 : BitVec 32 := 2#32
  let v210 : BitVec 32 := Scalar.addi v153 c2_i32_119
  let c256_i32_123 : BitVec 32 := 256#32
  let v216 : BitVec 32 := Scalar.muli v210 c256_i32_123
  v216
def k0_mult8 (i : grid0.Coords) (k0_t1 : Fin (k0_t1_loop i).trips) : BitVec 32 :=
  let c2_i32_86 : BitVec 32 := 2#32
  let c0_i32_34 : BitVec 32 := 0#32
  let c1_i32_36 : BitVec 32 := 1#32
  let arg12 : BitVec 32 := Scf.iv c0_i32_34 c1_i32_36 k0_t1
  let v153 : BitVec 32 := Scalar.muli c2_i32_86 arg12
  let c1_i32_129 : BitVec 32 := 1#32
  let v225 : BitVec 32 := Scalar.addi v153 c1_i32_129
  let c256_i32_133 : BitVec 32 := 256#32
  let v228 : BitVec 32 := Scalar.muli v225 c256_i32_133
  v228
@[reducible] def k0_t2_loop (i : grid0.Coords) : Scf.Loop 32 :=
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let v65 : BitVec 32 := Scalar.addi c0_i32_34 v64
  let c1_i32_37 : BitVec 32 := 1#32
  ⟨v68, v65, c1_i32_37⟩
def k0_mult9 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c1_i32_87 : BitVec 32 := 1#32
  let v154 : BitVec 32 := Scalar.addi v153 c1_i32_87
  let c256_i32_88 : BitVec 32 := 256#32
  let v155 : BitVec 32 := Scalar.muli v154 c256_i32_88
  v155
def k0_off4 (i : grid0.Coords) (k0_t2 : Fin (k0_t2_loop i).trips) (c1_i32_87 : BitVec 32) : Fin 2 → Nat :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let v154 : BitVec 32 := Scalar.addi v153 c1_i32_87
  let c256_i32_88 : BitVec 32 := 256#32
  let v155 : BitVec 32 := Scalar.muli v154 c256_i32_88
  let v156 : BitVec 32 := v155
  let v157 : Index := Scalar.indexCast v156
  let c0_89 : Index := 0#32
  ![v157.toNat, 0]
def k0_mult10 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c1_i32_87 : BitVec 32 := 1#32
  let v154 : BitVec 32 := Scalar.addi v153 c1_i32_87
  let c256_i32_91 : BitVec 32 := 256#32
  let v160 : BitVec 32 := Scalar.muli v154 c256_i32_91
  v160
def k0_off5 (i : grid0.Coords) (k0_t2 : Fin (k0_t2_loop i).trips) (c1_i32_87 : BitVec 32) : Fin 2 → Nat :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let v154 : BitVec 32 := Scalar.addi v153 c1_i32_87
  let c256_i32_91 : BitVec 32 := 256#32
  let v160 : BitVec 32 := Scalar.muli v154 c256_i32_91
  let v161 : BitVec 32 := v160
  let v162 : Index := Scalar.indexCast v161
  let c0_92 : Index := 0#32
  ![v162.toNat, 0]
def k0_mult11 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c256_i32_100 : BitVec 32 := 256#32
  let v171 : BitVec 32 := Scalar.muli v153 c256_i32_100
  v171
def k0_off6 (i : grid0.Coords) (k0_t2 : Fin (k0_t2_loop i).trips) : Fin 2 → Nat :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c256_i32_100 : BitVec 32 := 256#32
  let v171 : BitVec 32 := Scalar.muli v153 c256_i32_100
  let v172 : BitVec 32 := v171
  let v173 : Index := Scalar.indexCast v172
  let c0_101 : Index := 0#32
  ![v173.toNat, 0]
def k0_mult12 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c2_i32_119 : BitVec 32 := 2#32
  let v210 : BitVec 32 := Scalar.addi v153 c2_i32_119
  let c256_i32_120 : BitVec 32 := 256#32
  let v211 : BitVec 32 := Scalar.muli v210 c256_i32_120
  v211
def k0_mult13 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c2_i32_119 : BitVec 32 := 2#32
  let v210 : BitVec 32 := Scalar.addi v153 c2_i32_119
  let c256_i32_123 : BitVec 32 := 256#32
  let v216 : BitVec 32 := Scalar.muli v210 c256_i32_123
  v216
def k0_mult14 (i : grid0.Coords) (k0_t2 : Fin (k0_t2_loop i).trips) : BitVec 32 :=
  let c2_i32_86 : BitVec 32 := 2#32
  let c0_i32_34 : BitVec 32 := 0#32
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c0_i32_27 : BitVec 32 := 0#32
  let v48 : BitVec 1 := Scalar.cmpi .sgt v34 c0_i32_27
  let v49 : BitVec 32 := Scalar.extui v48
  let c0_i32_28 : BitVec 32 := 0#32
  let v50 : BitVec 1 := Scalar.cmpi .slt v34 c0_i32_28
  let v51 : BitVec 32 := Scalar.extui v50
  let v52 : BitVec 32 := Scalar.subi v49 v51
  let c2_i32 : BitVec 32 := 2#32
  let c0_i32_29 : BitVec 32 := 0#32
  let v53 : BitVec 1 := Scalar.cmpi .sgt c2_i32 c0_i32_29
  let v54 : BitVec 32 := Scalar.extui v53
  let c0_i32_30 : BitVec 32 := 0#32
  let v55 : BitVec 1 := Scalar.cmpi .slt c2_i32 c0_i32_30
  let v56 : BitVec 32 := Scalar.extui v55
  let v57 : BitVec 32 := Scalar.subi v54 v56
  let v58 : BitVec 1 := Scalar.cmpi .ne v52 v57
  let v59 : BitVec 32 := Scalar.remsi v34 c2_i32
  let c0_i32_31 : BitVec 32 := 0#32
  let v60 : BitVec 1 := Scalar.cmpi .ne v59 c0_i32_31
  let v61 : BitVec 1 := Scalar.andi v58 v60
  let v47 : BitVec 32 := Scalar.divsi v34 c2_i32
  let c1_i32_32 : BitVec 32 := 1#32
  let v62 : BitVec 32 := Scalar.subi v47 c1_i32_32
  let v63 : BitVec 32 := Scalar.select v61 v62 v47
  let v64 : BitVec 32 := Scalar.subi v63 c0_i32_34
  let c1_i32_35 : BitVec 32 := 1#32
  let v66 : BitVec 32 := Scalar.divsi v64 c1_i32_35
  let v67 : BitVec 32 := Scalar.muli v66 c1_i32_35
  let v68 : BitVec 32 := Scalar.addi c0_i32_34 v67
  let c1_i32_37 : BitVec 32 := 1#32
  let arg12 : BitVec 32 := Scf.iv v68 c1_i32_37 k0_t2
  let v153 : BitVec 32 := Scalar.muli c2_i32_86 arg12
  let c1_i32_129 : BitVec 32 := 1#32
  let v225 : BitVec 32 := Scalar.addi v153 c1_i32_129
  let c256_i32_133 : BitVec 32 := 256#32
  let v228 : BitVec 32 := Scalar.muli v225 c256_i32_133
  v228
def k0_cond1 (i : grid0.Coords) : BitVec 1 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c2_i32_38 : BitVec 32 := 2#32
  let c0_i32_39 : BitVec 32 := 0#32
  let v69 : BitVec 1 := Scalar.cmpi .eq c2_i32_38 c0_i32_39
  let c1_i32_40 : BitVec 32 := 1#32
  let v70 : BitVec 32 := Scalar.select v69 c1_i32_40 c2_i32_38
  let v71 : BitVec 32 := Scalar.remsi v34 v70
  let c0_i32_42 : BitVec 32 := 0#32
  let v73 : BitVec 1 := Scalar.cmpi .slt v71 c0_i32_42
  let c0_i32_43 : BitVec 32 := 0#32
  let v74 : BitVec 1 := Scalar.cmpi .slt v70 c0_i32_43
  let v75 : BitVec 1 := Scalar.xori v73 v74
  let c0_i32_41 : BitVec 32 := 0#32
  let v72 : BitVec 1 := Scalar.cmpi .ne v71 c0_i32_41
  let v76 : BitVec 1 := Scalar.andi v75 v72
  let v77 : BitVec 32 := Scalar.addi v71 v70
  let v78 : BitVec 32 := Scalar.select v76 v77 v71
  let c1_i32_44 : BitVec 32 := 1#32
  let v79 : BitVec 1 := Scalar.cmpi .eq v78 c1_i32_44
  let v80 : BitVec 32 := Scalar.extui v79
  let c0_i32_45 : BitVec 32 := 0#32
  let v81 : BitVec 1 := Scalar.cmpi .ne v80 c0_i32_45
  v81

def k0_mult15 (i : grid0.Coords) : BitVec 32 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_86 : BitVec 32 := 256#32
  let v153 : BitVec 32 := Scalar.muli v34 c256_i32_86
  v153
def k0_off7 (i : grid0.Coords) : Fin 2 → Nat :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_86 : BitVec 32 := 256#32
  let v153 : BitVec 32 := Scalar.muli v34 c256_i32_86
  let v154 : BitVec 32 := v153
  let v155 : Index := Scalar.indexCast v154
  let c0_87 : Index := 0#32
  ![v155.toNat, 0]
def k0_mult16 (i : grid0.Coords) : BitVec 32 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_89 : BitVec 32 := 256#32
  let v158 : BitVec 32 := Scalar.muli v34 c256_i32_89
  v158
def k0_off8 (i : grid0.Coords) : Fin 2 → Nat :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_89 : BitVec 32 := 256#32
  let v158 : BitVec 32 := Scalar.muli v34 c256_i32_89
  let v159 : BitVec 32 := v158
  let v160 : Index := Scalar.indexCast v159
  let c0_90 : Index := 0#32
  ![v160.toNat, 0]
def k0_mult17 (i : grid0.Coords) : BitVec 32 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c1_i32_95 : BitVec 32 := 1#32
  let v167 : BitVec 32 := Scalar.subi v34 c1_i32_95
  let c256_i32_99 : BitVec 32 := 256#32
  let v170 : BitVec 32 := Scalar.muli v167 c256_i32_99
  v170
def k0_off9 (i : grid0.Coords) : Fin 2 → Nat :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c1_i32_95 : BitVec 32 := 1#32
  let v167 : BitVec 32 := Scalar.subi v34 c1_i32_95
  let c256_i32_99 : BitVec 32 := 256#32
  let v170 : BitVec 32 := Scalar.muli v167 c256_i32_99
  let v171 : BitVec 32 := v170
  let v172 : Index := Scalar.indexCast v171
  let c0_100 : Index := 0#32
  ![v172.toNat, 0]
def k0_mult18 (i : grid0.Coords) : BitVec 32 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_124 : BitVec 32 := 256#32
  let v223 : BitVec 32 := Scalar.muli v34 c256_i32_124
  v223
def k0_cond2 (i : grid0.Coords) : BitVec 1 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c2_i32_38 : BitVec 32 := 2#32
  let c0_i32_39 : BitVec 32 := 0#32
  let v69 : BitVec 1 := Scalar.cmpi .eq c2_i32_38 c0_i32_39
  let c1_i32_40 : BitVec 32 := 1#32
  let v70 : BitVec 32 := Scalar.select v69 c1_i32_40 c2_i32_38
  let v71 : BitVec 32 := Scalar.remsi v34 v70
  let c0_i32_42 : BitVec 32 := 0#32
  let v73 : BitVec 1 := Scalar.cmpi .slt v71 c0_i32_42
  let c0_i32_43 : BitVec 32 := 0#32
  let v74 : BitVec 1 := Scalar.cmpi .slt v70 c0_i32_43
  let v75 : BitVec 1 := Scalar.xori v73 v74
  let c0_i32_41 : BitVec 32 := 0#32
  let v72 : BitVec 1 := Scalar.cmpi .ne v71 c0_i32_41
  let v76 : BitVec 1 := Scalar.andi v75 v72
  let v77 : BitVec 32 := Scalar.addi v71 v70
  let v78 : BitVec 32 := Scalar.select v76 v77 v71
  let c1_i32_44 : BitVec 32 := 1#32
  let v79 : BitVec 1 := Scalar.cmpi .eq v78 c1_i32_44
  let v_true : BitVec 1 := 1#1
  let v82 : BitVec 1 := Scalar.xori v79 v_true
  let v83 : BitVec 32 := Scalar.extui v82
  let c0_i32_46 : BitVec 32 := 0#32
  let v84 : BitVec 1 := Scalar.cmpi .ne v83 c0_i32_46
  v84

def k0_mult19 (i : grid0.Coords) : BitVec 32 :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_92 : BitVec 32 := 256#32
  let v167 : BitVec 32 := Scalar.muli v34 c256_i32_92
  v167
def k0_off10 (i : grid0.Coords) : Fin 2 → Nat :=
  let arg1 : BitVec 32 := BitVec.ofNat 32 (i 1).val
  let c128_i32 : BitVec 32 := 128#32
  let v16 : BitVec 32 := Scalar.muli arg1 c128_i32
  let c1_i32 : BitVec 32 := 1#32
  let v17 : BitVec 32 := Scalar.addi v16 c1_i32
  let c0_i32 : BitVec 32 := 0#32
  let v19 : BitVec 1 := Scalar.cmpi .sgt v17 c0_i32
  let v20 : BitVec 32 := Scalar.extui v19
  let c0_i32_13 : BitVec 32 := 0#32
  let v21 : BitVec 1 := Scalar.cmpi .slt v17 c0_i32_13
  let v22 : BitVec 32 := Scalar.extui v21
  let v23 : BitVec 32 := Scalar.subi v20 v22
  let c256_i32 : BitVec 32 := 256#32
  let c0_i32_14 : BitVec 32 := 0#32
  let v24 : BitVec 1 := Scalar.cmpi .sgt c256_i32 c0_i32_14
  let v25 : BitVec 32 := Scalar.extui v24
  let c0_i32_15 : BitVec 32 := 0#32
  let v26 : BitVec 1 := Scalar.cmpi .slt c256_i32 c0_i32_15
  let v27 : BitVec 32 := Scalar.extui v26
  let v28 : BitVec 32 := Scalar.subi v25 v27
  let v29 : BitVec 1 := Scalar.cmpi .ne v23 v28
  let v30 : BitVec 32 := Scalar.remsi v17 c256_i32
  let c0_i32_16 : BitVec 32 := 0#32
  let v31 : BitVec 1 := Scalar.cmpi .ne v30 c0_i32_16
  let v32 : BitVec 1 := Scalar.andi v29 v31
  let v18 : BitVec 32 := Scalar.divsi v17 c256_i32
  let c1_i32_17 : BitVec 32 := 1#32
  let v33 : BitVec 32 := Scalar.subi v18 c1_i32_17
  let v34 : BitVec 32 := Scalar.select v32 v33 v18
  let c256_i32_92 : BitVec 32 := 256#32
  let v167 : BitVec 32 := Scalar.muli v34 c256_i32_92
  let v168 : BitVec 32 := v167
  let v169 : Index := Scalar.indexCast v168
  let c0_93 : Index := 0#32
  ![v169.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exp2_scale" => some (((3424635 / 33554432) * (Real.log 2)⁻¹ : ℝ) : EReal)
  | "mask" => some ⊥
  | _ => none
-- ==== ReferenceIdeal.lean ====
abbrev S8x32768x256 : Shape := ⟨3, ![8, 32768, 256]⟩
abbrev S8x32768x32 : Shape := ⟨3, ![8, 32768, 32]⟩
abbrev S32768x256 : Shape := ⟨2, ![32768, 256]⟩
abbrev S32768x32 : Shape := ⟨2, ![32768, 32]⟩
abbrev S256x8x64 : Shape := ⟨3, ![256, 8, 64]⟩
abbrev S8x8x4096x256 : Shape := ⟨4, ![8, 8, 4096, 256]⟩
abbrev S8x4096x8x256 : Shape := ⟨4, ![8, 4096, 8, 256]⟩
abbrev S8x8x4096x32 : Shape := ⟨4, ![8, 8, 4096, 32]⟩
abbrev S8x4096x8x32 : Shape := ⟨4, ![8, 4096, 8, 32]⟩
abbrev S8x4096x256 : Shape := ⟨3, ![8, 4096, 256]⟩
abbrev S8x4096x32 : Shape := ⟨3, ![8, 4096, 32]⟩
abbrev S4096 : Shape := ⟨1, ![4096]⟩
abbrev S8x4096x4096x8 : Shape := ⟨4, ![8, 4096, 4096, 8]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x256x8x4096 : Shape := ⟨4, ![8, 256, 8, 4096]⟩
abbrev S8x64x8x4096 : Shape := ⟨4, ![8, 64, 8, 4096]⟩
abbrev S8x4096x8x64 : Shape := ⟨4, ![8, 4096, 8, 64]⟩
abbrev S32768x512 : Shape := ⟨2, ![32768, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x32768x256, .bf16⟩
  | .hbm, ⟨1, _⟩ => ⟨S8x32768x32, .bf16⟩
  | .hbm, ⟨2, _⟩ => ⟨S32768x256, .bf16⟩
  | .hbm, ⟨3, _⟩ => ⟨S32768x32, .bf16⟩
  | .hbm, ⟨4, _⟩ => ⟨S256x8x64, .f32⟩
  | .hbm, ⟨5, _⟩ => ⟨S8x32768x256, .f32⟩
  | .hbm, ⟨6, _⟩ => ⟨S8x8x4096x256, .f32⟩
  | .hbm, ⟨7, _⟩ => ⟨S8x4096x8x256, .f32⟩
  | .hbm, ⟨8, _⟩ => ⟨S8x32768x32, .f32⟩
  | .hbm, ⟨9, _⟩ => ⟨S8x8x4096x32, .f32⟩
  | .hbm, ⟨10, _⟩ => ⟨S8x4096x8x32, .f32⟩
  | .hbm, ⟨11, _⟩ => ⟨S32768x256, .f32⟩
  | .hbm, ⟨12, _⟩ => ⟨S8x4096x256, .f32⟩
  | .hbm, ⟨13, _⟩ => ⟨S32768x32, .f32⟩
  | .hbm, ⟨14, _⟩ => ⟨S8x4096x32, .f32⟩
  | .hbm, ⟨15, _⟩ => ⟨S4096, .i32⟩
  | .hbm, ⟨16, _⟩ => ⟨S8x4096x4096x8, .f32⟩
  | .hbm, ⟨17, _⟩ => ⟨S8x8x4096x4096, .f32⟩
  | .hbm, ⟨18, _⟩ => ⟨S8x4096x4096x8, .f32⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096x4096, .f32⟩
  | .hbm, ⟨23, _⟩ => ⟨S8x8x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S8x8x4096x4096, .i1⟩
  | .hbm, ⟨32, _⟩ => ⟨S8x8x4096x4096, .f32⟩
  | .hbm, ⟨33, _⟩ => ⟨S8x8x4096x4096, .f32⟩
  | .hbm, ⟨34, _⟩ => ⟨S_, .f32⟩
  | .hbm, ⟨35, _⟩ => ⟨S8x8x4096, .f32⟩
  | .hbm, ⟨36, _⟩ => ⟨S_, .f32⟩
  | .hbm, ⟨37, _⟩ => ⟨S8x8x4096, .f32⟩
  | .hbm, ⟨38, _⟩ => ⟨S8x8x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S_, .f32⟩
  | .hbm, ⟨44, _⟩ => ⟨S8x8x4096, .f32⟩
  | .hbm, ⟨45, _⟩ => ⟨S8x8x4096x1, .f32⟩
  | .hbm, ⟨46, _⟩ => ⟨S8x8x4096x4096, .f32⟩
  | .hbm, ⟨47, _⟩ => ⟨S8x8x4096x4096, .f32⟩
  | .hbm, ⟨48, _⟩ => ⟨S8x256x8x4096, .f32⟩
  | .hbm, ⟨49, _⟩ => ⟨S8x4096x8x256, .f32⟩
  | .hbm, ⟨50, _⟩ => ⟨S8x64x8x4096, .f32⟩
  | .hbm, ⟨51, _⟩ => ⟨S8x4096x8x64, .f32⟩
  | .hbm, ⟨52, _⟩ => ⟨S32768x512, .f32⟩
  | _, _ => ⟨S8x32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 21
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x1536, .bf16⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S1024x1536, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeIdeal.lean ====
abbrev S32768x1024 : Shape := ⟨2, ![32768, 1024]⟩
abbrev S32768x512 : Shape := ⟨2, ![32768, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 21
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x1536, .bf16⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S1024x1536, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S32768x1024 : Shape := ⟨2, ![32768, 1024]⟩
abbrev S32768x512 : Shape := ⟨2, ![32768, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1536, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S_, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x3072, .f32⟩
  | .hbm, ⟨63, _⟩ => ⟨S32768x3072, .f32⟩
  | .hbm, ⟨64, _⟩ => ⟨S32768x3072, .f32⟩
  | .hbm, ⟨65, _⟩ => ⟨S_, .f32⟩
  | .hbm, ⟨66, _⟩ => ⟨S32768x3072, .f32⟩
  | .hbm, ⟨67, _⟩ => ⟨S32768x3072, .f32⟩
  | .hbm, ⟨68, _⟩ => ⟨S_, .f32⟩
  | .hbm, ⟨69, _⟩ => ⟨S32768x3072, .f32⟩
  | .hbm, ⟨70, _⟩ => ⟨S32768x3072, .f32⟩
  | .hbm, ⟨71, _⟩ => ⟨S32768x3x1024, .f32⟩
  | .hbm, ⟨72, _⟩ => ⟨S32768x1x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1, .f32⟩
  | .hbm, ⟨99, _⟩ => ⟨S32768x1024, .f32⟩
  | .hbm, ⟨100, _⟩ => ⟨S32768x1024, .f32⟩
  | .hbm, ⟨101, _⟩ => ⟨S1x1024, .f32⟩
  | .hbm, ⟨102, _⟩ => ⟨S32768x1024, .f32⟩
  | .hbm, ⟨103, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v19 : Ref sig .tc := ⟨.hbm, 50, rfl⟩
abbrev main_v20 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_v27 : Ref sig .tc := ⟨.hbm, 67, rfl⟩
abbrev main_cst_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_4 : Ref sig .tc := ⟨.hbm, 89, rfl⟩
abbrev main_v48 : Ref sig .tc := ⟨.hbm, 90, rfl⟩
abbrev main_v49 : Ref sig .tc := ⟨.hbm, 91, rfl⟩
abbrev main_cst_5 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]
-- ==== Layer.lean ====
abbrev S32768x1024 : Shape := ⟨2, ![32768, 1024]⟩
abbrev S32768x512 : Shape := ⟨2, ![32768, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 21
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x1536, .bf16⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S1024x1536, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LayerReferenceIdeal.lean ====
abbrev S32768x1024 : Shape := ⟨2, ![32768, 1024]⟩
abbrev S32768x512 : Shape := ⟨2, ![32768, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S32768x1536, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S_, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S_, .f32⟩
  | .hbm, ⟨55, _⟩ => ⟨S32768x512, .f32⟩
  | .hbm, ⟨56, _⟩ => ⟨S32768x512, .f32⟩
  | .hbm, ⟨57, _⟩ => ⟨S_, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x3072, .f32⟩
  | .hbm, ⟨63, _⟩ => ⟨S32768x3072, .f32⟩
  | .hbm, ⟨64, _⟩ => ⟨S32768x3072, .f32⟩
  | .hbm, ⟨65, _⟩ => ⟨S_, .f32⟩
  | .hbm, ⟨66, _⟩ => ⟨S32768x3072, .f32⟩
  | .hbm, ⟨67, _⟩ => ⟨S32768x3072, .f32⟩
  | .hbm, ⟨68, _⟩ => ⟨S_, .f32⟩
  | .hbm, ⟨69, _⟩ => ⟨S32768x3072, .f32⟩
  | .hbm, ⟨70, _⟩ => ⟨S32768x3072, .f32⟩
  | .hbm, ⟨71, _⟩ => ⟨S32768x3x1024, .f32⟩
  | .hbm, ⟨72, _⟩ => ⟨S32768x1x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v19 : Ref sig .tc := ⟨.hbm, 50, rfl⟩
abbrev main_v20 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_v27 : Ref sig .tc := ⟨.hbm, 67, rfl⟩
abbrev main_cst_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩

abbrev nD : Nat := 1
abbrev τ : Topo := Topo.v7x

variable {F : FTy → Type} [FloatOps F]
-- ==== States.lean ====
abbrev S8x4096x1024 : Shape := ⟨3, ![8, 4096, 1024]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S32768x1024 : Shape := ⟨2, ![32768, 1024]⟩
abbrev S1024x512 : Shape := ⟨2, ![1024, 512]⟩
abbrev S1024x8x64 : Shape := ⟨3, ![1024, 8, 64]⟩
abbrev S8 : Shape := ⟨1, ![8]⟩
abbrev S1x8x1 : Shape := ⟨3, ![1, 8, 1]⟩
abbrev S1024x8x128 : Shape := ⟨3, ![1024, 8, 128]⟩
abbrev S1024x1024 : Shape := ⟨2, ![1024, 1024]⟩
abbrev S1024x128 : Shape := ⟨2, ![1024, 128]⟩
abbrev S1024x1280 : Shape := ⟨2, ![1024, 1280]⟩
abbrev S1024x32 : Shape := ⟨2, ![1024, 32]⟩
abbrev S1024x16 : Shape := ⟨2, ![1024, 16]⟩
abbrev S1024x96 : Shape := ⟨2, ![1024, 96]⟩
abbrev S1024x256 : Shape := ⟨2, ![1024, 256]⟩
abbrev S1024x768 : Shape := ⟨2, ![1024, 768]⟩
abbrev S256x8x96 : Shape := ⟨3, ![256, 8, 96]⟩
abbrev S256x512 : Shape := ⟨2, ![256, 512]⟩
abbrev S256x8x32 : Shape := ⟨3, ![256, 8, 32]⟩
abbrev S256x256 : Shape := ⟨2, ![256, 256]⟩
abbrev S256x8x16 : Shape := ⟨3, ![256, 8, 16]⟩
abbrev S256x1024 : Shape := ⟨2, ![256, 1024]⟩
abbrev S8x64x256 : Shape := ⟨3, ![8, 64, 256]⟩
abbrev S8x1x1 : Shape := ⟨3, ![8, 1, 1]⟩
abbrev S8x128x256 : Shape := ⟨3, ![8, 128, 256]⟩
abbrev S1x1024 : Shape := ⟨2, ![1, 1024]⟩
abbrev S1x256 : Shape := ⟨2, ![1, 256]⟩
abbrev S32768x512 : Shape := ⟨2, ![32768, 512]⟩
abbrev S8x32768x128 : Shape := ⟨3, ![8, 32768, 128]⟩
abbrev S32768x128 : Shape := ⟨2, ![32768, 128]⟩
abbrev S8x32768x256 : Shape := ⟨3, ![8, 32768, 256]⟩
abbrev S8x32768x32 : Shape := ⟨3, ![8, 32768, 32]⟩
abbrev S32768x256 : Shape := ⟨2, ![32768, 256]⟩
abbrev S32768x32 : Shape := ⟨2, ![32768, 32]⟩
abbrev S8x256x128 : Shape := ⟨3, ![8, 256, 128]⟩
abbrev S256x128 : Shape := ⟨2, ![256, 128]⟩
abbrev S8x256x256 : Shape := ⟨3, ![8, 256, 256]⟩
abbrev S8x256x32 : Shape := ⟨3, ![8, 256, 32]⟩
abbrev S256x32 : Shape := ⟨2, ![256, 32]⟩
abbrev S256x1 : Shape := ⟨2, ![256, 1]⟩
abbrev S256x1280 : Shape := ⟨2, ![256, 1280]⟩
abbrev S1x256x128 : Shape := ⟨3, ![1, 256, 128]⟩
abbrev S1x256x32 : Shape := ⟨3, ![1, 256, 32]⟩
abbrev S1x128x256 : Shape := ⟨3, ![1, 128, 256]⟩
abbrev S128x256 : Shape := ⟨2, ![128, 256]⟩
abbrev S1x256x256 : Shape := ⟨3, ![1, 256, 256]⟩
abbrev S8x4096x512 : Shape := ⟨3, ![8, 4096, 512]⟩
abbrev S8x30x512 : Shape := ⟨3, ![8, 30, 512]⟩
abbrev S8x4126x512 : Shape := ⟨3, ![8, 4126, 512]⟩
abbrev S8x4096x2x64 : Shape := ⟨4, ![8, 4096, 2, 64]⟩
abbrev S8x4096x256 : Shape := ⟨3, ![8, 4096, 256]⟩
abbrev S8x4096x32 : Shape := ⟨3, ![8, 4096, 32]⟩

abbrev nBuf : Space → Nat
  | .hbm => 161
  | .vmem => 38
  | .smem => 0
  | _ => 0

abbrev hbmTy0_0 (i : Nat) : BufTy := match i % 128 with
  | 0 => ⟨S8x4096x1024, .f32⟩
  | 1 => ⟨S1024, .f32⟩
  | 2 => ⟨S1024x6944, .f32⟩
  | 3 => ⟨S256, .f32⟩
  | 4 => ⟨S256x768, .f32⟩
  | 5 => ⟨S256, .f32⟩
  | 6 => ⟨S256x8x64, .f32⟩
  | 7 => ⟨S4096, .i32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x16, .f32⟩
  | 29 => ⟨S4096x16, .f32⟩
  | 30 => ⟨S4096x32, .f32⟩
  | 31 => ⟨S1x4096x1x32, .f32⟩
  | 32 => ⟨S1x4096x8x32, .f32⟩
  | 33 => ⟨S4096x256, .f32⟩
  | 34 => ⟨S4096x32, .f32⟩
  | 35 => ⟨S1x4096x1x32, .f32⟩
  | 36 => ⟨S1x4096x8x32, .f32⟩
  | 37 => ⟨S4096x256, .f32⟩
  | 38 => ⟨S32768x1024, .f32⟩
  | 39 => ⟨S1024x512, .f32⟩
  | 40 => ⟨S1024x8x64, .f32⟩
  | 41 => ⟨S_, .f32⟩
  | 42 => ⟨S1024x8x64, .f32⟩
  | 43 => ⟨S8, .i32⟩
  | 44 => ⟨S_, .i32⟩
  | 45 => ⟨S_, .i32⟩
  | 46 => ⟨S8, .i32⟩
  | 47 => ⟨S8, .i32⟩
  | 48 => ⟨S8, .i32⟩
  | 49 => ⟨S_, .i32⟩
  | 50 => ⟨S8, .i32⟩
  | 51 => ⟨S8, .i1⟩
  | 52 => ⟨S8, .i32⟩
  | 53 => ⟨S8, .i32⟩
  | 54 => ⟨S_, .i32⟩
  | 55 => ⟨S8, .i32⟩
  | 56 => ⟨S8, .i1⟩
  | 57 => ⟨S8, .i1⟩
  | 58 => ⟨S_, .i32⟩
  | 59 => ⟨S8, .i32⟩
  | 60 => ⟨S8, .i32⟩
  | 61 => ⟨S8, .i32⟩
  | 62 => ⟨S1x8x1, .i32⟩
  | 63 => ⟨S_, .i32⟩
  | 64 => ⟨S1x8x1, .i32⟩
  | 65 => ⟨S1x8x1, .i1⟩
  | 66 => ⟨S1024x8x128, .f32⟩
  | 67 => ⟨S1024x8x128, .f32⟩
  | 68 => ⟨S1024x8x128, .i1⟩
  | 69 => ⟨S1024x8x128, .f32⟩
  | 70 => ⟨S1024x1024, .f32⟩
  | 71 => ⟨S1024x128, .f32⟩
  | 72 => ⟨S1024x128, .f32⟩
  | 73 => ⟨S1024x1280, .f32⟩
  | 74 => ⟨S1024x32, .f32⟩
  | 75 => ⟨S1024x16, .f32⟩
  | 76 => ⟨S1024x16, .f32⟩
  | 77 => ⟨S1024x16, .f32⟩
  | 78 => ⟨S1024x32, .f32⟩
  | 79 => ⟨S_, .f32⟩
  | 80 => ⟨S1024x96, .f32⟩
  | 81 => ⟨S1024x256, .f32⟩
  | 82 => ⟨S1024x256, .f32⟩
  | 83 => ⟨S1024x768, .f32⟩
  | 84 => ⟨S256x8x96, .f32⟩
  | 85 => ⟨S256x8x64, .f32⟩
  | 86 => ⟨S256x512, .f32⟩
  | 87 => ⟨S256x8x32, .f32⟩
  | 88 => ⟨S256x256, .f32⟩
  | 89 => ⟨S256x8x16, .f32⟩
  | 90 => ⟨S256x8x16, .f32⟩
  | 91 => ⟨S256x8x16, .f32⟩
  | 92 => ⟨S256x8x32, .f32⟩
  | 93 => ⟨S256x256, .f32⟩
  | 94 => ⟨S256x1024, .f32⟩
  | 95 => ⟨S8x64x256, .f32⟩
  | 96 => ⟨S_, .f32⟩
  | 97 => ⟨S8x64x256, .f32⟩
  | 98 => ⟨S8, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S8, .i32⟩
  | 106 => ⟨S8, .i32⟩
  | 107 => ⟨S_, .i32⟩
  | 108 => ⟨S8, .i32⟩
  | 109 => ⟨S8, .i1⟩
  | 110 => ⟨S_, .i32⟩
  | 111 => ⟨S8, .i32⟩
  | 112 => ⟨S8, .i1⟩
  | 113 => ⟨S_, .i32⟩
  | 114 => ⟨S_, .i1⟩
  | 115 => ⟨S8, .i1⟩
  | 116 => ⟨S8, .i1⟩
  | 117 => ⟨S8, .i1⟩
  | 118 => ⟨S8, .i32⟩
  | 119 => ⟨S8, .i32⟩
  | 120 => ⟨S8, .i32⟩
  | 121 => ⟨S8x1x1, .i32⟩
  | 122 => ⟨S_, .i32⟩
  | 123 => ⟨S8x1x1, .i32⟩
  | 124 => ⟨S8x1x1, .i1⟩
  | 125 => ⟨S8x128x256, .f32⟩
  | 126 => ⟨S8x128x256, .f32⟩
  | 127 => ⟨S8x128x256, .i1⟩
  | _ => ⟨S8x4096x1024, .f32⟩

abbrev hbmTy0_1 (i : Nat) : BufTy := match i % 128 with
  | 0 => ⟨S8x128x256, .f32⟩
  | 1 => ⟨S1x1024, .f32⟩
  | 2 => ⟨S1024x512, .f32⟩
  | 3 => ⟨S1024x512, .f32⟩
  | 4 => ⟨S1024x1024, .f32⟩
  | 5 => ⟨S1024x1024, .bf16⟩
  | 6 => ⟨S1024x1280, .bf16⟩
  | 7 => ⟨S1024x768, .bf16⟩
  | 8 => ⟨S1x256, .f32⟩
  | 9 => ⟨S256x1024, .bf16⟩
  | 10 => ⟨S1x256, .f32⟩
  | 11 => ⟨S8x128x256, .bf16⟩
  | 12 => ⟨S32768x512, .f32⟩
  | 13 => ⟨S8x32768x128, .bf16⟩
  | 14 => ⟨S32768x128, .f32⟩
  | 15 => ⟨S32768x128, .f32⟩
  | 16 => ⟨S8x32768x256, .bf16⟩
  | 17 => ⟨S8x32768x32, .bf16⟩
  | 18 => ⟨S32768x256, .f32⟩
  | 19 => ⟨S32768x32, .f32⟩
  | 20 => ⟨S32768x128, .bf16⟩
  | 21 => ⟨S32768x128, .bf16⟩
  | 22 => ⟨S32768x256, .bf16⟩
  | 23 => ⟨S32768x32, .bf16⟩
  | 24 => ⟨S8x4096x512, .f32⟩
  | 25 => ⟨S_, .f32⟩
  | 26 => ⟨S8x30x512, .f32⟩
  | 27 => ⟨S8x4126x512, .f32⟩
  | 28 => ⟨S8x4096x2x64, .f32⟩
  | 29 => ⟨S8x4096x2x64, .f32⟩
  | 30 => ⟨S8x4096x256, .f32⟩
  | 31 => ⟨S8x4096x32, .f32⟩
  | 32 => ⟨S8x30x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S1024x1280, .bf16⟩
  | .local _ .vmem, ⟨9, _⟩ => ⟨S1024x768, .bf16⟩
  | .local _ .vmem, ⟨10, _⟩ => ⟨S1x256, .f32⟩
  | .local _ .vmem, ⟨11, _⟩ => ⟨S256x1024, .bf16⟩
  | .local _ .vmem, ⟨12, _⟩ => ⟨S1x256, .f32⟩
  | .local _ .vmem, ⟨13, _⟩ => ⟨S8x128x256, .bf16⟩
  | .local _ .vmem, ⟨14, _⟩ => ⟨S256x512, .f32⟩
  | .local _ .vmem, ⟨15, _⟩ => ⟨S256x512, .f32⟩
  | .local _ .vmem, ⟨16, _⟩ => ⟨S8x256x128, .bf16⟩
  | .local _ .vmem, ⟨17, _⟩ => ⟨S8x256x128, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S8x256x256, .bf16⟩
  | .local _ .vmem, ⟨23, _⟩ => ⟨S8x256x256, .bf16⟩
  | .local _ .vmem, ⟨24, _⟩ => ⟨S8x256x32, .bf16⟩
  | .local _ .vmem, ⟨25, _⟩ => ⟨S8x256x32, .bf16⟩
  | .local _ .vmem, ⟨26, _⟩ => ⟨S256x256, .f32⟩
  | .local _ .vmem, ⟨27, _⟩ => ⟨S256x256, .f32⟩
  | .local _ .vmem, ⟨28, _⟩ => ⟨S256x32, .f32⟩
  | .local _ .vmem, ⟨29, _⟩ => ⟨S256x32, .f32⟩
  | .local _ .vmem, ⟨30, _⟩ => ⟨S256x128, .bf16⟩
  | .local _ .vmem, ⟨31, _⟩ => ⟨S256x128, .bf16⟩
  | .local _ .vmem, ⟨32, _⟩ => ⟨S256x128, .bf16⟩
  | .local _ .vmem, ⟨33, _⟩ => ⟨S256x128, .bf16⟩
  | .local _ .vmem, ⟨34, _⟩ => ⟨S256x256, .bf16⟩
  | .local _ .vmem, ⟨35, _⟩ => ⟨S256x256, .bf16⟩
  | .local _ .vmem, ⟨36, _⟩ => ⟨S256x32, .bf16⟩
  | .local _ .vmem, ⟨37, _⟩ => ⟨S256x32, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_c : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_0 : Ref sig .tc := ⟨.hbm, 58, rfl⟩
abbrev main_call0_v12 : Ref sig .tc := ⟨.hbm, 59, rfl⟩
abbrev main_call0_v13 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call1_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_c_7 : Ref sig .tc := ⟨.hbm, 99, rfl⟩
abbrev main_call2_v0 : Ref sig .tc := ⟨.hbm, 100, rfl⟩
abbrev main_call2_c : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_1 : Ref sig .tc := ⟨.hbm, 107, rfl⟩
abbrev main_call2_v5 : Ref sig .tc := ⟨.hbm, 108, rfl⟩
abbrev main_call2_v6 : Ref sig .tc := ⟨.hbm, 109, rfl⟩
abbrev main_call2_c_2 : Ref sig .tc := ⟨.hbm, 110, rfl⟩
abbrev main_call2_v7 : Ref sig .tc := ⟨.hbm, 111, rfl⟩
abbrev main_call2_v8 : Ref sig .tc := ⟨.hbm, 112, rfl⟩
abbrev main_call2_c_3 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_v66 : Ref sig .tc := ⟨.hbm, 120, rfl⟩
abbrev main_v67 : Ref sig .tc := ⟨.hbm, 121, rfl⟩
abbrev main_c_8 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_call3_v0 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84_0 : Ref sig .tc := ⟨.hbm, 140, rfl⟩
abbrev main_v84_1 : Ref sig .tc := ⟨.hbm, 141, rfl⟩
abbrev main_v84_2 : Ref sig .tc := ⟨.hbm, 142, rfl⟩
abbrev main_v84_3 : Ref sig .tc := ⟨.hbm, 143, rfl⟩
abbrev main_v84_4 : Ref sig .tc := ⟨.hbm, 144, rfl⟩
abbrev main_v84_5 : Ref sig .tc := ⟨.hbm, 145, rfl⟩
abbrev main_v84_6 : Ref sig .tc := ⟨.hbm, 146, rfl⟩
abbrev main_v84_7 : Ref sig .tc := ⟨.hbm, 147, rfl⟩
abbrev main_v84_8 : Ref sig .tc := ⟨.hbm, 148, rfl⟩
abbrev main_v84_9 : Ref sig .tc := ⟨.hbm, 149, rfl⟩
abbrev main_v84_10 : Ref sig .tc := ⟨.hbm, 150, rfl⟩
abbrev main_v84_11 : Ref sig .tc := ⟨.hbm, 151, rfl⟩
abbrev main_v85 : Ref sig .tc := ⟨.hbm, 152, rfl⟩
abbrev main_cst_9 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x32 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x32 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== StatesReferenceIdeal.lean ====
abbrev S8x4096x1024 : Shape := ⟨3, ![8, 4096, 1024]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S4096 : Shape := ⟨1, ![4096]⟩
abbrev S_ : Shape := ⟨0, ![]⟩
abbrev S8x30x512 : Shape := ⟨3, ![8, 30, 512]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6944 : Shape := ⟨3, ![8, 4096, 6944]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x32 : Shape := ⟨3, ![8, 4096, 32]⟩
abbrev S8x4096x3072 : Shape := ⟨3, ![8, 4096, 3072]⟩
abbrev S8x4126x512 : Shape := ⟨3, ![8, 4126, 512]⟩
abbrev S8x4096x2x64 : Shape := ⟨4, ![8, 4096, 2, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x1x256 : Shape := ⟨3, ![1, 1, 256]⟩
abbrev S8x4096x16 : Shape := ⟨3, ![8, 4096, 16]⟩
abbrev S1x4096x16 : Shape := ⟨3, ![1, 4096, 16]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6944, .f32⟩
  | .hbm, ⟨3, _⟩ => ⟨S256, .f32⟩
  | .hbm, ⟨4, _⟩ => ⟨S256x768, .f32⟩
  | .hbm, ⟨5, _⟩ => ⟨S256, .f32⟩
  | .hbm, ⟨6, _⟩ => ⟨S256x8x64, .f32⟩
  | .hbm, ⟨7, _⟩ => ⟨S4096, .i32⟩
  | .hbm, ⟨8, _⟩ => ⟨S_, .f32⟩
  | .hbm, ⟨9, _⟩ => ⟨S8x30x512, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x6944, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x128, .f32⟩
  | .hbm, ⟨32, _⟩ => ⟨S8x4096x128, .f32⟩
  | .hbm, ⟨33, _⟩ => ⟨S8x4096x512, .f32⟩
  | .hbm, ⟨34, _⟩ => ⟨S8x4096x256, .f32⟩
  | .hbm, ⟨35, _⟩ => ⟨S8x4096x256, .f32⟩
  | .hbm, ⟨36, _⟩ => ⟨S8x4096x32, .f32⟩
  | .hbm, ⟨37, _⟩ => ⟨S8x4096x512, .f32⟩
  | .hbm, ⟨38, _⟩ => ⟨S8x4096x3072, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x512, .f32⟩
  | .hbm, ⟨43, _⟩ => ⟨S8x4096x512, .f32⟩
  | .hbm, ⟨44, _⟩ => ⟨S_, .f32⟩
  | .hbm, ⟨45, _⟩ => ⟨S8x4096x512, .f32⟩
  | .hbm, ⟨46, _⟩ => ⟨S8x4096x512, .f32⟩
  | .hbm, ⟨47, _⟩ => ⟨S8x4096x512, .f32⟩
  | .hbm, ⟨48, _⟩ => ⟨S8x4126x512, .f32⟩
  | .hbm, ⟨49, _⟩ => ⟨S8x30x512, .f32⟩
  | .hbm, ⟨50, _⟩ => ⟨S8x4096x2x64, .f32⟩
  | .hbm, ⟨51, _⟩ => ⟨S8x4096x2x64, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S4096, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S8x4096x256, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S8x4096x1, .f32⟩
  | .hbm, ⟨85, _⟩ => ⟨S8x4096x256, .f32⟩
  | .hbm, ⟨86, _⟩ => ⟨S8x4096x256, .f32⟩
  | .hbm, ⟨87, _⟩ => ⟨S1x1x256, .f32⟩
  | .hbm, ⟨88, _⟩ => ⟨S8x4096x256, .f32⟩
  | .hbm, ⟨89, _⟩ => ⟨S8x4096x256, .f32⟩
  | .hbm, ⟨90, _⟩ => ⟨S8x4096x16, .f32⟩
  | .hbm, ⟨91, _⟩ => ⟨S8x4096x16, .f32⟩
  | .hbm, ⟨92, _⟩ => ⟨S1x4096x16, .f32⟩
  | .hbm, ⟨93, _⟩ => ⟨S8x4096x16, .f32⟩
  | .hbm, ⟨94, _⟩ => ⟨S8x4096x16, .f32⟩
  | .hbm, ⟨95, _⟩ => ⟨S1x4096x16, .f32⟩
  | .hbm, ⟨96, _⟩ => ⟨S8x4096x16, .f32⟩
  | .hbm, ⟨97, _⟩ => ⟨S8x4096x16, .f32⟩
  | .hbm, ⟨98, _⟩ => ⟨S8x4096x16, .f32⟩
  | .hbm, ⟨99, _⟩ => ⟨S1x4096x16, .f32⟩
  | .hbm, ⟨100, _⟩ => ⟨S8x4096x16, .f32⟩
  | .hbm, ⟨101, _⟩ => ⟨S8x4096x16, .f32⟩
  | .hbm, ⟨102, _⟩ => ⟨S1x4096x16, .f32⟩
  | .hbm, ⟨103, _⟩ => ⟨S8x4096x16, .f32⟩
  | .hbm, ⟨104, _⟩ => ⟨S8x4096x16, .f32⟩
  | .hbm, ⟨105, _⟩ => ⟨S8x4096x16, .f32⟩
  | .hbm, ⟨106, _⟩ => ⟨S8x4096x32, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== SampleMerge.lean ====
abbrev S1024x1024 : Shape := ⟨2, ![1024, 1024]⟩
abbrev S1024x512 : Shape := ⟨2, ![1024, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 21
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x1024, .f32⟩
  | .hbm, ⟨13, _⟩ => ⟨S1024x1536, .bf16⟩
  | .hbm, ⟨14, _⟩ => ⟨S1024x3072, .bf16⟩
  | .hbm, ⟨15, _⟩ => ⟨S512x1024, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x1024, .f32⟩
  | .local _ .vmem, ⟨9, _⟩ => ⟨S1024x1536, .bf16⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SampleMergeReferenceIdeal.lean ====
abbrev S1024x1024 : Shape := ⟨2, ![1024, 1024]⟩
abbrev S1024x512 : Shape := ⟨2, ![1024, 512]⟩
abbrev S1024 : Shape := ⟨1, ![1024]⟩
abbrev S1024x1536 : Shape := ⟨2, ![1024, 1536]⟩
abbrev S1024x3072 : Shape := ⟨2, ![1024, 3072]⟩
abbrev S512x1024 : Shape := ⟨2, ![512, 1024]⟩
abbrev S_ : Shape := ⟨0, ![]⟩
abbrev S1024x1 : Shape := ⟨2, ![1024, 1]⟩
abbrev S1x1024 : Shape := ⟨2, ![1, 1024]⟩
abbrev S1024x3x1024 : Shape := ⟨3, ![1024, 3, 1024]⟩
abbrev S1024x1x1024 : Shape := ⟨3, ![1024, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024, .f32⟩
  | .hbm, ⟨5, _⟩ => ⟨S1024x1536, .f32⟩
  | .hbm, ⟨6, _⟩ => ⟨S1024x3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1, .f32⟩
  | .hbm, ⟨23, _⟩ => ⟨S1024x1024, .f32⟩
  | .hbm, ⟨24, _⟩ => ⟨S1024x1024, .f32⟩
  | .hbm, ⟨25, _⟩ => ⟨S1x1024, .f32⟩
  | .hbm, ⟨26, _⟩ => ⟨S1024x1024, .f32⟩
  | .hbm, ⟨27, _⟩ => ⟨S1024x1024, .f32⟩
  | .hbm, ⟨28, _⟩ => ⟨S1024x1536, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S_, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S_, .f32⟩
  | .hbm, ⟨55, _⟩ => ⟨S1024x512, .f32⟩
  | .hbm, ⟨56, _⟩ => ⟨S1024x512, .f32⟩
  | .hbm, ⟨57, _⟩ => ⟨S_, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x3072, .f32⟩
  | .hbm, ⟨63, _⟩ => ⟨S1024x3072, .f32⟩
  | .hbm, ⟨64, _⟩ => ⟨S1024x3072, .f32⟩
  | .hbm, ⟨65, _⟩ => ⟨S_, .f32⟩
  | .hbm, ⟨66, _⟩ => ⟨S1024x3072, .f32⟩
  | .hbm, ⟨67, _⟩ => ⟨S1024x3072, .f32⟩
  | .hbm, ⟨68, _⟩ => ⟨S_, .f32⟩
  | .hbm, ⟨69, _⟩ => ⟨S1024x3072, .f32⟩
  | .hbm, ⟨70, _⟩ => ⟨S1024x3072, .f32⟩
  | .hbm, ⟨71, _⟩ => ⟨S1024x3x1024, .f32⟩
  | .hbm, ⟨72, _⟩ => ⟨S1024x1x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1x1024, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S1024x1x1024, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S1024, .f32⟩
  | .hbm, ⟨91, _⟩ => ⟨S1024x1, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S_, .f32⟩
  | .hbm, ⟨96, _⟩ => ⟨S1024x1, .f32⟩
  | .hbm, ⟨97, _⟩ => ⟨S1024x1, .f32⟩
  | .hbm, ⟨98, _⟩ => ⟨S1024x1, .f32⟩
  | .hbm, ⟨99, _⟩ => ⟨S1024x1024, .f32⟩
  | .hbm, ⟨100, _⟩ => ⟨S1024x1024, .f32⟩
  | .hbm, ⟨101, _⟩ => ⟨S1x1024, .f32⟩
  | .hbm, ⟨102, _⟩ => ⟨S1024x1024, .f32⟩
  | .hbm, ⟨103, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v19 : Ref sig .tc := ⟨.hbm, 50, rfl⟩
abbrev main_v20 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_v27 : Ref sig .tc := ⟨.hbm, 67, rfl⟩
abbrev main_cst_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_4 : Ref sig .tc := ⟨.hbm, 89, rfl⟩
abbrev main_v48 : Ref sig .tc := ⟨.hbm, 90, rfl⟩
abbrev main_v49 : Ref sig .tc := ⟨.hbm, 91, rfl⟩
abbrev main_cst_5 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩

abbrev nD : Nat := 1
abbrev τ : Topo := Topo.v7x

variable {F : FTy → Type} [FloatOps F]
-- ==== SampleStates.lean ====
abbrev S128x8x1024 : Shape := ⟨3, ![128, 8, 1024]⟩
abbrev S128x30x512 : Shape := ⟨3, ![128, 30, 512]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S_ : Shape := ⟨0, ![]⟩
abbrev S16 : Shape := ⟨1, ![16]⟩
abbrev S256x1 : Shape := ⟨2, ![256, 1]⟩
abbrev S1x16 : Shape := ⟨2, ![1, 16]⟩
abbrev S256x16 : Shape := ⟨2, ![256, 16]⟩
abbrev S256x32 : Shape := ⟨2, ![256, 32]⟩
abbrev S1x256x1x32 : Shape := ⟨4, ![1, 256, 1, 32]⟩
abbrev S1x256x8x32 : Shape := ⟨4, ![1, 256, 8, 32]⟩
abbrev S256x256 : Shape := ⟨2, ![256, 256]⟩
abbrev S1024x1024 : Shape := ⟨2, ![1024, 1024]⟩
abbrev S1024x512 : Shape := ⟨2, ![1024, 512]⟩
abbrev S1024x8x64 : Shape := ⟨3, ![1024, 8, 64]⟩
abbrev S8 : Shape := ⟨1, ![8]⟩
abbrev S1x8x1 : Shape := ⟨3, ![1, 8, 1]⟩
abbrev S1024x8x128 : Shape := ⟨3, ![1024, 8, 128]⟩
abbrev S1024x128 : Shape := ⟨2, ![1024, 128]⟩
abbrev S1024x1280 : Shape := ⟨2, ![1024, 1280]⟩
abbrev S1024x32 : Shape := ⟨2, ![1024, 32]⟩
abbrev S1024x16 : Shape := ⟨2, ![1024, 16]⟩
abbrev S1024x96 : Shape := ⟨2, ![1024, 96]⟩
abbrev S1024x256 : Shape := ⟨2, ![1024, 256]⟩
abbrev S1024x768 : Shape := ⟨2, ![1024, 768]⟩
abbrev S256x8x96 : Shape := ⟨3, ![256, 8, 96]⟩
abbrev S256x512 : Shape := ⟨2, ![256, 512]⟩
abbrev S256x8x32 : Shape := ⟨3, ![256, 8, 32]⟩
abbrev S256x8x16 : Shape := ⟨3, ![256, 8, 16]⟩
abbrev S256x1024 : Shape := ⟨2, ![256, 1024]⟩
abbrev S8x64x256 : Shape := ⟨3, ![8, 64, 256]⟩
abbrev S8x1x1 : Shape := ⟨3, ![8, 1, 1]⟩
abbrev S8x128x256 : Shape := ⟨3, ![8, 128, 256]⟩
abbrev S1x1024 : Shape := ⟨2, ![1, 1024]⟩
abbrev S1x256 : Shape := ⟨2, ![1, 256]⟩
abbrev S8x1024x128 : Shape := ⟨3, ![8, 1024, 128]⟩
abbrev S8x1024x256 : Shape := ⟨3, ![8, 1024, 256]⟩
abbrev S8x1024x32 : Shape := ⟨3, ![8, 1024, 32]⟩
abbrev S8x256x128 : Shape := ⟨3, ![8, 256, 128]⟩
abbrev S256x128 : Shape := ⟨2, ![256, 128]⟩
abbrev S8x256x256 : Shape := ⟨3, ![8, 256, 256]⟩
abbrev S8x256x32 : Shape := ⟨3, ![8, 256, 32]⟩
abbrev S256x1280 : Shape := ⟨2, ![256, 1280]⟩
abbrev S1x256x128 : Shape := ⟨3, ![1, 256, 128]⟩
abbrev S1x256x32 : Shape := ⟨3, ![1, 256, 32]⟩
abbrev S1x128x256 : Shape := ⟨3, ![1, 128, 256]⟩
abbrev S128x256 : Shape := ⟨2, ![128, 256]⟩
abbrev S1x256x256 : Shape := ⟨3, ![1, 256, 256]⟩
abbrev S128x8x512 : Shape := ⟨3, ![128, 8, 512]⟩
abbrev S128x38x512 : Shape := ⟨3, ![128, 38, 512]⟩
abbrev S128x8x2x64 : Shape := ⟨4, ![128, 8, 2, 64]⟩
abbrev S128x8x256 : Shape := ⟨3, ![128, 8, 256]⟩
abbrev S128x8x32 : Shape := ⟨3, ![128, 8, 32]⟩

abbrev nBuf : Space → Nat
  | .hbm => 185
  | .vmem => 36
  | .smem => 0
  | _ => 0

abbrev hbmTy0_0 (i : Nat) : BufTy := match i % 128 with
  | 0 => ⟨S128x8x1024, .f32⟩
  | 1 => ⟨S128x30x512, .f32⟩
  | 2 => ⟨S1024, .f32⟩
  | 3 => ⟨S1024x6944, .f32⟩
  | 4 => ⟨S256, .f32⟩
  | 5 => ⟨S256x768, .f32⟩
  | 6 => ⟨S256, .f32⟩
  | 7 => ⟨S256x8x64, .f32⟩
  | 8 => ⟨S256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256, .i32⟩
  | 16 => ⟨S256, .i32⟩
  | 17 => ⟨S_, .i32⟩
  | 18 => ⟨S256, .i32⟩
  | 19 => ⟨S256, .i1⟩
  | 20 => ⟨S_, .i32⟩
  | 21 => ⟨S256, .i32⟩
  | 22 => ⟨S256, .i1⟩
  | 23 => ⟨S_, .i32⟩
  | 24 => ⟨S_, .i1⟩
  | 25 => ⟨S256, .i1⟩
  | 26 => ⟨S256, .i1⟩
  | 27 => ⟨S256, .i1⟩
  | 28 => ⟨S256, .i32⟩
  | 29 => ⟨S256, .i32⟩
  | 30 => ⟨S256, .i32⟩
  | 31 => ⟨S_, .i32⟩
  | 32 => ⟨S256, .i32⟩
  | 33 => ⟨S256, .i32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S256, .f32⟩
  | 49 => ⟨S256x1, .f32⟩
  | 50 => ⟨S1x16, .f32⟩
  | 51 => ⟨S256x16, .f32⟩
  | 52 => ⟨S256x16, .f32⟩
  | 53 => ⟨S256x16, .f32⟩
  | 54 => ⟨S256x16, .f32⟩
  | 55 => ⟨S256x16, .f32⟩
  | 56 => ⟨S256x32, .f32⟩
  | 57 => ⟨S1x256x1x32, .f32⟩
  | 58 => ⟨S1x256x8x32, .f32⟩
  | 59 => ⟨S256x256, .f32⟩
  | 60 => ⟨S256x32, .f32⟩
  | 61 => ⟨S1x256x1x32, .f32⟩
  | 62 => ⟨S1x256x8x32, .f32⟩
  | 63 => ⟨S256x256, .f32⟩
  | 64 => ⟨S1024x1024, .f32⟩
  | 65 => ⟨S1024x512, .f32⟩
  | 66 => ⟨S1024x8x64, .f32⟩
  | 67 => ⟨S_, .f32⟩
  | 68 => ⟨S1024x8x64, .f32⟩
  | 69 => ⟨S8, .i32⟩
  | 70 => ⟨S_, .i32⟩
  | 71 => ⟨S_, .i32⟩
  | 72 => ⟨S8, .i32⟩
  | 73 => ⟨S8, .i32⟩
  | 74 => ⟨S8, .i32⟩
  | 75 => ⟨S_, .i32⟩
  | 76 => ⟨S8, .i32⟩
  | 77 => ⟨S8, .i1⟩
  | 78 => ⟨S8, .i32⟩
  | 79 => ⟨S8, .i32⟩
  | 80 => ⟨S_, .i32⟩
  | 81 => ⟨S8, .i32⟩
  | 82 => ⟨S8, .i1⟩
  | 83 => ⟨S8, .i1⟩
  | 84 => ⟨S_, .i32⟩
  | 85 => ⟨S8, .i32⟩
  | 86 => ⟨S8, .i32⟩
  | 87 => ⟨S8, .i32⟩
  | 88 => ⟨S1x8x1, .i32⟩
  | 89 => ⟨S_, .i32⟩
  | 90 => ⟨S1x8x1, .i32⟩
  | 91 => ⟨S1x8x1, .i1⟩
  | 92 => ⟨S1024x8x128, .f32⟩
  | 93 => ⟨S1024x8x128, .f32⟩
  | 94 => ⟨S1024x8x128, .i1⟩
  | 95 => ⟨S1024x8x128, .f32⟩
  | 96 => ⟨S1024x1024, .f32⟩
  | 97 => ⟨S1024x128, .f32⟩
  | 98 => ⟨S1024x128, .f32⟩
  | 99 => ⟨S1024x1280, .f32⟩
  | 100 => ⟨S1024x32, .f32⟩
  | 101 => ⟨S1024x16, .f32⟩
  | 102 => ⟨S1024x16, .f32⟩
  | 103 => ⟨S1024x16, .f32⟩
  | 104 => ⟨S1024x32, .f32⟩
  | 105 => ⟨S_, .f32⟩
  | 106 => ⟨S1024x96, .f32⟩
  | 107 => ⟨S1024x256, .f32⟩
  | 108 => ⟨S1024x256, .f32⟩
  | 109 => ⟨S1024x768, .f32⟩
  | 110 => ⟨S256x8x96, .f32⟩
  | 111 => ⟨S256x8x64, .f32⟩
  | 112 => ⟨S256x512, .f32⟩
  | 113 => ⟨S256x8x32, .f32⟩
  | 114 => ⟨S256x256, .f32⟩
  | 115 => ⟨S256x8x16, .f32⟩
  | 116 => ⟨S256x8x16, .f32⟩
  | 117 => ⟨S256x8x16, .f32⟩
  | 118 => ⟨S256x8x32, .f32⟩
  | 119 => ⟨S256x256, .f32⟩
  | 120 => ⟨S256x1024, .f32⟩
  | 121 => ⟨S8x64x256, .f32⟩
  | 122 => ⟨S_, .f32⟩
  | 123 => ⟨S8x64x256, .f32⟩
  | 124 => ⟨S8, .i32⟩
  | 125 => ⟨S_, .i32⟩
  | 126 => ⟨S_, .i32⟩
  | 127 => ⟨S_, .i32⟩
  | _ => ⟨S128x8x1024, .f32⟩

abbrev hbmTy0_1 (i : Nat) : BufTy := match i % 128 with
  | 0 => ⟨S_, .i1⟩
  | 1 => ⟨S_, .i32⟩
  | 2 => ⟨S_, .i32⟩
  | 3 => ⟨S8, .i32⟩
  | 4 => ⟨S8, .i32⟩
  | 5 => ⟨S_, .i32⟩
  | 6 => ⟨S8, .i32⟩
  | 7 => ⟨S8, .i1⟩
  | 8 => ⟨S_, .i32⟩
  | 9 => ⟨S8, .i32⟩
  | 10 => ⟨S8, .i1⟩
  | 11 => ⟨S_, .i32⟩
  | 12 => ⟨S_, .i1⟩
  | 13 => ⟨S8, .i1⟩
  | 14 => ⟨S8, .i1⟩
  | 15 => ⟨S8, .i1⟩
  | 16 => ⟨S8, .i32⟩
  | 17 => ⟨S8, .i32⟩
  | 18 => ⟨S8, .i32⟩
  | 19 => ⟨S8x1x1, .i32⟩
  | 20 => ⟨S_, .i32⟩
  | 21 => ⟨S8x1x1, .i32⟩
  | 22 => ⟨S8x1x1, .i1⟩
  | 23 => ⟨S8x128x256, .f32⟩
  | 24 => ⟨S8x128x256, .f32⟩
  | 25 => ⟨S8x128x256, .i1⟩
  | 26 => ⟨S8x128x256, .f32⟩
  | 27 => ⟨S1x1024, .f32⟩
  | 28 => ⟨S1024x512, .f32⟩
  | 29 => ⟨S1024x512, .f32⟩
  | 30 => ⟨S1024x1024, .f32⟩
  | 31 => ⟨S1024x1024, .bf16⟩
  | 32 => ⟨S1024x1280, .bf16⟩
  | 33 => ⟨S1024x768, .bf16⟩
  | 34 => ⟨S1x256, .f32⟩
  | 35 => ⟨S256x1024, .bf16⟩
  | 36 => ⟨S1x256, .f32⟩
  | 37 => ⟨S8x128x256, .bf16⟩
  | 38 => ⟨S1024x512, .f32⟩
  | 39 => ⟨S8x1024x128, .bf16⟩
  | 40 => ⟨S1024x128, .f32⟩
  | 41 => ⟨S1024x128, .f32⟩
  | 42 => ⟨S8x1024x256, .bf16⟩
  | 43 => ⟨S8x1024x32, .bf16⟩
  | 44 => ⟨S1024x256, .f32⟩
  | 45 => ⟨S1024x32, .f32⟩
  | 46 => ⟨S1024x128, .bf16⟩
  | 47 => ⟨S1024x128, .bf16⟩
  | 48 => ⟨S1024x256, .bf16⟩
  | 49 => ⟨S1024x32, .bf16⟩
  | 50 => ⟨S128x8x512, .f32⟩
  | 51 => ⟨S128x38x512, .f32⟩
  | 52 => ⟨S128x8x2x64, .f32⟩
  | 53 => ⟨S128x8x2x64, .f32⟩
  | 54 => ⟨S128x8x256, .f32⟩
  | 55 => ⟨S128x8x32, .f32⟩
  | 56 => ⟨S128x30x512, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1x1024, .f32⟩
  | .local _ .vmem, ⟨5, _⟩ => ⟨S1024x1024, .bf16⟩
  | .local _ .vmem, ⟨6, _⟩ => ⟨S1024x1280, .bf16⟩
  | .local _ .vmem, ⟨7, _⟩ => ⟨S1024x768, .bf16⟩
  | .local _ .vmem, ⟨8, _⟩ => ⟨S1x256, .f32⟩
  | .local _ .vmem, ⟨9, _⟩ => ⟨S256x1024, .bf16⟩
  | .local _ .vmem, ⟨10, _⟩ => ⟨S1x256, .f32⟩
  | .local _ .vmem, ⟨11, _⟩ => ⟨S8x128x256, .bf16⟩
  | .local _ .vmem, ⟨12, _⟩ => ⟨S256x512, .f32⟩
  | .local _ .vmem, ⟨13, _⟩ => ⟨S256x512, .f32⟩
  | .local _ .vmem, ⟨14, _⟩ => ⟨S8x256x128, .bf16⟩
  | .local _ .vmem, ⟨15, _⟩ => ⟨S8x256x128, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S8x256x256, .bf16⟩
  | .local _ .vmem, ⟨21, _⟩ => ⟨S8x256x256, .bf16⟩
  | .local _ .vmem, ⟨22, _⟩ => ⟨S8x256x32, .bf16⟩
  | .local _ .vmem, ⟨23, _⟩ => ⟨S8x256x32, .bf16⟩
  | .local _ .vmem, ⟨24, _⟩ => ⟨S256x256, .f32⟩
  | .local _ .vmem, ⟨25, _⟩ => ⟨S256x256, .f32⟩
  | .local _ .vmem, ⟨26, _⟩ => ⟨S256x32, .f32⟩
  | .local _ .vmem, ⟨27, _⟩ => ⟨S256x32, .f32⟩
  | .local _ .vmem, ⟨28, _⟩ => ⟨S256x128, .bf16⟩
  | .local _ .vmem, ⟨29, _⟩ => ⟨S256x128, .bf16⟩
  | .local _ .vmem, ⟨30, _⟩ => ⟨S256x128, .bf16⟩
  | .local _ .vmem, ⟨31, _⟩ => ⟨S256x128, .bf16⟩
  | .local _ .vmem, ⟨32, _⟩ => ⟨S256x256, .bf16⟩
  | .local _ .vmem, ⟨33, _⟩ => ⟨S256x256, .bf16⟩
  | .local _ .vmem, ⟨34, _⟩ => ⟨S256x32, .bf16⟩
  | .local _ .vmem, ⟨35, _⟩ => ⟨S256x32, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_cst_3 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_c_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v35 : Ref sig .tc := ⟨.hbm, 87, rfl⟩
abbrev main_v36 : Ref sig .tc := ⟨.hbm, 88, rfl⟩
abbrev main_c_6 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_call2_v0 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_7 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_8 : Ref sig .tc := ⟨.hbm, 122, rfl⟩
abbrev main_v67 : Ref sig .tc := ⟨.hbm, 123, rfl⟩
abbrev main_v68 : Ref sig .tc := ⟨.hbm, 124, rfl⟩
abbrev main_c_9 : Ref sig .tc := ⟨.hbm, 125, rfl⟩
abbrev main_call3_v0 : Ref sig .tc := ⟨.hbm, 126, rfl⟩
abbrev main_call3_c : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_c_1 : Ref sig .tc := ⟨.hbm, 133, rfl⟩
abbrev main_call3_v5 : Ref sig .tc := ⟨.hbm, 134, rfl⟩
abbrev main_call3_v6 : Ref sig .tc := ⟨.hbm, 135, rfl⟩
abbrev main_call3_c_2 : Ref sig .tc := ⟨.hbm, 136, rfl⟩
abbrev main_call3_v7 : Ref sig .tc := ⟨.hbm, 137, rfl⟩
abbrev main_call3_v8 : Ref sig .tc := ⟨.hbm, 138, rfl⟩
abbrev main_call3_c_3 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_v12 : Ref sig .tc := ⟨.hbm, 143, rfl⟩
abbrev main_call3_v13 : Ref sig .tc := ⟨.hbm, 144, rfl⟩
abbrev main_call3_v14 : Ref sig .tc := ⟨.hbm, 145, rfl⟩
abbrev main_v69 : Ref sig .tc := ⟨.hbm, 146, rfl⟩
abbrev main_v70 : Ref sig .tc := ⟨.hbm, 147, rfl⟩
abbrev main_c_10 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call4_v0 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87_0 : Ref sig .tc := ⟨.hbm, 166, rfl⟩
abbrev main_v87_1 : Ref sig .tc := ⟨.hbm, 167, rfl⟩
abbrev main_v87_2 : Ref sig .tc := ⟨.hbm, 168, rfl⟩
abbrev main_v87_3 : Ref sig .tc := ⟨.hbm, 169, rfl⟩
abbrev main_v87_4 : Ref sig .tc := ⟨.hbm, 170, rfl⟩
abbrev main_v87_5 : Ref sig .tc := ⟨.hbm, 171, rfl⟩
abbrev main_v87_6 : Ref sig .tc := ⟨.hbm, 172, rfl⟩
abbrev main_v87_7 : Ref sig .tc := ⟨.hbm, 173, rfl⟩
abbrev main_v87_8 : Ref sig .tc := ⟨.hbm, 174, rfl⟩
abbrev main_v87_9 : Ref sig .tc := ⟨.hbm, 175, rfl⟩
abbrev main_v87_10 : Ref sig .tc := ⟨.hbm, 176, rfl⟩
abbrev main_v87_11 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x32 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x32 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== SampleStatesReferenceIdeal.lean ====
abbrev S128x8x1024 : Shape := ⟨3, ![128, 8, 1024]⟩
abbrev S128x30x512 : Shape := ⟨3, ![128, 30, 512]⟩
abbrev S1024 : Shape := ⟨1, ![1024]⟩
abbrev S1024x6944 : Shape := ⟨2, ![1024, 6944]⟩
abbrev S256 : Shape := ⟨1, ![256]⟩
abbrev S256x768 : Shape := ⟨2, ![256, 768]⟩
abbrev S256x8x64 : Shape := ⟨3, ![256, 8, 64]⟩
abbrev S8 : Shape := ⟨1, ![8]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6944 : Shape := ⟨3, ![128, 8, 6944]⟩
abbrev S128x8x512 : Shape := ⟨3, ![128, 8, 512]⟩
abbrev S128x8x128 : Shape := ⟨3, ![128, 8, 128]⟩
abbrev S128x8x256 : Shape := ⟨3, ![128, 8, 256]⟩
abbrev S128x8x32 : Shape := ⟨3, ![128, 8, 32]⟩
abbrev S128x8x3072 : Shape := ⟨3, ![128, 8, 3072]⟩
abbrev S128x38x512 : Shape := ⟨3, ![128, 38, 512]⟩
abbrev S128x8x2x64 : Shape := ⟨4, ![128, 8, 2, 64]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S1x1x256 : Shape := ⟨3, ![1, 1, 256]⟩
abbrev S128x8x16 : Shape := ⟨3, ![128, 8, 16]⟩
abbrev S1x8x16 : Shape := ⟨3, ![1, 8, 16]⟩

abbrev nBuf : Space → Nat
  | .hbm => 109
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x30x512, .f32⟩
  | .hbm, ⟨2, _⟩ => ⟨S1024, .f32⟩
  | .hbm, ⟨3, _⟩ => ⟨S1024x6944, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x8x64, .f32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S128x8x1024, .f32⟩
  | .hbm, ⟨13, _⟩ => ⟨S_, .f32⟩
  | .hbm, ⟨14, _⟩ => ⟨S128x8, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S_, .f32⟩
  | .hbm, ⟨20, _⟩ => ⟨S128x8x1, .f32⟩
  | .hbm, ⟨21, _⟩ => ⟨S128x8x1, .f32⟩
  | .hbm, ⟨22, _⟩ => ⟨S128x8x1, .f32⟩
  | .hbm, ⟨23, _⟩ => ⟨S128x8x1024, .f32⟩
  | .hbm, ⟨24, _⟩ => ⟨S128x8x1024, .f32⟩
  | .hbm, ⟨25, _⟩ => ⟨S1x1x1024, .f32⟩
  | .hbm, ⟨26, _⟩ => ⟨S128x8x1024, .f32⟩
  | .hbm, ⟨27, _⟩ => ⟨S128x8x1024, .f32⟩
  | .hbm, ⟨28, _⟩ => ⟨S128x8x6944, .f32⟩
  | .hbm, ⟨29, _⟩ => ⟨S128x8x512, .f32⟩
  | .hbm, ⟨30, _⟩ => ⟨S128x8x512, .f32⟩
  | .hbm, ⟨31, _⟩ => ⟨S128x8x512, .f32⟩
  | .hbm, ⟨32, _⟩ => ⟨S128x8x512, .f32⟩
  | .hbm, ⟨33, _⟩ => ⟨S128x8x128, .f32⟩
  | .hbm, ⟨34, _⟩ => ⟨S128x8x128, .f32⟩
  | .hbm, ⟨35, _⟩ => ⟨S128x8x512, .f32⟩
  | .hbm, ⟨36, _⟩ => ⟨S128x8x256, .f32⟩
  | .hbm, ⟨37, _⟩ => ⟨S128x8x256, .f32⟩
  | .hbm, ⟨38, _⟩ => ⟨S128x8x32, .f32⟩
  | .hbm, ⟨39, _⟩ => ⟨S128x8x512, .f32⟩
  | .hbm, ⟨40, _⟩ => ⟨S128x8x3072, .f32⟩
  | .hbm, ⟨41, _⟩ => ⟨S128x8x512, .f32⟩
  | .hbm, ⟨42, _⟩ => ⟨S128x8x512, .f32⟩
  | .hbm, ⟨43, _⟩ => ⟨S_, .f32⟩
  | .hbm, ⟨44, _⟩ => ⟨S128x8x512, .f32⟩
  | .hbm, ⟨45, _⟩ => ⟨S128x8x512, .f32⟩
  | .hbm, ⟨46, _⟩ => ⟨S_, .f32⟩
  | .hbm, ⟨47, _⟩ => ⟨S128x8x512, .f32⟩
  | .hbm, ⟨48, _⟩ => ⟨S128x8x512, .f32⟩
  | .hbm, ⟨49, _⟩ => ⟨S128x8x512, .f32⟩
  | .hbm, ⟨50, _⟩ => ⟨S128x38x512, .f32⟩
  | .hbm, ⟨51, _⟩ => ⟨S128x30x512, .f32⟩
  | .hbm, ⟨52, _⟩ => ⟨S128x8x2x64, .f32⟩
  | .hbm, ⟨53, _⟩ => ⟨S128x8x2x64, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S8, .f32⟩
  | .hbm, ⟨69, _⟩ => ⟨S8x1, .f32⟩
  | .hbm, ⟨70, _⟩ => ⟨S1x16, .f32⟩
  | .hbm, ⟨71, _⟩ => ⟨S8x16, .f32⟩
  | .hbm, ⟨72, _⟩ => ⟨S8x16, .f32⟩
  | .hbm, ⟨73, _⟩ => ⟨S8x16, .f32⟩
  | .hbm, ⟨74, _⟩ => ⟨S8x16, .f32⟩
  | .hbm, ⟨75, _⟩ => ⟨S8x16, .f32⟩
  | .hbm, ⟨76, _⟩ => ⟨S128x8x256, .f32⟩
  | .hbm, ⟨77, _⟩ => ⟨S_, .f32⟩
  | .hbm, ⟨78, _⟩ => ⟨S128x8, .f32⟩
  | .hbm, ⟨79, _⟩ => ⟨S128x8x1, .f32⟩
  | .hbm, ⟨80, _⟩ => ⟨S_, .f32⟩
  | .hbm, ⟨81, _⟩ => ⟨S128x8x1, .f32⟩
  | .hbm, ⟨82, _⟩ => ⟨S128x8x1, .f32⟩
  | .hbm, ⟨83, _⟩ => ⟨S_, .f32⟩
  | .hbm, ⟨84, _⟩ => ⟨S128x8x1, .f32⟩
  | .hbm, ⟨85, _⟩ => ⟨S128x8x1, .f32⟩
  | .hbm, ⟨86, _⟩ => ⟨S128x8x1, .f32⟩
  | .hbm, ⟨87, _⟩ => ⟨S128x8x256, .f32⟩
  | .hbm, ⟨88, _⟩ => ⟨S128x8x256, .f32⟩
  | .hbm, ⟨89, _⟩ => ⟨S1x1x256, .f32⟩
  | .hbm, ⟨90, _⟩ => ⟨S128x8x256, .f32⟩
  | .hbm, ⟨91, _⟩ => ⟨S128x8x256, .f32⟩
  | .hbm, ⟨92, _⟩ => ⟨S128x8x16, .f32⟩
  | .hbm, ⟨93, _⟩ => ⟨S128x8x16, .f32⟩
  | .hbm, ⟨94, _⟩ => ⟨S1x8x16, .f32⟩
  | .hbm, ⟨95, _⟩ => ⟨S128x8x16, .f32⟩
  | .hbm, ⟨96, _⟩ => ⟨S128x8x16, .f32⟩
  | .hbm, ⟨97, _⟩ => ⟨S1x8x16, .f32⟩
  | .hbm, ⟨98, _⟩ => ⟨S128x8x16, .f32⟩
  | .hbm, ⟨99, _⟩ => ⟨S128x8x16, .f32⟩
  | .hbm, ⟨100, _⟩ => ⟨S128x8x16, .f32⟩
  | .hbm, ⟨101, _⟩ => ⟨S1x8x16, .f32⟩
  | .hbm, ⟨102, _⟩ => ⟨S128x8x16, .f32⟩
  | .hbm, ⟨103, _⟩ => ⟨S128x8x16, .f32⟩
  | .hbm, ⟨104, _⟩ => ⟨S1x8x16, .f32⟩
  | .hbm, ⟨105, _⟩ => ⟨S128x8x16, .f32⟩
  | .hbm, ⟨106, _⟩ => ⟨S128x8x16, .f32⟩
  | .hbm, ⟨107, _⟩ => ⟨S128x8x16, .f32⟩
  | .hbm, ⟨108, _⟩ => ⟨S128x8x32, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Proof.P.Words.lean ====
module

public import proofs.«01_k».proof.Proof.Gen.Kernel

@[expose] public section

namespace Cert.Kernel

open Idealize.ShloMosaic

/-- The main loop takes two key blocks a trip: a quarter of the query block's number. -/
theorem trips1 : ∀ i : grid0.Coords, (k0_t1_loop i).trips = (i 1).val / 4 := by decide +kernel

/-- The remainder loop takes no trip. -/
theorem trips2 : ∀ i : grid0.Coords, (k0_t2_loop i).trips = 0 := by decide +kernel

theorem cond1_iff : ∀ i : grid0.Coords, k0_cond1 i = 1#1 ↔ (i 1).val / 2 % 2 = 1 := by decide +kernel

theorem cond2_iff : ∀ i : grid0.Coords, k0_cond2 i = 1#1 ↔ (i 1).val / 2 % 2 = 0 := by decide +kernel

theorem off7_at : ∀ i : grid0.Coords, k0_off7 i = ![256 * ((i 1).val / 2), 0] := by decide +kernel
theorem off8_at : ∀ i : grid0.Coords, k0_off8 i = ![256 * ((i 1).val / 2), 0] := by decide +kernel
theorem off10_at : ∀ i : grid0.Coords, k0_off10 i = ![256 * ((i 1).val / 2), 0] := by decide +kernel
theorem off9_at : ∀ i : grid0.Coords, k0_cond1 i = 1#1 → k0_off9 i = ![256 * ((i 1).val / 2 - 1), 0] := by decide +kernel

theorem off1_at : ∀ (i : grid0.Coords) (k : Fin (k0_t1_loop i).trips) (r : Fin 2),
    k0_off1 i k (BitVec.ofNat 32 (1 + r.val)) = ![256 * (2 * k.val + 1 + r.val), 0] := by decide +kernel
theorem off2_at : ∀ (i : grid0.Coords) (k : Fin (k0_t1_loop i).trips) (r : Fin 2),
    k0_off2 i k (BitVec.ofNat 32 (1 + r.val)) = ![256 * (2 * k.val + 1 + r.val), 0] := by decide +kernel
theorem off3_at : ∀ (i : grid0.Coords) (k : Fin (k0_t1_loop i).trips),
    k0_off3 i k = ![256 * (2 * k.val), 0] := by decide +kernel

end Cert.Kernel
-- ==== Proof.PI.Words.lean ====
module

public import proofs.«01_k».proof.Proof.Gen.KernelIdeal

@[expose] public section

namespace Cert.KernelIdeal

open Idealize.ShloMosaic

/-- The main loop takes two key blocks a trip: a quarter of the query block's number. -/
theorem trips1 : ∀ i : grid0.Coords, (k0_t1_loop i).trips = (i 1).val / 4 := by decide +kernel

/-- The remainder loop takes no trip. -/
theorem trips2 : ∀ i : grid0.Coords, (k0_t2_loop i).trips = 0 := by decide +kernel

theorem cond1_iff : ∀ i : grid0.Coords, k0_cond1 i = 1#1 ↔ (i 1).val / 2 % 2 = 1 := by decide +kernel

theorem cond2_iff : ∀ i : grid0.Coords, k0_cond2 i = 1#1 ↔ (i 1).val / 2 % 2 = 0 := by decide +kernel

theorem off7_at : ∀ i : grid0.Coords, k0_off7 i = ![256 * ((i 1).val / 2), 0] := by decide +kernel
theorem off8_at : ∀ i : grid0.Coords, k0_off8 i = ![256 * ((i 1).val / 2), 0] := by decide +kernel
theorem off10_at : ∀ i : grid0.Coords, k0_off10 i = ![256 * ((i 1).val / 2), 0] := by decide +kernel
theorem off9_at : ∀ i : grid0.Coords, k0_cond1 i = 1#1 → k0_off9 i = ![256 * ((i 1).val / 2 - 1), 0] := by decide +kernel

theorem off1_at : ∀ (i : grid0.Coords) (k : Fin (k0_t1_loop i).trips) (r : Fin 2),
    k0_off1 i k (BitVec.ofNat 32 (1 + r.val)) = ![256 * (2 * k.val + 1 + r.val), 0] := by decide +kernel
theorem off2_at : ∀ (i : grid0.Coords) (k : Fin (k0_t1_loop i).trips) (r : Fin 2),
    k0_off2 i k (BitVec.ofNat 32 (1 + r.val)) = ![256 * (2 * k.val + 1 + r.val), 0] := by decide +kernel
theorem off3_at : ∀ (i : grid0.Coords) (k : Fin (k0_t1_loop i).trips),
    k0_off3 i k = ![256 * (2 * k.val), 0] := by decide +kernel

end Cert.KernelIdeal
-- ==== Proof.PI.Spec.lean ====
module

public import proofs.«01_k».proof.Proof.PI.Words
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal

open Idealize.ShloMosaic Gen

variable {F : FTy → Type} [FloatOps F] [Named F]

/-! ## What one query block computes, as functions of the values its windows hold -/

/-- Key block `j` of a sequence's latents: rows `256 j` to `256 j + 255`. -/
def cblk (C : Vec F S4096x256 .bf16) (j : ℕ) : Vec F S256x256 .bf16 :=
  fun y => C (fun a => ⟨((if a = 0 then 256 * j else 0) + (y a).val) % S4096x256.size a,
    Nat.mod_lt _ (Nat.lt_of_lt_of_le Nat.zero_lt_one (by revert a; decide))⟩)

/-- Key block `j` of a sequence's rope keys. -/
def kblk (K : Vec F S4096x32 .bf16) (j : ℕ) : Vec F S256x32 .bf16 :=
  fun y => K (fun a => ⟨((if a = 0 then 256 * j else 0) + (y a).val) % S4096x32.size a,
    Nat.mod_lt _ (Nat.lt_of_lt_of_le Nat.zero_lt_one (by revert a; decide))⟩)

/-- The scores of a query block against key block `j`, as they are kept in a slot of the score scratch. -/
def slotOf (v1 : FVec F S1024x256 .bf16) (v3 : FVec F S1024x32 .bf16) (C : Vec F S4096x256 .bf16) (K : Vec F S4096x32 .bf16)
    (j : ℕ) : FVec F S1x1024x256 .f32 := k0_pay2 v1 v3 (cblk C j) (kblk K j)

/-- The running maximum, the running sum and the running weighted sum of a query block. -/
structure Acc (F : FTy → Type) where
  m : Vec F S1024x128 .f32
  l : Vec F S1024x128 .f32
  a : Vec F S1024x256 .f32

/-- The running values before any key block. -/
def Acc.zero : Acc F := ⟨k0_pay49, k0_pay50, k0_pay51⟩

/-- The running values with one more block of scores `s` and latents `c` taken in. -/
def Acc.step (s : FVec F S1024x256 .f32) (c : Vec F S256x256 .bf16) (z : Acc F) : Acc F :=
  ⟨k0_pay62 s z.m, k0_pay60 s z.m z.l, k0_pay61 s c z.m z.a⟩

/-- The running values after the first `n` key blocks, none of them masked. -/
def accAt (v1 : FVec F S1024x256 .bf16) (v3 : FVec F S1024x32 .bf16) (C : Vec F S4096x256 .bf16) (K : Vec F S4096x32 .bf16) :
    ℕ → Acc F
  | 0 => Acc.zero
  | n + 1 => (accAt v1 v3 C K n).step (k0_pay3 (slotOf v1 v3 C K n)) (cblk C n)

/-- The running values after the last block, the one on the diagonal, whose scores are masked. -/
def accEnd (w p : BitVec 32) (v1 : FVec F S1024x256 .bf16) (v3 : FVec F S1024x32 .bf16) (C : Vec F S4096x256 .bf16)
    (K : Vec F S4096x32 .bf16) (n : ℕ) : Acc F :=
  (accAt v1 v3 C K n).step (k0_pay41 w p (slotOf v1 v3 C K n)) (cblk C n)

/-- Rows `128 h` to `128 h + 127` of the weighted sum: head `h`'s. -/
def headRows (a : Vec F S1024x256 .f32) (h : ℕ) : Vec F S128x256 .f32 :=
  fun y => a (fun b => ⟨((if b = 0 then 128 * h else 0) + (y b).val) % S1024x256.size b,
    Nat.mod_lt _ (Nat.lt_of_lt_of_le Nat.zero_lt_one (by revert b; decide))⟩)

/-- Head `h`'s matrix of the value projection. -/
def headMat (W : Vec F S8x256x512 .bf16) (h : ℕ) : Vec F S1x256x512 .bf16 :=
  fun y => W (fun b => ⟨((if b = 0 then h else 0) + (y b).val) % S8x256x512.size b,
    Nat.mod_lt _ (Nat.lt_of_lt_of_le Nat.zero_lt_one (by revert b; decide))⟩)

/-- The block written: the heads' normalised sums, each through its projection, added in order. -/
def outOf (l : Vec F S1024x128 .f32) (a : Vec F S1024x256 .f32) (W : Vec F S8x256x512 .bf16) : FVec F S128x512 .f32 :=
  k0_pay1 (k0_pay65 l)
    (k0_pay68 (k0_pay65 l) (k0_pay66 l (headRows a 0) (headMat W 0)) (k0_pay67 l (headRows a 1)) (headMat W 1)
      (headRows a 2) (headMat W 2) (headRows a 3) (headMat W 3) (headRows a 4) (headMat W 4) (headRows a 5) (headMat W 5))
    (headRows a 6) (headMat W 6) (headRows a 7) (headMat W 7)

/-- The block a query block of number `q` writes, from what its five windows hold. -/
def blockOut (w p : BitVec 32) (q : ℕ) (Q : Vec F S8x128x256 .bf16) (R : Vec F S8x128x32 .bf16) (C : Vec F S4096x256 .bf16)
    (K : Vec F S4096x32 .bf16) (W : Vec F S8x256x512 .bf16) : FVec F S128x512 .f32 :=
  outOf (accEnd w p (k0_pay47 Q) (k0_pay48 R) C K (q / 2)).l (accEnd w p (k0_pay47 Q) (k0_pay48 R) C K (q / 2)).a W

theorem accEnd_l (w p : BitVec 32) (v1 : FVec F S1024x256 .bf16) (v3 : FVec F S1024x32 .bf16) (C : Vec F S4096x256 .bf16)
    (K : Vec F S4096x32 .bf16) (n : ℕ) :
    k0_pay60 (k0_pay41 w p (slotOf v1 v3 C K n)) (accAt v1 v3 C K n).m (accAt v1 v3 C K n).l = (accEnd w p v1 v3 C K n).l := rfl
theorem accEnd_a (w p : BitVec 32) (v1 : FVec F S1024x256 .bf16) (v3 : FVec F S1024x32 .bf16) (C : Vec F S4096x256 .bf16)
    (K : Vec F S4096x32 .bf16) (n : ℕ) :
    k0_pay61 (k0_pay41 w p (slotOf v1 v3 C K n)) (cblk C n) (accAt v1 v3 C K n).m (accAt v1 v3 C K n).a
      = (accEnd w p v1 v3 C K n).a := rfl
theorem accAt_m (v1 : FVec F S1024x256 .bf16) (v3 : FVec F S1024x32 .bf16) (C : Vec F S4096x256 .bf16) (K : Vec F S4096x32 .bf16)
    (n : ℕ) : k0_pay62 (k0_pay3 (slotOf v1 v3 C K n)) (accAt v1 v3 C K n).m = (accAt v1 v3 C K (n + 1)).m := rfl
theorem accAt_l (v1 : FVec F S1024x256 .bf16) (v3 : FVec F S1024x32 .bf16) (C : Vec F S4096x256 .bf16) (K : Vec F S4096x32 .bf16)
    (n : ℕ) : k0_pay60 (k0_pay3 (slotOf v1 v3 C K n)) (accAt v1 v3 C K n).m (accAt v1 v3 C K n).l
      = (accAt v1 v3 C K (n + 1)).l := rfl
theorem accAt_a (v1 : FVec F S1024x256 .bf16) (v3 : FVec F S1024x32 .bf16) (C : Vec F S4096x256 .bf16) (K : Vec F S4096x32 .bf16)
    (n : ℕ) : k0_pay61 (k0_pay3 (slotOf v1 v3 C K n)) (cblk C n) (accAt v1 v3 C K n).m (accAt v1 v3 C K n).a
      = (accAt v1 v3 C K (n + 1)).a := rfl

/-! ## Reads at closed places -/

section Reads
variable {sig' : RefSig} {κ : Kind} {sp : Space}

theorem readAt_cblk (v : View sig' κ sp S4096x256 .bf16) (f : v.ty.Contents (Elt F)) {off : Fin 2 → ℕ} {j : ℕ}
    (h : off = ![256 * j, 0]) (inb : ∀ a, off a + S256x256.size a ≤ S4096x256.size a) :
    v.readAt (Elt F) (Rect.unit (s := S4096x256) off S256x256.size inb).toLoadRect f = cblk (v.read (Elt F) f) j := by
  subst h; funext y
  refine congrArg (v.read (Elt F) f) (funext fun a => Fin.ext ?_)
  have hy : (y a).val < S256x256.size a := (y a).isLt
  have hi := inb a
  show (![256 * j, 0] : Fin 2 → ℕ) a + 1 * (y a).val = _ % _
  rw [Nat.one_mul, Nat.mod_eq_of_lt]
  · fin_cases a <;> rfl
  · refine Nat.lt_of_lt_of_le ?_ hi
    fin_cases a <;> simpa using hy

theorem readAt_kblk (v : View sig' κ sp S4096x32 .bf16) (f : v.ty.Contents (Elt F)) {off : Fin 2 → ℕ} {j : ℕ}
    (h : off = ![256 * j, 0]) (inb : ∀ a, off a + S256x32.size a ≤ S4096x32.size a) :
    v.readAt (Elt F) (Rect.unit (s := S4096x32) off S256x32.size inb).toLoadRect f = kblk (v.read (Elt F) f) j := by
  subst h; funext y
  refine congrArg (v.read (Elt F) f) (funext fun a => Fin.ext ?_)
  have hy : (y a).val < S256x32.size a := (y a).isLt
  have hi := inb a
  show (![256 * j, 0] : Fin 2 → ℕ) a + 1 * (y a).val = _ % _
  rw [Nat.one_mul, Nat.mod_eq_of_lt]
  · fin_cases a <;> rfl
  · refine Nat.lt_of_lt_of_le ?_ hi
    fin_cases a <;> simpa using hy

theorem ld_headRows (X : Vec F S1024x256 .f32) {off : Fin 2 → ℕ} {j : ℕ}
    (h : off = ![128 * j, 0]) (inb : ∀ a, off a + S128x256.size a ≤ S1024x256.size a) :
    View.ld X (Rect.unit (s := S1024x256) off S128x256.size inb) = headRows X j := by
  subst h; funext y
  refine congrArg X (funext fun a => Fin.ext ?_)
  have hy : (y a).val < S128x256.size a := (y a).isLt
  have hi := inb a
  show (![128 * j, 0] : Fin 2 → ℕ) a + 1 * (y a).val = _ % _
  rw [Nat.one_mul, Nat.mod_eq_of_lt]
  · fin_cases a <;> rfl
  · refine Nat.lt_of_lt_of_le ?_ hi
    fin_cases a <;> simpa using hy

theorem ld_headMat (X : Vec F S8x256x512 .bf16) {off : Fin 3 → ℕ} {j : ℕ}
    (h : off = ![j, 0, 0]) (inb : ∀ a, off a + S1x256x512.size a ≤ S8x256x512.size a) :
    View.ld X (Rect.unit (s := S8x256x512) off S1x256x512.size inb) = headMat X j := by
  subst h; funext y
  refine congrArg X (funext fun a => Fin.ext ?_)
  have hy : (y a).val < S1x256x512.size a := (y a).isLt
  have hi := inb a
  show (![j, 0, 0] : Fin 3 → ℕ) a + 1 * (y a).val = _ % _
  rw [Nat.one_mul, Nat.mod_eq_of_lt]
  · fin_cases a <;> rfl
  · refine Nat.lt_of_lt_of_le ?_ hi
    fin_cases a <;> simpa using hy

end Reads

/-! ## One operation under its several printed names -/

theorem stepM_a (S : Vec F S1x1024x256 .f32) (m : Vec F S1024x128 .f32) : k0_pay9 (k0_pay4 S m) = k0_pay62 (k0_pay3 S) m := rfl
theorem stepL_a (S : Vec F S1x1024x256 .f32) (m l : Vec F S1024x128 .f32) :
    k0_pay7 (k0_pay5 S m) (k0_pay6 S m) l = k0_pay60 (k0_pay3 S) m l := rfl
theorem stepA_a (S : Vec F S1x1024x256 .f32) (c : Vec F S256x256 .bf16) (m : Vec F S1024x128 .f32) (a : Vec F S1024x256 .f32) :
    k0_pay8 c (k0_pay5 S m) (k0_pay6 S m) a = k0_pay61 (k0_pay3 S) c m a := rfl
theorem stepM_b (S : Vec F S1x1024x256 .f32) (m : Vec F S1024x128 .f32) : k0_pay54 (k0_pay12 S m) = k0_pay62 (k0_pay3 S) m := rfl
theorem stepL_b (S : Vec F S1x1024x256 .f32) (m l : Vec F S1024x128 .f32) : k0_pay15 S m l = k0_pay60 (k0_pay3 S) m l := rfl
theorem stepA_b (S : Vec F S1x1024x256 .f32) (c : Vec F S256x256 .bf16) (m : Vec F S1024x128 .f32) (a : Vec F S1024x256 .f32) :
    k0_pay53 (k0_pay16 S c m a) = k0_pay61 (k0_pay3 S) c m a := rfl
theorem stepM_c (S : Vec F S1x1024x256 .f32) (m : Vec F S1024x128 .f32) : k0_pay40 (k0_pay34 S m) = k0_pay62 (k0_pay3 S) m := rfl
theorem stepL_c (S : Vec F S1x1024x256 .f32) (m l : Vec F S1024x128 .f32) :
    k0_pay38 (k0_pay35 S m) (k0_pay37 S m l) = k0_pay60 (k0_pay3 S) m l := rfl
theorem stepA_c (S : Vec F S1x1024x256 .f32) (c : Vec F S256x256 .bf16) (m : Vec F S1024x128 .f32) (a : Vec F S1024x256 .f32) :
    k0_pay39 c (k0_pay35 S m) (k0_pay36 S m) a = k0_pay61 (k0_pay3 S) c m a := rfl
theorem stepM_d (w p : BitVec 32) (S : Vec F S1x1024x256 .f32) (m : Vec F S1024x128 .f32) :
    k0_pay64 (k0_pay43 w p S m) = k0_pay62 (k0_pay41 w p S) m := rfl
theorem stepL_d (w p : BitVec 32) (S : Vec F S1x1024x256 .f32) (m l : Vec F S1024x128 .f32) :
    k0_pay46 w p S m l = k0_pay60 (k0_pay41 w p S) m l := rfl
theorem stepA_d (w p : BitVec 32) (S : Vec F S1x1024x256 .f32) (c : Vec F S256x256 .bf16) (m : Vec F S1024x128 .f32)
    (a : Vec F S1024x256 .f32) :
    k0_pay63 c (k0_pay44 w p S m) (k0_pay45 w p S m) a = k0_pay61 (k0_pay41 w p S) c m a := rfl
theorem slot_b (v1 : FVec F S1024x256 .bf16) (v3 : FVec F S1024x32 .bf16) (c : Vec F S256x256 .bf16) (k : Vec F S256x32 .bf16) :
    k0_pay10 v1 v3 c k = k0_pay2 v1 v3 c k := rfl
theorem slot_c (v1 : FVec F S1024x256 .bf16) (v3 : FVec F S1024x32 .bf16) (c : Vec F S256x256 .bf16) (k : Vec F S256x32 .bf16) :
    k0_pay32 v1 v3 c k = k0_pay2 v1 v3 c k := rfl
theorem slot_d (v1 : FVec F S1024x256 .bf16) (v3 : FVec F S1024x32 .bf16) (c : Vec F S256x256 .bf16) (k : Vec F S256x32 .bf16) :
    k0_pay52 v1 v3 c k = k0_pay2 v1 v3 c k := rfl

end Cert.KernelIdeal
-- ==== Proof.PI.Loop.lean ====
module

public import proofs.«01_k».proof.Proof.PI.Spec
public import proofs.«01_k».proof.Proof.Gen.KernelIdeal.Frame
public import proofs.«01_k».proof.Proof.Gen.KernelIdeal.Loops
public import Idealize.ShloMosaic.Lib.LoopRemainder
public import Idealize.ShloMosaic.Lib.WritesUnit

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F] [Named F]

/-- Equality, held closed: a fact the loop carries and its proof opens. -/
@[irreducible] def Keeps {α : Type} (a b : α) : Prop := a = b
theorem Keeps.eq {α : Type} {a b : α} (h : Keeps a b) : a = b := by unfold Keeps at h; exact h
theorem Keeps.of {α : Type} {a b : α} (h : a = b) : Keeps a b := by unfold Keeps; exact h

local notation "𝕄G" => MT nD τ sig Unit (Elt F) ℕ (UR sig nD τ) ℕ

section
variable (c : Dev nD) (arg4 : Memref sig .tc .vmem S4096x256 .bf16) (arg5 : Memref sig .tc .vmem S4096x32 .bf16)
  (arg8 : Memref sig .tc .vmem S2x1024x256 .f32) (arg9 : Memref sig .tc .vmem S1024x128 .f32)
  (arg10 : Memref sig .tc .vmem S1024x128 .f32) (arg11 : Memref sig .tc .vmem S1024x256 .f32)
  (v1 : FVec F S1024x256 .bf16) (v3 : FVec F S1024x32 .bf16)
  (X4 : BufTy.Contents (Elt F) arg4.view.ty) (X5 : BufTy.Contents (Elt F) arg5.view.ty)

/-- Slot 0 of the score scratch, as a load reads it. -/
abbrev slot0 (f : BufTy.Contents (Elt F) arg8.view.ty) : Vec F S1x1024x256 .f32 :=
  arg8.view.readAt (Elt F) (Rect.unit (s := S2x1024x256) ![0, 0, 0] S1x1024x256.size inb_S2x1024x256_S1x1024x256_0_0_0).toLoadRect f

/-- What the main loop keeps: before trip `k` the first `2 k` key blocks are taken in, and slot 0 holds the scores of
    the next one. -/
def keep (k : ℕ) : sProp 𝕄G :=
  iprop((arg4.view.loc (c : Thread nD τ) ↦[arg4.view.set]{fullShare} X4) ∗ (arg5.view.loc (c : Thread nD τ) ↦[arg5.view.set]{fullShare} X5)
    ∗ (∃ f, (arg8.view.loc (c : Thread nD τ) ↦[arg8.view.set]{fullShare} f)
        ∗ ⌜Keeps (slot0 arg8 f) (slotOf v1 v3 (arg4.view.read (Elt F) X4) (arg5.view.read (Elt F) X5) (2 * k))⌝)
    ∗ (∃ f, (arg9.view.loc (c : Thread nD τ) ↦[arg9.view.set]{fullShare} f)
        ∗ ⌜Keeps (arg9.view.read (Elt F) f) ((accAt v1 v3 (arg4.view.read (Elt F) X4) (arg5.view.read (Elt F) X5) (2 * k)).m)⌝)
    ∗ (∃ f, (arg10.view.loc (c : Thread nD τ) ↦[arg10.view.set]{fullShare} f)
        ∗ ⌜Keeps (arg10.view.read (Elt F) f) ((accAt v1 v3 (arg4.view.read (Elt F) X4) (arg5.view.read (Elt F) X5) (2 * k)).l)⌝)
    ∗ (∃ f, (arg11.view.loc (c : Thread nD τ) ↦[arg11.view.set]{fullShare} f)
        ∗ ⌜Keeps (arg11.view.read (Elt F) f) ((accAt v1 v3 (arg4.view.read (Elt F) X4) (arg5.view.read (Elt F) X5) (2 * k)).a)⌝))
end

/-- A load through the rectangle of the last store reads what that store wrote. -/
theorem readAt_writes_cons_self {sig' : RefSig} {κ : Kind} {sp : Space} {s : Shape} {e : EltTy} (v : View sig' κ sp s e)
    (f : v.ty.Contents (Elt F)) (r : Rect s) (w : r.shape.Idx → Elt F e) (L : List (View.Piece (Elt F) s e)) :
    v.readAt (Elt F) r.toLoadRect (v.writes (Elt F) f (⟨r, w⟩ :: L)) = w :=
  funext fun x => View.read_writes_cons_emb v f r w L x

/-- A load of slot 1 after a store into slot 0 and, before it, one into slot 1. -/
theorem readCov_slot1 {sig' : RefSig} {κ : Kind} {sp : Space} (v : View sig' κ sp S2x1024x256 .f32)
    (w w' : Vec F S1x1024x256 .f32) (L : List (View.Piece (Elt F) S2x1024x256 .f32)) :
    v.readCov ((⟨Rect.unit (s := S2x1024x256) ![0, 0, 0] S1x1024x256.size inb_S2x1024x256_S1x1024x256_0_0_0, w⟩
        : View.Piece (Elt F) S2x1024x256 .f32)
      :: ⟨Rect.unit (s := S2x1024x256) ![1, 0, 0] S1x1024x256.size inb_S2x1024x256_S1x1024x256_1_0_0, w'⟩ :: L)
      (Rect.unit (s := S2x1024x256) ![1, 0, 0] S1x1024x256.size inb_S2x1024x256_S1x1024x256_1_0_0).toLoadRect = w' := by
  funext x
  refine (View.read_writes_cons_unit_of_not_mem v v.junk inb_S2x1024x256_S1x1024x256_0_0_0 w _ _ rfl 0 (Or.inr ?_)).trans
    (View.read_writes_cons_emb v v.junk
      (Rect.unit (s := S2x1024x256) ![1, 0, 0] S1x1024x256.size inb_S2x1024x256_S1x1024x256_1_0_0) w' L x)
  show 0 + 1 ≤ 1 + 1 * (x 0).val
  omega

/-- The running values two blocks on. -/
theorem accAt_two (v1 : FVec F S1024x256 .bf16) (v3 : FVec F S1024x32 .bf16) (C : Vec F S4096x256 .bf16) (K : Vec F S4096x32 .bf16)
    (k : ℕ) : accAt v1 v3 C K (2 * (k + 1))
      = ((accAt v1 v3 C K (2 * k)).step (k0_pay3 (slotOf v1 v3 C K (2 * k))) (cblk C (2 * k))).step
          (k0_pay3 (slotOf v1 v3 C K (2 * k + 1))) (cblk C (2 * k + 1)) := rfl

/-- One trip takes in key blocks `2 k` and `2 k + 1`. -/
theorem trip (𝒱 : Variants) (c : Dev nD) (bd : Option 𝒱.V) (E : Set ℕ) (i : grid0.Coords) (arg2 : Memref sig .tc .vmem S8x128x256 .bf16) (harg2 : arg2.IsWhole) (arg3 : Memref sig .tc .vmem S8x128x32 .bf16) (harg3 : arg3.IsWhole) (arg4 : Memref sig .tc .vmem S4096x256 .bf16) (harg4 : arg4.IsWhole) (arg5 : Memref sig .tc .vmem S4096x32 .bf16) (harg5 : arg5.IsWhole) (arg6 : Memref sig .tc .vmem S8x256x512 .bf16) (harg6 : arg6.IsWhole) (arg7 : Memref sig .tc .vmem S128x512 .f32) (harg7 : arg7.IsWhole) (arg8 : Memref sig .tc .vmem S2x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (v1 : FVec F S1024x256 .bf16) (v3 : FVec F S1024x32 .bf16) (v18 : BitVec 32) (v29 : BitVec 1) (v31 : BitVec 1) (X4 : BufTy.Contents (Elt F) arg4.view.ty) (X5 : BufTy.Contents (Elt F) arg5.view.ty) (k : Fin (k0_t1_loop i).trips) :
    keep c arg4 arg5 arg8 arg9 arg10 arg11 v1 v3 X4 X5 k.val
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v1 v3 v18 v29 v31 k PUnit.unit)
          (fun _ => keep c arg4 arg5 arg8 arg9 arg10 arg11 v1 v3 X4 X5 (k.val + 1)) := by
  unfold k0_t1_body keep
  iintro ⟨H4, H5, ⟨%f8, H8, %h8⟩, ⟨%f9, H9, %h9⟩, ⟨%f10, H10, %h10⟩, ⟨%f11, H11, %h11⟩⟩
  replace h8 := h8.eq
  replace h9 := h9.eq
  replace h10 := h10.eq
  replace h11 := h11.eq
  have e11 : k0_off1 i k 1#32 = ![256 * (2 * k.val + 1), 0] := off1_at i k 0
  have e12 : k0_off1 i k 2#32 = ![256 * (2 * k.val + 2), 0] := off1_at i k 1
  have e21 : k0_off2 i k 1#32 = ![256 * (2 * k.val + 1), 0] := off2_at i k 0
  have e22 : k0_off2 i k 2#32 = ![256 * (2 * k.val + 2), 0] := off2_at i k 1
  have e3 := off3_at i k
  sl_exec
  sl_step
  isplitl [H4]; · iexact H4
  isplitl [H5]; · iexact H5
  isplitl [H8]
  · iexists _; isplitl [H8]; · iexact H8
    ipureintro
    refine Keeps.of ?_
    sl_unfold_run_names
    rw [slot0, readAt_writes_cons_self, readAt_cblk _ _ e12, readAt_kblk _ _ e22]
    exact slot_b _ _ _ _
  isplitl [H9]
  · iexists _; isplitl [H9]; · iexact H9
    ipureintro
    refine Keeps.of ?_
    rw [View.read_writes_full, accAt_two]
    sl_unfold_run_names
    rw [readCov_slot1, View.readCov_full, readAt_cblk _ _ e11, readAt_kblk _ _ e21, View.readAt_full, h9]
    exact (stepM_b _ _).trans (congrArg (k0_pay62 _) (stepM_a _ _))
  isplitl [H10]
  · iexists _; isplitl [H10]; · iexact H10
    ipureintro
    refine Keeps.of ?_
    rw [View.read_writes_full, accAt_two]
    sl_unfold_run_names
    rw [readCov_slot1, View.readCov_full, View.readCov_full, readAt_cblk _ _ e11, readAt_kblk _ _ e21, View.readAt_full,
      View.readAt_full, h9, h10]
    exact (stepL_b _ _ _).trans (congr (congrArg (k0_pay60 _) (stepM_a _ _)) (stepL_a _ _ _))
  iexists _; isplitl [H11]; · iexact H11
  ipureintro
  refine Keeps.of ?_
  rw [View.read_writes_full, accAt_two]
  sl_unfold_run_names
  rw [readCov_slot1, View.readCov_full, View.readCov_full, readAt_cblk _ _ e11, readAt_kblk _ _ e21, View.readAt_full,
    View.readAt_full, readAt_cblk _ _ e3, h9, h11]
  exact (stepA_b _ _ _ _).trans (congr (congrArg (k0_pay61 _ _) (stepM_a _ _)) (stepA_a _ _ _ _))

set_option warn.classDefReducibility false in
/-- The main loop by what it keeps. -/
@[sl_loop] def loopInv1 (𝒱 : Variants) (c : Dev nD) (bd : Option 𝒱.V) (E : Set ℕ) (i : grid0.Coords) (arg2 : Memref sig .tc .vmem S8x128x256 .bf16) (harg2 : arg2.IsWhole) (arg3 : Memref sig .tc .vmem S8x128x32 .bf16) (harg3 : arg3.IsWhole) (arg4 : Memref sig .tc .vmem S4096x256 .bf16) (harg4 : arg4.IsWhole) (arg5 : Memref sig .tc .vmem S4096x32 .bf16) (harg5 : arg5.IsWhole) (arg6 : Memref sig .tc .vmem S8x256x512 .bf16) (harg6 : arg6.IsWhole) (arg7 : Memref sig .tc .vmem S128x512 .f32) (harg7 : arg7.IsWhole) (arg8 : Memref sig .tc .vmem S2x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole) (v1 : FVec F S1024x256 .bf16) (v3 : FVec F S1024x32 .bf16) (v18 : BitVec 32) (v29 : BitVec 1) (v31 : BitVec 1) (X4 : BufTy.Contents (Elt F) arg4.view.ty) (X5 : BufTy.Contents (Elt F) arg5.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 v1 v3 v18 v29 v31 where
  inv k _ := keep c arg4 arg5 arg8 arg9 arg10 arg11 v1 v3 X4 X5 k
  step k acc := trip (F := F) 𝒱 c bd E i arg2 harg2 arg3 harg3 arg4 harg4 arg5 harg5 arg6 harg6 arg7 harg7 arg8 harg8 arg9 harg9 arg10 harg10 arg11 harg11 v1 v3 v18 v29 v31 X4 X5 k

end Cert.KernelIdeal
-- ==== Proof.PI.Body.lean ====
module

public import proofs.«01_k».proof.Proof.PI.Loop

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F] [Named F]

local notation "𝕄G" => MT nD τ sig Unit (Elt F) ℕ (UR sig nD τ) ℕ

section
variable (c : Dev nD) (E : Set ℕ) (i : grid0.Coords) (arg2 : Memref sig .tc .vmem S8x128x256 .bf16) (harg2 : arg2.IsWhole) (arg3 : Memref sig .tc .vmem S8x128x32 .bf16) (harg3 : arg3.IsWhole) (arg4 : Memref sig .tc .vmem S4096x256 .bf16) (harg4 : arg4.IsWhole) (arg5 : Memref sig .tc .vmem S4096x32 .bf16) (harg5 : arg5.IsWhole) (arg6 : Memref sig .tc .vmem S8x256x512 .bf16) (harg6 : arg6.IsWhole) (arg7 : Memref sig .tc .vmem S128x512 .f32) (harg7 : arg7.IsWhole) (arg8 : Memref sig .tc .vmem S2x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty)
  (f8 : BufTy.Contents (Elt F) arg8.view.ty) (f9 : BufTy.Contents (Elt F) arg9.view.ty) (f10 : BufTy.Contents (Elt F) arg10.view.ty) (f11 : BufTy.Contents (Elt F) arg11.view.ty)

/-- What the two query windows give: the queries of all heads, stacked. -/
abbrev q1 : FVec F S1024x256 .bf16 := k0_pay47 (arg2.view.readAt (Elt F) (Rect.unit (s := S8x128x256) ![0, 0, 0] S8x128x256.size inb_S8x128x256_S8x128x256_0_0_0).toLoadRect X2)
abbrev q3 : FVec F S1024x32 .bf16 := k0_pay48 (arg3.view.readAt (Elt F) (Rect.unit (s := S8x128x32) ![0, 0, 0] S8x128x32.size inb_S8x128x32_S8x128x32_0_0_0).toLoadRect X3)

/-- A load of the whole of what one whole store covered, through any rectangle of it. -/
theorem readCov_rect {sig' : RefSig} {κ : Kind} {sp : Space} {s : Shape} {e : EltTy} (v : View sig' κ sp s e)
    {off : Fin s.rank → ℕ} (inb : ∀ a, off a + s.size a ≤ s.size a) (w : s.Idx → Elt F e) (L : List (View.Piece (Elt F) s e)) (r : Rect s) :
    v.readCov (⟨Rect.unit off s.size inb, w⟩ :: L) r.toLoadRect = View.ld w r := by
  show View.ld (v.read (Elt F) (v.writes (Elt F) v.junk _)) r = _
  rw [View.read_writes_full]

/-- A load through the rectangle of the last store, of what the stores cover. -/
theorem readCov_self {sig' : RefSig} {κ : Kind} {sp : Space} {s : Shape} {e : EltTy} (v : View sig' κ sp s e)
    (r : Rect s) (w : r.shape.Idx → Elt F e) (L : List (View.Piece (Elt F) s e)) : v.readCov (⟨r, w⟩ :: L) r.toLoadRect = w :=
  readAt_writes_cons_self v v.junk r w L

theorem readAt_headMat {sig' : RefSig} {κ : Kind} {sp : Space} (v : View sig' κ sp S8x256x512 .bf16) (f : v.ty.Contents (Elt F))
    {off : Fin 3 → ℕ} {j : ℕ} (h : off = ![j, 0, 0]) (inb : ∀ a, off a + S1x256x512.size a ≤ S8x256x512.size a) :
    v.readAt (Elt F) (Rect.unit (s := S8x256x512) off S1x256x512.size inb).toLoadRect f = headMat (v.read (Elt F) f) j :=
  ld_headMat (v.read (Elt F) f) h inb

/-- The number of the block on the diagonal, as the kernel reckons it. -/
def dblock (w : BitVec 32) : BitVec 32 :=
  Scalar.select
    (Scalar.andi
      (Scalar.cmpi CmpIPredicate.ne
        (Scalar.subi (Scalar.extui (Scalar.cmpi CmpIPredicate.sgt (Scalar.addi (Scalar.muli w 128#32) 1#32) 0#32))
          (Scalar.extui (Scalar.cmpi CmpIPredicate.slt (Scalar.addi (Scalar.muli w 128#32) 1#32) 0#32)))
        1#32)
      (Scalar.cmpi CmpIPredicate.ne (Scalar.remsi (Scalar.addi (Scalar.muli w 128#32) 1#32) 256#32) 0#32))
    (Scalar.subi (Scalar.divsi (Scalar.addi (Scalar.muli w 128#32) 1#32) 256#32) 1#32)
    (Scalar.divsi (Scalar.addi (Scalar.muli w 128#32) 1#32) 256#32)

theorem dblock_at (i : grid0.Coords) : dblock (BitVec.ofNat 32 (i 1).val) = BitVec.ofNat 32 ((i 1).val / 2) :=
  (by decide +kernel : ∀ i : grid0.Coords, dblock (BitVec.ofNat 32 (i 1).val) = BitVec.ofNat 32 ((i 1).val / 2)) i

/-- What the body ends with: the operands as they were, the output window at the block's result `O`. -/
def ends (O : Vec F S128x512 .f32) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜arg7.view.read (Elt F) f = O⌝)
    ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

set_option maxHeartbeats 2000000 in
theorem body_odd (hc : k0_cond1 i = 1#1) (hd : ¬ k0_cond2 i = 1#1) :
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) : sProp 𝕄G)
      ⊢ wp frame (wpE (defs₀ (F := F)) Variants.none (c : Thread nD τ) none) E (cc0_mlap (F := F) i arg2 harg2 arg3 harg3 arg4 harg4 arg5 harg5 arg6 harg6 arg7 harg7 arg8 harg8 arg9 harg9 arg10 harg10 arg11 harg11)
        (fun _ => ends c arg2 arg3 arg4 arg5 arg6 arg7 arg8 arg9 arg10 arg11 X2 X3 X4 X5 X6 (blockOut (BitVec.ofNat 32 (i 1).val) (BitVec.ofNat 32 ((i 1).val / 2)) (i 1).val (arg2.view.read (Elt F) X2) (arg3.view.read (Elt F) X3) (arg4.view.read (Elt F) X4) (arg5.view.read (Elt F) X5) (arg6.view.read (Elt F) X6))) := by
  simp only [cc0_mlap_eq_skeleton]; unfold cc0_mlap_skel
  iintro ⟨H2, H3, H4, H5, H6, H7, H8, H9, H10, H11⟩
  have e8 : Keeps (slot0 arg8 (arg8.view.writes (Elt F) f8
        [⟨Rect.unit (s := S2x1024x256) ![0, 0, 0] S1x1024x256.size inb_S2x1024x256_S1x1024x256_0_0_0,
            k0_pay52 (q1 arg2 X2) (q3 arg3 X3)
              (View.readAt (Elt F) arg4.view (Rect.unit (s := S4096x256) ![0, 0] S256x256.size inb_S4096x256_S256x256_0_0).toLoadRect X4)
              (View.readAt (Elt F) arg5.view (Rect.unit (s := S4096x32) ![0, 0] S256x32.size inb_S4096x32_S256x32_0_0).toLoadRect X5)⟩]))
      (slotOf (q1 arg2 X2) (q3 arg3 X3) (View.read (Elt F) arg4.view X4) (View.read (Elt F) arg5.view X5) (2 * 0)) := by
    refine Keeps.of ?_
    rw [slot0, readAt_writes_cons_self, readAt_cblk (j := 0) _ _ rfl, readAt_kblk (j := 0) _ _ rfl]
    exact slot_d _ _ _ _
  have e9 : Keeps (arg9.view.read (Elt F) (arg9.view.writes (Elt F) arg9.view.junk
        [⟨Rect.unit (s := S1024x128) ![0, 0] S1024x128.size inb_S1024x128_S1024x128_0_0, k0_pay49⟩]))
      ((accAt (q1 arg2 X2) (q3 arg3 X3) (View.read (Elt F) arg4.view X4) (View.read (Elt F) arg5.view X5) (2 * 0)).m) := by
    refine Keeps.of ?_
    rw [View.read_writes_full]; rfl
  have e10 : Keeps (arg10.view.read (Elt F) (arg10.view.writes (Elt F) arg10.view.junk
        [⟨Rect.unit (s := S1024x128) ![0, 0] S1024x128.size inb_S1024x128_S1024x128_0_0, k0_pay50⟩]))
      ((accAt (q1 arg2 X2) (q3 arg3 X3) (View.read (Elt F) arg4.view X4) (View.read (Elt F) arg5.view X5) (2 * 0)).l) := by
    refine Keeps.of ?_
    rw [View.read_writes_full]; rfl
  have e11 : Keeps (arg11.view.read (Elt F) (arg11.view.writes (Elt F) arg11.view.junk
        [⟨Rect.unit (s := S1024x256) ![0, 0] S1024x256.size inb_S1024x256_S1024x256_0_0, k0_pay51⟩]))
      ((accAt (q1 arg2 X2) (q3 arg3 X3) (View.read (Elt F) arg4.view X4) (View.read (Elt F) arg5.view X5) (2 * 0)).a) := by
    refine Keeps.of ?_
    rw [View.read_writes_full]; rfl
  sl_exec
  sl_step
  unfold ends
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    rw [View.read_writes_full]
    clear e8 e9 e10 e11
    have ht : Scf.trips (k0_t1_loop i).lb (k0_t1_loop i).ub (k0_t1_loop i).st = (i 1).val / 4 := trips1 i
    have hq : (i 1).val / 2 = 2 * ((i 1).val / 4) + 1 := by have := (cond1_iff i).1 hc; omega
    rw [ht] at hL3 hL5 hL7 hL9
    have h3 := hL3.eq; have h5 := hL5.eq; have h7 := hL7.eq; have h9 := hL9.eq
    revert h3 h5 h7 h9
    sl_unfold_run_names
    intro h3 h5 h7 h9
    have o7 := off7_at i; have o8 := off8_at i; have o9 := off9_at i hc
    have hp := dblock_at i
    rw [hq] at o7 o8 o9 hp ⊢
    unfold dblock at hp
    unfold slot0 at h3
    rw [View.readAt_full, View.readAt_full] at h3 h5 h7 h9
    rw [hp]
    repeat rw [View.readCov_full]
    repeat rw [readCov_self]
    rw [h3]
    repeat rw [View.readAt_full]
    rw [h5, h7, h9, readAt_cblk _ _ o7, readAt_kblk _ _ o8, readAt_cblk _ _ o9, stepM_c, stepL_c, stepA_c, slot_c]
    rw [readCov_rect, ld_headRows _ (j := 0) rfl]
    rw [readCov_rect, ld_headRows _ (j := 1) rfl]
    rw [readCov_rect, ld_headRows _ (j := 2) rfl]
    rw [readCov_rect, ld_headRows _ (j := 3) rfl]
    rw [readCov_rect, ld_headRows _ (j := 4) rfl]
    rw [readCov_rect, ld_headRows _ (j := 5) rfl]
    rw [readCov_rect, ld_headRows _ (j := 6) rfl]
    rw [readCov_rect, ld_headRows _ (j := 7) rfl]
    rw [show 2 * ((i 1).val / 4) + 1 - 1 = 2 * ((i 1).val / 4) from rfl, accAt_m, accAt_l, accAt_a, ← slotOf, accEnd_l, accEnd_a]
    unfold blockOut
    obtain ⟨Z, hZ⟩ : ∃ Z, Z = accEnd (BitVec.ofNat 32 (i 1).val) (BitVec.ofNat 32 (2 * ((i 1).val / 4) + 1)) (k0_pay47 (View.read (Elt F) arg2.view X2))
      (k0_pay48 (View.read (Elt F) arg3.view X3)) (View.read (Elt F) arg4.view X4) (View.read (Elt F) arg5.view X5) (2 * ((i 1).val / 4) + 1) := ⟨_, rfl⟩
    rw [hq, ← hZ]
    rw [readAt_headMat (j := 0) _ _ rfl, readAt_headMat (j := 1) _ _ rfl, readAt_headMat (j := 2) _ _ rfl,
      readAt_headMat (j := 3) _ _ rfl, readAt_headMat (j := 4) _ _ rfl, readAt_headMat (j := 5) _ _ rfl,
      readAt_headMat (j := 6) _ _ rfl, readAt_headMat (j := 7) _ _ rfl]
    clear hZ
    unfold outOf k0_pay68
    rfl
  isplitl [H8]; · iexists _; iexact H8
  isplitl [H9]; · iexists _; iexact H9
  isplitl [H10]; · iexists _; iexact H10
  iexists _; iexact H11

set_option maxHeartbeats 2000000 in
theorem body_even (hc : ¬ k0_cond1 i = 1#1) (hd : k0_cond2 i = 1#1) :
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) : sProp 𝕄G)
      ⊢ wp frame (wpE (defs₀ (F := F)) Variants.none (c : Thread nD τ) none) E (cc0_mlap (F := F) i arg2 harg2 arg3 harg3 arg4 harg4 arg5 harg5 arg6 harg6 arg7 harg7 arg8 harg8 arg9 harg9 arg10 harg10 arg11 harg11)
        (fun _ => ends c arg2 arg3 arg4 arg5 arg6 arg7 arg8 arg9 arg10 arg11 X2 X3 X4 X5 X6 (blockOut (BitVec.ofNat 32 (i 1).val) (BitVec.ofNat 32 ((i 1).val / 2)) (i 1).val (arg2.view.read (Elt F) X2) (arg3.view.read (Elt F) X3) (arg4.view.read (Elt F) X4) (arg5.view.read (Elt F) X5) (arg6.view.read (Elt F) X6))) := by
  simp only [cc0_mlap_eq_skeleton]; unfold cc0_mlap_skel
  iintro ⟨H2, H3, H4, H5, H6, H7, H8, H9, H10, H11⟩
  have e8 : Keeps (slot0 arg8 (arg8.view.writes (Elt F) f8
        [⟨Rect.unit (s := S2x1024x256) ![0, 0, 0] S1x1024x256.size inb_S2x1024x256_S1x1024x256_0_0_0,
            k0_pay52 (q1 arg2 X2) (q3 arg3 X3)
              (View.readAt (Elt F) arg4.view (Rect.unit (s := S4096x256) ![0, 0] S256x256.size inb_S4096x256_S256x256_0_0).toLoadRect X4)
              (View.readAt (Elt F) arg5.view (Rect.unit (s := S4096x32) ![0, 0] S256x32.size inb_S4096x32_S256x32_0_0).toLoadRect X5)⟩]))
      (slotOf (q1 arg2 X2) (q3 arg3 X3) (View.read (Elt F) arg4.view X4) (View.read (Elt F) arg5.view X5) (2 * 0)) := by
    refine Keeps.of ?_
    rw [slot0, readAt_writes_cons_self, readAt_cblk (j := 0) _ _ rfl, readAt_kblk (j := 0) _ _ rfl]
    exact slot_d _ _ _ _
  have e9 : Keeps (arg9.view.read (Elt F) (arg9.view.writes (Elt F) arg9.view.junk
        [⟨Rect.unit (s := S1024x128) ![0, 0] S1024x128.size inb_S1024x128_S1024x128_0_0, k0_pay49⟩]))
      ((accAt (q1 arg2 X2) (q3 arg3 X3) (View.read (Elt F) arg4.view X4) (View.read (Elt F) arg5.view X5) (2 * 0)).m) := by
    refine Keeps.of ?_
    rw [View.read_writes_full]; rfl
  have e10 : Keeps (arg10.view.read (Elt F) (arg10.view.writes (Elt F) arg10.view.junk
        [⟨Rect.unit (s := S1024x128) ![0, 0] S1024x128.size inb_S1024x128_S1024x128_0_0, k0_pay50⟩]))
      ((accAt (q1 arg2 X2) (q3 arg3 X3) (View.read (Elt F) arg4.view X4) (View.read (Elt F) arg5.view X5) (2 * 0)).l) := by
    refine Keeps.of ?_
    rw [View.read_writes_full]; rfl
  have e11 : Keeps (arg11.view.read (Elt F) (arg11.view.writes (Elt F) arg11.view.junk
        [⟨Rect.unit (s := S1024x256) ![0, 0] S1024x256.size inb_S1024x256_S1024x256_0_0, k0_pay51⟩]))
      ((accAt (q1 arg2 X2) (q3 arg3 X3) (View.read (Elt F) arg4.view X4) (View.read (Elt F) arg5.view X5) (2 * 0)).a) := by
    refine Keeps.of ?_
    rw [View.read_writes_full]; rfl
  sl_exec
  sl_step
  unfold ends
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro
    rw [View.read_writes_full]
    clear e8 e9 e10 e11
    have ht : Scf.trips (k0_t1_loop i).lb (k0_t1_loop i).ub (k0_t1_loop i).st = (i 1).val / 4 := trips1 i
    have hq : (i 1).val / 2 = 2 * ((i 1).val / 4) := by have := (cond2_iff i).1 hd; omega
    rw [ht] at hL3 hL5 hL7 hL9
    have h3 := hL3.eq; have h5 := hL5.eq; have h7 := hL7.eq; have h9 := hL9.eq
    revert h3 h5 h7 h9
    sl_unfold_run_names
    intro h3 h5 h7 h9
    have o10 := off10_at i
    have hp := dblock_at i
    rw [hq] at o10 hp ⊢
    unfold dblock at hp
    unfold slot0 at h3
    rw [View.readAt_full, View.readAt_full] at h3 h5 h7 h9
    rw [hp]
    repeat rw [View.readCov_full]
    rw [h3]
    repeat rw [View.readAt_full]
    rw [h5, h7, h9, readAt_cblk _ _ o10, stepL_d, stepA_d]
    rw [readCov_rect, ld_headRows _ (j := 0) rfl]
    rw [readCov_rect, ld_headRows _ (j := 1) rfl]
    rw [readCov_rect, ld_headRows _ (j := 2) rfl]
    rw [readCov_rect, ld_headRows _ (j := 3) rfl]
    rw [readCov_rect, ld_headRows _ (j := 4) rfl]
    rw [readCov_rect, ld_headRows _ (j := 5) rfl]
    rw [readCov_rect, ld_headRows _ (j := 6) rfl]
    rw [readCov_rect, ld_headRows _ (j := 7) rfl]
    rw [accEnd_l, accEnd_a]
    unfold blockOut
    obtain ⟨Z, hZ⟩ : ∃ Z, Z = accEnd (BitVec.ofNat 32 (i 1).val) (BitVec.ofNat 32 (2 * ((i 1).val / 4))) (k0_pay47 (View.read (Elt F) arg2.view X2))
      (k0_pay48 (View.read (Elt F) arg3.view X3)) (View.read (Elt F) arg4.view X4) (View.read (Elt F) arg5.view X5) (2 * ((i 1).val / 4)) := ⟨_, rfl⟩
    rw [hq, ← hZ]
    rw [readAt_headMat (j := 0) _ _ rfl, readAt_headMat (j := 1) _ _ rfl, readAt_headMat (j := 2) _ _ rfl,
      readAt_headMat (j := 3) _ _ rfl, readAt_headMat (j := 4) _ _ rfl, readAt_headMat (j := 5) _ _ rfl,
      readAt_headMat (j := 6) _ _ rfl, readAt_headMat (j := 7) _ _ rfl]
    clear hZ
    unfold outOf k0_pay68
    rfl
  isplitl [H8]; · iexists _; iexact H8
  isplitl [H9]; · iexists _; iexact H9
  isplitl [H10]; · iexists _; iexact H10
  iexists _; iexact H11
end

end Cert.KernelIdeal
-- ==== Proof.PI.Run.lean ====
module

public import proofs.«01_k».proof.Proof.PI.Body
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Gen

variable {F : FTy → Type} [FloatOps F] [Named F]

local notation "𝕄G" => MT nD τ sig Unit (Elt F) ℕ (UR sig nD τ) ℕ

/-- What a grid point's body writes, from what its five input windows hold. -/
def out (i : grid0.Coords) (Q : Vec F S8x128x256 .bf16) (R : Vec F S8x128x32 .bf16) (C : Vec F S4096x256 .bf16)
    (K : Vec F S4096x32 .bf16) (W : Vec F S8x256x512 .bf16) : FVec F S128x512 .f32 :=
  blockOut (BitVec.ofNat 32 (i 1).val) (BitVec.ofNat 32 ((i 1).val / 2)) (i 1).val Q R C K W

theorem ends_owns (c : Dev nD) (arg2 : Memref sig .tc .vmem S8x128x256 .bf16) (arg3 : Memref sig .tc .vmem S8x128x32 .bf16) (arg4 : Memref sig .tc .vmem S4096x256 .bf16) (arg5 : Memref sig .tc .vmem S4096x32 .bf16) (arg6 : Memref sig .tc .vmem S8x256x512 .bf16) (arg7 : Memref sig .tc .vmem S128x512 .f32) (arg8 : Memref sig .tc .vmem S2x1024x256 .f32) (arg9 : Memref sig .tc .vmem S1024x128 .f32) (arg10 : Memref sig .tc .vmem S1024x128 .f32) (arg11 : Memref sig .tc .vmem S1024x256 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (O : Vec F S128x512 .f32) :
    (ends c arg2 arg3 arg4 arg5 arg6 arg7 arg8 arg9 arg10 arg11 X2 X3 X4 X5 X6 O : sProp 𝕄G)
      ⊢ iprop(owns (c : Thread nD τ) arg2 fullShare (arg2.view.read (Elt F) X2) ∗ owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (arg6.view.read (Elt F) X6) ∗ owns (c : Thread nD τ) arg7 fullShare O ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) := by
  unfold ends owns
  iintro ⟨H2, H3, H4, H5, H6, ⟨%f, H7, %h7⟩, HS⟩
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists X5; isplitr; · ipureintro; rfl
    iexact H5
  isplitl [H6]
  · iexists X6; isplitr; · ipureintro; rfl
    iexact H6
  isplitl [H7]
  · iexists f; isplitr; · ipureintro; exact h7
    iexact H7
  iexact HS

/-- The body, on windows holding `x2` … `x6`: it leaves them, and leaves the output's window at `out`. -/
theorem sound_kernel (c : Dev nD) (E : Set ℕ) (i : grid0.Coords) (arg2 : Memref sig .tc .vmem S8x128x256 .bf16) (harg2 : arg2.IsWhole) (arg3 : Memref sig .tc .vmem S8x128x32 .bf16) (harg3 : arg3.IsWhole) (arg4 : Memref sig .tc .vmem S4096x256 .bf16) (harg4 : arg4.IsWhole) (arg5 : Memref sig .tc .vmem S4096x32 .bf16) (harg5 : arg5.IsWhole) (arg6 : Memref sig .tc .vmem S8x256x512 .bf16) (harg6 : arg6.IsWhole) (arg7 : Memref sig .tc .vmem S128x512 .f32) (harg7 : arg7.IsWhole) (arg8 : Memref sig .tc .vmem S2x1024x256 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .f32) (harg11 : arg11.IsWhole)
    (x2 : Vec F S8x128x256 .bf16) (x3 : Vec F S8x128x32 .bf16) (x4 : Vec F S4096x256 .bf16) (x5 : Vec F S4096x32 .bf16) (x6 : Vec F S8x256x512 .bf16) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))
      ⊢ wp frame (wpE (defs₀ (F := F)) Variants.none (c : Thread nD τ) none) E (cc0_mlap (F := F) i arg2 harg2 arg3 harg3 arg4 harg4 arg5 harg5 arg6 harg6 arg7 harg7 arg8 harg8 arg9 harg9 arg10 harg10 arg11 harg11)
          (fun _ => (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out i x2 x3 x4 x5 x6) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) : sProp 𝕄G)) := by
  have key : ∀ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
      (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) : sProp 𝕄G)
        ⊢ wp frame (wpE (defs₀ (F := F)) Variants.none (c : Thread nD τ) none) E (cc0_mlap (F := F) i arg2 harg2 arg3 harg3 arg4 harg4 arg5 harg5 arg6 harg6 arg7 harg7 arg8 harg8 arg9 harg9 arg10 harg10 arg11 harg11)
          (fun _ => (iprop(owns (c : Thread nD τ) arg2 fullShare (arg2.view.read (Elt F) X2) ∗ owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (arg6.view.read (Elt F) X6) ∗ owns (c : Thread nD τ) arg7 fullShare (out i (arg2.view.read (Elt F) X2) (arg3.view.read (Elt F) X3) (arg4.view.read (Elt F) X4) (arg5.view.read (Elt F) X5) (arg6.view.read (Elt F) X6)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) : sProp 𝕄G)) := by
    intro X2 X3 X4 X5 X6 f7 f8 f9 f10 f11
    by_cases hc : k0_cond1 i = 1#1
    · have hd : ¬ k0_cond2 i = 1#1 := fun h => by
        have a := (cond1_iff i).1 hc; have b := (cond2_iff i).1 h; omega
      exact (body_odd c E i arg2 harg2 arg3 harg3 arg4 harg4 arg5 harg5 arg6 harg6 arg7 harg7 arg8 harg8 arg9 harg9 arg10 harg10 arg11 harg11 _ _ _ _ _ f7 f8 f9 f10 f11 hc hd).trans (wp_mono _ _ _ fun _ => ends_owns c arg2 arg3 arg4 arg5 arg6 arg7 arg8 arg9 arg10 arg11 _ _ _ _ _ _)
    have hd : k0_cond2 i = 1#1 := (cond2_iff i).2 (by
      have a : ¬ (i 1).val / 2 % 2 = 1 := fun h => hc ((cond1_iff i).2 h)
      omega)
    exact (body_even c E i arg2 harg2 arg3 harg3 arg4 harg4 arg5 harg5 arg6 harg6 arg7 harg7 arg8 harg8 arg9 harg9 arg10 harg10 arg11 harg11 _ _ _ _ _ f7 f8 f9 f10 f11 hc hd).trans (wp_mono _ _ _ fun _ => ends_owns c arg2 arg3 arg4 arg5 arg6 arg7 arg8 arg9 arg10 arg11 _ _ _ _ _ _)
  unfold owns at key ⊢
  iintro ⟨⟨%X2, %h2, H2⟩, ⟨%X3, %h3, H3⟩, ⟨%X4, %h4, H4⟩, ⟨%X5, %h5, H5⟩, ⟨%X6, %h6, H6⟩, ⟨%d7, %f7, -, H7⟩, ⟨%f8, H8⟩, ⟨%f9, H9⟩, ⟨%f10, H10⟩, ⟨%f11, H11⟩⟩
  subst h2 h3 h4 h5 h6
  iapply (key X2 X3 X4 X5 X6 f7 f8 f9 f10 f11)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The pipeline's proof data -/

variable (m : (ℓ : Loc nD τ sig) → Buf (Elt F) ℓ) (ρ : Dev nD → PrngReg)

/-- The arrays as the region finds them; after the body the inputs' windows at their blocks, the output's at `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out (grid0.coords t) (iblk m c 0 t) (iblk m c 1 t) (iblk m c 2 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A whole buffer's elements, as a memref of it names them. -/
theorem whole_scratch (c : Dev nD) (b : Ref sig .tc) (f : Buf (Elt F) ((c : Thread nD τ).loc b)) :
    (((c : Thread nD τ).loc b ↦{fullShare} f) : sProp 𝕄G)
      = ((Memref.whole b).view.loc (c : Thread nD τ) ↦[(Memref.whole b).view.set]{fullShare} f) := by
  rw [show (Memref.whole b).view.set = Finset.univ from View.set_whole b]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [whole_scratch]
  iintro ⟨⟨⟨HS8, HS9, HS10, HS11⟩, Hr⟩, Ho, ⟨%d0, H0⟩, ⟨%d1, H1⟩, ⟨%d2, H2⟩, ⟨%d3, H3⟩, ⟨%d4, H4⟩, ⟨%d5, H5⟩⟩
  iapply (wp_wand_r Idealize.ShloMosaic.frame (wpE (defs₀ (F := F)) Variants.none (c : Thread nD τ) none) Set.univ)
  isplitl [H0 H1 H2 H3 H4 H5 HS8 HS9 HS10 HS11]
  · iapply (sound_kernel c Set.univ (grid0.coords t) _ _ _ _ _ _ _ _ _ _ _ _ _ _ _ _ _ _ _ _ (iblk m c 0 t) (iblk m c 1 t) (iblk m c 2 t) (iblk m c 3 t) (iblk m c 4 t))
    isplitl [H0]; · iexact H0
    isplitl [H1]; · iexact H1
    isplitl [H2]; · iexact H2
    isplitl [H3]; · iexact H3
    isplitl [H4]; · iexact H4
    isplitl [H5]; · iexists _; iexact H5
    isplitl [HS8]; · iexact HS8
    isplitl [HS9]; · iexact HS9
    isplitl [HS10]; · iexact HS10
    iexact HS11
  iintro %a ⟨H0, H1, H2, H3, H4, H5, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots. -/
theorem row_at (t : Fin cfg0.N) :
    defs₀ (F := F) .tc cfg0.body (cfg0.bodyArgs t (cfg0.slots t)) = bodyAt0 t := by
  unfold defs₀; rw [Defs.onTc_tc]

/-- The obligation at every point. -/
theorem body_ok (c : Dev nD) : BodyObligation (dats (F := F) m 0 c) (defs₀ (F := F)) Variants.none () Set.univ := fun t => by
  rw [bigSep_W0, bigSep_W0, row_at]
  exact triple_restated (sound_body m c t) rfl .rfl fun _ => .rfl

/-! ## The run -/

-- the rule's implicit arguments are found by unifying its conclusion with this one, unfolding plain definitions
set_option backward.isDefEq.respectTransparency.types false in
/-- Every execution ends, with the pipeline's arrays as the proof data says and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- Every execution ends, the arguments as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal
-- ==== Proof.Claims.lean ====
module

public import proofs.«01_k».proof.Defs
public import proofs.«01_k».proof.Proof.P.Run
public import proofs.«01_k».proof.Proof.PI.Run
public import proofs.«01_k».proof.Proof.Gen.ReferenceIdeal
public import proofs.«01_k».proof.Proof.Gen.ReferenceIdeal.Run

@[expose] public section

noncomputable section

open Idealize.ShloMosaic Idealize.ShloMosaic.TcCoe Idealize.SL.Sem

/-! ## The frames, and the named constants -/

namespace Cert.Proof.Claims

theorem frame_p : Cert.quiescent_Kernel := fun m ρ _ => Cert.Kernel.frame_run m ρ
theorem frame_pi : Cert.quiescent_KernelIdeal := fun m ρ _ => Cert.KernelIdeal.frame_run m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each named constant has the value the table gives it. -/
theorem preserves : Cert.preserves_Kernel_KernelIdeal :=
  ⟨IdealRules.named_const.statement Cert.KernelIdeal.κ "mask" .f32 0xF149F2CA#32 ⊥ rfl,
    IdealRules.named_const.statement Cert.KernelIdeal.κ "exp2_scale" .f32 0x3E16C740#32
      ((3424635 / 33554432 * (Real.log 2)⁻¹ : ℝ) : EReal) rfl⟩

end Cert.Proof.Claims

end
-- ==== Proof.V.Online.lean ====
module

public import Idealize.ShloMosaic.PureOps.Ideal
public import Mathlib.Analysis.SpecialFunctions.Pow.Real

@[expose] public section

noncomputable section

/-! # A causal softmax taken over blocks of keys, with a running maximum

Over the reals the shift of the exponents cancels: whatever real number is subtracted, the weighted sum divided by the sum
of the weights is the same.  So the running value need only be known to be *some* real number. -/

namespace Cert.Online

open Idealize.ShloMosaic

/-- The scale of the scores. -/
def κs : ℝ := 3424635 / 33554432

/-- Being a real number. -/
def Fin' (x : EReal) : Prop := ∃ r : ℝ, x = (r : EReal)

theorem Fin'.coe (r : ℝ) : Fin' (r : EReal) := ⟨r, rfl⟩
theorem Fin'.add {x y : EReal} (hx : Fin' x) (hy : Fin' y) : Fin' (x + y) := by
  obtain ⟨a, rfl⟩ := hx; obtain ⟨b, rfl⟩ := hy; exact ⟨a + b, rfl⟩
theorem Fin'.mul {x y : EReal} (hx : Fin' x) (hy : Fin' y) : Fin' (x * y) := by
  obtain ⟨a, rfl⟩ := hx; obtain ⟨b, rfl⟩ := hy; exact ⟨a * b, rfl⟩
theorem coe_sum {ι : Type*} (S : Finset ι) (f : ι → ℝ) : ((∑ k ∈ S, f k : ℝ) : EReal) = ∑ k ∈ S, (f k : EReal) := by
  classical
  induction S using Finset.induction_on with
  | empty => simp
  | insert a s ha ih => rw [Finset.sum_insert ha, Finset.sum_insert ha, EReal.coe_add, ih]
theorem Fin'.sum {ι : Type*} (S : Finset ι) (f : ι → EReal) (h : ∀ k ∈ S, Fin' (f k)) : Fin' (∑ k ∈ S, f k) := by
  classical
  induction S using Finset.induction_on with
  | empty => exact ⟨0, by simp⟩
  | insert a s ha ih =>
    rw [Finset.sum_insert ha]
    exact (h a (Finset.mem_insert_self a s)).add (ih fun k hk => h k (Finset.mem_insert_of_mem hk))
theorem Fin'.eq {x : EReal} (h : Fin' x) : x = (x.toReal : EReal) := by
  obtain ⟨a, rfl⟩ := h; rw [EReal.toReal_coe]

/-- The weight of key `k` for the query at position `P`, the shift being `M`. -/
def W (s : ℕ → ℝ) (P : ℕ) (M : ℝ) (k : ℕ) : ℝ := if k ≤ P then Real.exp ((s k - M) * κs) else 0

/-- Its score, masked. -/
def σ (s : ℕ → ℝ) (P : ℕ) (k : ℕ) : EReal := if k ≤ P then (s k : EReal) else ⊥

theorem κs_pos : 0 < κs := by unfold κs; norm_num

/-- The power of two of the kernel is the exponential of the scaled difference. -/
theorem exp2_sub (x M : ℝ) :
    Ideal.exp2 (((x : EReal) - (M : EReal)) * ((3424635 / 33554432 * (Real.log 2)⁻¹ : ℝ) : EReal)) = (Real.exp ((x - M) * κs) : EReal) := by
  rw [← EReal.coe_sub, ← EReal.coe_mul, Ideal.exp2_coe]
  congr 1
  show (2 : ℝ) ^ ((x - M) * (3424635 / 33554432 * (Real.log 2)⁻¹)) = _
  have h2 : Real.log 2 ≠ 0 := (Real.log_pos (by norm_num)).ne'
  rw [Real.rpow_def_of_pos (by norm_num)]
  congr 1
  unfold κs
  field_simp

theorem exp2_bot_sub (M : ℝ) :
    Ideal.exp2 (((⊥ : EReal) - (M : EReal)) * ((3424635 / 33554432 * (Real.log 2)⁻¹ : ℝ) : EReal)) = 0 := by
  have h2 : 0 < Real.log 2 := Real.log_pos (by norm_num)
  have hb : (⊥ : EReal) - (M : EReal) = ⊥ := EReal.bot_sub _
  rw [hb, EReal.bot_mul_coe_of_pos (show 0 < 3424635 / 33554432 * (Real.log 2)⁻¹ from mul_pos κs_pos (inv_pos.2 h2)), Ideal.exp2_bot]

theorem exp2_σ (s : ℕ → ℝ) (P : ℕ) (M : ℝ) (k : ℕ) :
    Ideal.exp2 ((σ s P k - (M : EReal)) * ((3424635 / 33554432 * (Real.log 2)⁻¹ : ℝ) : EReal)) = (W s P M k : EReal) := by
  unfold σ W
  split
  · exact exp2_sub _ _
  · rw [exp2_bot_sub]; rfl

theorem W_shift (s : ℕ → ℝ) (P : ℕ) (M M' : ℝ) (k : ℕ) : Real.exp ((M - M') * κs) * W s P M k = W s P M' k := by
  unfold W
  split
  · rw [← Real.exp_add]; congr 1; ring
  · rw [mul_zero]

/-- What is known of one row after its first `N` keys: nothing taken in yet, or the sums for some real shift. -/
def Row (s : ℕ → ℝ) (P : ℕ) {L : Type} {D : Type} (v : ℕ → D → ℝ) (N : ℕ) (m l : L → EReal) (a : D → EReal) : Prop :=
  (N = 0 ∧ (∀ j, m j = ⊥) ∧ (∀ j, l j = 0) ∧ ∀ d, a d = 0)
  ∨ ∃ M : ℝ, (∀ j, m j = (M : EReal)) ∧ (∀ j, l j = ((∑ k ∈ Finset.range N, W s P M k : ℝ) : EReal))
      ∧ ∀ d, a d = ((∑ k ∈ Finset.range N, W s P M k * v k d : ℝ) : EReal)

/-- A block of `B` keys, the first of them visible, taken in. -/
theorem Row.step (s : ℕ → ℝ) (P : ℕ) {L : Type} {D : Type} (v : ℕ → D → ℝ) (N B : ℕ) (m l m' l' : L → EReal) (a a' : D → EReal)
    (lane : D → L) (laneB : Fin B → L)
    (h : Row s P v N m l a) (c : EReal) (hc : c = ((3424635 / 33554432 * (Real.log 2)⁻¹ : ℝ) : EReal))
    (M' : ℝ) (hm' : ∀ j, m' j = (M' : EReal))
    (hl' : ∀ j, l' j = Ideal.exp2 ((m j - m' j) * c) * l j + ∑ k : Fin B, Ideal.exp2 ((σ s P (N + k.val) - m' (laneB k)) * c))
    (ha' : ∀ d, a' d = Ideal.exp2 ((m (lane d) - m' (lane d)) * c) * a d
      + ∑ k : Fin B, Ideal.exp2 ((σ s P (N + k.val) - m' (laneB k)) * c) * (v (N + k.val) d : EReal)) :
    Row s P v (N + B) m' l' a' := by
  subst hc
  refine Or.inr ⟨M', hm', fun j => ?_, fun d => ?_⟩
  · rw [hl']
    simp only [hm', exp2_σ]
    rw [Finset.sum_range_add, EReal.coe_add, Finset.sum_range (fun x => W s P M' (N + x)), coe_sum Finset.univ]
    congr 1
    rcases h with ⟨rfl, hm, hl, ha⟩ | ⟨M, hm, hl, ha⟩
    · rw [hl]; simp
    · rw [hm, hl, exp2_sub, ← EReal.coe_mul, Finset.mul_sum]
      simp only [W_shift]
  · rw [ha']
    simp only [hm', exp2_σ, ← EReal.coe_mul]
    rw [Finset.sum_range_add, EReal.coe_add, Finset.sum_range (fun x => W s P M' (N + x) * v (N + x) d), coe_sum Finset.univ]
    congr 1
    rcases h with ⟨rfl, hm, hl, ha⟩ | ⟨M, hm, hl, ha⟩
    · rw [ha]; simp
    · rw [hm, ha, exp2_sub, ← EReal.coe_mul, Finset.mul_sum]
      simp only [← mul_assoc, W_shift]

/-- The layer's own weights: shifted by `R` after the scale. -/
def E (s : ℕ → ℝ) (P : ℕ) (R : ℝ) (k : ℕ) : ℝ := if k ≤ P then Real.exp (s k * κs - R) else 0

theorem W_eq (s : ℕ → ℝ) (P : ℕ) (M R : ℝ) (k : ℕ) : W s P M k = Real.exp (R - M * κs) * E s P R k := by
  unfold W E
  split
  · rw [← Real.exp_add]; congr 1; ring
  · rw [mul_zero]

theorem E_sum_pos (s : ℕ → ℝ) (P : ℕ) (R : ℝ) (N : ℕ) (hN : 0 < N) : 0 < ∑ k ∈ Finset.range N, E s P R k := by
  refine Finset.sum_pos' (fun k _ => ?_) ⟨0, Finset.mem_range.2 hN, ?_⟩
  · unfold E; split
    · exact (Real.exp_pos _).le
    · exact le_refl _
  · unfold E; rw [if_pos (Nat.zero_le _)]; exact Real.exp_pos _

theorem sum_extend (P N N' : ℕ) (f : ℕ → ℝ) (hf : ∀ k, ¬ k ≤ P → f k = 0) (h : P < N) (hN : N ≤ N') :
    ∑ k ∈ Finset.range N, f k = ∑ k ∈ Finset.range N', f k := by
  refine Finset.sum_subset (fun k hk => ?_) fun k _ hk => ?_
  · exact Finset.mem_range.2 (lt_of_lt_of_le (Finset.mem_range.1 hk) hN)
  · refine hf k fun hp => hk (Finset.mem_range.2 ?_); omega

/-- The running sums, normalised, are the layer's softmax-weighted sum. -/
theorem normalised (s : ℕ → ℝ) (P : ℕ) (v : ℕ → ℝ) (M R : ℝ) (N N' : ℕ) (h : P < N) (hN : N ≤ N') :
    (∑ k ∈ Finset.range N, W s P M k * v k) * (1 / ∑ k ∈ Finset.range N, W s P M k)
      = ∑ k ∈ Finset.range N', v k * (E s P R k / ∑ k ∈ Finset.range N', E s P R k) := by
  have hp := E_sum_pos s P R N' (by omega)
  rw [sum_extend P N N' (fun k => W s P M k * v k) (fun k hk => by unfold W; rw [if_neg hk, zero_mul]) h hN,
    sum_extend P N N' (W s P M) (fun k hk => by unfold W; rw [if_neg hk]) h hN]
  simp only [W_eq s P M R]
  rw [← Finset.mul_sum]
  have e1 : ∑ k ∈ Finset.range N', Real.exp (R - M * κs) * E s P R k * v k
      = Real.exp (R - M * κs) * ∑ k ∈ Finset.range N', v k * E s P R k := by
    rw [Finset.mul_sum]; exact Finset.sum_congr rfl fun k _ => by ring
  have e2 : ∑ k ∈ Finset.range N', v k * (E s P R k / ∑ k ∈ Finset.range N', E s P R k)
      = (∑ k ∈ Finset.range N', v k * E s P R k) / ∑ k ∈ Finset.range N', E s P R k := by
    rw [Finset.sum_div]; exact Finset.sum_congr rfl fun k _ => by ring
  rw [e1, e2]
  have hx := (Real.exp_pos (R - M * κs)).ne'
  field_simp

/-- A maximum from minus infinity over real numbers and minus infinities, one of them real, is real. -/
theorem fin_max {x y : EReal} (hx : Fin' x ∨ x = ⊥) (hy : Fin' y ∨ y = ⊥) : Fin' (max x y) ∨ max x y = ⊥ := by
  rcases hx with hx | rfl
  · rcases hy with hy | rfl
    · rcases max_choice x y with h | h <;> rw [h] <;> [exact Or.inl hx; exact Or.inl hy]
    · rw [max_eq_left bot_le]; exact Or.inl hx
  · rw [max_eq_right bot_le]; exact hy

theorem fold_max {ι : Type*} (S : Finset ι) (f : ι → EReal) (h : ∀ k ∈ S, Fin' (f k) ∨ f k = ⊥) :
    Fin' (S.fold max ⊥ f) ∨ S.fold max ⊥ f = ⊥ := by
  classical
  induction S using Finset.induction_on with
  | empty => exact Or.inr (by simp)
  | insert a s ha ih =>
    rw [Finset.fold_insert ha]
    exact fin_max (h a (Finset.mem_insert_self a s)) (ih fun k hk => h k (Finset.mem_insert_of_mem hk))

theorem fold_max_fin {ι : Type*} (S : Finset ι) (f : ι → EReal) (h : ∀ k ∈ S, Fin' (f k) ∨ f k = ⊥) (k : ι) (hk : k ∈ S)
    (hf : Fin' (f k)) : Fin' (S.fold max ⊥ f) := by
  rcases fold_max S f h with h' | h'
  · exact h'
  · exfalso
    have : f k ≤ S.fold max ⊥ f := (Finset.le_fold_max _).2 (Or.inr ⟨k, hk, le_refl _⟩)
    rw [h'] at this
    obtain ⟨r, hr⟩ := hf
    rw [hr] at this
    exact EReal.coe_ne_bot r (le_bot_iff.1 this)

end Cert.Online

end
-- ==== Proof.V.Pay.lean ====
module

public import proofs.«01_k».proof.Proof.PI.Spec
public import proofs.«01_k».proof.Proof.V.Online
public import Idealize.ShloMosaic.Lib.Pointwise
public import Idealize.ShloMosaic.PureOps.Reduce
public import Idealize.ShloMosaic.PureOps.Ideal.Laws
public import Idealize.ShloMosaic.PureOps.IdealRules

@[expose] public section

noncomputable section

namespace Cert.KernelIdeal.V

open Idealize.ShloMosaic Cert.KernelIdeal Gen Cert.Online

theorem ofBits_ninf : Ideal.ofBits .f32 0xFF800000#32 = ⊥ := by simp [Ideal.ofBits, Ideal.ieee]

/-- The exponents' scale. -/
def cE : EReal := ((3424635 / 33554432 * (Real.log 2)⁻¹ : ℝ) : EReal)

theorem named_mask : Named.named (F := Ideal) κ "mask" (φ := .f32) 0xF149F2CA#32 = (⊥ : EReal) :=
  IdealRules.named_const.ideal_named_scalar _ _ _ _ rfl
theorem named_exp2 : Named.named (F := Ideal) κ "exp2_scale" (φ := .f32) 0x3E16C740#32 = cE :=
  IdealRules.named_const.ideal_named_scalar _ _ _ _ rfl

theorem pay49_at (r : Fin 1024) (l : Fin 128) : k0_pay49 (F := Ideal) (ix2 r l) = ⊥ := by
  pointwise [k0_pay49, named_mask]
theorem pay50_at (r : Fin 1024) (l : Fin 128) : k0_pay50 (F := Ideal) (ix2 r l) = 0 := by
  pointwise [k0_pay50]
theorem pay51_at (r : Fin 1024) (c : Fin 256) : k0_pay51 (F := Ideal) (ix2 r c) = 0 := by
  pointwise [k0_pay51]

/-- A slot's score. -/
theorem slot_at (v1 : FVec Ideal S1024x256 .bf16) (v3 : FVec Ideal S1024x32 .bf16) (C : Vec Ideal S4096x256 .bf16)
    (K : Vec Ideal S4096x32 .bf16) (j : ℕ) (r : Fin 1024) (k : Fin 256) :
    k0_pay3 (slotOf v1 v3 C K j) (ix2 r k)
      = (∑ c : Fin 256, v1 (ix2 r c) * cblk C j (ix2 k c)) + ∑ d : Fin 32, v3 (ix2 r d) * kblk K j (ix2 k d) := by
  pointwise [k0_pay3, slotOf, k0_pay2]

theorem pay57_at (S : FVec Ideal S1024x256 .f32) (m : Vec Ideal S1024x128 .f32) (r : Fin 1024) (l : Fin 128) :
    k0_pay57 S m (ix2 r l) = max (m (ix2 r l)) ((Finset.univ : Finset (Fin 256)).fold max ⊥ fun k => S (ix2 r k)) := by
  pointwise [k0_pay57]
  rw [show (4286578688#32 : BitVec 32) = 0xFF800000#32 from rfl, ofBits_ninf]

theorem pay62_at (S : FVec Ideal S1024x256 .f32) (m : Vec Ideal S1024x128 .f32) (r : Fin 1024) (l : Fin 128) :
    k0_pay62 S m (ix2 r l) = k0_pay57 S m (ix2 r l) := by
  pointwise [k0_pay62]

theorem pay59_at (S : FVec Ideal S1024x256 .f32) (m : Vec Ideal S1024x128 .f32) (r : Fin 1024) (l : Fin 128) :
    k0_pay59 S m (ix2 r l) = Ideal.exp2 ((m (ix2 r l) - k0_pay57 S m (ix2 r l)) * cE) := by
  pointwise [k0_pay59, named_exp2]
  rfl

/-- The lane of a row's running value that column `k` uses. -/
def lane (k : Fin 256) : Fin 128 := ⟨k.val % 128, Nat.mod_lt _ (by norm_num)⟩

theorem cat_at (x : FVec Ideal S1024x128 .f32) (r : Fin 1024) (k : Fin 256) :
    concatenate S1024x256 1 [⟨S1024x128, x⟩, ⟨S1024x128, x⟩] concatenates_S1024x128_S1024x128_S1024x256_d1 (ix2 r k)
      = x (ix2 r (lane k)) := by
  pointwise
  have hk := k.isLt
  split <;> refine congrArg x (congrArg (ix2 r) (Fin.ext ?_)) <;> simp only [lane] <;> omega

theorem pay58_at (S : FVec Ideal S1024x256 .f32) (m : Vec Ideal S1024x128 .f32) (r : Fin 1024) (k : Fin 256) :
    k0_pay58 S m (ix2 r k) = Ideal.exp2 ((S (ix2 r k) - k0_pay57 S m (ix2 r (lane k))) * cE) := by
  unfold k0_pay58
  generalize k0_pay57 S m = x
  rw [← cat_at x]
  show FloatOps.exp2 ((S (ix2 r k) - _) * Named.named (F := Ideal) κ "exp2_scale" (φ := .f32) 0x3E16C740#32) = _
  rw [named_exp2]
  rfl

theorem pay60_at (S : FVec Ideal S1024x256 .f32) (m l : Vec Ideal S1024x128 .f32) (r : Fin 1024) (j : Fin 128) :
    k0_pay60 S m l (ix2 r j) = k0_pay59 S m (ix2 r j) * l (ix2 r j) + ∑ k : Fin 256, k0_pay58 S m (ix2 r k) := by
  unfold k0_pay60
  generalize k0_pay59 S m = x
  generalize k0_pay58 S m = y
  pointwise

theorem pay61_at (S : FVec Ideal S1024x256 .f32) (C : Vec Ideal S256x256 .bf16) (m : Vec Ideal S1024x128 .f32)
    (a : Vec Ideal S1024x256 .f32) (r : Fin 1024) (c : Fin 256) :
    k0_pay61 S C m a (ix2 r c) = k0_pay59 S m (ix2 r (lane c)) * a (ix2 r c) + ∑ k : Fin 256, k0_pay58 S m (ix2 r k) * C (ix2 k c) := by
  unfold k0_pay61
  generalize k0_pay59 S m = x
  generalize k0_pay58 S m = y
  rw [← cat_at x]
  generalize concatenate S1024x256 1 [⟨S1024x128, x⟩, ⟨S1024x128, x⟩] concatenates_S1024x128_S1024x128_S1024x256_d1 = z
  pointwise

theorem pay65_at (l : Vec Ideal S1024x128 .f32) (r : Fin 1024) (c : Fin 256) :
    k0_pay65 l (ix2 r c) = Ideal.div 1 (l (ix2 r (lane c))) := by
  pointwise [k0_pay65]
  have hk := c.isLt
  split <;> refine congrArg (fun i => Ideal.div 1 (l (ix2 r i))) (Fin.ext ?_) <;> simp only [lane] <;> omega

theorem pay47_at (Q : Vec Ideal S8x128x256 .bf16) (h : Fin 8) (t : Fin 128) (c : Fin 256) :
    k0_pay47 Q (ix2 ⟨128 * h.val + t.val, by omega⟩ c) = Q (ix3 h t c) := by
  pointwise [k0_pay47]
theorem pay48_at (Q : Vec Ideal S8x128x32 .bf16) (h : Fin 8) (t : Fin 128) (c : Fin 32) :
    k0_pay48 Q (ix2 ⟨128 * h.val + t.val, by omega⟩ c) = Q (ix3 h t c) := by
  pointwise [k0_pay48]

theorem pay41_at (w p : BitVec 32) (S : Vec Ideal S1x1024x256 .f32) (r : Fin 1024) (k : Fin 256) :
    k0_pay41 w p S (ix2 r k) = if (p * 256#32 + BitVec.ofNat 32 k.val).sle (w * 128#32 + BitVec.ofNat 32 (r.val % 128)) then k0_pay3 S (ix2 r k) else ⊥ := by
  pointwise [k0_pay41, k0_pay3, named_mask]
  have h : ∀ b : Bool, (if BitVec.ofBool b = 1 then S (ix3 0 r k) else ⊥) = if b = true then S (ix3 0 r k) else (⊥ : EReal) := by
    intro b
    cases b <;> rfl
  exact h _

theorem tail1 (l : Vec Ideal S1024x128 .f32) (A : Vec Ideal S128x256 .f32) (W : Vec Ideal S1x256x512 .bf16) (t : Fin 128) (j : Fin 512) :
    k0_pay66 l A W (ix2 t j) = ∑ c : Fin 256, A (ix2 t c) * k0_pay65 l (ix2 ⟨t.val, by omega⟩ c) * W (ix3 0 c j) := by
  unfold k0_pay66
  generalize k0_pay65 l = L
  pointwise

/-- The block written, at an index. -/
theorem out_at (l : Vec Ideal S1024x128 .f32) (a : Vec Ideal S1024x256 .f32) (W : Vec Ideal S8x256x512 .bf16) (t : Fin 128) (j : Fin 512) :
    outOf l a W (ix2 t j) = ∑ h : Fin 8, ∑ c : Fin 256, a (ix2 ⟨128 * h.val + t.val, by omega⟩ c)
      * k0_pay65 l (ix2 ⟨128 * h.val + t.val, by omega⟩ c) * W (ix3 h c j) := by
  have hA : ∀ h : Fin 8, ∀ c : Fin 256, headRows a h.val (ix2 t c) = a (ix2 ⟨128 * h.val + t.val, by omega⟩ c) := fun h c => by
    unfold headRows
    refine congrArg a (funext fun b => Fin.ext ?_)
    match b with
    | ⟨0, _⟩ => show (128 * h.val + t.val) % 1024 = _; rw [Nat.mod_eq_of_lt (by omega)]; rfl
    | ⟨1, _⟩ => show (0 + c.val) % 256 = _; rw [Nat.mod_eq_of_lt (by omega)]; exact Nat.zero_add _
  have hW : ∀ h : Fin 8, ∀ c : Fin 256, headMat W h.val (ix3 0 c j) = W (ix3 h c j) := fun h c => by
    unfold headMat
    refine congrArg W (funext fun b => Fin.ext ?_)
    match b with
    | ⟨0, _⟩ => show (h.val + 0) % 8 = _; rw [Nat.mod_eq_of_lt (by omega)]; rfl
    | ⟨1, _⟩ => show (0 + c.val) % 256 = _; rw [Nat.mod_eq_of_lt (by omega)]; exact Nat.zero_add _
    | ⟨2, _⟩ => show (0 + j.val) % 512 = _; rw [Nat.mod_eq_of_lt (by omega)]; exact Nat.zero_add _
  simp only [← hA, ← hW]
  unfold outOf k0_pay1 k0_pay68 k0_pay67
  generalize headRows a = A
  generalize headMat W = B
  simp only [Fin.sum_univ_eight]
  pointwise [tail1]

end Cert.KernelIdeal.V

end
-- ==== Proof.V.Row.lean ====
module

public import proofs.«01_k».proof.Proof.V.Pay

@[expose] public section

noncomputable section

/-! # One query row of a block: the running values hold its sums over the keys taken in -/

namespace Cert.KernelIdeal.V

open Idealize.ShloMosaic Cert.KernelIdeal Gen Cert.Online

/-- A sequence's key number, from any number. -/
def key (k : ℕ) : Fin 4096 := ⟨k % 4096, Nat.mod_lt _ (by norm_num)⟩

theorem cblk_at (C : Vec Ideal S4096x256 .bf16) (j : ℕ) (k : Fin 256) (c : Fin 256) :
    cblk C j (ix2 k c) = C (ix2 (key (256 * j + k.val)) c) := by
  unfold cblk
  refine congrArg C (funext fun b => Fin.ext ?_)
  match b with
  | ⟨0, _⟩ => rfl
  | ⟨1, _⟩ => show (0 + c.val) % 256 = _; rw [Nat.mod_eq_of_lt (by omega)]; exact Nat.zero_add _

theorem kblk_at (K : Vec Ideal S4096x32 .bf16) (j : ℕ) (k : Fin 256) (c : Fin 32) :
    kblk K j (ix2 k c) = K (ix2 (key (256 * j + k.val)) c) := by
  unfold kblk
  refine congrArg K (funext fun b => Fin.ext ?_)
  match b with
  | ⟨0, _⟩ => rfl
  | ⟨1, _⟩ => show (0 + c.val) % 32 = _; rw [Nat.mod_eq_of_lt (by omega)]; exact Nat.zero_add _

/-- The score of a row against a key, before the scale. -/
def score (v1 : FVec Ideal S1024x256 .bf16) (v3 : FVec Ideal S1024x32 .bf16) (C : Vec Ideal S4096x256 .bf16)
    (K : Vec Ideal S4096x32 .bf16) (r : Fin 1024) (k : ℕ) : EReal :=
  (∑ c : Fin 256, v1 (ix2 r c) * C (ix2 (key k) c)) + ∑ d : Fin 32, v3 (ix2 r d) * K (ix2 (key k) d)

variable (v1 : FVec Ideal S1024x256 .bf16) (v3 : FVec Ideal S1024x32 .bf16) (C : Vec Ideal S4096x256 .bf16)
  (K : Vec Ideal S4096x32 .bf16)

/-- The score as a real number. -/
def sR (r : Fin 1024) (k : ℕ) : ℝ := (score v1 v3 C K r k).toReal
/-- The latents as real numbers. -/
def vR (k : ℕ) (d : Fin 256) : ℝ := (C (ix2 (key k) d)).toReal

theorem score_fin (h1 : ∀ i, Fin' (v1 i)) (h3 : ∀ i, Fin' (v3 i)) (hC : ∀ i, Fin' (C i)) (hK : ∀ i, Fin' (K i)) (r : Fin 1024) (k : ℕ) :
    Fin' (score v1 v3 C K r k) :=
  (Fin'.sum _ _ fun _ _ => (h1 _).mul (hC _)).add (Fin'.sum _ _ fun _ _ => (h3 _).mul (hK _))

theorem slot_score (j : ℕ) (r : Fin 1024) (k : Fin 256) :
    k0_pay3 (slotOf v1 v3 C K j) (ix2 r k) = score v1 v3 C K r (256 * j + k.val) := by
  rw [slot_at]
  simp only [cblk_at, kblk_at]
  rfl

/-- A row of the running values after `N` keys. -/
def RowAt (r : Fin 1024) (P N : ℕ) (z : Acc Ideal) : Prop :=
  Row (sR v1 v3 C K r) P (vR C) N (fun l : Fin 128 => z.m (ix2 r l)) (fun l => z.l (ix2 r l)) (fun d : Fin 256 => z.a (ix2 r d))

/-- One more block of scores, its first key visible. -/
theorem RowAt.next (hC : ∀ i, Fin' (C i)) (r : Fin 1024) (P n : ℕ) (hP : 256 * n ≤ P) (z : Acc Ideal)
    (hz : RowAt v1 v3 C K r P (256 * n) z) (S : FVec Ideal S1024x256 .f32)
    (hS : ∀ k : Fin 256, S (ix2 r k) = σ (sR v1 v3 C K r) P (256 * n + k.val)) :
    RowAt v1 v3 C K r P (256 * (n + 1)) (z.step S (cblk C n)) := by
  have hf : Fin' ((Finset.univ : Finset (Fin 256)).fold max ⊥ fun k => S (ix2 r k)) := by
    refine fold_max_fin _ _ (fun k _ => ?_) 0 (Finset.mem_univ _) ?_
    · rw [hS]; unfold σ; split
      · exact Or.inl ⟨_, rfl⟩
      · exact Or.inr rfl
    · rw [hS]; unfold σ; rw [if_pos (by simpa using hP)]; exact ⟨_, rfl⟩
  have hM : ∃ M' : ℝ, ∀ l : Fin 128, k0_pay57 S z.m (ix2 r l) = (M' : EReal) := by
    obtain ⟨x, hx⟩ := hf
    rcases hz with ⟨-, hm, -, -⟩ | ⟨M, hm, -, -⟩
    · exact ⟨x, fun l => by rw [pay57_at, hx, show z.m (ix2 r l) = ⊥ from hm l, max_eq_right bot_le]⟩
    · exact ⟨max M x, fun l => by rw [pay57_at, hx, show z.m (ix2 r l) = (M : EReal) from hm l]; exact (EReal.coe_strictMono.monotone.map_max).symm⟩
  obtain ⟨M', hM⟩ := hM
  refine Row.step (sR v1 v3 C K r) P (vR C) (256 * n) 256 _ _ _ _ _ _ lane lane hz cE rfl M' (fun l => ?_) (fun l => ?_) fun d => ?_
  · exact (pay62_at S z.m r l).trans (hM l)
  · refine (pay60_at S z.m z.l r l).trans ?_
    rw [pay59_at]
    simp only [pay58_at, hS]
    simp only [Acc.step, pay62_at]
  · refine (pay61_at S (cblk C n) z.m z.a r d).trans ?_
    rw [pay59_at]
    simp only [pay58_at, hS, cblk_at]
    simp only [Acc.step, pay62_at]
    congr 1
    refine Finset.sum_congr rfl fun k _ => ?_
    rw [show ((vR C (256 * n + k.val) d : ℝ) : EReal) = C (ix2 (key (256 * n + k.val)) d) from ((hC _).eq).symm]

section
variable (h1 : ∀ i, Fin' (v1 i)) (h3 : ∀ i, Fin' (v3 i)) (hC : ∀ i, Fin' (C i)) (hK : ∀ i, Fin' (K i))
include h1 h3 hC hK

theorem accAt_row (r : Fin 1024) (P : ℕ) : ∀ n : ℕ, 256 * n ≤ P + 1 → RowAt v1 v3 C K r P (256 * n) (accAt v1 v3 C K n)
  | 0, _ => Or.inl ⟨rfl, fun l => pay49_at r l, fun l => pay50_at r l, fun d => pay51_at r d⟩
  | n + 1, h => RowAt.next v1 v3 C K hC r P n (by omega) _ (accAt_row r P n (by omega)) _ fun k => by
      rw [slot_score]
      unfold σ
      rw [if_pos (by have := k.isLt; omega)]
      exact (score_fin v1 v3 C K h1 h3 hC hK r _).eq

/-- The mask's comparison, on numbers. -/
theorem mask_iff (q t k : ℕ) (hq : q < 32) (ht : t < 128) (hk : k < 256) :
    ((BitVec.ofNat 32 (q / 2) * 256#32 + BitVec.ofNat 32 k).sle (BitVec.ofNat 32 q * 128#32 + BitVec.ofNat 32 t) = true)
      ↔ 256 * (q / 2) + k ≤ 128 * q + t := by
  clear h1 h3 hC hK
  rw [BitVec.sle_eq_decide, decide_eq_true_iff]
  have e1 : (BitVec.ofNat 32 (q / 2) * 256#32 + BitVec.ofNat 32 k) = BitVec.ofNat 32 (256 * (q / 2) + k) := by
    apply BitVec.eq_of_toNat_eq; simp only [BitVec.toNat_add, BitVec.toNat_mul, BitVec.toNat_ofNat]; omega
  have e2 : (BitVec.ofNat 32 q * 128#32 + BitVec.ofNat 32 t) = BitVec.ofNat 32 (128 * q + t) := by
    apply BitVec.eq_of_toNat_eq; simp only [BitVec.toNat_add, BitVec.toNat_mul, BitVec.toNat_ofNat]; omega
  rw [e1, e2, BitVec.toInt_eq_toNat_of_lt (by simp only [BitVec.toNat_ofNat]; omega),
    BitVec.toInt_eq_toNat_of_lt (by simp only [BitVec.toNat_ofNat]; omega)]
  simp only [BitVec.toNat_ofNat]
  omega

theorem accEnd_row (q : ℕ) (hq : q < 32) (h : Fin 8) (t : Fin 128) :
    RowAt v1 v3 C K ⟨128 * h.val + t.val, by omega⟩ (128 * q + t.val) (256 * (q / 2 + 1))
      (accEnd (BitVec.ofNat 32 q) (BitVec.ofNat 32 (q / 2)) v1 v3 C K (q / 2)) := by
  have ht := t.isLt
  refine RowAt.next v1 v3 C K hC _ _ (q / 2) (by omega) _ (accAt_row v1 v3 C K h1 h3 hC hK _ _ _ (by omega)) _ fun k => ?_
  rw [pay41_at, slot_score]
  unfold σ
  have hm : (128 * h.val + t.val) % 128 = t.val := by omega
  simp only [hm, mask_iff v1 v3 C K h1 h3 hC hK q t.val k.val hq ht k.isLt]
  refine if_congr Iff.rfl ?_ rfl
  exact (score_fin v1 v3 C K h1 h3 hC hK _ _).eq

/-- The normalised weighted sum of a row, at real numbers. -/
theorem norm_row (q : ℕ) (hq : q < 32) (h : Fin 8) (t : Fin 128) (c : Fin 256) (R : ℝ) :
    (accEnd (BitVec.ofNat 32 q) (BitVec.ofNat 32 (q / 2)) v1 v3 C K (q / 2)).a (ix2 ⟨128 * h.val + t.val, by omega⟩ c)
        * k0_pay65 (accEnd (BitVec.ofNat 32 q) (BitVec.ofNat 32 (q / 2)) v1 v3 C K (q / 2)).l (ix2 ⟨128 * h.val + t.val, by omega⟩ c)
      = ((∑ k ∈ Finset.range 4096, vR C k c * (E (sR v1 v3 C K ⟨128 * h.val + t.val, by omega⟩) (128 * q + t.val) R k
          / ∑ k ∈ Finset.range 4096, E (sR v1 v3 C K ⟨128 * h.val + t.val, by omega⟩) (128 * q + t.val) R k) : ℝ) : EReal) := by
  have ht := t.isLt
  rcases accEnd_row v1 v3 C K h1 h3 hC hK q hq h t with ⟨h0, -⟩ | ⟨M, -, hl, ha⟩
  · omega
  · have hN : 128 * q + t.val < 256 * (q / 2 + 1) := by omega
    have hpos : ∑ k ∈ Finset.range (256 * (q / 2 + 1)), W (sR v1 v3 C K ⟨128 * h.val + t.val, by omega⟩) (128 * q + t.val) M k ≠ 0 := by
      simp only [W_eq _ _ M R]
      rw [← Finset.mul_sum]
      exact mul_ne_zero (Real.exp_pos _).ne' (E_sum_pos _ _ _ _ (by omega)).ne'
    rw [pay65_at]
    refine (congrArg₂ (fun x y => x * Ideal.div 1 y) (ha c) (hl (lane c))).trans ?_
    rw [Ideal.div_coe hpos, one_mul, ← EReal.coe_mul]
    exact congrArg _ (normalised _ _ (fun k => vR C k c) M R _ 4096 hN (by omega))
end

end Cert.KernelIdeal.V

end
-- ==== Proof.V.Host.lean ====
module

public import proofs.«01_k».proof.Proof.V.Row
public import proofs.«01_k».proof.Proof.Gen.KernelIdeal.Frame

@[expose] public section

set_option maxRecDepth 16384

noncomputable section

/-! # The matrix the call is given: the heads' value projections, each in its own columns -/

namespace Cert.KernelIdeal.V

open Idealize.ShloMosaic Idealize.ShloMosaic.TcCoe Cert.KernelIdeal Gen Cert.Online

/-- A column's head, as the host computes it. -/
def headCol : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- The matrix, as the host computes it. -/
def hostMat (x4 : Vec Ideal S256x8x64 .f32) : Vec Ideal S8x256x512 .bf16 :=
  truncf .bf16 (select
    (broadcastInDim S8x256x512 ![0, 1, 2] bcast_S8x1x512_S8x256x512_0_1_2
      (cmpi .eq (broadcastInDim S8x1x512 ![0, 1, 2] bcast_S1x1x512_S8x1x512_0_1_2 (broadcastInDim S1x1x512 ![2] bcast_S512_S1x1x512_2 headCol))
        (broadcastInDim S8x1x512 ![0, 1, 2] bcast_S8x1x1_S8x1x512_0_1_2 (broadcastInDim S8x1x1 ![0] bcast_S8_S8x1x1_0 (iotaInDim S8 32 0)))))
    (broadcastInDim S8x256x512 ![0, 1, 2] bcast_S1x256x512_S8x256x512_0_1_2
      (broadcastInDim S1x256x512 ![1, 2] bcast_S256x512_S1x256x512_1_2 (shapeCast S256x512 x4 shapeCasts_S256x8x64_S256x512)))
    (broadcastInDim S8x256x512 ![] bcast_S_S8x256x512 (constant (F := Ideal) S_ .f32 0x00000000#32))) bitsLt_bf16_f32

set_option maxHeartbeats 2000000 in
theorem V_mat (m : (ℓ : Loc nD τ sig) → Buf (Elt Ideal) ℓ) (c : Dev nD) :
    V m c main_v11 = hostMat (m ((c : Thread nD τ).loc main_arg4)) := by
  unfold V
  simp only [hostOps0, hostOps0_1, hostOps0_2, hostOps0_3, hostOps0_4, List.flatten_cons, List.flatten_nil, List.append_nil, List.cons_append,
      List.nil_append, StableHlo.TRef.ternary, StableHlo.TRef.binary, StableHlo.TRef.nullary, StableHlo.TRef.unary, StableHlo.TRef.toBuf, StableHlo.TRef.ofBuf, cast_eq]
  after_results_simp <;> rfl

theorem headCol_at : ∀ j : Fin 512, headCol (ix1 j) = BitVec.ofNat 32 (j.val / 64) := by decide +kernel

theorem hostMat_at (x4 : Vec Ideal S256x8x64 .f32) (h : Fin 8) (c : Fin 256) (j : Fin 512) :
    hostMat x4 (ix3 h c j) = if j.val / 64 = h.val then x4 (ix3 c ⟨j.val / 64, by omega⟩ ⟨j.val % 64, by omega⟩) else 0 := by
  have e := headCol_at j
  unfold hostMat
  generalize headCol = H at e ⊢
  pointwise
  rw [e]
  by_cases hh : j.val / 64 = h.val
  · have hb : IntOp.cmpi .eq (BitVec.ofNat 32 (j.val / 64)) (BitVec.ofNat 32 h.val) = 1#1 := by rw [hh]; simp [IntOp.cmpi]
    rw [hb, if_pos hh]; rfl
  · have hne : BitVec.ofNat 32 (j.val / 64) ≠ BitVec.ofNat 32 h.val := fun hb => hh (by
      have := congrArg BitVec.toNat hb
      rw [BitVec.toNat_ofNat, BitVec.toNat_ofNat, Nat.mod_eq_of_lt (by omega), Nat.mod_eq_of_lt (by omega)] at this
      exact this)
    have hb : IntOp.cmpi .eq (BitVec.ofNat 32 (j.val / 64)) (BitVec.ofNat 32 h.val) = 0#1 := by
      show BitVec.ofBool (_ == _) = _; rw [beq_eq_false_iff_ne.2 hne]; rfl
    rw [hb, if_neg hh]; rfl

end Cert.KernelIdeal.V

end
-- ==== Proof.V.Layer.lean ====
module

public import proofs.«01_k».proof.Proof.V.Row

@[expose] public section

noncomputable section

/-! # The layer's attention in real numbers -/

namespace Cert.Layer

open Idealize.ShloMosaic Cert.Online Cert.KernelIdeal.V

/-- Token `t` of sequence `b`. -/
def tok (b : Fin 8) (t : Fin 4096) : Fin 32768 := ⟨4096 * b.val + t.val, by omega⟩

variable (x0 : (⟨3, ![8, 32768, 256]⟩ : Shape).Idx → EReal) (x1 : (⟨3, ![8, 32768, 32]⟩ : Shape).Idx → EReal)
  (x2 : (⟨2, ![32768, 256]⟩ : Shape).Idx → EReal) (x3 : (⟨2, ![32768, 32]⟩ : Shape).Idx → EReal)

/-- The score of a query against a key of its sequence, before the scale. -/
def sc (b h : Fin 8) (t : Fin 4096) (k : ℕ) : EReal :=
  (∑ c : Fin 256, x0 (ix3 h (tok b t) c) * x2 (ix2 (tok b (key k)) c))
    + ∑ d : Fin 32, x1 (ix3 h (tok b t) d) * x3 (ix2 (tok b (key k)) d)

/-- The same as a real number. -/
def scR (b h : Fin 8) (t : Fin 4096) (k : ℕ) : ℝ := (sc x0 x1 x2 x3 b h t k).toReal

/-- A latent as a real number. -/
def latR (b : Fin 8) (k : ℕ) (c : Fin 256) : ℝ := (x2 (ix2 (tok b (key k)) c)).toReal

/-- The attention's weighted latent, the exponentials taken after subtracting `R`. -/
def ctx (b h : Fin 8) (t : Fin 4096) (c : Fin 256) (R : ℝ) : ℝ :=
  ∑ k ∈ Finset.range 4096, latR x2 b k c * (E (scR x0 x1 x2 x3 b h t) t.val R k
    / ∑ k ∈ Finset.range 4096, E (scR x0 x1 x2 x3 b h t) t.val R k)

theorem sc_fin (h0 : ∀ i, Fin' (x0 i)) (h1 : ∀ i, Fin' (x1 i)) (h2 : ∀ i, Fin' (x2 i)) (h3 : ∀ i, Fin' (x3 i))
    (b h : Fin 8) (t : Fin 4096) (k : ℕ) : Fin' (sc x0 x1 x2 x3 b h t k) :=
  (Fin'.sum _ _ fun _ _ => (h0 _).mul (h2 _)).add (Fin'.sum _ _ fun _ _ => (h1 _).mul (h3 _))

end Cert.Layer

end
-- ==== Proof.V.Ref.lean ====
module

public import proofs.«01_k».proof.Proof.Gen.ReferenceIdeal.Read
public import proofs.«01_k».proof.Proof.V.Layer

@[expose] public section

noncomputable section

/-! # The reference's value, at an index -/

namespace Cert.ReferenceIdeal.V

open Idealize.ShloMosaic Cert.ReferenceIdeal Cert.ReferenceIdeal.Gen Cert.ReferenceIdeal.Read Cert.Online Cert.Layer

theorem ext2 {n0 n1 : ℕ} (i : (⟨2, ![n0, n1]⟩ : Shape).Idx) (a : Fin n0) (b : Fin n1)
    (h0 : (i 0).val = a.val) (h1 : (i 1).val = b.val) : i = ix2 a b := by
  funext d; apply Fin.ext
  match d with
  | ⟨0, _⟩ => exact h0
  | ⟨1, _⟩ => exact h1

theorem ext3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d; apply Fin.ext
  match d with
  | ⟨0, _⟩ => exact h0
  | ⟨1, _⟩ => exact h1
  | ⟨2, _⟩ => exact h2

theorem ext4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d := by
  funext e; apply Fin.ext
  match e with
  | ⟨0, _⟩ => exact h0
  | ⟨1, _⟩ => exact h1
  | ⟨2, _⟩ => exact h2
  | ⟨3, _⟩ => exact h3

variable (x0 : (⟨S8x32768x256, .bf16⟩ : BufTy).Contents (Elt Ideal)) (x1 : (⟨S8x32768x32, .bf16⟩ : BufTy).Contents (Elt Ideal))
  (x2 : (⟨S32768x256, .bf16⟩ : BufTy).Contents (Elt Ideal)) (x3 : (⟨S32768x32, .bf16⟩ : BufTy).Contents (Elt Ideal))
  (x4 : (⟨S256x8x64, .f32⟩ : BufTy).Contents (Elt Ideal))

theorem q_at (b h : Fin 8) (t : Fin 4096) (c : Fin 256) :
    val_main_v2 (F := Ideal) x0 (ix4 b t h c) = x0 (ix3 h (tok b t) c) := by
  have hb := b.isLt; have hh := h.isLt; have ht := t.isLt; have hc := c.isLt
  rw [val_main_v2_apply, val_main_v1_apply]
  refine congrArg x0 (ext3 _ _ _ _ ?_ ?_ ?_)
  · show (((h.val * 8 + b.val) * 4096 + t.val) * 256 + c.val) / 8388608 = h.val; omega
  · show (((h.val * 8 + b.val) * 4096 + t.val) * 256 + c.val) / 256 % 32768 = 4096 * b.val + t.val; omega
  · show (((h.val * 8 + b.val) * 4096 + t.val) * 256 + c.val) % 256 = c.val; omega

theorem qr_at (b h : Fin 8) (t : Fin 4096) (c : Fin 32) :
    val_main_v5 (F := Ideal) x1 (ix4 b t h c) = x1 (ix3 h (tok b t) c) := by
  have hb := b.isLt; have hh := h.isLt; have ht := t.isLt; have hc := c.isLt
  rw [val_main_v5_apply, val_main_v4_apply]
  refine congrArg x1 (ext3 _ _ _ _ ?_ ?_ ?_)
  · show (((h.val * 8 + b.val) * 4096 + t.val) * 32 + c.val) / 1048576 = h.val; omega
  · show (((h.val * 8 + b.val) * 4096 + t.val) * 32 + c.val) / 32 % 32768 = 4096 * b.val + t.val; omega
  · show (((h.val * 8 + b.val) * 4096 + t.val) * 32 + c.val) % 32 = c.val; omega

theorem lat_at (b : Fin 8) (s : Fin 4096) (c : Fin 256) :
    val_main_v7 (F := Ideal) x2 (ix3 b s c) = x2 (ix2 (tok b s) c) := by
  have hb := b.isLt; have ht := s.isLt; have hc := c.isLt
  rw [val_main_v7_apply]
  refine congrArg x2 (ext2 _ _ _ ?_ ?_)
  · show ((b.val * 4096 + s.val) * 256 + c.val) / 256 = 4096 * b.val + s.val; omega
  · show ((b.val * 4096 + s.val) * 256 + c.val) % 256 = c.val; omega

theorem kr_at (b : Fin 8) (s : Fin 4096) (c : Fin 32) :
    val_main_v9 (F := Ideal) x3 (ix3 b s c) = x3 (ix2 (tok b s) c) := by
  have hb := b.isLt; have ht := s.isLt; have hc := c.isLt
  rw [val_main_v9_apply]
  refine congrArg x3 (ext2 _ _ _ ?_ ?_)
  · show ((b.val * 4096 + s.val) * 32 + c.val) / 32 = 4096 * b.val + s.val; omega
  · show ((b.val * 4096 + s.val) * 32 + c.val) % 32 = c.val; omega

theorem key_val (s : Fin 4096) : KernelIdeal.V.key s.val = s := Fin.ext (Nat.mod_eq_of_lt s.isLt)

/-- The scores, before the scale. -/
theorem v15_at (b h : Fin 8) (t s : Fin 4096) :
    val_main_v15 (F := Ideal) x0 x1 x2 x3 (ix4 b h t s) = sc x0 x1 x2 x3 b h t s.val := by
  rw [val_main_v15_apply, val_main_v12_apply, val_main_v14_apply, val_main_v11_apply, val_main_v13_apply]
  unfold sc
  rw [key_val]
  refine congrArg₂ (fun a b : EReal => a + b) (Finset.sum_congr rfl fun c _ => ?_) (Finset.sum_congr rfl fun c _ => ?_)
  · rw [ext3 (lidx_main_v11 (idx_main_v12 (ix4 b h t s)) c) b s c rfl rfl rfl, ext4 (ridx_main_v11 (idx_main_v12 (ix4 b h t s)) c) b t h c rfl rfl rfl rfl,
      q_at, lat_at]
    exact mul_comm _ _
  · rw [ext3 (lidx_main_v13 (idx_main_v14 (ix4 b h t s)) c) b s c rfl rfl rfl, ext4 (ridx_main_v13 (idx_main_v14 (ix4 b h t s)) c) b t h c rfl rfl rfl rfl,
      qr_at, kr_at]
    exact mul_comm _ _

theorem ofBits_scale : Ideal.ofBits .f32 0x3DD105EC#32 = ((κs : ℝ) : EReal) := by
  unfold κs
  simp [Ideal.ofBits, Ideal.ieee, -EReal.coe_mul]
  norm_num

theorem cmp_at : ∀ t s : Fin 4096, IntOp.cmpi .sle (BitVec.ofNat 32 s.val) (BitVec.ofNat 32 t.val) = if s.val ≤ t.val then 1#1 else 0#1 := by
  intro t s
  have ht := t.isLt; have hs := s.isLt
  have e : ∀ n : ℕ, n < 4096 → (BitVec.ofNat 32 n).toInt = (n : ℤ) := fun n hn => by
    rw [BitVec.toInt_eq_toNat_of_lt, BitVec.toNat_ofNat, Nat.mod_eq_of_lt (by omega)]
    rw [BitVec.toNat_ofNat, Nat.mod_eq_of_lt (by omega)]; omega
  show BitVec.ofBool (BitVec.sle _ _) = _
  rw [BitVec.sle_eq_decide, e _ ht, e _ hs]
  by_cases h : s.val ≤ t.val
  · rw [if_pos h, decide_eq_true (by omega)]; rfl
  · rw [if_neg h, decide_eq_false (by omega)]; rfl

variable (h0 : ∀ i, Fin' (x0 i)) (h1 : ∀ i, Fin' (x1 i)) (h2 : ∀ i, Fin' (x2 i)) (h3 : ∀ i, Fin' (x3 i))
include h0 h1 h2 h3

/-- The scores, scaled and masked. -/
theorem v23_at (b h : Fin 8) (t s : Fin 4096) :
    val_main_v23 (F := Ideal) x0 x1 x2 x3 (ix4 b h t s)
      = if s.val ≤ t.val then ((scR x0 x1 x2 x3 b h t s.val * κs : ℝ) : EReal) else ⊥ := by
  have em : val_main_call0_v1 (F := Ideal) (ix4 b h t s) = if s.val ≤ t.val then 1#1 else 0#1 := by
    rw [val_main_call0_v1_apply, val_main_v22_apply, val_main_v20_apply, val_main_v21_apply, val_main_v18_apply, val_main_v19_apply]
    exact cmp_at t s
  rw [val_main_v23_apply, em]
  by_cases hh : s.val ≤ t.val
  · rw [if_pos hh, if_pos hh]
    show val_main_v17 (F := Ideal) x0 x1 x2 x3 (ix4 b h t s) = _
    rw [val_main_v17_apply, v15_at, val_main_v16_apply, val_main_cst_apply, (sc_fin x0 x1 x2 x3 h0 h1 h2 h3 b h t s.val).eq, EReal.coe_mul]
    exact congrArg _ ofBits_scale
  · rw [if_neg hh, if_neg hh]
    show val_main_call0_v2 (F := Ideal) (ix4 b h t s) = _
    rw [val_main_call0_v2_apply, val_main_call0_v0_apply, val_main_cst_0_apply]
    exact KernelIdeal.V.ofBits_ninf

/-- A row's greatest score is a real number. -/
theorem v26_fin (b h : Fin 8) (t : Fin 4096) : Fin' (val_main_v26 (F := Ideal) x0 x1 x2 x3 (ix3 b h t)) := by
  rw [val_main_v26_apply, val_main_v25_apply, val_main_cst_2_apply]
  show Fin' (max (Ideal.ofBits .f32 0xFF800000#32) _)
  rw [KernelIdeal.V.ofBits_ninf, max_eq_right bot_le]
  unfold val_main_v24
  have hr : S8x8x4096x4096.Reduces [3] S8x8x4096 := by decide
  rw [Host.reduce_eq_fold_single FloatOps.maximumf _ _ _ hr]
  have hx : ∀ k : Fin 4096, (val_main_v23 (F := Ideal) x0 x1 x2 x3 ∘ hr.lift (ix3 b h t)) k
      = if k.val ≤ t.val then ((scR x0 x1 x2 x3 b h t k.val * κs : ℝ) : EReal) else ⊥ := fun k => by
    rw [← v23_at x0 x1 x2 x3 h0 h1 h2 h3]
    exact congrArg (val_main_v23 (F := Ideal) x0 x1 x2 x3) (ext4 _ _ _ _ _ rfl rfl rfl rfl)
  have hi : val_main_cst_1 (F := Ideal) (Shape.Idx.first h_S_) = (⊥ : EReal) := KernelIdeal.V.ofBits_ninf
  rw [hi]
  refine fold_max_fin _ _ (fun k _ => ?_) (⟨0, by norm_num⟩ : Fin 4096) (Finset.mem_univ _) ?_
  · by_cases hk : k.val ≤ t.val
    · exact Or.inl ⟨_, (hx k).trans (if_pos hk)⟩
    · exact Or.inr ((hx k).trans (if_neg hk))
  · exact ⟨_, (hx _).trans (if_pos (Nat.zero_le _))⟩

/-- The weighted latents of a row, for the shift the reference takes. -/
theorem ctx_at (b h : Fin 8) (t : Fin 4096) : ∃ R : ℝ, ∀ c : Fin 256,
    val_main_v36 (F := Ideal) x0 x1 x2 x3 (ix4 b t h c) = (ctx x0 x1 x2 x3 b h t c R : EReal) := by
  obtain ⟨R, hR⟩ := v26_fin x0 x1 x2 x3 h0 h1 h2 h3 b h t
  have h30 : ∀ s : Fin 4096, val_main_v30 (F := Ideal) x0 x1 x2 x3 (ix4 b h t s) = (E (scR x0 x1 x2 x3 b h t) t.val R s.val : EReal) := fun s => by
    rw [val_main_v30_apply, val_main_v29_apply, v23_at x0 x1 x2 x3 h0 h1 h2 h3, val_main_v28_apply, val_main_v27_apply,
      ext3 (idx_main_v27 (idx_main_v28 (ix4 b h t s))) b h t rfl rfl rfl, hR]
    show Ideal.exp (_ - (R : EReal)) = _
    unfold E
    split
    · rw [← EReal.coe_sub]; rfl
    · rw [show (⊥ : EReal) - (R : EReal) = ⊥ from EReal.bot_sub _]; rfl
  have hsum : ∑ s : Fin 4096, (E (scR x0 x1 x2 x3 b h t) t.val R s.val : EReal)
      = ((∑ k ∈ Finset.range 4096, E (scR x0 x1 x2 x3 b h t) t.val R k : ℝ) : EReal) := by
    rw [coe_sum, Finset.sum_range]
  have hpos := E_sum_pos (scR x0 x1 x2 x3 b h t) t.val R 4096 (by norm_num)
  have h31 : val_main_v31 (F := Ideal) x0 x1 x2 x3 (ix3 b h t) = ((∑ k ∈ Finset.range 4096, E (scR x0 x1 x2 x3 b h t) t.val R k : ℝ) : EReal) := by
    rw [val_main_v31_apply, val_main_cst_3_apply, ← hsum]
    refine (congrArg₂ (fun a b : EReal => a + b) Ideal.ofBits_zero_f32 (Finset.sum_congr rfl fun s _ => ?_)).trans (zero_add _)
    rw [← h30]
    exact congrArg (val_main_v30 (F := Ideal) x0 x1 x2 x3) (ext4 _ _ _ _ _ rfl rfl rfl rfl)
  refine ⟨R, fun c => ?_⟩
  rw [val_main_v36_apply, val_main_v35_apply]
  unfold ctx
  rw [coe_sum, Finset.sum_range]
  refine Finset.sum_congr rfl fun s _ => ?_
  rw [ext3 (lidx_main_v35 (idx_main_v36 (ix4 b t h c)) s) b s c rfl rfl rfl, ext4 (ridx_main_v35 (idx_main_v36 (ix4 b t h c)) s) b h t s rfl rfl rfl rfl,
    lat_at, val_main_v34_apply, h30, val_main_v33_apply, val_main_v32_apply,
    ext3 (idx_main_v32 (idx_main_v33 (ix4 b h t s))) b h t rfl rfl rfl, h31, (h2 (ix2 (tok b s) c)).eq, EReal.coe_mul]
  refine congrArg₂ (fun a b : EReal => a * b) ?_ ?_
  · unfold latR; rw [key_val]
  · show Ideal.div _ _ = _
    rw [Ideal.div_coe hpos.ne', ← EReal.coe_mul, mul_one_div]

omit h0 h1 h2 h3 in
/-- A result of the reference, from the weighted latents. -/
theorem out_at (b h : Fin 8) (t : Fin 4096) (v : Fin 64) :
    val_main_v39 (F := Ideal) x0 x1 x2 x3 x4 (ix2 (tok b t) (⟨64 * h.val + v.val, by omega⟩ : Fin 512))
      = ∑ c : Fin 256, x4 (ix3 c h v) * val_main_v36 (F := Ideal) x0 x1 x2 x3 (ix4 b t h c) := by
  have hb := b.isLt; have hh := h.isLt; have ht := t.isLt; have hv := v.isLt
  have e : idx_main_v39 (ix2 (tok b t) (⟨64 * h.val + v.val, by omega⟩ : Fin 512)) = ix4 b t h v := by
    refine ext4 _ _ _ _ _ ?_ ?_ ?_ ?_
    · show ((4096 * b.val + t.val) * 512 + (64 * h.val + v.val)) / 2097152 = b.val; omega
    · show ((4096 * b.val + t.val) * 512 + (64 * h.val + v.val)) / 512 % 4096 = t.val; omega
    · show ((4096 * b.val + t.val) * 512 + (64 * h.val + v.val)) / 64 % 8 = h.val; omega
    · show ((4096 * b.val + t.val) * 512 + (64 * h.val + v.val)) % 64 = v.val; omega
  rw [val_main_v39_apply, e, val_main_v38_apply, val_main_v37_apply]
  refine Finset.sum_congr rfl fun c _ => ?_
  rw [ext3 (lidx_main_v37 (idx_main_v38 (ix4 b t h v)) c) c h v rfl rfl rfl, ext4 (ridx_main_v37 (idx_main_v38 (ix4 b t h v)) c) b t h c rfl rfl rfl rfl]

end Cert.ReferenceIdeal.V

end
-- ==== Proof.V.Out.lean ====
module

public import proofs.«01_k».proof.Proof.V.Host
public import proofs.«01_k».proof.Proof.V.Ref
public import proofs.«01_k».proof.Proof.PI.Run
public import Idealize.ShloMosaic.Lib.Pipeline.Value

@[expose] public section

set_option maxRecDepth 16384

noncomputable section

/-! # What the kernel's result array ends holding -/

namespace Cert.KernelIdeal.V

open Idealize.ShloMosaic Idealize.ShloMosaic.TcCoe Idealize.SL.Sem Cert.KernelIdeal Gen Cert.Online Cert.Layer
open Idealize.ShloMosaic.Pipeline (Dat)
open Cert.ReferenceIdeal.V (ext2 ext3 ext4)

variable (m : (ℓ : Loc nD τ sig) → Buf (Elt Ideal) ℓ) (ρ : Dev nD → PrngReg) (c : Dev nD)

/-- The arguments' arrays. -/
abbrev a0 : (⟨S8x32768x256, .bf16⟩ : BufTy).Contents (Elt Ideal) := m ((c : Thread nD τ).loc main_arg0)
abbrev a1 : (⟨S8x32768x32, .bf16⟩ : BufTy).Contents (Elt Ideal) := m ((c : Thread nD τ).loc main_arg1)
abbrev a2 : (⟨S32768x256, .bf16⟩ : BufTy).Contents (Elt Ideal) := m ((c : Thread nD τ).loc main_arg2)
abbrev a3 : (⟨S32768x32, .bf16⟩ : BufTy).Contents (Elt Ideal) := m ((c : Thread nD τ).loc main_arg3)
abbrev a4 : (⟨S256x8x64, .f32⟩ : BufTy).Contents (Elt Ideal) := m ((c : Thread nD τ).loc main_arg4)

/-! ## The windows' blocks -/

theorem lt_N (t : Fin cfg0.N) : t.val < 256 := lt_of_lt_of_eq t.isLt Gen.N_0
/-- The sequence of a grid point, and its block of queries. -/
def seqOf (t : Fin cfg0.N) : Fin 8 := ⟨t.val / 32, by have := lt_N t; omega⟩
def qTok (t : Fin cfg0.N) (r : Fin 128) : Fin 4096 := ⟨128 * (t.val % 32) + r.val, by omega⟩

theorem coord1 : ∀ t : Fin grid0.N, (grid0.coords t 1).val = t.val % 32 := by decide +kernel
theorem index0 : ∀ t : Fin grid0.N, win0_0.index t 0 = 0 ∧ win0_0.index t 1 = t.val ∧ win0_0.index t 2 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = t.val / 32 ∧ win0_2.index t 1 = 0 := by decide +kernel
theorem index3 : ∀ t : Fin grid0.N, win0_3.index t 0 = t.val / 32 ∧ win0_3.index t 1 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = t.val ∧ win0_5.index t 1 = 0 := by decide +kernel
theorem xsize5 : ∀ t : Fin grid0.N, win0_5.xsize (grid0.coords t) 0 = 128 ∧ win0_5.xsize (grid0.coords t) 1 = 512 := by decide +kernel

theorem blk0 (t : Fin cfg0.N) (h : Fin 8) (r : Fin 128) (d : Fin 256) :
    (iblk m c 0 t : Vec Ideal S8x128x256 .bf16) (ix3 h r d) = a0 m c (ix3 h (tok (seqOf t) (qTok t r)) d) := by
  obtain ⟨i0, i1, i2⟩ := index0 t
  unfold iblk
  rw [View.read_apply]
  show V m c main_arg0 _ = _
  rw [V_main_arg0]
  refine congrArg (a0 m c) (ext3 _ _ _ _ ?_ ?_ ?_)
  · show win0_0.index t 0 * 8 + 1 * h.val = h.val; rw [i0]; omega
  · show win0_0.index t 1 * 128 + 1 * r.val = 4096 * (t.val / 32) + (128 * (t.val % 32) + r.val); rw [i1]; omega
  · show win0_0.index t 2 * 256 + 1 * d.val = d.val; rw [i2]; omega

theorem blk1 (t : Fin cfg0.N) (h : Fin 8) (r : Fin 128) (d : Fin 32) :
    (iblk m c 1 t : Vec Ideal S8x128x32 .bf16) (ix3 h r d) = a1 m c (ix3 h (tok (seqOf t) (qTok t r)) d) := by
  obtain ⟨i0, i1, i2⟩ := index1 t
  unfold iblk
  rw [View.read_apply]
  show V m c main_arg1 _ = _
  rw [V_main_arg1]
  refine congrArg (a1 m c) (ext3 _ _ _ _ ?_ ?_ ?_)
  · show win0_1.index t 0 * 8 + 1 * h.val = h.val; rw [i0]; omega
  · show win0_1.index t 1 * 128 + 1 * r.val = 4096 * (t.val / 32) + (128 * (t.val % 32) + r.val); rw [i1]; omega
  · show win0_1.index t 2 * 32 + 1 * d.val = d.val; rw [i2]; omega

theorem blk2 (t : Fin cfg0.N) (k : Fin 4096) (d : Fin 256) :
    (iblk m c 2 t : Vec Ideal S4096x256 .bf16) (ix2 k d) = a2 m c (ix2 (tok (seqOf t) k) d) := by
  obtain ⟨i0, i1⟩ := index2 t
  unfold iblk
  rw [View.read_apply]
  show V m c main_arg2 _ = _
  rw [V_main_arg2]
  refine congrArg (a2 m c) (ext2 _ _ _ ?_ ?_)
  · show win0_2.index t 0 * 4096 + 1 * k.val = 4096 * (t.val / 32) + k.val; rw [i0]; omega
  · show win0_2.index t 1 * 256 + 1 * d.val = d.val; rw [i1]; omega

theorem blk3 (t : Fin cfg0.N) (k : Fin 4096) (d : Fin 32) :
    (iblk m c 3 t : Vec Ideal S4096x32 .bf16) (ix2 k d) = a3 m c (ix2 (tok (seqOf t) k) d) := by
  obtain ⟨i0, i1⟩ := index3 t
  unfold iblk
  rw [View.read_apply]
  show V m c main_arg3 _ = _
  rw [V_main_arg3]
  refine congrArg (a3 m c) (ext2 _ _ _ ?_ ?_)
  · show win0_3.index t 0 * 4096 + 1 * k.val = 4096 * (t.val / 32) + k.val; rw [i0]; omega
  · show win0_3.index t 1 * 32 + 1 * d.val = d.val; rw [i1]; omega

theorem blk4 (t : Fin cfg0.N) (h : Fin 8) (d : Fin 256) (j : Fin 512) :
    (iblk m c 4 t : Vec Ideal S8x256x512 .bf16) (ix3 h d j) = hostMat (a4 m c) (ix3 h d j) := by
  obtain ⟨i0, i1, i2⟩ := index4 t
  unfold iblk
  rw [View.read_apply]
  show V m c main_v11 _ = _
  rw [V_mat]
  refine congrArg (hostMat (a4 m c)) (ext3 _ _ _ _ ?_ ?_ ?_)
  · show win0_4.index t 0 * 8 + 1 * h.val = h.val; rw [i0]; omega
  · show win0_4.index t 1 * 256 + 1 * d.val = d.val; rw [i1]; omega
  · show win0_4.index t 2 * 512 + 1 * j.val = j.val; rw [i2]; omega

/-! ## A block of the result -/

theorem fin_of2 {n0 n1 : ℕ} (f : (⟨2, ![n0, n1]⟩ : Shape).Idx → EReal) (h : ∀ (a : Fin n0) (b : Fin n1), Fin' (f (ix2 a b))) (i) : Fin' (f i) := by
  rw [ext2 i (i 0) (i 1) rfl rfl]; exact h _ _

theorem pay47_fin (Q : Vec Ideal S8x128x256 .bf16) (hQ : ∀ h r d, Fin' (Q (ix3 h r d))) (i : S1024x256.Idx) : Fin' (k0_pay47 Q i) := by
  refine fin_of2 (k0_pay47 Q) (fun a b => ?_) i
  have ha := a.isLt
  have ea : a = (⟨128 * (⟨a.val / 128, by omega⟩ : Fin 8).val + (⟨a.val % 128, by omega⟩ : Fin 128).val, by dsimp only; omega⟩ : Fin 1024) :=
    Fin.ext (by dsimp only; omega)
  have e := (congrArg (fun z => k0_pay47 Q (ix2 z b)) ea).trans (pay47_at Q ⟨a.val / 128, by omega⟩ ⟨a.val % 128, by omega⟩ b)
  rw [show k0_pay47 Q (ix2 a b) = _ from e]
  exact hQ _ _ _

theorem pay48_fin (Q : Vec Ideal S8x128x32 .bf16) (hQ : ∀ h r d, Fin' (Q (ix3 h r d))) (i : S1024x32.Idx) : Fin' (k0_pay48 Q i) := by
  refine fin_of2 (k0_pay48 Q) (fun a b => ?_) i
  have ha := a.isLt
  have ea : a = (⟨128 * (⟨a.val / 128, by omega⟩ : Fin 8).val + (⟨a.val % 128, by omega⟩ : Fin 128).val, by dsimp only; omega⟩ : Fin 1024) :=
    Fin.ext (by dsimp only; omega)
  have e := (congrArg (fun z => k0_pay48 Q (ix2 z b)) ea).trans (pay48_at Q ⟨a.val / 128, by omega⟩ ⟨a.val % 128, by omega⟩ b)
  rw [show k0_pay48 Q (ix2 a b) = _ from e]
  exact hQ _ _ _

/-- The reference's value on the kernel's arguments. -/
def G : (⟨S32768x512, .f32⟩ : BufTy).Contents (Elt Ideal) :=
  ReferenceIdeal.Read.val_main_v39 (F := Ideal) (a0 m c) (a1 m c) (a2 m c) (a3 m c) (a4 m c)

variable (h0 : ∀ i, Fin' (a0 m c i)) (h1 : ∀ i, Fin' (a1 m c i)) (h2 : ∀ i, Fin' (a2 m c i)) (h3 : ∀ i, Fin' (a3 m c i))

theorem score_blk (t : Fin cfg0.N) (h : Fin 8) (r : Fin 128) (k : ℕ) :
    score (k0_pay47 (iblk m c 0 t : Vec Ideal S8x128x256 .bf16)) (k0_pay48 (iblk m c 1 t : Vec Ideal S8x128x32 .bf16))
        (iblk m c 2 t : Vec Ideal S4096x256 .bf16) (iblk m c 3 t : Vec Ideal S4096x32 .bf16) ⟨128 * h.val + r.val, by omega⟩ k
      = sc (a0 m c) (a1 m c) (a2 m c) (a3 m c) (seqOf t) h (qTok t r) k := by
  unfold score sc
  refine congrArg₂ (fun a b : EReal => a + b) (Finset.sum_congr rfl fun d _ => ?_) (Finset.sum_congr rfl fun d _ => ?_)
  · rw [pay47_at, blk0, blk2]
  · rw [pay48_at, blk1, blk3]

include h0 h1 h2 h3

theorem block_at (t : Fin cfg0.N) (r : Fin 128) (h : Fin 8) (v : Fin 64) :
    out (grid0.coords t) (iblk m c 0 t : Vec Ideal S8x128x256 .bf16) (iblk m c 1 t : Vec Ideal S8x128x32 .bf16)
        (iblk m c 2 t : Vec Ideal S4096x256 .bf16) (iblk m c 3 t : Vec Ideal S4096x32 .bf16) (iblk m c 4 t : Vec Ideal S8x256x512 .bf16)
        (ix2 r (⟨64 * h.val + v.val, by omega⟩ : Fin 512))
      = G m c (ix2 (tok (seqOf t) (qTok t r)) (⟨64 * h.val + v.val, by omega⟩ : Fin 512)) := by
  have hv := v.isLt
  obtain ⟨R, hR⟩ := ReferenceIdeal.V.ctx_at (a0 m c) (a1 m c) (a2 m c) (a3 m c) h0 h1 h2 h3 (seqOf t) h (qTok t r)
  unfold G
  rw [ReferenceIdeal.V.out_at]
  simp only [hR]
  have hc1 : (grid0.coords t 1).val = t.val % 32 := coord1 t
  unfold out blockOut
  rw [hc1, V.out_at]
  have hq : t.val % 32 < 32 := Nat.mod_lt _ (by norm_num)
  have hn := norm_row (k0_pay47 (iblk m c 0 t : Vec Ideal S8x128x256 .bf16)) (k0_pay48 (iblk m c 1 t : Vec Ideal S8x128x32 .bf16))
    (iblk m c 2 t : Vec Ideal S4096x256 .bf16) (iblk m c 3 t : Vec Ideal S4096x32 .bf16)
    (pay47_fin _ fun _ _ _ => by rw [blk0]; exact h0 _) (pay48_fin _ fun _ _ _ => by rw [blk1]; exact h1 _)
    (fin_of2 _ fun _ _ => by rw [blk2]; exact h2 _)
    (fin_of2 _ fun _ _ => by rw [blk3]; exact h3 _) (t.val % 32) hq
  refine (Finset.sum_eq_single h (fun h' _ hne => ?_) fun hh => absurd (Finset.mem_univ _) hh).trans ?_
  · refine Finset.sum_eq_zero fun d _ => ?_
    rw [blk4, hostMat_at, if_neg (fun e : (64 * h.val + v.val) / 64 = h'.val => hne (Fin.ext (by omega))), mul_zero]
  · refine Finset.sum_congr rfl fun d _ => ?_
    rw [hn h r d R, blk4, hostMat_at, if_pos (show (64 * h.val + v.val) / 64 = h.val by omega), mul_comm]
    refine congrArg₂ (fun a b : EReal => a * b) (congrArg (a4 m c) (ext3 _ _ _ _ rfl ?_ ?_)) (congrArg _ ?_)
    · show (64 * h.val + v.val) / 64 = h.val; omega
    · show (64 * h.val + v.val) % 64 = v.val; omega
    · have es : sR (k0_pay47 (iblk m c 0 t : Vec Ideal S8x128x256 .bf16)) (k0_pay48 (iblk m c 1 t : Vec Ideal S8x128x32 .bf16))
          (iblk m c 2 t : Vec Ideal S4096x256 .bf16) (iblk m c 3 t : Vec Ideal S4096x32 .bf16) ⟨128 * h.val + r.val, by omega⟩
          = scR (a0 m c) (a1 m c) (a2 m c) (a3 m c) (seqOf t) h (qTok t r) :=
        funext fun k => congrArg EReal.toReal (score_blk m c t h r k)
      rw [es]
      unfold ctx
      refine Finset.sum_congr rfl fun k _ => ?_
      have ev : vR (iblk m c 2 t : Vec Ideal S4096x256 .bf16) k d = latR (a2 m c) (seqOf t) k d := congrArg EReal.toReal (blk2 m c t (key k) d)
      rw [ev]
      rfl

theorem flushed_eq (t : Fin cfg0.N) :
    (dats m 0 c).flushed 5 t = ((cfg0.win 5).blk t).view.read (Elt Ideal) (G m c) := by
  obtain ⟨i0, i1⟩ := index5 t
  show (cfg0.win 5).cut (grid0.coords t) ((dats m 0 c).after 5 t) = _
  rw [after0_5]
  funext j
  rw [View.read_apply]
  have hj0 : (j 0).val < 128 := lt_of_lt_of_eq (j 0).isLt (xsize5 t).1
  have hj1 : (j 1).val < 512 := lt_of_lt_of_eq (j 1).isLt (xsize5 t).2
  have e := block_at m c h0 h1 h2 h3 t ⟨(j 0).val, hj0⟩ ⟨(j 1).val / 64, by omega⟩ ⟨(j 1).val % 64, by omega⟩
  refine Eq.trans (congrArg (out (F := Ideal) (grid0.coords t) (iblk m c 0 t) (iblk m c 1 t) (iblk m c 2 t) (iblk m c 3 t) (iblk m c 4 t)) (ext2 _ _ _ ?_ ?_)) (e.trans (congrArg (G m c) (ext2 _ _ _ ?_ ?_).symm))
  · rfl
  · show (j 1).val = 64 * ((j 1).val / 64) + (j 1).val % 64; omega
  · show win0_5.index t 0 * 128 + 1 * (j 0).val = 4096 * (t.val / 32) + (128 * (t.val % 32) + (j 0).val); rw [i0]; omega
  · show win0_5.index t 1 * 512 + 1 * (j 1).val = 64 * ((j 1).val / 64) + (j 1).val % 64; rw [i1]; omega

theorem final_o : (dats m 0 c).arrAt 5 cfg0.N = G m c :=
  (dats m 0 c).arrAt_eq_of_cover 5 (G m c) (fun t _ => flushed_eq m c h0 h1 h2 h3 t) fun i => by
    have hi0 : (i 0).val < 32768 := (i 0).isLt
    have hi1 : (i 1).val < 512 := (i 1).isLt
    have hN : cfg0.N = 256 := Gen.N_0
    let t : Fin cfg0.N := ⟨(i 0).val / 128, by rw [hN]; omega⟩
    obtain ⟨i0, i1⟩ := index5 t
    obtain ⟨x0, x1⟩ := xsize5 t
    refine ⟨t, flush0_5 t, ?_⟩
    show i ∈ ((View.whole main_v12).slice (win0_5.rect t)).set
    rw [View.set_slice_whole, Rect.mem_set_unit]
    intro a
    match a with
    | ⟨0, _⟩ =>
      show win0_5.index t 0 * 128 ≤ (i 0).val ∧ (i 0).val < win0_5.index t 0 * 128 + win0_5.xsize (grid0.coords t) 0
      rw [i0, x0]; show (i 0).val / 128 * 128 ≤ _ ∧ _ < (i 0).val / 128 * 128 + 128; omega
    | ⟨1, _⟩ =>
      show win0_5.index t 1 * 512 ≤ (i 1).val ∧ (i 1).val < win0_5.index t 1 * 512 + win0_5.xsize (grid0.coords t) 1
      rw [i1, x1]; omega

end Cert.KernelIdeal.V

end
-- ==== Proof.V.Pre.lean ====
module

public import proofs.«01_k».proof.Proof.Gen.Pre_finite
public import proofs.«01_k».proof.Proof.V.Online
public import Idealize.ShloMosaic.Lib.ReduceAll
public import Idealize.ShloMosaic.Lib.Pointwise

@[expose] public section

noncomputable section

/-! # The precondition read back: every query, latent and rope key is a real number -/

namespace Cert.Pre_finite.V

open Idealize.ShloMosaic Cert.Pre_finite Facts Cert.Online

theorem ofBits_inf : Ideal.ofBits .f32 0x7F800000#32 = (⊤ : EReal) := by simp [Ideal.ofBits, Ideal.ieee]

theorem fin_of_lt (x : EReal) (h : Ideal.cmp .olt (max x (-x)) (Ideal.ofBits .f32 0x7F800000#32) = 1) : Fin' x := by
  rw [Ideal.cmp_olt_eq_one, ofBits_inf] at h
  induction x with
  | bot => simp at h
  | top => simp at h
  | coe r => exact ⟨r, rfl⟩

instance : Subsingleton S_.Idx := ⟨fun a b => funext fun d => d.elim0⟩

theorem fin_inputs (x0 : FVec Ideal S8x32768x256 .bf16) (x1 : FVec Ideal S8x32768x32 .bf16) (x2 : FVec Ideal S32768x256 .bf16)
    (x3 : FVec Ideal S32768x32 .bf16) (x4 : FVec Ideal S256x8x64 .f32) (h : fn (F := Ideal) x0 x1 x2 x3 x4 = fun _ => 1#1) :
    (∀ i, Fin' (x0 i)) ∧ (∀ i, Fin' (x1 i)) ∧ (∀ i, Fin' (x2 i)) ∧ ∀ i, Fin' (x3 i) := by
  have e := congrFun h (Shape.Idx.first h_S_)
  unfold fn fn_part1 at e
  obtain ⟨e, e3⟩ := IntOp.andi_eq_one.1 e
  obtain ⟨e, e2⟩ := IntOp.andi_eq_one.1 e
  obtain ⟨e0, e1⟩ := IntOp.andi_eq_one.1 e
  refine ⟨fun i => fin_of_lt _ ?_, fun i => fin_of_lt _ ?_, fun i => fin_of_lt _ ?_, fun i => fin_of_lt _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i

end Cert.Pre_finite.V

end
-- ==== Proof.V.Algebraic.lean ====
module

public import proofs.«01_k».proof.Defs
public import proofs.«01_k».proof.Proof.V.Out
public import proofs.«01_k».proof.Proof.V.Pre

@[expose] public section

noncomputable section

open Idealize.ShloMosaic Idealize.ShloMosaic.TcCoe Idealize.SL.Sem

namespace Cert.Proof.Claims

/-- On real inputs the kernel's result is the reference's. -/
theorem algebraic : Cert.algebraic_KernelIdeal_ReferenceIdeal_pre_finite := by
  intro m g m' g' hpre hagree
  refine ⟨fun c => Cert.KernelIdeal.V.G m c, ?_, ?_⟩
  · refine (θ_run Cert.KernelIdeal.defs _ _).mono (fun r h c => ?_)
      (θ_run_and (Cert.KernelIdeal.frame_run m g) (Cert.KernelIdeal.run m g))
    obtain ⟨f0, f1, f2, f3⟩ := Cert.Pre_finite.V.fin_inputs _ _ _ _ _ (hpre c)
    exact ⟨((h.2.1 c).1 5).trans (Cert.KernelIdeal.V.final_o m c f0 f1 f2 f3), h.1.1 c⟩
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4⟩ := hagree c
    rw [Cert.ReferenceIdeal.Read.val_main_v39_eq, e0, e1, e2, e3, e4]
    rfl

theorem frame_pi_finite : Cert.quiescent_KernelIdeal_pre_finite := fun m ρ _ => Cert.KernelIdeal.frame_run m ρ
theorem frame_ri_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof.Claims

end
-- ==== Proof.M.Spec.lean ====
module

public import Idealize.ShloMosaic.PureOps.Ideal.Laws

@[expose] public section

noncomputable section

/-! # A row of the layer's output, as a formula of the row's inputs and the weights -/

namespace Cert.MergeRow

open Idealize.ShloMosaic

/-- The row's width and the norm's shift, the values of their f32 words. -/
def width : EReal := Ideal.ofBits .f32 0x44800000#32
def shift : EReal := Ideal.ofBits .f32 0x358637BD#32

def sigm (z : EReal) : EReal := Ideal.div 1 (1 + Ideal.exp (0 - z))
def silu (z : EReal) : EReal := z * sigm z

/-- A row divided by its root mean square, times the norm's weights. -/
def rnorm (x g : Fin 1024 → EReal) (d : Fin 1024) : EReal :=
  x d * Ideal.rsqrt (Ideal.div (∑ k, x k * x k) width + shift) * g d

/-- A branch after its gate, projected: `off` is the first of the gate's columns, `goff` of the merge gate's. -/
def term (u : Fin 1024 → EReal) (b : Fin 512 → EReal) (wz : Fin 1024 → Fin 1536 → EReal) (wg : Fin 1024 → Fin 3072 → EReal)
    (w : Fin 512 → Fin 1024 → EReal) (i : Fin 3) (d : Fin 1024) : EReal :=
  sigm (∑ e, u e * wg e ⟨1024 * i.val + d.val, by omega⟩)
    * ∑ k : Fin 512, b k * silu (∑ e, u e * wz e ⟨512 * i.val + k.val, by omega⟩) * w k d

def merged (u : Fin 1024 → EReal) (b0 b1 b2 : Fin 512 → EReal) (wz : Fin 1024 → Fin 1536 → EReal)
    (wg : Fin 1024 → Fin 3072 → EReal) (w0 w1 w2 : Fin 512 → Fin 1024 → EReal) (d : Fin 1024) : EReal :=
  term u b0 wz wg w0 0 d + term u b1 wz wg w1 1 d + term u b2 wz wg w2 2 d

def layer (x : Fin 1024 → EReal) (b0 b1 b2 : Fin 512 → EReal) (g : Fin 1024 → EReal) (wz : Fin 1024 → Fin 1536 → EReal)
    (wg : Fin 1024 → Fin 3072 → EReal) (w0 w1 w2 : Fin 512 → Fin 1024 → EReal) (wo : Fin 1024 → Fin 1024 → EReal)
    (d : Fin 1024) : EReal :=
  x d + ∑ e, merged (rnorm x g) b0 b1 b2 wz wg w0 w1 w2 e * wo e d

def row (x : Fin 1024 → EReal) (b0 b1 b2 : Fin 512 → EReal) (g : Fin 1024 → EReal) (wz : Fin 1024 → Fin 1536 → EReal)
    (wg : Fin 1024 → Fin 3072 → EReal) (w0 w1 w2 : Fin 512 → Fin 1024 → EReal) (wo : Fin 1024 → Fin 1024 → EReal)
    (fg : Fin 1024 → EReal) : Fin 1024 → EReal :=
  rnorm (layer x b0 b1 b2 g wz wg w0 w1 w2 wo) fg

theorem sigm_neg (z : EReal) : Ideal.div 1 (1 + Ideal.exp (-z)) = sigm z := by
  unfold sigm; rw [sub_eq_add_neg, zero_add]

end Cert.MergeRow

end
-- ==== Proof.M.Pay.lean ====
module

public import proofs.«01_k».proof.Proof.M.Spec
public import proofs.«01_k».proof.Proof.Gen.MergeIdeal.Skeleton
public import Idealize.ShloMosaic.Lib.Pointwise
public import Idealize.ShloMosaic.PureOps.Reduce
public import Idealize.ShloMosaic.PureOps.IdealRules

@[expose] public section

noncomputable section

/-! # The merge's payloads, at an index -/

namespace Cert.MergeIdeal.M

open Idealize.ShloMosaic Cert.MergeIdeal Gen Cert.MergeRow

theorem pay1_at (v0 : Vec Ideal S256x1024 .f32) (v1 : Vec Ideal S1x1024 .f32) (r : Fin 256) (d : Fin 1024) :
    k0_pay1 v0 v1 (ix2 r d) = rnorm (fun d => v0 (ix2 r d)) (fun d => v1 (ix2 0 d)) d := by
  pointwise [k0_pay1]
  rfl

theorem pay2_at (v0 : Vec Ideal S256x1024 .f32) (v1 : Vec Ideal S1x1024 .f32) (w : Vec Ideal S1024x1536 .bf16) (r : Fin 256) (j : Fin 1536) :
    k0_pay2 v0 v1 w (ix2 r j) = ∑ e : Fin 1024, k0_pay1 v0 v1 (ix2 r e) * w (ix2 e j) := by
  pointwise [k0_pay2]

theorem pay3_at (v0 : Vec Ideal S256x1024 .f32) (v1 : Vec Ideal S1x1024 .f32) (w : Vec Ideal S1024x1536 .bf16) (b : Vec Ideal S256x512 .f32) (r : Fin 256) (k : Fin 512) :
    k0_pay3 v0 v1 w b (ix2 r k) = b (ix2 r k) * silu (k0_pay2 v0 v1 w (ix2 r ⟨512 * (0 : Fin 3).val + k.val, by omega⟩)) := by
  pointwise [k0_pay3]
  rfl

theorem pay4_at (v0 : Vec Ideal S256x1024 .f32) (v1 : Vec Ideal S1x1024 .f32) (w : Vec Ideal S1024x1024 .bf16) (r : Fin 256) (d : Fin 1024) :
    k0_pay4 v0 v1 w (ix2 r d) = 1 + Ideal.exp (0 - ∑ e : Fin 1024, k0_pay1 v0 v1 (ix2 r e) * w (ix2 e d)) := by
  pointwise [k0_pay4]

theorem pay5_at (u : FVec Ideal S256x1024 .bf16) (z : FVec Ideal S256x1536 .f32) (b0 : FVec Ideal S256x512 .bf16) (e0 : FVec Ideal S256x1024 .f32)
    (w0 : Vec Ideal S512x1024 .bf16) (b1 : Vec Ideal S256x512 .f32) (wg : Vec Ideal S1024x1024 .bf16) (w1 : Vec Ideal S512x1024 .bf16)
    (r : Fin 256) (d : Fin 1024) :
    k0_pay5 u z b0 e0 w0 b1 wg w1 (ix2 r d)
      = Ideal.div 1 (e0 (ix2 r d)) * (∑ k : Fin 512, b0 (ix2 r k) * w0 (ix2 k d))
        + sigm (∑ e : Fin 1024, u (ix2 r e) * wg (ix2 e d))
          * ∑ k : Fin 512, b1 (ix2 r k) * silu (z (ix2 r ⟨512 * (1 : Fin 3).val + k.val, by omega⟩)) * w1 (ix2 k d) := by
  pointwise [k0_pay5]
  rfl

theorem pay6_at (z : FVec Ideal S256x1536 .f32) (r : Fin 256) (k : Fin 512) :
    k0_pay6 z (ix2 r k) = z (ix2 r ⟨512 * (2 : Fin 3).val + k.val, by omega⟩) := by
  pointwise [k0_pay6]

theorem pay7_at (z : FVec Ideal S256x1536 .f32) (r : Fin 256) (k : Fin 512) :
    k0_pay7 z (ix2 r k) = Ideal.exp (0 - z (ix2 r ⟨512 * (2 : Fin 3).val + k.val, by omega⟩)) := by
  pointwise [k0_pay7, pay6_at]

theorem pay8_at (x : Vec Ideal S256x1024 .f32) (u : FVec Ideal S256x1024 .bf16) (s : FVec Ideal S256x1024 .f32) (b2 : Vec Ideal S256x512 .f32)
    (z e : FVec Ideal S256x512 .f32) (wg : Vec Ideal S1024x1024 .bf16) (w2 : Vec Ideal S512x1024 .bf16) (wo : Vec Ideal S1024x1024 .bf16)
    (fg : Vec Ideal S1x1024 .f32) (r : Fin 256) (d : Fin 1024) :
    k0_pay8 x u s b2 z e (Scalar.ofBits .f32 0x3F800000#32) wg w2 wo fg (ix2 r d)
      = rnorm (fun d => x (ix2 r d) + ∑ j : Fin 1024,
          (s (ix2 r j) + sigm (∑ e : Fin 1024, u (ix2 r e) * wg (ix2 e j))
            * ∑ k : Fin 512, b2 (ix2 r k) * (z (ix2 r k) * Ideal.div 1 (1 + e (ix2 r k))) * w2 (ix2 k j)) * wo (ix2 j d))
        (fun d => fg (ix2 0 d)) d := by
  pointwise [k0_pay8]
  rfl

end Cert.MergeIdeal.M

end
-- ==== Proof.M.Block.lean ====
module

public import proofs.«01_k».proof.Proof.M.Pay
public import proofs.«01_k».proof.Proof.Gen.MergeIdeal.Frame
public import Idealize.ShloMosaic.Lib.Pipeline.ValueKit

@[expose] public section

set_option maxRecDepth 16384

noncomputable section

/-! # A block of the merge's result, at an index -/

namespace Cert.MergeIdeal.M

open Idealize.ShloMosaic Cert.MergeIdeal Gen Cert.MergeRow

theorem off_zero : (![0, 0] : Fin 2 → ℕ) = fun _ => 0 := by funext a; match a with | ⟨0, _⟩ => rfl | ⟨1, _⟩ => rfl

/-! The loads of whole blocks. -/

theorem whole_r0_0 (x : Vec Ideal S256x1024 .f32) : View.ld x r0_0 = x := View.ld_unit_zero (S := S256x1024) off_zero _ x
theorem whole_r0_1 (x : Vec Ideal S1x1024 .f32) : View.ld x r0_1 = x := View.ld_unit_zero (S := S1x1024) off_zero _ x
theorem whole_r0_2 (x : Vec Ideal S1024x1536 .bf16) : View.ld x r0_2 = x := View.ld_unit_zero (S := S1024x1536) off_zero _ x
theorem whole_r0_3 (x : Vec Ideal S256x512 .f32) : View.ld x r0_3 = x := View.ld_unit_zero (S := S256x512) off_zero _ x
theorem whole_r0_5 (x : Vec Ideal S512x1024 .bf16) : View.ld x r0_5 = x := View.ld_unit_zero (S := S512x1024) off_zero _ x
theorem whole_r0_8 (x : Vec Ideal S1024x1024 .bf16) : View.ld x r0_8 = x := View.ld_unit_zero (S := S1024x1024) off_zero _ x

/-- A third of the merge gate's columns, as the body loads it. -/
theorem gate0 (w : Vec Ideal S1024x3072 .bf16) (e d : Fin 1024) : View.ld w r0_4 (ix2 e d) = w (ix2 e ⟨1024 * (0 : Fin 3).val + d.val, by omega⟩) :=
  View.ld_unit_apply_of w _ _ _ _ _ fun a => match a with
    | ⟨0, _⟩ => by show e.val = 0 + e.val; omega
    | ⟨1, _⟩ => by show 1024 * 0 + d.val = 0 + d.val; omega
theorem gate1 (w : Vec Ideal S1024x3072 .bf16) (e d : Fin 1024) : View.ld w r0_6 (ix2 e d) = w (ix2 e ⟨1024 * (1 : Fin 3).val + d.val, by omega⟩) :=
  View.ld_unit_apply_of w _ _ _ _ _ fun a => match a with
    | ⟨0, _⟩ => by show e.val = 0 + e.val; omega
    | ⟨1, _⟩ => by show 1024 * 1 + d.val = 1024 + d.val; omega
theorem gate2 (w : Vec Ideal S1024x3072 .bf16) (e d : Fin 1024) : View.ld w r0_7 (ix2 e d) = w (ix2 e ⟨1024 * (2 : Fin 3).val + d.val, by omega⟩) :=
  View.ld_unit_apply_of w _ _ _ _ _ fun a => match a with
    | ⟨0, _⟩ => by show e.val = 0 + e.val; omega
    | ⟨1, _⟩ => by show 1024 * 2 + d.val = 2048 + d.val; omega

theorem block_at (x0 : Vec Ideal S256x1024 .f32) (x1 x2 x3 : Vec Ideal S256x512 .f32) (x4 : Vec Ideal S1x1024 .f32)
    (x5 : Vec Ideal S1024x1536 .bf16) (x6 : Vec Ideal S1024x3072 .bf16) (x7 x8 x9 : Vec Ideal S512x1024 .bf16)
    (x10 : Vec Ideal S1024x1024 .bf16) (x11 : Vec Ideal S1x1024 .f32) (r : Fin 256) (d : Fin 1024) :
    out0_12 x0 x1 x2 x3 x4 x5 x6 x7 x8 x9 x10 x11 (ix2 r d)
      = row (fun e => x0 (ix2 r e)) (fun k => x1 (ix2 r k)) (fun k => x2 (ix2 r k)) (fun k => x3 (ix2 r k)) (fun e => x4 (ix2 0 e))
          (fun e j => x5 (ix2 e j)) (fun e j => x6 (ix2 e j)) (fun k j => x7 (ix2 k j)) (fun k j => x8 (ix2 k j)) (fun k j => x9 (ix2 k j))
          (fun e j => x10 (ix2 e j)) (fun e => x11 (ix2 0 e)) d := by
  unfold out0_12
  rw [View.canon_unit_zero off_zero]
  unfold k0_pay10 k0_pay9
  simp only [whole_r0_0, whole_r0_1, whole_r0_2, whole_r0_3, whole_r0_5, whole_r0_8]
  have g0 := gate0 x6
  have g1 := gate1 x6
  have g2 := gate2 x6
  generalize (View.ld x6 r0_4 : Vec Ideal S1024x1024 .bf16) = W0 at g0 ⊢
  generalize (View.ld x6 r0_6 : Vec Ideal S1024x1024 .bf16) = W1 at g1 ⊢
  generalize (View.ld x6 r0_7 : Vec Ideal S1024x1024 .bf16) = W2 at g2 ⊢
  rw [pay8_at]
  simp only [g0, g1, g2, pay7_at, pay6_at, pay5_at, pay4_at, pay3_at, pay2_at, pay1_at]
  rfl

end Cert.MergeIdeal.M

end
-- ==== Proof.M.Ref.lean ====
module

public import proofs.«01_k».proof.Proof.Gen.MergeReferenceIdeal.Read
public import proofs.«01_k».proof.Proof.M.Spec
public import proofs.«01_k».proof.Proof.V.Ref

@[expose] public section

noncomputable section

/-! # The merge reference's value, at an index -/

namespace Cert.MergeReferenceIdeal.M

open Idealize.ShloMosaic Cert.MergeReferenceIdeal Cert.MergeReferenceIdeal.Gen Cert.MergeReferenceIdeal.Read Cert.MergeRow
open Cert.ReferenceIdeal.V (ext2 ext3)

theorem ext1 {n : ℕ} (i : (⟨1, ![n]⟩ : Shape).Idx) (a : Fin n) (h : (i 0).val = a.val) : i = ix1 a := by
  funext d; apply Fin.ext
  match d with
  | ⟨0, _⟩ => exact h

variable (x0 : (⟨S32768x1024, .f32⟩ : BufTy).Contents (Elt Ideal)) (x1 x2 x3 : (⟨S32768x512, .f32⟩ : BufTy).Contents (Elt Ideal))
  (x4 : (⟨S1024, .f32⟩ : BufTy).Contents (Elt Ideal)) (x5 : (⟨S1024x1536, .f32⟩ : BufTy).Contents (Elt Ideal))
  (x6 : (⟨S1024x3072, .f32⟩ : BufTy).Contents (Elt Ideal)) (x7 x8 x9 : (⟨S512x1024, .f32⟩ : BufTy).Contents (Elt Ideal))
  (x10 : (⟨S1024x1024, .f32⟩ : BufTy).Contents (Elt Ideal)) (x11 : (⟨S1024, .f32⟩ : BufTy).Contents (Elt Ideal))

/-- The normed input. -/
theorem u_at (t : Fin 32768) (d : Fin 1024) :
    val_main_v12 (F := Ideal) x0 x4 (ix2 t d) = rnorm (fun e => x0 (ix2 t e)) (fun e => x4 (ix1 e)) d := by
  rw [val_main_v12_apply, val_main_v9_apply, val_main_v8_apply, val_main_v7_apply, val_main_v6_apply, val_main_v4_apply, val_main_v5_apply,
    val_main_v2_apply, val_main_v1_apply, val_main_v3_apply, val_main_cst_apply, val_main_cst_0_apply, val_main_cst_1_apply, val_main_v11_apply,
    val_main_v10_apply]
  have es : (FloatOps.ofBits (F := Ideal) .f32 0x00000000#32 : EReal)
      + ∑ k : Fin 1024, val_main_v0 (F := Ideal) x0 (idx_main_v1 (idx_main_v2 (idx_main_v8 (ix2 t d))) k)
      = ∑ k : Fin 1024, x0 (ix2 t k) * x0 (ix2 t k) := by
    refine (congrArg₂ (fun a b : EReal => a + b) Ideal.ofBits_zero_f32 (Finset.sum_congr rfl fun k _ => ?_)).trans (zero_add _)
    rw [val_main_v0_apply, ext2 (idx_main_v1 (idx_main_v2 (idx_main_v8 (ix2 t d))) k) t k rfl rfl]
    rfl
  rw [es, ext1 (idx_main_v10 (idx_main_v11 (ix2 t d))) d rfl]
  rfl

/-- The branches' gates, before the activation. -/
theorem z_at (t : Fin 32768) (j : Fin 1536) :
    val_main_v13 (F := Ideal) x0 x4 x5 (ix2 t j) = ∑ e : Fin 1024, rnorm (fun e => x0 (ix2 t e)) (fun e => x4 (ix1 e)) e * x5 (ix2 e j) := by
  rw [val_main_v13_apply]
  refine Finset.sum_congr rfl fun e _ => ?_
  rw [ext2 (lidx_main_v13 (ix2 t j) e) t e rfl rfl, ext2 (ridx_main_v13 (ix2 t j) e) e j rfl rfl, u_at]

/-- The merge's gates, before the activation. -/
theorem g_at (t : Fin 32768) (j : Fin 3072) :
    val_main_v23 (F := Ideal) x0 x4 x6 (ix2 t j) = ∑ e : Fin 1024, rnorm (fun e => x0 (ix2 t e)) (fun e => x4 (ix1 e)) e * x6 (ix2 e j) := by
  rw [val_main_v23_apply]
  refine Finset.sum_congr rfl fun e _ => ?_
  rw [ext2 (lidx_main_v23 (ix2 t j) e) t e rfl rfl, ext2 (ridx_main_v23 (ix2 t j) e) e j rfl rfl, u_at]

theorem gate_at (t : Fin 32768) (j : Fin 3072) :
    val_main_v29 (F := Ideal) x0 x4 x6 (ix2 t j) = sigm (val_main_v23 (F := Ideal) x0 x4 x6 (ix2 t j)) := by
  rw [val_main_v29_apply, val_main_v28_apply, val_main_v27_apply, val_main_v26_apply, val_main_v25_apply, val_main_v24_apply,
    val_main_cst_2_apply, val_main_cst_3_apply]
  refine Eq.trans ?_ (sigm_neg _)
  exact congrArg₂ (fun a b : EReal => Ideal.div a (b + Ideal.exp _)) Ideal.ofBits_one_f32 Ideal.ofBits_one_f32

theorem b0_at (t : Fin 32768) (k : Fin 512) :
    val_main_v18 (F := Ideal) x0 x1 x4 x5 (ix2 t k)
      = x1 (ix2 t k) * silu (val_main_v13 (F := Ideal) x0 x4 x5 (ix2 t ⟨512 * (0 : Fin 3).val + k.val, by omega⟩)) := by
  have hz : val_main_v14 (F := Ideal) x0 x4 x5 (ix2 t k)
      = val_main_v13 (F := Ideal) x0 x4 x5 (ix2 t ⟨512 * (0 : Fin 3).val + k.val, by omega⟩) := by
    rw [val_main_v14_apply]
    exact congrArg _ (ext2 _ _ _ rfl (by show k.val = 512 * 0 + k.val; omega))
  rw [val_main_v18_apply, val_main_v17_apply, val_main_call0_v5_apply, val_main_call0_v4_apply, val_main_call0_v3_apply, val_main_call0_v2_apply,
    val_main_call0_v1_apply, val_main_call0_v0_apply, val_main_call0_cst_apply, val_main_call0_cst_0_apply, hz]
  refine congrArg (fun y : EReal => x1 (ix2 t k) * (_ * y)) (Eq.trans ?_ (sigm_neg _))
  exact congrArg₂ (fun a b : EReal => Ideal.div a (b + Ideal.exp _)) Ideal.ofBits_one_f32 Ideal.ofBits_one_f32

theorem s0_at (t : Fin 32768) (d : Fin 1024) :
    val_main_v32 (F := Ideal) x0 x4 x6 (ix2 t d)
      = sigm (val_main_v23 (F := Ideal) x0 x4 x6 (ix2 t ⟨1024 * (0 : Fin 3).val + d.val, by omega⟩)) := by
  have ht := t.isLt; have hd := d.isLt
  rw [val_main_v32_apply, val_main_v31_apply, val_main_v30_apply, ← gate_at]
  refine congrArg _ (ext2 _ _ _ ?_ ?_)
  · show (((t.val * 1024 + d.val) / 1024 * 3 + 0) * 1024 + (t.val * 1024 + d.val) % 1024) / 3072 = t.val; omega
  · show (((t.val * 1024 + d.val) / 1024 * 3 + 0) * 1024 + (t.val * 1024 + d.val) % 1024) % 3072 = 1024 * 0 + d.val; omega

theorem t0_at (t : Fin 32768) (d : Fin 1024) :
    val_main_v34 (F := Ideal) x0 x1 x4 x5 x6 x7 (ix2 t d)
      = term (rnorm (fun e => x0 (ix2 t e)) (fun e => x4 (ix1 e))) (fun k => x1 (ix2 t k)) (fun e j => x5 (ix2 e j)) (fun e j => x6 (ix2 e j))
          (fun k j => x7 (ix2 k j)) 0 d := by
  rw [val_main_v34_apply, s0_at, val_main_v33_apply, g_at]
  refine congrArg (fun y : EReal => sigm _ * y) (Finset.sum_congr rfl fun k _ => ?_)
  rw [ext2 (lidx_main_v33 (ix2 t d) k) t k rfl rfl, ext2 (ridx_main_v33 (ix2 t d) k) k d rfl rfl, b0_at, z_at]

theorem b1_at (t : Fin 32768) (k : Fin 512) :
    val_main_v20 (F := Ideal) x0 x2 x4 x5 (ix2 t k)
      = x2 (ix2 t k) * silu (val_main_v13 (F := Ideal) x0 x4 x5 (ix2 t ⟨512 * (1 : Fin 3).val + k.val, by omega⟩)) := by
  have hz : val_main_v15 (F := Ideal) x0 x4 x5 (ix2 t k)
      = val_main_v13 (F := Ideal) x0 x4 x5 (ix2 t ⟨512 * (1 : Fin 3).val + k.val, by omega⟩) := by
    rw [val_main_v15_apply]
    exact congrArg _ (ext2 _ _ _ rfl (by show 512 + k.val = 512 * 1 + k.val; omega))
  rw [val_main_v20_apply, val_main_v19_apply, val_main_call1_v5_apply, val_main_call1_v4_apply, val_main_call1_v3_apply, val_main_call1_v2_apply,
    val_main_call1_v1_apply, val_main_call1_v0_apply, val_main_call1_cst_apply, val_main_call1_cst_0_apply, hz]
  refine congrArg (fun y : EReal => x2 (ix2 t k) * (_ * y)) (Eq.trans ?_ (sigm_neg _))
  exact congrArg₂ (fun a b : EReal => Ideal.div a (b + Ideal.exp _)) Ideal.ofBits_one_f32 Ideal.ofBits_one_f32

theorem s1_at (t : Fin 32768) (d : Fin 1024) :
    val_main_v36 (F := Ideal) x0 x4 x6 (ix2 t d)
      = sigm (val_main_v23 (F := Ideal) x0 x4 x6 (ix2 t ⟨1024 * (1 : Fin 3).val + d.val, by omega⟩)) := by
  have ht := t.isLt; have hd := d.isLt
  rw [val_main_v36_apply, val_main_v35_apply, val_main_v30_apply, ← gate_at]
  refine congrArg _ (ext2 _ _ _ ?_ ?_)
  · show (((t.val * 1024 + d.val) / 1024 * 3 + (1 + 0)) * 1024 + (t.val * 1024 + d.val) % 1024) / 3072 = t.val; omega
  · show (((t.val * 1024 + d.val) / 1024 * 3 + (1 + 0)) * 1024 + (t.val * 1024 + d.val) % 1024) % 3072 = 1024 * 1 + d.val; omega

theorem t1_at (t : Fin 32768) (d : Fin 1024) :
    val_main_v38 (F := Ideal) x0 x2 x4 x5 x6 x8 (ix2 t d)
      = term (rnorm (fun e => x0 (ix2 t e)) (fun e => x4 (ix1 e))) (fun k => x2 (ix2 t k)) (fun e j => x5 (ix2 e j)) (fun e j => x6 (ix2 e j))
          (fun k j => x8 (ix2 k j)) 1 d := by
  rw [val_main_v38_apply, s1_at, val_main_v37_apply, g_at]
  refine congrArg (fun y : EReal => sigm _ * y) (Finset.sum_congr rfl fun k _ => ?_)
  rw [ext2 (lidx_main_v37 (ix2 t d) k) t k rfl rfl, ext2 (ridx_main_v37 (ix2 t d) k) k d rfl rfl, b1_at, z_at]

theorem b2_at (t : Fin 32768) (k : Fin 512) :
    val_main_v22 (F := Ideal) x0 x3 x4 x5 (ix2 t k)
      = x3 (ix2 t k) * silu (val_main_v13 (F := Ideal) x0 x4 x5 (ix2 t ⟨512 * (2 : Fin 3).val + k.val, by omega⟩)) := by
  have hz : val_main_v16 (F := Ideal) x0 x4 x5 (ix2 t k)
      = val_main_v13 (F := Ideal) x0 x4 x5 (ix2 t ⟨512 * (2 : Fin 3).val + k.val, by omega⟩) := by
    rw [val_main_v16_apply]
    exact congrArg _ (ext2 _ _ _ rfl (by show 1024 + k.val = 512 * 2 + k.val; omega))
  rw [val_main_v22_apply, val_main_v21_apply, val_main_call2_v5_apply, val_main_call2_v4_apply, val_main_call2_v3_apply, val_main_call2_v2_apply,
    val_main_call2_v1_apply, val_main_call2_v0_apply, val_main_call2_cst_apply, val_main_call2_cst_0_apply, hz]
  refine congrArg (fun y : EReal => x3 (ix2 t k) * (_ * y)) (Eq.trans ?_ (sigm_neg _))
  exact congrArg₂ (fun a b : EReal => Ideal.div a (b + Ideal.exp _)) Ideal.ofBits_one_f32 Ideal.ofBits_one_f32

theorem s2_at (t : Fin 32768) (d : Fin 1024) :
    val_main_v41 (F := Ideal) x0 x4 x6 (ix2 t d)
      = sigm (val_main_v23 (F := Ideal) x0 x4 x6 (ix2 t ⟨1024 * (2 : Fin 3).val + d.val, by omega⟩)) := by
  have ht := t.isLt; have hd := d.isLt
  rw [val_main_v41_apply, val_main_v40_apply, val_main_v30_apply, ← gate_at]
  refine congrArg _ (ext2 _ _ _ ?_ ?_)
  · show (((t.val * 1024 + d.val) / 1024 * 3 + (2 + 0)) * 1024 + (t.val * 1024 + d.val) % 1024) / 3072 = t.val; omega
  · show (((t.val * 1024 + d.val) / 1024 * 3 + (2 + 0)) * 1024 + (t.val * 1024 + d.val) % 1024) % 3072 = 1024 * 2 + d.val; omega

theorem t2_at (t : Fin 32768) (d : Fin 1024) :
    val_main_v43 (F := Ideal) x0 x3 x4 x5 x6 x9 (ix2 t d)
      = term (rnorm (fun e => x0 (ix2 t e)) (fun e => x4 (ix1 e))) (fun k => x3 (ix2 t k)) (fun e j => x5 (ix2 e j)) (fun e j => x6 (ix2 e j))
          (fun k j => x9 (ix2 k j)) 2 d := by
  rw [val_main_v43_apply, s2_at, val_main_v42_apply, g_at]
  refine congrArg (fun y : EReal => sigm _ * y) (Finset.sum_congr rfl fun k _ => ?_)
  rw [ext2 (lidx_main_v42 (ix2 t d) k) t k rfl rfl, ext2 (ridx_main_v42 (ix2 t d) k) k d rfl rfl, b2_at, z_at]

/-- The layer's output before the last norm. -/
theorem layer_at (t : Fin 32768) (d : Fin 1024) :
    val_main_v46 (F := Ideal) x0 x1 x2 x3 x4 x5 x6 x7 x8 x9 x10 (ix2 t d)
      = layer (fun e => x0 (ix2 t e)) (fun k => x1 (ix2 t k)) (fun k => x2 (ix2 t k)) (fun k => x3 (ix2 t k)) (fun e => x4 (ix1 e))
          (fun e j => x5 (ix2 e j)) (fun e j => x6 (ix2 e j)) (fun k j => x7 (ix2 k j)) (fun k j => x8 (ix2 k j)) (fun k j => x9 (ix2 k j))
          (fun e j => x10 (ix2 e j)) d := by
  rw [val_main_v46_apply, val_main_v45_apply]
  refine congrArg (fun y : EReal => x0 (ix2 t d) + y) (Finset.sum_congr rfl fun e _ => ?_)
  rw [ext2 (lidx_main_v45 (ix2 t d) e) t e rfl rfl, ext2 (ridx_main_v45 (ix2 t d) e) e d rfl rfl, val_main_v44_apply, val_main_v39_apply, t0_at,
    t1_at, t2_at]
  rfl

/-- The result. -/
theorem row_at (t : Fin 32768) (d : Fin 1024) :
    val_main_v59 (F := Ideal) x0 x1 x2 x3 x4 x5 x6 x7 x8 x9 x10 x11 (ix2 t d)
      = row (fun e => x0 (ix2 t e)) (fun k => x1 (ix2 t k)) (fun k => x2 (ix2 t k)) (fun k => x3 (ix2 t k)) (fun e => x4 (ix1 e))
          (fun e j => x5 (ix2 e j)) (fun e j => x6 (ix2 e j)) (fun k j => x7 (ix2 k j)) (fun k j => x8 (ix2 k j)) (fun k j => x9 (ix2 k j))
          (fun e j => x10 (ix2 e j)) (fun e => x11 (ix1 e)) d := by
  rw [val_main_v59_apply, val_main_v56_apply, val_main_v55_apply, val_main_v54_apply, val_main_v53_apply, val_main_v51_apply, val_main_v52_apply,
    val_main_v49_apply, val_main_v48_apply, val_main_v50_apply, val_main_cst_4_apply, val_main_cst_5_apply, val_main_cst_6_apply, val_main_v58_apply,
    val_main_v57_apply]
  have es : (FloatOps.ofBits (F := Ideal) .f32 0x00000000#32 : EReal)
      + ∑ k : Fin 1024, val_main_v47 (F := Ideal) x0 x1 x2 x3 x4 x5 x6 x7 x8 x9 x10 (idx_main_v48 (idx_main_v49 (idx_main_v55 (ix2 t d))) k)
      = ∑ k : Fin 1024, val_main_v46 (F := Ideal) x0 x1 x2 x3 x4 x5 x6 x7 x8 x9 x10 (ix2 t k)
          * val_main_v46 (F := Ideal) x0 x1 x2 x3 x4 x5 x6 x7 x8 x9 x10 (ix2 t k) := by
    refine (congrArg₂ (fun a b : EReal => a + b) Ideal.ofBits_zero_f32 (Finset.sum_congr rfl fun k _ => ?_)).trans (zero_add _)
    rw [val_main_v47_apply, ext2 (idx_main_v48 (idx_main_v49 (idx_main_v55 (ix2 t d))) k) t k rfl rfl]
    rfl
  rw [es, ext1 (idx_main_v57 (idx_main_v58 (ix2 t d))) d rfl]
  simp only [layer_at]
  rfl

end Cert.MergeReferenceIdeal.M

end
-- ==== Proof.M.Out.lean ====
module

public import proofs.«01_k».proof.Proof.M.Block
public import proofs.«01_k».proof.Proof.M.Ref
public import Idealize.ShloMosaic.Lib.Pipeline.Value

@[expose] public section

set_option maxRecDepth 16384

noncomputable section

/-! # What the merge's result array ends holding -/

namespace Cert.MergeIdeal.M

open Idealize.ShloMosaic Idealize.ShloMosaic.TcCoe Idealize.SL.Sem Cert.MergeIdeal Gen Cert.MergeRow
open Idealize.ShloMosaic.Pipeline (Dat)
open Cert.ReferenceIdeal.V (ext2)
open Cert.MergeReferenceIdeal.M (ext1)

variable (m : (ℓ : Loc nD τ sig) → Buf (Elt Ideal) ℓ) (ρ : Dev nD → PrngReg) (c : Dev nD)

/-- The arguments' arrays. -/
abbrev a0 : (⟨S32768x1024, .f32⟩ : BufTy).Contents (Elt Ideal) := m ((c : Thread nD τ).loc main_arg0)
abbrev a1 : (⟨S32768x512, .f32⟩ : BufTy).Contents (Elt Ideal) := m ((c : Thread nD τ).loc main_arg1)
abbrev a2 : (⟨S32768x512, .f32⟩ : BufTy).Contents (Elt Ideal) := m ((c : Thread nD τ).loc main_arg2)
abbrev a3 : (⟨S32768x512, .f32⟩ : BufTy).Contents (Elt Ideal) := m ((c : Thread nD τ).loc main_arg3)
abbrev a4 : (⟨S1024, .f32⟩ : BufTy).Contents (Elt Ideal) := m ((c : Thread nD τ).loc main_arg4)
abbrev a5 : (⟨S1024x1536, .f32⟩ : BufTy).Contents (Elt Ideal) := m ((c : Thread nD τ).loc main_arg5)
abbrev a6 : (⟨S1024x3072, .f32⟩ : BufTy).Contents (Elt Ideal) := m ((c : Thread nD τ).loc main_arg6)
abbrev a7 : (⟨S512x1024, .f32⟩ : BufTy).Contents (Elt Ideal) := m ((c : Thread nD τ).loc main_arg7)
abbrev a8 : (⟨S512x1024, .f32⟩ : BufTy).Contents (Elt Ideal) := m ((c : Thread nD τ).loc main_arg8)
abbrev a9 : (⟨S512x1024, .f32⟩ : BufTy).Contents (Elt Ideal) := m ((c : Thread nD τ).loc main_arg9)
abbrev a10 : (⟨S1024x1024, .f32⟩ : BufTy).Contents (Elt Ideal) := m ((c : Thread nD τ).loc main_arg10)
abbrev a11 : (⟨S1024, .f32⟩ : BufTy).Contents (Elt Ideal) := m ((c : Thread nD τ).loc main_arg11)

/-! ## What the host hands the call -/

theorem V_h4 : (V m c main_v0 : Vec Ideal S1x1024 .f32) = broadcastInDim S1x1024 ![1] bcast_S1024_S1x1024_1 (a4 m c) := by
  unfold V
  simp only [hostOps0]
  after_results_simp <;> rfl
theorem V_h5 : (V m c main_v1 : Vec Ideal S1024x1536 .bf16) = truncf (F := Ideal) .bf16 (a5 m c) bitsLt_bf16_f32 := by
  unfold V
  simp only [hostOps0]
  after_results_simp <;> rfl
theorem V_h6 : (V m c main_v2 : Vec Ideal S1024x3072 .bf16) = truncf (F := Ideal) .bf16 (a6 m c) bitsLt_bf16_f32 := by
  unfold V
  simp only [hostOps0]
  after_results_simp <;> rfl
theorem V_h7 : (V m c main_v3 : Vec Ideal S512x1024 .bf16) = truncf (F := Ideal) .bf16 (a7 m c) bitsLt_bf16_f32 := by
  unfold V
  simp only [hostOps0]
  after_results_simp <;> rfl
theorem V_h8 : (V m c main_v4 : Vec Ideal S512x1024 .bf16) = truncf (F := Ideal) .bf16 (a8 m c) bitsLt_bf16_f32 := by
  unfold V
  simp only [hostOps0]
  after_results_simp <;> rfl
theorem V_h9 : (V m c main_v5 : Vec Ideal S512x1024 .bf16) = truncf (F := Ideal) .bf16 (a9 m c) bitsLt_bf16_f32 := by
  unfold V
  simp only [hostOps0]
  after_results_simp <;> rfl
theorem V_h10 : (V m c main_v6 : Vec Ideal S1024x1024 .bf16) = truncf (F := Ideal) .bf16 (a10 m c) bitsLt_bf16_f32 := by
  unfold V
  simp only [hostOps0]
  after_results_simp <;> rfl
theorem V_h11 : (V m c main_v7 : Vec Ideal S1x1024 .f32) = broadcastInDim S1x1024 ![1] bcast_S1024_S1x1024_1 (a11 m c) := by
  unfold V
  simp only [hostOps0]
  after_results_simp <;> rfl

theorem row_cast (x : (⟨S1024, .f32⟩ : BufTy).Contents (Elt Ideal)) (d : Fin 1024) :
    (broadcastInDim S1x1024 ![1] bcast_S1024_S1x1024_1 x : Vec Ideal S1x1024 .f32) (ix2 0 d) = x (ix1 d) := by
  pointwise

/-! ## The windows' blocks -/

theorem lt_N (t : Fin cfg0.N) : t.val < 128 := lt_of_lt_of_eq t.isLt Gen.N_0
/-- A row of a grid point's block, as a row of the whole array. -/
def tok (t : Fin cfg0.N) (r : Fin 256) : Fin 32768 := ⟨256 * t.val + r.val, by have := lt_N t; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val ∧ win0_12.index t 1 = 0 := by decide +kernel
theorem xsize12 : ∀ t : Fin grid0.N, win0_12.xsize (grid0.coords t) 0 = 256 ∧ win0_12.xsize (grid0.coords t) 1 = 1024 := by decide +kernel

theorem blk0 (t : Fin cfg0.N) (r : Fin 256) (d : Fin 1024) :
    (iblk m c 0 t : Vec Ideal S256x1024 .f32) (ix2 r d) = a0 m c (ix2 (tok t r) d) := by
  obtain ⟨i0, i1⟩ := index0 t
  unfold iblk
  rw [View.read_apply]
  show V m c main_arg0 _ = _
  rw [V_main_arg0]
  refine congrArg (a0 m c) (ext2 _ _ _ ?_ ?_)
  · show win0_0.index t 0 * 256 + 1 * r.val = 256 * t.val + r.val; rw [i0]; omega
  · show win0_0.index t 1 * 1024 + 1 * d.val = d.val; rw [i1]; omega

theorem blk1 (t : Fin cfg0.N) (r : Fin 256) (d : Fin 512) :
    (iblk m c 1 t : Vec Ideal S256x512 .f32) (ix2 r d) = a1 m c (ix2 (tok t r) d) := by
  obtain ⟨i0, i1⟩ := index1 t
  unfold iblk
  rw [View.read_apply]
  show V m c main_arg1 _ = _
  rw [V_main_arg1]
  refine congrArg (a1 m c) (ext2 _ _ _ ?_ ?_)
  · show win0_1.index t 0 * 256 + 1 * r.val = 256 * t.val + r.val; rw [i0]; omega
  · show win0_1.index t 1 * 512 + 1 * d.val = d.val; rw [i1]; omega

theorem blk2 (t : Fin cfg0.N) (r : Fin 256) (d : Fin 512) :
    (iblk m c 2 t : Vec Ideal S256x512 .f32) (ix2 r d) = a2 m c (ix2 (tok t r) d) := by
  obtain ⟨i0, i1⟩ := index2 t
  unfold iblk
  rw [View.read_apply]
  show V m c main_arg2 _ = _
  rw [V_main_arg2]
  refine congrArg (a2 m c) (ext2 _ _ _ ?_ ?_)
  · show win0_2.index t 0 * 256 + 1 * r.val = 256 * t.val + r.val; rw [i0]; omega
  · show win0_2.index t 1 * 512 + 1 * d.val = d.val; rw [i1]; omega

theorem blk3 (t : Fin cfg0.N) (r : Fin 256) (d : Fin 512) :
    (iblk m c 3 t : Vec Ideal S256x512 .f32) (ix2 r d) = a3 m c (ix2 (tok t r) d) := by
  obtain ⟨i0, i1⟩ := index3 t
  unfold iblk
  rw [View.read_apply]
  show V m c main_arg3 _ = _
  rw [V_main_arg3]
  refine congrArg (a3 m c) (ext2 _ _ _ ?_ ?_)
  · show win0_3.index t 0 * 256 + 1 * r.val = 256 * t.val + r.val; rw [i0]; omega
  · show win0_3.index t 1 * 512 + 1 * d.val = d.val; rw [i1]; omega

theorem blk5 (t : Fin cfg0.N) (r : Fin 1024) (d : Fin 1536) :
    (iblk m c 5 t : Vec Ideal S1024x1536 .bf16) (ix2 r d) = a5 m c (ix2 r d) := by
  obtain ⟨i0, i1⟩ := index5 t
  unfold iblk
  rw [View.read_apply]
  show (V m c main_v1 : Vec Ideal S1024x1536 .bf16) _ = _
  rw [V_h5]
  refine congrArg (a5 m c) (ext2 _ _ _ ?_ ?_)
  · show win0_5.index t 0 * 1024 + 1 * r.val = r.val; rw [i0]; omega
  · show win0_5.index t 1 * 1536 + 1 * d.val = d.val; rw [i1]; omega

theorem blk6 (t : Fin cfg0.N) (r : Fin 1024) (d : Fin 3072) :
    (iblk m c 6 t : Vec Ideal S1024x3072 .bf16) (ix2 r d) = a6 m c (ix2 r d) := by
  obtain ⟨i0, i1⟩ := index6 t
  unfold iblk
  rw [View.read_apply]
  show (V m c main_v2 : Vec Ideal S1024x3072 .bf16) _ = _
  rw [V_h6]
  refine congrArg (a6 m c) (ext2 _ _ _ ?_ ?_)
  · show win0_6.index t 0 * 1024 + 1 * r.val = r.val; rw [i0]; omega
  · show win0_6.index t 1 * 3072 + 1 * d.val = d.val; rw [i1]; omega

theorem blk7 (t : Fin cfg0.N) (r : Fin 512) (d : Fin 1024) :
    (iblk m c 7 t : Vec Ideal S512x1024 .bf16) (ix2 r d) = a7 m c (ix2 r d) := by
  obtain ⟨i0, i1⟩ := index7 t
  unfold iblk
  rw [View.read_apply]
  show (V m c main_v3 : Vec Ideal S512x1024 .bf16) _ = _
  rw [V_h7]
  refine congrArg (a7 m c) (ext2 _ _ _ ?_ ?_)
  · show win0_7.index t 0 * 512 + 1 * r.val = r.val; rw [i0]; omega
  · show win0_7.index t 1 * 1024 + 1 * d.val = d.val; rw [i1]; omega

theorem blk8 (t : Fin cfg0.N) (r : Fin 512) (d : Fin 1024) :
    (iblk m c 8 t : Vec Ideal S512x1024 .bf16) (ix2 r d) = a8 m c (ix2 r d) := by
  obtain ⟨i0, i1⟩ := index8 t
  unfold iblk
  rw [View.read_apply]
  show (V m c main_v4 : Vec Ideal S512x1024 .bf16) _ = _
  rw [V_h8]
  refine congrArg (a8 m c) (ext2 _ _ _ ?_ ?_)
  · show win0_8.index t 0 * 512 + 1 * r.val = r.val; rw [i0]; omega
  · show win0_8.index t 1 * 1024 + 1 * d.val = d.val; rw [i1]; omega

theorem blk9 (t : Fin cfg0.N) (r : Fin 512) (d : Fin 1024) :
    (iblk m c 9 t : Vec Ideal S512x1024 .bf16) (ix2 r d) = a9 m c (ix2 r d) := by
  obtain ⟨i0, i1⟩ := index9 t
  unfold iblk
  rw [View.read_apply]
  show (V m c main_v5 : Vec Ideal S512x1024 .bf16) _ = _
  rw [V_h9]
  refine congrArg (a9 m c) (ext2 _ _ _ ?_ ?_)
  · show win0_9.index t 0 * 512 + 1 * r.val = r.val; rw [i0]; omega
  · show win0_9.index t 1 * 1024 + 1 * d.val = d.val; rw [i1]; omega

theorem blk10 (t : Fin cfg0.N) (r : Fin 1024) (d : Fin 1024) :
    (iblk m c 10 t : Vec Ideal S1024x1024 .bf16) (ix2 r d) = a10 m c (ix2 r d) := by
  obtain ⟨i0, i1⟩ := index10 t
  unfold iblk
  rw [View.read_apply]
  show (V m c main_v6 : Vec Ideal S1024x1024 .bf16) _ = _
  rw [V_h10]
  refine congrArg (a10 m c) (ext2 _ _ _ ?_ ?_)
  · show win0_10.index t 0 * 1024 + 1 * r.val = r.val; rw [i0]; omega
  · show win0_10.index t 1 * 1024 + 1 * d.val = d.val; rw [i1]; omega

theorem blk4 (t : Fin cfg0.N) (d : Fin 1024) : (iblk m c 4 t : Vec Ideal S1x1024 .f32) (ix2 0 d) = a4 m c (ix1 d) := by
  obtain ⟨i0, i1⟩ := index4 t
  unfold iblk
  rw [View.read_apply]
  show (V m c main_v0 : Vec Ideal S1x1024 .f32) _ = _
  rw [V_h4]
  refine Eq.trans (congrArg (broadcastInDim S1x1024 ![1] bcast_S1024_S1x1024_1 (a4 m c) : Vec Ideal S1x1024 .f32) (ext2 _ 0 d ?_ ?_)) (row_cast (a4 m c) d)
  · show win0_4.index t 0 * 1 + 1 * 0 = 0; rw [i0]
  · show win0_4.index t 1 * 1024 + 1 * d.val = d.val; rw [i1]; omega

theorem blk11 (t : Fin cfg0.N) (d : Fin 1024) : (iblk m c 11 t : Vec Ideal S1x1024 .f32) (ix2 0 d) = a11 m c (ix1 d) := by
  obtain ⟨i0, i1⟩ := index11 t
  unfold iblk
  rw [View.read_apply]
  show (V m c main_v7 : Vec Ideal S1x1024 .f32) _ = _
  rw [V_h11]
  refine Eq.trans (congrArg (broadcastInDim S1x1024 ![1] bcast_S1024_S1x1024_1 (a11 m c) : Vec Ideal S1x1024 .f32) (ext2 _ 0 d ?_ ?_)) (row_cast (a11 m c) d)
  · show win0_11.index t 0 * 1 + 1 * 0 = 0; rw [i0]
  · show win0_11.index t 1 * 1024 + 1 * d.val = d.val; rw [i1]; omega

/-! ## The result -/

/-- The reference's value on the kernel's arguments. -/
def G : (⟨S32768x1024, .f32⟩ : BufTy).Contents (Elt Ideal) :=
  MergeReferenceIdeal.Read.val_main_v59 (F := Ideal) (a0 m c) (a1 m c) (a2 m c) (a3 m c) (a4 m c) (a5 m c) (a6 m c) (a7 m c) (a8 m c) (a9 m c) (a10 m c) (a11 m c)

theorem out_at (t : Fin cfg0.N) (r : Fin 256) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = G m c (ix2 (tok t r) d) := by
  unfold G
  rw [MergeReferenceIdeal.M.row_at]
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ?_
  simp only [blk0, blk1, blk2, blk3, blk4, blk5, blk6, blk7, blk8, blk9, blk10, blk11]

theorem flushed_eq (t : Fin cfg0.N) :
    (dats m 0 c).flushed 12 t = ((cfg0.win 12).blk t).view.read (Elt Ideal) (G m c) := by
  obtain ⟨i0, i1⟩ := index12 t
  show (cfg0.win 12).cut (grid0.coords t) ((dats m 0 c).after 12 t) = _
  rw [after0_12]
  funext j
  rw [View.read_apply]
  have hj0 : (j 0).val < 256 := lt_of_lt_of_eq (j 0).isLt (xsize12 t).1
  have hj1 : (j 1).val < 1024 := lt_of_lt_of_eq (j 1).isLt (xsize12 t).2
  have e := out_at m c t ⟨(j 0).val, hj0⟩ ⟨(j 1).val, hj1⟩
  refine Eq.trans (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ext2 _ _ _ rfl rfl)) (e.trans (congrArg (G m c) (ext2 _ _ _ ?_ ?_).symm))
  · show win0_12.index t 0 * 256 + 1 * (j 0).val = 256 * t.val + (j 0).val; rw [i0]; omega
  · show win0_12.index t 1 * 1024 + 1 * (j 1).val = (j 1).val; rw [i1]; omega

theorem final_o : (dats m 0 c).arrAt 12 cfg0.N = G m c :=
  (dats m 0 c).arrAt_eq_of_cover 12 (G m c) (fun t _ => flushed_eq m c t) fun i => by
    have hi0 : (i 0).val < 32768 := (i 0).isLt
    have hi1 : (i 1).val < 1024 := (i 1).isLt
    have hN : cfg0.N = 128 := Gen.N_0
    let t : Fin cfg0.N := ⟨(i 0).val / 256, by rw [hN]; omega⟩
    obtain ⟨i0, i1⟩ := index12 t
    obtain ⟨x0, x1⟩ := xsize12 t
    refine ⟨t, flush0_12 t, ?_⟩
    show i ∈ ((View.whole main_v8).slice (win0_12.rect t)).set
    rw [View.set_slice_whole, Rect.mem_set_unit]
    intro a
    match a with
    | ⟨0, _⟩ =>
      show win0_12.index t 0 * 256 ≤ (i 0).val ∧ (i 0).val < win0_12.index t 0 * 256 + win0_12.xsize (grid0.coords t) 0
      rw [i0, x0]; show (i 0).val / 256 * 256 ≤ _ ∧ _ < (i 0).val / 256 * 256 + 256; omega
    | ⟨1, _⟩ =>
      show win0_12.index t 1 * 1024 ≤ (i 1).val ∧ (i 1).val < win0_12.index t 1 * 1024 + win0_12.xsize (grid0.coords t) 1
      rw [i1, x1]; omega

end Cert.MergeIdeal.M

end
-- ==== Proof.M.Claims.lean ====
module

public import proofs.«01_k».proof.Defs
public import proofs.«01_k».proof.Proof.Gen.Merge.Frame
public import proofs.«01_k».proof.Proof.Gen.MergeReferenceIdeal.Run
public import proofs.«01_k».proof.Proof.M.Out

@[expose] public section

noncomputable section

open Idealize.ShloMosaic Idealize.ShloMosaic.TcCoe Idealize.SL.Sem

/-! ## The merge's frames, and its value -/

namespace Cert.Proof.Claims

theorem frame_merge : Cert.quiescent_Merge := fun m ρ _ => Cert.Merge.Gen.frame m ρ
theorem frame_merge_ideal : Cert.quiescent_MergeIdeal := fun m ρ _ => Cert.MergeIdeal.Gen.frame m ρ
theorem frame_merge_reference : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- On any inputs the merge's result is the reference's. -/
theorem algebraic_merge : Cert.algebraic_MergeIdeal_MergeReferenceIdeal := by
  intro m g m' g' _ hagree
  refine ⟨fun c => Cert.MergeIdeal.M.G m c, ?_, ?_⟩
  · refine (θ_run Cert.MergeIdeal.defs _ _).mono (fun r h c => ?_)
      (θ_run_and (Cert.MergeIdeal.Gen.frame m g) (Cert.MergeIdeal.Gen.run_main m g))
    exact ⟨((h.2 c).1 12).trans (Cert.MergeIdeal.M.final_o m c), h.1.1 c⟩
  · refine (θ_run Cert.MergeReferenceIdeal.defs _ _).mono (fun r h c => ?_) (Cert.MergeReferenceIdeal.Value.run (F := Ideal) m' g')
    refine ⟨(h c).1.trans ?_, (h c).2⟩
    obtain ⟨e0, e1, e2, e3, e4, e5, e6, e7, e8, e9, e10, e11⟩ := hagree c
    rw [Cert.MergeReferenceIdeal.Read.val_main_v59_eq, e0, e1, e2, e3, e4, e5, e6, e7, e8, e9, e10, e11]
    rfl

end Cert.Proof.Claims

end
-- ==== Proof.L.Pay.lean ====
module

public import proofs.«01_k».proof.Proof.M.Spec
public import proofs.«01_k».proof.Proof.Gen.LayerIdeal.Skeleton
public import Idealize.ShloMosaic.Lib.Pointwise
public import Idealize.ShloMosaic.PureOps.Reduce
public import Idealize.ShloMosaic.PureOps.IdealRules

@[expose] public section

noncomputable section

/-! # The layer's payloads, at an index -/

namespace Cert.LayerIdeal.L

open Idealize.ShloMosaic Cert.LayerIdeal Gen Cert.MergeRow

theorem pay2_at (v0 : Vec Ideal S256x1024 .f32) (v1 : Vec Ideal S1x1024 .f32) (r : Fin 256) (d : Fin 1024) :
    k0_pay2 v0 v1 (ix2 r d) = rnorm (fun d => v0 (ix2 r d)) (fun d => v1 (ix2 0 d)) d := by
  pointwise [k0_pay2]
  rfl

theorem pay3_at (v0 : Vec Ideal S256x1024 .f32) (v1 : Vec Ideal S1x1024 .f32) (w : Vec Ideal S1024x1536 .bf16) (r : Fin 256) (j : Fin 1536) :
    k0_pay3 v0 v1 w (ix2 r j) = ∑ e : Fin 1024, k0_pay2 v0 v1 (ix2 r e) * w (ix2 e j) := by
  pointwise [k0_pay3]

theorem pay4_at (v0 : Vec Ideal S256x1024 .f32) (v1 : Vec Ideal S1x1024 .f32) (w : Vec Ideal S1024x1536 .bf16) (b : Vec Ideal S256x512 .f32) (r : Fin 256) (k : Fin 512) :
    k0_pay4 v0 v1 w b (ix2 r k) = b (ix2 r k) * silu (k0_pay3 v0 v1 w (ix2 r ⟨512 * (0 : Fin 3).val + k.val, by omega⟩)) := by
  pointwise [k0_pay4]
  rfl

theorem pay5_at (v0 : Vec Ideal S256x1024 .f32) (v1 : Vec Ideal S1x1024 .f32) (w : Vec Ideal S1024x1024 .bf16) (r : Fin 256) (d : Fin 1024) :
    k0_pay5 v0 v1 w (ix2 r d) = 1 + Ideal.exp (0 - ∑ e : Fin 1024, k0_pay2 v0 v1 (ix2 r e) * w (ix2 e d)) := by
  pointwise [k0_pay5]

theorem pay6_at (u : FVec Ideal S256x1024 .bf16) (z : FVec Ideal S256x1536 .f32) (b0 : FVec Ideal S256x512 .bf16) (e0 : FVec Ideal S256x1024 .f32)
    (w0 : Vec Ideal S512x1024 .bf16) (b1 : Vec Ideal S256x512 .f32) (wg : Vec Ideal S1024x1024 .bf16) (w1 : Vec Ideal S512x1024 .bf16)
    (r : Fin 256) (d : Fin 1024) :
    k0_pay6 u z b0 e0 w0 b1 wg w1 (ix2 r d)
      = Ideal.div 1 (e0 (ix2 r d)) * (∑ k : Fin 512, b0 (ix2 r k) * w0 (ix2 k d))
        + sigm (∑ e : Fin 1024, u (ix2 r e) * wg (ix2 e d))
          * ∑ k : Fin 512, b1 (ix2 r k) * silu (z (ix2 r ⟨512 * (1 : Fin 3).val + k.val, by omega⟩)) * w1 (ix2 k d) := by
  pointwise [k0_pay6]
  rfl

theorem pay7_at (z : FVec Ideal S256x1536 .f32) (r : Fin 256) (k : Fin 512) :
    k0_pay7 z (ix2 r k) = z (ix2 r ⟨512 * (2 : Fin 3).val + k.val, by omega⟩) := by
  pointwise [k0_pay7]

theorem pay8_at (z : FVec Ideal S256x1536 .f32) (r : Fin 256) (k : Fin 512) :
    k0_pay8 z (ix2 r k) = Ideal.exp (0 - z (ix2 r ⟨512 * (2 : Fin 3).val + k.val, by omega⟩)) := by
  pointwise [k0_pay8, pay7_at]

theorem pay1_at (x : Vec Ideal S256x1024 .f32) (u : FVec Ideal S256x1024 .bf16) (s : FVec Ideal S256x1024 .f32) (b2 : Vec Ideal S256x512 .f32)
    (z e : FVec Ideal S256x512 .f32) (wg : Vec Ideal S1024x1024 .bf16) (w2 : Vec Ideal S512x1024 .bf16) (wo : Vec Ideal S1024x1024 .bf16)
    (r : Fin 256) (d : Fin 1024) :
    k0_pay1 x u s b2 z e (Scalar.ofBits .f32 0x3F800000#32) wg w2 wo (ix2 r d)
      = x (ix2 r d) + ∑ j : Fin 1024,
          (s (ix2 r j) + sigm (∑ e : Fin 1024, u (ix2 r e) * wg (ix2 e j))
            * ∑ k : Fin 512, b2 (ix2 r k) * (z (ix2 r k) * Ideal.div 1 (1 + e (ix2 r k))) * w2 (ix2 k j)) * wo (ix2 j d) := by
  pointwise [k0_pay1]
  rfl

end Cert.LayerIdeal.L

end
-- ==== Proof.L.Block.lean ====
module

public import proofs.«01_k».proof.Proof.L.Pay
public import proofs.«01_k».proof.Proof.Gen.LayerIdeal.Frame
public import Idealize.ShloMosaic.Lib.Pipeline.ValueKit

@[expose] public section

set_option maxRecDepth 16384

noncomputable section

/-! # A block of the layer's result, at an index -/

namespace Cert.LayerIdeal.L

open Idealize.ShloMosaic Cert.LayerIdeal Gen Cert.MergeRow

theorem off_zero : (![0, 0] : Fin 2 → ℕ) = fun _ => 0 := by funext a; match a with | ⟨0, _⟩ => rfl | ⟨1, _⟩ => rfl

/-! The loads of whole blocks. -/

theorem whole_r0_0 (x : Vec Ideal S256x1024 .f32) : View.ld x r0_0 = x := View.ld_unit_zero (S := S256x1024) off_zero _ x
theorem whole_r0_1 (x : Vec Ideal S1x1024 .f32) : View.ld x r0_1 = x := View.ld_unit_zero (S := S1x1024) off_zero _ x
theorem whole_r0_2 (x : Vec Ideal S1024x1536 .bf16) : View.ld x r0_2 = x := View.ld_unit_zero (S := S1024x1536) off_zero _ x
theorem whole_r0_3 (x : Vec Ideal S256x512 .f32) : View.ld x r0_3 = x := View.ld_unit_zero (S := S256x512) off_zero _ x
theorem whole_r0_5 (x : Vec Ideal S512x1024 .bf16) : View.ld x r0_5 = x := View.ld_unit_zero (S := S512x1024) off_zero _ x
theorem whole_r0_8 (x : Vec Ideal S1024x1024 .bf16) : View.ld x r0_8 = x := View.ld_unit_zero (S := S1024x1024) off_zero _ x

/-- A third of the merge gate's columns, as the body loads it. -/
theorem gate0 (w : Vec Ideal S1024x3072 .bf16) (e d : Fin 1024) : View.ld w r0_4 (ix2 e d) = w (ix2 e ⟨1024 * (0 : Fin 3).val + d.val, by omega⟩) :=
  View.ld_unit_apply_of w _ _ _ _ _ fun a => match a with
    | ⟨0, _⟩ => by show e.val = 0 + e.val; omega
    | ⟨1, _⟩ => by show 1024 * 0 + d.val = 0 + d.val; omega
theorem gate1 (w : Vec Ideal S1024x3072 .bf16) (e d : Fin 1024) : View.ld w r0_6 (ix2 e d) = w (ix2 e ⟨1024 * (1 : Fin 3).val + d.val, by omega⟩) :=
  View.ld_unit_apply_of w _ _ _ _ _ fun a => match a with
    | ⟨0, _⟩ => by show e.val = 0 + e.val; omega
    | ⟨1, _⟩ => by show 1024 * 1 + d.val = 1024 + d.val; omega
theorem gate2 (w : Vec Ideal S1024x3072 .bf16) (e d : Fin 1024) : View.ld w r0_7 (ix2 e d) = w (ix2 e ⟨1024 * (2 : Fin 3).val + d.val, by omega⟩) :=
  View.ld_unit_apply_of w _ _ _ _ _ fun a => match a with
    | ⟨0, _⟩ => by show e.val = 0 + e.val; omega
    | ⟨1, _⟩ => by show 1024 * 2 + d.val = 2048 + d.val; omega

theorem block_at (x0 : Vec Ideal S256x1024 .f32) (x1 x2 x3 : Vec Ideal S256x512 .f32) (x4 : Vec Ideal S1x1024 .f32)
    (x5 : Vec Ideal S1024x1536 .bf16) (x6 : Vec Ideal S1024x3072 .bf16) (x7 x8 x9 : Vec Ideal S512x1024 .bf16)
    (x10 : Vec Ideal S1024x1024 .bf16) (x11 : Vec Ideal S1x1024 .f32) (r : Fin 256) (d : Fin 1024) :
    out0_12 x0 x1 x2 x3 x4 x5 x6 x7 x8 x9 x10 x11 (ix2 r d)
      = layer (fun e => x0 (ix2 r e)) (fun k => x1 (ix2 r k)) (fun k => x2 (ix2 r k)) (fun k => x3 (ix2 r k)) (fun e => x4 (ix2 0 e))
          (fun e j => x5 (ix2 e j)) (fun e j => x6 (ix2 e j)) (fun k j => x7 (ix2 k j)) (fun k j => x8 (ix2 k j)) (fun k j => x9 (ix2 k j))
          (fun e j => x10 (ix2 e j)) d := by
  unfold out0_12
  rw [View.canon_unit_zero off_zero]
  unfold k0_pay10 k0_pay9
  simp only [whole_r0_0, whole_r0_1, whole_r0_2, whole_r0_3, whole_r0_5, whole_r0_8]
  have g0 := gate0 x6
  have g1 := gate1 x6
  have g2 := gate2 x6
  generalize (View.ld x6 r0_4 : Vec Ideal S1024x1024 .bf16) = W0 at g0 ⊢
  generalize (View.ld x6 r0_6 : Vec Ideal S1024x1024 .bf16) = W1 at g1 ⊢
  generalize (View.ld x6 r0_7 : Vec Ideal S1024x1024 .bf16) = W2 at g2 ⊢
  rw [pay1_at]
  simp only [g0, g1, g2, pay8_at, pay7_at, pay6_at, pay5_at, pay4_at, pay3_at, pay2_at]
  rfl

end Cert.LayerIdeal.L

end
-- ==== Proof.L.Ref.lean ====
module

public import proofs.«01_k».proof.Proof.Gen.LayerReferenceIdeal.Read
public import proofs.«01_k».proof.Proof.M.Spec
public import proofs.«01_k».proof.Proof.V.Ref

@[expose] public section

noncomputable section

/-! # The layer reference's value, at an index -/

namespace Cert.LayerReferenceIdeal.L

open Idealize.ShloMosaic Cert.LayerReferenceIdeal Cert.LayerReferenceIdeal.Gen Cert.LayerReferenceIdeal.Read Cert.MergeRow
open Cert.ReferenceIdeal.V (ext2 ext3)

theorem ext1 {n : ℕ} (i : (⟨1, ![n]⟩ : Shape).Idx) (a : Fin n) (h : (i 0).val = a.val) : i = ix1 a := by
  funext d; apply Fin.ext
  match d with
  | ⟨0, _⟩ => exact h

variable (x0 : (⟨S32768x1024, .f32⟩ : BufTy).Contents (Elt Ideal)) (x1 x2 x3 : (⟨S32768x512, .f32⟩ : BufTy).Contents (Elt Ideal))
  (x4 : (⟨S1024, .f32⟩ : BufTy).Contents (Elt Ideal)) (x5 : (⟨S1024x1536, .f32⟩ : BufTy).Contents (Elt Ideal))
  (x6 : (⟨S1024x3072, .f32⟩ : BufTy).Contents (Elt Ideal)) (x7 x8 x9 : (⟨S512x1024, .f32⟩ : BufTy).Contents (Elt Ideal))
  (x10 : (⟨S1024x1024, .f32⟩ : BufTy).Contents (Elt Ideal))

/-- The normed input. -/
theorem u_at (t : Fin 32768) (d : Fin 1024) :
    val_main_v12 (F := Ideal) x0 x4 (ix2 t d) = rnorm (fun e => x0 (ix2 t e)) (fun e => x4 (ix1 e)) d := by
  rw [val_main_v12_apply, val_main_v9_apply, val_main_v8_apply, val_main_v7_apply, val_main_v6_apply, val_main_v4_apply, val_main_v5_apply,
    val_main_v2_apply, val_main_v1_apply, val_main_v3_apply, val_main_cst_apply, val_main_cst_0_apply, val_main_cst_1_apply, val_main_v11_apply,
    val_main_v10_apply]
  have es : (FloatOps.ofBits (F := Ideal) .f32 0x00000000#32 : EReal)
      + ∑ k : Fin 1024, val_main_v0 (F := Ideal) x0 (idx_main_v1 (idx_main_v2 (idx_main_v8 (ix2 t d))) k)
      = ∑ k : Fin 1024, x0 (ix2 t k) * x0 (ix2 t k) := by
    refine (congrArg₂ (fun a b : EReal => a + b) Ideal.ofBits_zero_f32 (Finset.sum_congr rfl fun k _ => ?_)).trans (zero_add _)
    rw [val_main_v0_apply, ext2 (idx_main_v1 (idx_main_v2 (idx_main_v8 (ix2 t d))) k) t k rfl rfl]
    rfl
  rw [es, ext1 (idx_main_v10 (idx_main_v11 (ix2 t d))) d rfl]
  rfl

/-- The branches' gates, before the activation. -/
theorem z_at (t : Fin 32768) (j : Fin 1536) :
    val_main_v13 (F := Ideal) x0 x4 x5 (ix2 t j) = ∑ e : Fin 1024, rnorm (fun e => x0 (ix2 t e)) (fun e => x4 (ix1 e)) e * x5 (ix2 e j) := by
  rw [val_main_v13_apply]
  refine Finset.sum_congr rfl fun e _ => ?_
  rw [ext2 (lidx_main_v13 (ix2 t j) e) t e rfl rfl, ext2 (ridx_main_v13 (ix2 t j) e) e j rfl rfl, u_at]

/-- The merge's gates, before the activation. -/
theorem g_at (t : Fin 32768) (j : Fin 3072) :
    val_main_v23 (F := Ideal) x0 x4 x6 (ix2 t j) = ∑ e : Fin 1024, rnorm (fun e => x0 (ix2 t e)) (fun e => x4 (ix1 e)) e * x6 (ix2 e j) := by
  rw [val_main_v23_apply]
  refine Finset.sum_congr rfl fun e _ => ?_
  rw [ext2 (lidx_main_v23 (ix2 t j) e) t e rfl rfl, ext2 (ridx_main_v23 (ix2 t j) e) e j rfl rfl, u_at]

theorem gate_at (t : Fin 32768) (j : Fin 3072) :
    val_main_v29 (F := Ideal) x0 x4 x6 (ix2 t j) = sigm (val_main_v23 (F := Ideal) x0 x4 x6 (ix2 t j)) := by
  rw [val_main_v29_apply, val_main_v28_apply, val_main_v27_apply, val_main_v26_apply, val_main_v25_apply, val_main_v24_apply,
    val_main_cst_2_apply, val_main_cst_3_apply]
  refine Eq.trans ?_ (sigm_neg _)
  exact congrArg₂ (fun a b : EReal => Ideal.div a (b + Ideal.exp _)) Ideal.ofBits_one_f32 Ideal.ofBits_one_f32

theorem b0_at (t : Fin 32768) (k : Fin 512) :
    val_main_v18 (F := Ideal) x0 x1 x4 x5 (ix2 t k)
      = x1 (ix2 t k) * silu (val_main_v13 (F := Ideal) x0 x4 x5 (ix2 t ⟨512 * (0 : Fin 3).val + k.val, by omega⟩)) := by
  have hz : val_main_v14 (F := Ideal) x0 x4 x5 (ix2 t k)
      = val_main_v13 (F := Ideal) x0 x4 x5 (ix2 t ⟨512 * (0 : Fin 3).val + k.val, by omega⟩) := by
    rw [val_main_v14_apply]
    exact congrArg _ (ext2 _ _ _ rfl (by show k.val = 512 * 0 + k.val; omega))
  rw [val_main_v18_apply, val_main_v17_apply, val_main_call0_v5_apply, val_main_call0_v4_apply, val_main_call0_v3_apply, val_main_call0_v2_apply,
    val_main_call0_v1_apply, val_main_call0_v0_apply, val_main_call0_cst_apply, val_main_call0_cst_0_apply, hz]
  refine congrArg (fun y : EReal => x1 (ix2 t k) * (_ * y)) (Eq.trans ?_ (sigm_neg _))
  exact congrArg₂ (fun a b : EReal => Ideal.div a (b + Ideal.exp _)) Ideal.ofBits_one_f32 Ideal.ofBits_one_f32

theorem s0_at (t : Fin 32768) (d : Fin 1024) :
    val_main_v32 (F := Ideal) x0 x4 x6 (ix2 t d)
      = sigm (val_main_v23 (F := Ideal) x0 x4 x6 (ix2 t ⟨1024 * (0 : Fin 3).val + d.val, by omega⟩)) := by
  have ht := t.isLt; have hd := d.isLt
  rw [val_main_v32_apply, val_main_v31_apply, val_main_v30_apply, ← gate_at]
  refine congrArg _ (ext2 _ _ _ ?_ ?_)
  · show (((t.val * 1024 + d.val) / 1024 * 3 + 0) * 1024 + (t.val * 1024 + d.val) % 1024) / 3072 = t.val; omega
  · show (((t.val * 1024 + d.val) / 1024 * 3 + 0) * 1024 + (t.val * 1024 + d.val) % 1024) % 3072 = 1024 * 0 + d.val; omega

theorem t0_at (t : Fin 32768) (d : Fin 1024) :
    val_main_v34 (F := Ideal) x0 x1 x4 x5 x6 x7 (ix2 t d)
      = term (rnorm (fun e => x0 (ix2 t e)) (fun e => x4 (ix1 e))) (fun k => x1 (ix2 t k)) (fun e j => x5 (ix2 e j)) (fun e j => x6 (ix2 e j))
          (fun k j => x7 (ix2 k j)) 0 d := by
  rw [val_main_v34_apply, s0_at, val_main_v33_apply, g_at]
  refine congrArg (fun y : EReal => sigm _ * y) (Finset.sum_congr rfl fun k _ => ?_)
  rw [ext2 (lidx_main_v33 (ix2 t d) k) t k rfl rfl, ext2 (ridx_main_v33 (ix2 t d) k) k d rfl rfl, b0_at, z_at]

theorem b1_at (t : Fin 32768) (k : Fin 512) :
    val_main_v20 (F := Ideal) x0 x2 x4 x5 (ix2 t k)
      = x2 (ix2 t k) * silu (val_main_v13 (F := Ideal) x0 x4 x5 (ix2 t ⟨512 * (1 : Fin 3).val + k.val, by omega⟩)) := by
  have hz : val_main_v15 (F := Ideal) x0 x4 x5 (ix2 t k)
      = val_main_v13 (F := Ideal) x0 x4 x5 (ix2 t ⟨512 * (1 : Fin 3).val + k.val, by omega⟩) := by
    rw [val_main_v15_apply]
    exact congrArg _ (ext2 _ _ _ rfl (by show 512 + k.val = 512 * 1 + k.val; omega))
  rw [val_main_v20_apply, val_main_v19_apply, val_main_call1_v5_apply, val_main_call1_v4_apply, val_main_call1_v3_apply, val_main_call1_v2_apply,
    val_main_call1_v1_apply, val_main_call1_v0_apply, val_main_call1_cst_apply, val_main_call1_cst_0_apply, hz]
  refine congrArg (fun y : EReal => x2 (ix2 t k) * (_ * y)) (Eq.trans ?_ (sigm_neg _))
  exact congrArg₂ (fun a b : EReal => Ideal.div a (b + Ideal.exp _)) Ideal.ofBits_one_f32 Ideal.ofBits_one_f32

theorem s1_at (t : Fin 32768) (d : Fin 1024) :
    val_main_v36 (F := Ideal) x0 x4 x6 (ix2 t d)
      = sigm (val_main_v23 (F := Ideal) x0 x4 x6 (ix2 t ⟨1024 * (1 : Fin 3).val + d.val, by omega⟩)) := by
  have ht := t.isLt; have hd := d.isLt
  rw [val_main_v36_apply, val_main_v35_apply, val_main_v30_apply, ← gate_at]
  refine congrArg _ (ext2 _ _ _ ?_ ?_)
  · show (((t.val * 1024 + d.val) / 1024 * 3 + (1 + 0)) * 1024 + (t.val * 1024 + d.val) % 1024) / 3072 = t.val; omega
  · show (((t.val * 1024 + d.val) / 1024 * 3 + (1 + 0)) * 1024 + (t.val * 1024 + d.val) % 1024) % 3072 = 1024 * 1 + d.val; omega

theorem t1_at (t : Fin 32768) (d : Fin 1024) :
    val_main_v38 (F := Ideal) x0 x2 x4 x5 x6 x8 (ix2 t d)
      = term (rnorm (fun e => x0 (ix2 t e)) (fun e => x4 (ix1 e))) (fun k => x2 (ix2 t k)) (fun e j => x5 (ix2 e j)) (fun e j => x6 (ix2 e j))
          (fun k j => x8 (ix2 k j)) 1 d := by
  rw [val_main_v38_apply, s1_at, val_main_v37_apply, g_at]
  refine congrArg (fun y : EReal => sigm _ * y) (Finset.sum_congr rfl fun k _ => ?_)
  rw [ext2 (lidx_main_v37 (ix2 t d) k) t k rfl rfl, ext2 (ridx_main_v37 (ix2 t d) k) k d rfl rfl, b1_at, z_at]

theorem b2_at (t : Fin 32768) (k : Fin 512) :
    val_main_v22 (F := Ideal) x0 x3 x4 x5 (ix2 t k)
      = x3 (ix2 t k) * silu (val_main_v13 (F := Ideal) x0 x4 x5 (ix2 t ⟨512 * (2 : Fin 3).val + k.val, by omega⟩)) := by
  have hz : val_main_v16 (F := Ideal) x0 x4 x5 (ix2 t k)
      = val_main_v13 (F := Ideal) x0 x4 x5 (ix2 t ⟨512 * (2 : Fin 3).val + k.val, by omega⟩) := by
    rw [val_main_v16_apply]
    exact congrArg _ (ext2 _ _ _ rfl (by show 1024 + k.val = 512 * 2 + k.val; omega))
  rw [val_main_v22_apply, val_main_v21_apply, val_main_call2_v5_apply, val_main_call2_v4_apply, val_main_call2_v3_apply, val_main_call2_v2_apply,
    val_main_call2_v1_apply, val_main_call2_v0_apply, val_main_call2_cst_apply, val_main_call2_cst_0_apply, hz]
  refine congrArg (fun y : EReal => x3 (ix2 t k) * (_ * y)) (Eq.trans ?_ (sigm_neg _))
  exact congrArg₂ (fun a b : EReal => Ideal.div a (b + Ideal.exp _)) Ideal.ofBits_one_f32 Ideal.ofBits_one_f32

theorem s2_at (t : Fin 32768) (d : Fin 1024) :
    val_main_v41 (F := Ideal) x0 x4 x6 (ix2 t d)
      = sigm (val_main_v23 (F := Ideal) x0 x4 x6 (ix2 t ⟨1024 * (2 : Fin 3).val + d.val, by omega⟩)) := by
  have ht := t.isLt; have hd := d.isLt
  rw [val_main_v41_apply, val_main_v40_apply, val_main_v30_apply, ← gate_at]
  refine congrArg _ (ext2 _ _ _ ?_ ?_)
  · show (((t.val * 1024 + d.val) / 1024 * 3 + (2 + 0)) * 1024 + (t.val * 1024 + d.val) % 1024) / 3072 = t.val; omega
  · show (((t.val * 1024 + d.val) / 1024 * 3 + (2 + 0)) * 1024 + (t.val * 1024 + d.val) % 1024) % 3072 = 1024 * 2 + d.val; omega

theorem t2_at (t : Fin 32768) (d : Fin 1024) :
    val_main_v43 (F := Ideal) x0 x3 x4 x5 x6 x9 (ix2 t d)
      = term (rnorm (fun e => x0 (ix2 t e)) (fun e => x4 (ix1 e))) (fun k => x3 (ix2 t k)) (fun e j => x5 (ix2 e j)) (fun e j => x6 (ix2 e j))
          (fun k j => x9 (ix2 k j)) 2 d := by
  rw [val_main_v43_apply, s2_at, val_main_v42_apply, g_at]
  refine congrArg (fun y : EReal => sigm _ * y) (Finset.sum_congr rfl fun k _ => ?_)
  rw [ext2 (lidx_main_v42 (ix2 t d) k) t k rfl rfl, ext2 (ridx_main_v42 (ix2 t d) k) k d rfl rfl, b2_at, z_at]

/-- The layer's output before the last norm. -/
theorem layer_at (t : Fin 32768) (d : Fin 1024) :
    val_main_v46 (F := Ideal) x0 x1 x2 x3 x4 x5 x6 x7 x8 x9 x10 (ix2 t d)
      = layer (fun e => x0 (ix2 t e)) (fun k => x1 (ix2 t k)) (fun k => x2 (ix2 t k)) (fun k => x3 (ix2 t k)) (fun e => x4 (ix1 e))
          (fun e j => x5 (ix2 e j)) (fun e j => x6 (ix2 e j)) (fun k j => x7 (ix2 k j)) (fun k j => x8 (ix2 k j)) (fun k j => x9 (ix2 k j))
          (fun e j => x10 (ix2 e j)) d := by
  rw [val_main_v46_apply, val_main_v45_apply]
  refine congrArg (fun y : EReal => x0 (ix2 t d) + y) (Finset.sum_congr rfl fun e _ => ?_)
  rw [ext2 (lidx_main_v45 (ix2 t d) e) t e rfl rfl, ext2 (ridx_main_v45 (ix2 t d) e) e d rfl rfl, val_main_v44_apply, val_main_v39_apply, t0_at,
    t1_at, t2_at]
  rfl

end Cert.LayerReferenceIdeal.L

end
-- ==== Proof.L.Out.lean ====
module

public import proofs.«01_k».proof.Proof.L.Block
public import proofs.«01_k».proof.Proof.L.Ref
public import Idealize.ShloMosaic.Lib.Pipeline.Value

@[expose] public section

set_option maxRecDepth 16384

noncomputable section

/-! # What the layer's result array ends holding -/

namespace Cert.LayerIdeal.L

open Idealize.ShloMosaic Idealize.ShloMosaic.TcCoe Idealize.SL.Sem Cert.LayerIdeal Gen Cert.MergeRow
open Idealize.ShloMosaic.Pipeline (Dat)
open Cert.ReferenceIdeal.V (ext2)
open Cert.LayerReferenceIdeal.L (ext1)

variable (m : (ℓ : Loc nD τ sig) → Buf (Elt Ideal) ℓ) (ρ : Dev nD → PrngReg) (c : Dev nD)

/-- The arguments' arrays. -/
abbrev a0 : (⟨S32768x1024, .f32⟩ : BufTy).Contents (Elt Ideal) := m ((c : Thread nD τ).loc main_arg0)
abbrev a1 : (⟨S32768x512, .f32⟩ : BufTy).Contents (Elt Ideal) := m ((c : Thread nD τ).loc main_arg1)
abbrev a2 : (⟨S32768x512, .f32⟩ : BufTy).Contents (Elt Ideal) := m ((c : Thread nD τ).loc main_arg2)
abbrev a3 : (⟨S32768x512, .f32⟩ : BufTy).Contents (Elt Ideal) := m ((c : Thread nD τ).loc main_arg3)
abbrev a4 : (⟨S1024, .f32⟩ : BufTy).Contents (Elt Ideal) := m ((c : Thread nD τ).loc main_arg4)
abbrev a5 : (⟨S1024x1536, .f32⟩ : BufTy).Contents (Elt Ideal) := m ((c : Thread nD τ).loc main_arg5)
abbrev a6 : (⟨S1024x3072, .f32⟩ : BufTy).Contents (Elt Ideal) := m ((c : Thread nD τ).loc main_arg6)
abbrev a7 : (⟨S512x1024, .f32⟩ : BufTy).Contents (Elt Ideal) := m ((c : Thread nD τ).loc main_arg7)
abbrev a8 : (⟨S512x1024, .f32⟩ : BufTy).Contents (Elt Ideal) := m ((c : Thread nD τ).loc main_arg8)
abbrev a9 : (⟨S512x1024, .f32⟩ : BufTy).Contents (Elt Ideal) := m ((c : Thread nD τ).loc main_arg9)
abbrev a10 : (⟨S1024x1024, .f32⟩ : BufTy).Contents (Elt Ideal) := m ((c : Thread nD τ).loc main_arg10)
abbrev a11 : (⟨S1024, .f32⟩ : BufTy).Contents (Elt Ideal) := m ((c : Thread nD τ).loc main_arg11)

/-! ## What the host hands the call -/

theorem V_h4 : (V m c main_v0 : Vec Ideal S1x1024 .f32) = broadcastInDim S1x1024 ![1] bcast_S1024_S1x1024_1 (a4 m c) := by
  unfold V
  simp only [hostOps0]
  after_results_simp <;> rfl
theorem V_h5 : (V m c main_v1 : Vec Ideal S1024x1536 .bf16) = truncf (F := Ideal) .bf16 (a5 m c) bitsLt_bf16_f32 := by
  unfold V
  simp only [hostOps0]
  after_results_simp <;> rfl
theorem V_h6 : (V m c main_v2 : Vec Ideal S1024x3072 .bf16) = truncf (F := Ideal) .bf16 (a6 m c) bitsLt_bf16_f32 := by
  unfold V
  simp only [hostOps0]
  after_results_simp <;> rfl
theorem V_h7 : (V m c main_v3 : Vec Ideal S512x1024 .bf16) = truncf (F := Ideal) .bf16 (a7 m c) bitsLt_bf16_f32 := by
  unfold V
  simp only [hostOps0]
  after_results_simp <;> rfl
theorem V_h8 : (V m c main_v4 : Vec Ideal S512x1024 .bf16) = truncf (F := Ideal) .bf16 (a8 m c) bitsLt_bf16_f32 := by
  unfold V
  simp only [hostOps0]
  after_results_simp <;> rfl
theorem V_h9 : (V m c main_v5 : Vec Ideal S512x1024 .bf16) = truncf (F := Ideal) .bf16 (a9 m c) bitsLt_bf16_f32 := by
  unfold V
  simp only [hostOps0]
  after_results_simp <;> rfl
theorem V_h10 : (V m c main_v6 : Vec Ideal S1024x1024 .bf16) = truncf (F := Ideal) .bf16 (a10 m c) bitsLt_bf16_f32 := by
  unfold V
  simp only [hostOps0]
  after_results_simp <;> rfl
theorem V_h11 : (V m c main_v7 : Vec Ideal S1x1024 .f32) = broadcastInDim S1x1024 ![1] bcast_S1024_S1x1024_1 (a11 m c) := by
  unfold V
  simp only [hostOps0]
  after_results_simp <;> rfl

theorem row_cast (x : (⟨S1024, .f32⟩ : BufTy).Contents (Elt Ideal)) (d : Fin 1024) :
    (broadcastInDim S1x1024 ![1] bcast_S1024_S1x1024_1 x : Vec Ideal S1x1024 .f32) (ix2 0 d) = x (ix1 d) := by
  pointwise

/-! ## The windows' blocks -/

theorem lt_N (t : Fin cfg0.N) : t.val < 128 := lt_of_lt_of_eq t.isLt Gen.N_0
/-- A row of a grid point's block, as a row of the whole array. -/
def tok (t : Fin cfg0.N) (r : Fin 256) : Fin 32768 := ⟨256 * t.val + r.val, by have := lt_N t; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val ∧ win0_12.index t 1 = 0 := by decide +kernel
theorem xsize12 : ∀ t : Fin grid0.N, win0_12.xsize (grid0.coords t) 0 = 256 ∧ win0_12.xsize (grid0.coords t) 1 = 1024 := by decide +kernel

theorem blk0 (t : Fin cfg0.N) (r : Fin 256) (d : Fin 1024) :
    (iblk m c 0 t : Vec Ideal S256x1024 .f32) (ix2 r d) = a0 m c (ix2 (tok t r) d) := by
  obtain ⟨i0, i1⟩ := index0 t
  unfold iblk
  rw [View.read_apply]
  show V m c main_arg0 _ = _
  rw [V_main_arg0]
  refine congrArg (a0 m c) (ext2 _ _ _ ?_ ?_)
  · show win0_0.index t 0 * 256 + 1 * r.val = 256 * t.val + r.val; rw [i0]; omega
  · show win0_0.index t 1 * 1024 + 1 * d.val = d.val; rw [i1]; omega

theorem blk1 (t : Fin cfg0.N) (r : Fin 256) (d : Fin 512) :
    (iblk m c 1 t : Vec Ideal S256x512 .f32) (ix2 r d) = a1 m c (ix2 (tok t r) d) := by
  obtain ⟨i0, i1⟩ := index1 t
  unfold iblk
  rw [View.read_apply]
  show V m c main_arg1 _ = _
  rw [V_main_arg1]
  refine congrArg (a1 m c) (ext2 _ _ _ ?_ ?_)
  · show win0_1.index t 0 * 256 + 1 * r.val = 256 * t.val + r.val; rw [i0]; omega
  · show win0_1.index t 1 * 512 + 1 * d.val = d.val; rw [i1]; omega

theorem blk2 (t : Fin cfg0.N) (r : Fin 256) (d : Fin 512) :
    (iblk m c 2 t : Vec Ideal S256x512 .f32) (ix2 r d) = a2 m c (ix2 (tok t r) d) := by
  obtain ⟨i0, i1⟩ := index2 t
  unfold iblk
  rw [View.read_apply]
  show V m c main_arg2 _ = _
  rw [V_main_arg2]
  refine congrArg (a2 m c) (ext2 _ _ _ ?_ ?_)
  · show win0_2.index t 0 * 256 + 1 * r.val = 256 * t.val + r.val; rw [i0]; omega
  · show win0_2.index t 1 * 512 + 1 * d.val = d.val; rw [i1]; omega

theorem blk3 (t : Fin cfg0.N) (r : Fin 256) (d : Fin 512) :
    (iblk m c 3 t : Vec Ideal S256x512 .f32) (ix2 r d) = a3 m c (ix2 (tok t r) d) := by
  obtain ⟨i0, i1⟩ := index3 t
  unfold iblk
  rw [View.read_apply]
  show V m c main_arg3 _ = _
  rw [V_main_arg3]
  refine congrArg (a3 m c) (ext2 _ _ _ ?_ ?_)
  · show win0_3.index t 0 * 256 + 1 * r.val = 256 * t.val + r.val; rw [i0]; omega
  · show win0_3.index t 1 * 512 + 1 * d.val = d.val; rw [i1]; omega

theorem blk5 (t : Fin cfg0.N) (r : Fin 1024) (d : Fin 1536) :
    (iblk m c 5 t : Vec Ideal S1024x1536 .bf16) (ix2 r d) = a5 m c (ix2 r d) := by
  obtain ⟨i0, i1⟩ := index5 t
  unfold iblk
  rw [View.read_apply]
  show (V m c main_v1 : Vec Ideal S1024x1536 .bf16) _ = _
  rw [V_h5]
  refine congrArg (a5 m c) (ext2 _ _ _ ?_ ?_)
  · show win0_5.index t 0 * 1024 + 1 * r.val = r.val; rw [i0]; omega
  · show win0_5.index t 1 * 1536 + 1 * d.val = d.val; rw [i1]; omega

theorem blk6 (t : Fin cfg0.N) (r : Fin 1024) (d : Fin 3072) :
    (iblk m c 6 t : Vec Ideal S1024x3072 .bf16) (ix2 r d) = a6 m c (ix2 r d) := by
  obtain ⟨i0, i1⟩ := index6 t
  unfold iblk
  rw [View.read_apply]
  show (V m c main_v2 : Vec Ideal S1024x3072 .bf16) _ = _
  rw [V_h6]
  refine congrArg (a6 m c) (ext2 _ _ _ ?_ ?_)
  · show win0_6.index t 0 * 1024 + 1 * r.val = r.val; rw [i0]; omega
  · show win0_6.index t 1 * 3072 + 1 * d.val = d.val; rw [i1]; omega

theorem blk7 (t : Fin cfg0.N) (r : Fin 512) (d : Fin 1024) :
    (iblk m c 7 t : Vec Ideal S512x1024 .bf16) (ix2 r d) = a7 m c (ix2 r d) := by
  obtain ⟨i0, i1⟩ := index7 t
  unfold iblk
  rw [View.read_apply]
  show (V m c main_v3 : Vec Ideal S512x1024 .bf16) _ = _
  rw [V_h7]
  refine congrArg (a7 m c) (ext2 _ _ _ ?_ ?_)
  · show win0_7.index t 0 * 512 + 1 * r.val = r.val; rw [i0]; omega
  · show win0_7.index t 1 * 1024 + 1 * d.val = d.val; rw [i1]; omega

theorem blk8 (t : Fin cfg0.N) (r : Fin 512) (d : Fin 1024) :
    (iblk m c 8 t : Vec Ideal S512x1024 .bf16) (ix2 r d) = a8 m c (ix2 r d) := by
  obtain ⟨i0, i1⟩ := index8 t
  unfold iblk
  rw [View.read_apply]
  show (V m c main_v4 : Vec Ideal S512x1024 .bf16) _ = _
  rw [V_h8]
  refine congrArg (a8 m c) (ext2 _ _ _ ?_ ?_)
  · show win0_8.index t 0 * 512 + 1 * r.val = r.val; rw [i0]; omega
  · show win0_8.index t 1 * 1024 + 1 * d.val = d.val; rw [i1]; omega

theorem blk9 (t : Fin cfg0.N) (r : Fin 512) (d : Fin 1024) :
    (iblk m c 9 t : Vec Ideal S512x1024 .bf16) (ix2 r d) = a9 m c (ix2 r d) := by
  obtain ⟨i0, i1⟩ := index9 t
  unfold iblk
  rw [View.read_apply]
  show (V m c main_v5 : Vec Ideal S512x1024 .bf16) _ = _
  rw [V_h9]
  refine congrArg (a9 m c) (ext2 _ _ _ ?_ ?_)
  · show win0_9.index t 0 * 512 + 1 * r.val = r.val; rw [i0]; omega
  · show win0_9.index t 1 * 1024 + 1 * d.val = d.val; rw [i1]; omega

theorem blk10 (t : Fin cfg0.N) (r : Fin 1024) (d : Fin 1024) :
    (iblk m c 10 t : Vec Ideal S1024x1024 .bf16) (ix2 r d) = a10 m c (ix2 r d) := by
  obtain ⟨i0, i1⟩ := index10 t
  unfold iblk
  rw [View.read_apply]
  show (V m c main_v6 : Vec Ideal S1024x1024 .bf16) _ = _
  rw [V_h10]
  refine congrArg (a10 m c) (ext2 _ _ _ ?_ ?_)
  · show win0_10.index t 0 * 1024 + 1 * r.val = r.val; rw [i0]; omega
  · show win0_10.index t 1 * 1024 + 1 * d.val = d.val; rw [i1]; omega

theorem blk4 (t : Fin cfg0.N) (d : Fin 1024) : (iblk m c 4 t : Vec Ideal S1x1024 .f32) (ix2 0 d) = a4 m c (ix1 d) := by
  obtain ⟨i0, i1⟩ := index4 t
  unfold iblk
  rw [View.read_apply]
  show (V m c main_v0 : Vec Ideal S1x1024 .f32) _ = _
  rw [V_h4]
  refine Eq.trans (congrArg (broadcastInDim S1x1024 ![1] bcast_S1024_S1x1024_1 (a4 m c) : Vec Ideal S1x1024 .f32) (ext2 _ 0 d ?_ ?_)) (row_cast (a4 m c) d)
  · show win0_4.index t 0 * 1 + 1 * 0 = 0; rw [i0]
  · show win0_4.index t 1 * 1024 + 1 * d.val = d.val; rw [i1]; omega

theorem blk11 (t : Fin cfg0.N) (d : Fin 1024) : (iblk m c 11 t : Vec Ideal S1x1024 .f32) (ix2 0 d) = a11 m c (ix1 d) := by
  obtain ⟨i0, i1⟩ := index11 t
  unfold iblk
  rw [View.read_apply]
  show (V m c main_v7 : Vec Ideal S1x1024 .f32) _ = _
  rw [V_h11]
  refine Eq.trans (congrArg (broadcastInDim S1x1024 ![1] bcast_S1024_S1x1024_1 (a11 m c) : Vec Ideal S1x1024 .f32) (ext2 _ 0 d ?_ ?_)) (row_cast (a11 m c) d)
  · show win0_11.index t 0 * 1 + 1 * 0 = 0; rw [i0]
  · show win0_11.index t 1 * 1024 + 1 * d.val = d.val; rw [i1]; omega

/-! ## The result -/

/-- The reference's value on the kernel's arguments. -/
def G : (⟨S32768x1024, .f32⟩ : BufTy).Contents (Elt Ideal) :=
  LayerReferenceIdeal.Read.val_main_v46 (F := Ideal) (a0 m c) (a1 m c) (a2 m c) (a3 m c) (a4 m c) (a5 m c) (a6 m c) (a7 m c) (a8 m c) (a9 m c) (a10 m c)

theorem out_at (t : Fin cfg0.N) (r : Fin 256) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = G m c (ix2 (tok t r) d) := by
  unfold G
  rw [LayerReferenceIdeal.L.layer_at]
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ?_
  simp only [blk0, blk1, blk2, blk3, blk4, blk5, blk6, blk7, blk8, blk9, blk10]

theorem flushed_eq (t : Fin cfg0.N) :
    (dats m 0 c).flushed 12 t = ((cfg0.win 12).blk t).view.read (Elt Ideal) (G m c) := by
  obtain ⟨i0, i1⟩ := index12 t
  show (cfg0.win 12).cut (grid0.coords t) ((dats m 0 c).after 12 t) = _
  rw [after0_12]
  funext j
  rw [View.read_apply]
  have hj0 : (j 0).val < 256 := lt_of_lt_of_eq (j 0).isLt (xsize12 t).1
  have hj1 : (j 1).val < 1024 := lt_of_lt_of_eq (j 1).isLt (xsize12 t).2
  have e := out_at m c t ⟨(j 0).val, hj0⟩ ⟨(j 1).val, hj1⟩
  refine Eq.trans (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ext2 _ _ _ rfl rfl)) (e.trans (congrArg (G m c) (ext2 _ _ _ ?_ ?_).symm))
  · show win0_12.index t 0 * 256 + 1 * (j 0).val = 256 * t.val + (j 0).val; rw [i0]; omega
  · show win0_12.index t 1 * 1024 + 1 * (j 1).val = (j 1).val; rw [i1]; omega

theorem final_o : (dats m 0 c).arrAt 12 cfg0.N = G m c :=
  (dats m 0 c).arrAt_eq_of_cover 12 (G m c) (fun t _ => flushed_eq m c t) fun i => by
    have hi0 : (i 0).val < 32768 := (i 0).isLt
    have hi1 : (i 1).val < 1024 := (i 1).isLt
    have hN : cfg0.N = 128 := Gen.N_0
    let t : Fin cfg0.N := ⟨(i 0).val / 256, by rw [hN]; omega⟩
    obtain ⟨i0, i1⟩ := index12 t
    obtain ⟨x0, x1⟩ := xsize12 t
    refine ⟨t, flush0_12 t, ?_⟩
    show i ∈ ((View.whole main_v8).slice (win0_12.rect t)).set
    rw [View.set_slice_whole, Rect.mem_set_unit]
    intro a
    match a with
    | ⟨0, _⟩ =>
      show win0_12.index t 0 * 256 ≤ (i 0).val ∧ (i 0).val < win0_12.index t 0 * 256 + win0_12.xsize (grid0.coords t) 0
      rw [i0, x0]; show (i 0).val / 256 * 256 ≤ _ ∧ _ < (i 0).val / 256 * 256 + 256; omega
    | ⟨1, _⟩ =>
      show win0_12.index t 1 * 1024 ≤ (i 1).val ∧ (i 1).val < win0_12.index t 1 * 1024 + win0_12.xsize (grid0.coords t) 1
      rw [i1, x1]; omega

end Cert.LayerIdeal.L

end
-- ==== Proof.L.Claims.lean ====
module

public import proofs.«01_k».proof.Defs
public import proofs.«01_k».proof.Proof.Gen.Layer.Frame
public import proofs.«01_k».proof.Proof.Gen.LayerReferenceIdeal.Run
public import proofs.«01_k».proof.Proof.L.Out

@[expose] public section

noncomputable section

open Idealize.ShloMosaic Idealize.ShloMosaic.TcCoe Idealize.SL.Sem

/-! ## The layer's frames, and its value -/

namespace Cert.Proof.Claims

theorem frame_layer : Cert.quiescent_Layer := fun m ρ _ => Cert.Layer.Gen.frame m ρ
theorem frame_layer_ideal : Cert.quiescent_LayerIdeal := fun m ρ _ => Cert.LayerIdeal.Gen.frame m ρ
theorem frame_layer_reference : Cert.quiescent_LayerReferenceIdeal := fun m ρ _ =>
  (θ_run Cert.LayerReferenceIdeal.defs _ _).mono (fun r h => ⟨fun c => (h c).2,
      Idealize.ShloMosaic.sem_eq_zero_of_no_sems (by decide) r.2⟩)
    (Cert.LayerReferenceIdeal.Value.run (F := Ideal) m ρ)

/-- On any inputs the layer's result is the reference's. -/
theorem algebraic_layer : Cert.algebraic_LayerIdeal_LayerReferenceIdeal := by
  intro m g m' g' _ hagree
  refine ⟨fun c => Cert.LayerIdeal.L.G m c, ?_, ?_⟩
  · refine (θ_run Cert.LayerIdeal.defs _ _).mono (fun r h c => ?_)
      (θ_run_and (Cert.LayerIdeal.Gen.frame m g) (Cert.LayerIdeal.Gen.run_main m g))
    exact ⟨((h.2 c).1 12).trans (Cert.LayerIdeal.L.final_o m c), h.1.1 c⟩
  · refine (θ_run Cert.LayerReferenceIdeal.defs _ _).mono (fun r h c => ?_) (Cert.LayerReferenceIdeal.Value.run (F := Ideal) m' g')
    refine ⟨(h c).1.trans ?_, (h c).2⟩
    obtain ⟨e0, e1, e2, e3, e4, e5, e6, e7, e8, e9, e10, _⟩ := hagree c
    rw [Cert.LayerReferenceIdeal.Read.val_main_v46_eq, e0, e1, e2, e3, e4, e5, e6, e7, e8, e9, e10]
    rfl

end Cert.Proof.Claims

end
-- ==== Proof.S.Spec.lean ====
module

public import proofs.«01_k».proof.Proof.M.Spec
public import proofs.«01_k».proof.Proof.V.Online

@[expose] public section

noncomputable section

/-! # A token's new states, as formulas of its row and the weights -/

namespace Cert.StatesRow

open Idealize.ShloMosaic Cert.MergeRow Cert.Online

/-- A column of the input projection, of the normed row. -/
def proj (x g w : Fin 1024 → EReal) : EReal := ∑ e, rnorm x g e * w e

/-- The convolution's gated input. -/
def hid (x g : Fin 1024 → EReal) (w : Fin 1024 → Fin 6944 → EReal) (k : Fin 512) : EReal :=
  proj x g (fun e => w e ⟨k.val, by omega⟩) * sigm (proj x g fun e => w e ⟨512 + k.val, by omega⟩)

/-- The norm of 256 columns. -/
def norm256 (y q : Fin 256 → EReal) (k : Fin 256) : EReal :=
  y k * Ideal.rsqrt (Ideal.div (∑ l, y l * y l) (Ideal.ofBits .f32 0x43800000#32) + shift) * q k

/-- The latent. -/
def lat (x g : Fin 1024 → EReal) (w : Fin 1024 → Fin 6944 → EReal) (q : Fin 256 → EReal) : Fin 256 → EReal :=
  norm256 (fun l => proj x g fun e => w e ⟨3072 + l.val, by omega⟩) q

end Cert.StatesRow

end
-- ==== Proof.S.Pay.lean ====
module

public import proofs.«01_k».proof.Proof.S.Spec
public import proofs.«01_k».proof.Proof.Gen.StatesIdeal.Skeleton
public import Idealize.ShloMosaic.Lib.Pointwise
public import Idealize.ShloMosaic.PureOps.Reduce
public import Idealize.ShloMosaic.PureOps.IdealRules

@[expose] public section

noncomputable section

/-! # The payloads of the call that makes the new states, at an index -/

namespace Cert.StatesIdeal.S

open Idealize.ShloMosaic Cert.StatesIdeal Gen Cert.MergeRow Cert.StatesRow

theorem pay5_at (v0 : Vec Ideal S256x1024 .f32) (v1 : Vec Ideal S1x1024 .f32) (r : Fin 256) (d : Fin 1024) :
    k0_pay5 v0 v1 (ix2 r d) = rnorm (fun d => v0 (ix2 r d)) (fun d => v1 (ix2 0 d)) d := by
  pointwise [k0_pay5]
  rfl

theorem pay6_at (v0 : Vec Ideal S256x1024 .f32) (v1 : Vec Ideal S1x1024 .f32) (w : Vec Ideal S1024x1024 .bf16) (r : Fin 256) (k : Fin 512) :
    k0_pay6 v0 v1 w (ix2 r k)
      = proj (fun d => v0 (ix2 r d)) (fun d => v1 (ix2 0 d)) (fun e => w (ix2 e ⟨k.val, by omega⟩))
        * sigm (proj (fun d => v0 (ix2 r d)) (fun d => v1 (ix2 0 d)) (fun e => w (ix2 e ⟨512 + k.val, by omega⟩))) := by
  pointwise [k0_pay6, pay5_at]
  rfl

theorem pay7_at (v0 : Vec Ideal S256x1024 .f32) (v1 : Vec Ideal S1x1024 .f32) (w : Vec Ideal S1024x1280 .bf16) (r : Fin 256) (j : Fin 1280) :
    k0_pay7 v0 v1 w (ix2 r j) = proj (fun d => v0 (ix2 r d)) (fun d => v1 (ix2 0 d)) (fun e => w (ix2 e j)) := by
  pointwise [k0_pay7, pay5_at]
  rfl

theorem pay18_at (z : FVec Ideal S256x1280 .f32) (r : Fin 256) (k : Fin 128) :
    k0_pay18 z (ix2 r k) = z (ix2 r ⟨1024 + k.val, by omega⟩) := by
  pointwise [k0_pay18]

theorem pay19_at (z : FVec Ideal S256x1280 .f32) (r : Fin 256) (k : Fin 128) :
    k0_pay19 z (ix2 r k) = z (ix2 r ⟨1152 + k.val, by omega⟩) := by
  pointwise [k0_pay19]

theorem pay22_at (u : FVec Ideal S256x1024 .bf16) (w : Vec Ideal S1024x768 .bf16) (r : Fin 256) (j : Fin 768) :
    k0_pay22 u w (ix2 r j) = ∑ e : Fin 1024, u (ix2 r e) * w (ix2 e j) := by
  pointwise [k0_pay22]

theorem pay25_at (z : FVec Ideal S256x768 .f32) (q : Vec Ideal S1x256 .f32) (r : Fin 256) (k : Fin 256) :
    k0_pay25 z q (ix2 r k) = norm256 (fun l => z (ix2 r ⟨256 + l.val, by omega⟩)) (fun l => q (ix2 0 l)) k := by
  pointwise [k0_pay25]
  rfl

theorem pay23_at (y : Vec Ideal S256x256 .f32) (r : Fin 256) (k : Fin 256) : k0_pay23 y (ix2 r k) = y (ix2 r k) := by
  pointwise [k0_pay23]

theorem pay24_at (y : Vec Ideal S256x256 .f32) (r : Fin 256) (k : Fin 256) : k0_pay24 y (ix2 r k) = y (ix2 r k) := by
  pointwise [k0_pay24]

theorem pay26_at (z : FVec Ideal S256x768 .f32) (co : FVec Ideal S256x256 .f32) (si : Vec Ideal S256x256 .f32) (r : Fin 256) (k : Fin 32) :
    k0_pay26 z co si (ix2 r k)
      = z (ix2 r ⟨512 + k.val, by omega⟩) * co (ix2 r ⟨k.val, by omega⟩) + z (ix2 r ⟨640 + k.val, by omega⟩) * si (ix2 r ⟨k.val, by omega⟩) := by
  pointwise [k0_pay26, pay24_at]

end Cert.StatesIdeal.S

end
-- ==== Proof.S.Block.lean ====
module

public import proofs.«01_k».proof.Proof.S.Pay
public import proofs.«01_k».proof.Proof.Gen.StatesIdeal.Frame
public import Idealize.ShloMosaic.Lib.Pipeline.ValueKit

@[expose] public section

set_option maxRecDepth 16384

noncomputable section

/-! # The blocks of the results, at an index -/

namespace Cert.StatesIdeal.S

open Idealize.ShloMosaic Cert.StatesIdeal Gen Cert.MergeRow Cert.StatesRow

theorem off_zero : (![0, 0] : Fin 2 → ℕ) = fun _ => 0 := by funext a; match a with | ⟨0, _⟩ => rfl | ⟨1, _⟩ => rfl

/-! The loads of whole blocks. -/

theorem whole_r0_0 (x : Vec Ideal S256x1024 .f32) : View.ld x r0_0 = x := View.ld_unit_zero (S := S256x1024) off_zero _ x
theorem whole_r0_1 (x : Vec Ideal S1x1024 .f32) : View.ld x r0_1 = x := View.ld_unit_zero (S := S1x1024) off_zero _ x
theorem whole_r0_2 (x : Vec Ideal S1024x1024 .bf16) : View.ld x r0_2 = x := View.ld_unit_zero (S := S1024x1024) off_zero _ x
theorem whole_r0_4 (x : Vec Ideal S1024x1280 .bf16) : View.ld x r0_4 = x := View.ld_unit_zero (S := S1024x1280) off_zero _ x
theorem whole_r0_14 (x : Vec Ideal S1024x768 .bf16) : View.ld x r0_14 = x := View.ld_unit_zero (S := S1024x768) off_zero _ x
theorem whole_r0_15 (x : Vec Ideal S256x256 .f32) : View.ld x r0_15 = x := View.ld_unit_zero (S := S256x256) off_zero _ x
theorem whole_r0_16 (x : Vec Ideal S1x256 .f32) : View.ld x r0_16 = x := View.ld_unit_zero (S := S1x256) off_zero _ x

theorem block11_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 512) :
    out0_11 x0 x1 x2 x3 x4 x5 x6 x7 x8 x9 x10 (ix2 r k)
      = proj (fun e => x0 (ix2 r e)) (fun e => x3 (ix2 0 e)) (fun e => x4 (ix2 e ⟨k.val, by omega⟩))
        * sigm (proj (fun e => x0 (ix2 r e)) (fun e => x3 (ix2 0 e)) fun e => x4 (ix2 e ⟨512 + k.val, by omega⟩)) := by
  unfold out0_11
  rw [View.canon_unit_zero off_zero]
  simp only [k0_pay50, k0_pay51, k0_pay52, whole_r0_0, whole_r0_1, whole_r0_2, whole_r0_4, whole_r0_14, whole_r0_15, whole_r0_16, pay6_at]

theorem block13_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 128) :
    out0_13 x0 x1 x2 x3 x4 x5 x6 x7 x8 x9 x10 (ix2 r k)
      = proj (fun e => x0 (ix2 r e)) (fun e => x3 (ix2 0 e)) (fun e => x5 (ix2 e ⟨1024 + k.val, by omega⟩)) := by
  unfold out0_13
  rw [View.canon_unit_zero off_zero]
  simp only [k0_pay50, k0_pay51, k0_pay52, whole_r0_0, whole_r0_1, whole_r0_2, whole_r0_4, whole_r0_14, whole_r0_15, whole_r0_16, pay18_at, pay7_at]

theorem block14_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 128) :
    out0_14 x0 x1 x2 x3 x4 x5 x6 x7 x8 x9 x10 (ix2 r k)
      = proj (fun e => x0 (ix2 r e)) (fun e => x3 (ix2 0 e)) (fun e => x5 (ix2 e ⟨1152 + k.val, by omega⟩)) := by
  unfold out0_14
  rw [View.canon_unit_zero off_zero]
  simp only [k0_pay50, k0_pay51, k0_pay52, whole_r0_0, whole_r0_1, whole_r0_2, whole_r0_4, whole_r0_14, whole_r0_15, whole_r0_16, pay19_at, pay7_at]

theorem block17_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 256) :
    out0_17 x0 x1 x2 x3 x4 x5 x6 x7 x8 x9 x10 (ix2 r k)
      = norm256 (fun l => proj (fun e => x0 (ix2 r e)) (fun e => x3 (ix2 0 e)) fun e => x6 (ix2 e ⟨256 + l.val, by omega⟩)) (fun l => x9 (ix2 0 l)) k := by
  unfold out0_17
  rw [View.canon_unit_zero off_zero]
  simp only [k0_pay50, k0_pay51, k0_pay52, whole_r0_0, whole_r0_1, whole_r0_2, whole_r0_4, whole_r0_14, whole_r0_15, whole_r0_16, pay25_at, pay22_at, pay5_at]
  rfl

theorem block18_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 32) :
    out0_18 x0 x1 x2 x3 x4 x5 x6 x7 x8 x9 x10 (ix2 r k)
      = proj (fun e => x0 (ix2 r e)) (fun e => x3 (ix2 0 e)) (fun e => x6 (ix2 e ⟨512 + k.val, by omega⟩)) * x1 (ix2 r ⟨k.val, by omega⟩)
        + proj (fun e => x0 (ix2 r e)) (fun e => x3 (ix2 0 e)) (fun e => x6 (ix2 e ⟨640 + k.val, by omega⟩)) * x2 (ix2 r ⟨k.val, by omega⟩) := by
  unfold out0_18
  rw [View.canon_unit_zero off_zero]
  simp only [k0_pay50, k0_pay51, k0_pay52, whole_r0_0, whole_r0_1, whole_r0_2, whole_r0_4, whole_r0_14, whole_r0_15, whole_r0_16, pay26_at, pay23_at, pay22_at, pay5_at]
  rfl

end Cert.StatesIdeal.S

end
-- ==== Proof.S.Ref.lean ====
module

public import proofs.«01_k».proof.Proof.Gen.StatesReferenceIdeal.Read
public import proofs.«01_k».proof.Proof.S.Spec
public import proofs.«01_k».proof.Proof.V.Ref

@[expose] public section

noncomputable section

/-! # The reference's states, at an index -/

namespace Cert.StatesReferenceIdeal.S

open Idealize.ShloMosaic Cert.StatesReferenceIdeal Cert.StatesReferenceIdeal.Gen Cert.StatesReferenceIdeal.Read Cert.MergeRow Cert.StatesRow
open Cert.ReferenceIdeal.V (ext2 ext3)

theorem ext1 {n : ℕ} (i : (⟨1, ![n]⟩ : Shape).Idx) (a : Fin n) (h : (i 0).val = a.val) : i = ix1 a := by
  funext d; apply Fin.ext
  match d with
  | ⟨0, _⟩ => exact h

variable (x0 : (⟨S8x4096x1024, .f32⟩ : BufTy).Contents (Elt Ideal)) (x1 : (⟨S1024, .f32⟩ : BufTy).Contents (Elt Ideal))
  (x2 : (⟨S1024x6944, .f32⟩ : BufTy).Contents (Elt Ideal)) (x5 : (⟨S256, .f32⟩ : BufTy).Contents (Elt Ideal))

/-- The normed input. -/
theorem u_at (b : Fin 8) (s : Fin 4096) (d : Fin 1024) :
    val_main_v14 (F := Ideal) x0 x1 (ix3 b s d) = rnorm (fun e => x0 (ix3 b s e)) (fun e => x1 (ix1 e)) d := by
  rw [val_main_v14_apply, val_main_v11_apply, val_main_v10_apply, val_main_v9_apply, val_main_v8_apply, val_main_v6_apply, val_main_v7_apply,
    val_main_v4_apply, val_main_v3_apply, val_main_v5_apply, val_main_cst_0_apply, val_main_cst_1_apply, val_main_cst_2_apply, val_main_v13_apply,
    val_main_v12_apply]
  have es : (FloatOps.ofBits (F := Ideal) .f32 0x00000000#32 : EReal)
      + ∑ k : Fin 1024, val_main_v2 (F := Ideal) x0 (idx_main_v3 (idx_main_v4 (idx_main_v10 (ix3 b s d))) k)
      = ∑ k : Fin 1024, x0 (ix3 b s k) * x0 (ix3 b s k) := by
    refine (congrArg₂ (fun a b : EReal => a + b) Ideal.ofBits_zero_f32 (Finset.sum_congr rfl fun k _ => ?_)).trans (zero_add _)
    rw [val_main_v2_apply, ext3 (idx_main_v3 (idx_main_v4 (idx_main_v10 (ix3 b s d))) k) b s k rfl rfl rfl]
    rfl
  rw [es, ext1 (idx_main_v12 (idx_main_v13 (ix3 b s d))) d rfl]
  rfl

/-- The input projection. -/
theorem p_at (b : Fin 8) (s : Fin 4096) (j : Fin 6944) :
    val_main_v15 (F := Ideal) x0 x1 x2 (ix3 b s j) = proj (fun e => x0 (ix3 b s e)) (fun e => x1 (ix1 e)) (fun e => x2 (ix2 e j)) := by
  rw [val_main_v15_apply]
  refine Finset.sum_congr rfl fun e _ => ?_
  rw [ext3 (lidx_main_v15 (ix3 b s j) e) b s e rfl rfl rfl, ext2 (ridx_main_v15 (ix3 b s j) e) e j rfl rfl, u_at]

theorem h_at (b : Fin 8) (s : Fin 4096) (k : Fin 512) :
    val_main_v34 (F := Ideal) x0 x1 x2 (ix3 b s k) = hid (fun e => x0 (ix3 b s e)) (fun e => x1 (ix1 e)) (fun e j => x2 (ix2 e j)) k := by
  rw [val_main_v34_apply, val_main_v16_apply, val_main_v33_apply, val_main_v32_apply, val_main_v31_apply, val_main_v30_apply, val_main_v29_apply,
    val_main_v28_apply, val_main_v17_apply, val_main_cst_3_apply, val_main_cst_4_apply,
    ext3 (idx_main_v16 (ix3 b s k)) b s ⟨k.val, by omega⟩ rfl rfl rfl, ext3 (idx_main_v17 (ix3 b s k)) b s ⟨512 + k.val, by omega⟩ rfl rfl rfl,
    p_at, p_at]
  refine congrArg (fun y : EReal => proj _ _ _ * y) (Eq.trans ?_ (sigm_neg _))
  exact congrArg₂ (fun a b : EReal => Ideal.div a (b + Ideal.exp _)) Ideal.ofBits_one_f32 Ideal.ofBits_one_f32

theorem k_at (b : Fin 8) (s : Fin 4096) (k : Fin 128) :
    val_main_v20 (F := Ideal) x0 x1 x2 (ix3 b s k)
      = proj (fun e => x0 (ix3 b s e)) (fun e => x1 (ix1 e)) (fun e => x2 (ix2 e ⟨2048 + k.val, by omega⟩)) := by
  rw [val_main_v20_apply, ext3 (idx_main_v20 (ix3 b s k)) b s ⟨2048 + k.val, by omega⟩ rfl rfl rfl, p_at]

theorem v_at (b : Fin 8) (s : Fin 4096) (k : Fin 128) :
    val_main_v21 (F := Ideal) x0 x1 x2 (ix3 b s k)
      = proj (fun e => x0 (ix3 b s e)) (fun e => x1 (ix1 e)) (fun e => x2 (ix2 e ⟨2176 + k.val, by omega⟩)) := by
  rw [val_main_v21_apply, ext3 (idx_main_v21 (ix3 b s k)) b s ⟨2176 + k.val, by omega⟩ rfl rfl rfl, p_at]

theorem c_at (b : Fin 8) (s : Fin 4096) (k : Fin 256) :
    val_main_v24 (F := Ideal) x0 x1 x2 (ix3 b s k)
      = proj (fun e => x0 (ix3 b s e)) (fun e => x1 (ix1 e)) (fun e => x2 (ix2 e ⟨3072 + k.val, by omega⟩)) := by
  rw [val_main_v24_apply, ext3 (idx_main_v24 (ix3 b s k)) b s ⟨3072 + k.val, by omega⟩ rfl rfl rfl, p_at]

theorem lat_at (b : Fin 8) (s : Fin 4096) (d : Fin 256) :
    val_main_v69 (F := Ideal) x0 x1 x2 x5 (ix3 b s d)
      = lat (fun e => x0 (ix3 b s e)) (fun e => x1 (ix1 e)) (fun e j => x2 (ix2 e j)) (fun l => x5 (ix1 l)) d := by
  rw [val_main_v69_apply, val_main_v66_apply, val_main_v65_apply, val_main_v64_apply, val_main_v63_apply, val_main_v61_apply, val_main_v62_apply,
    val_main_v59_apply, val_main_v58_apply, val_main_v60_apply, val_main_cst_9_apply, val_main_cst_10_apply, val_main_cst_11_apply, val_main_v68_apply,
    val_main_v67_apply]
  have es : (FloatOps.ofBits (F := Ideal) .f32 0x00000000#32 : EReal)
      + ∑ k : Fin 256, val_main_v57 (F := Ideal) x0 x1 x2 (idx_main_v58 (idx_main_v59 (idx_main_v65 (ix3 b s d))) k)
      = ∑ k : Fin 256, (proj (fun e => x0 (ix3 b s e)) (fun e => x1 (ix1 e)) fun e => x2 (ix2 e ⟨3072 + k.val, by omega⟩))
          * proj (fun e => x0 (ix3 b s e)) (fun e => x1 (ix1 e)) fun e => x2 (ix2 e ⟨3072 + k.val, by omega⟩) := by
    refine (congrArg₂ (fun a b : EReal => a + b) Ideal.ofBits_zero_f32 (Finset.sum_congr rfl fun k _ => ?_)).trans (zero_add _)
    rw [val_main_v57_apply, ext3 (idx_main_v58 (idx_main_v59 (idx_main_v65 (ix3 b s d))) k) b s k rfl rfl rfl, c_at]
    rfl
  rw [es, c_at, ext1 (idx_main_v67 (idx_main_v68 (ix3 b s d))) d rfl]
  rfl

/-- The rope key's first half. -/
theorem rot0_at (b : Fin 8) (s : Fin 4096) (j : Fin 16) :
    val_main_v78 (F := Ideal) x0 x1 x2 (ix3 b s j)
      = (proj (fun e => x0 (ix3 b s e)) (fun e => x1 (ix1 e)) fun e => x2 (ix2 e ⟨3328 + j.val, by omega⟩)) * val_main_v55 (F := Ideal) (ix2 s j)
        - (proj (fun e => x0 (ix3 b s e)) (fun e => x1 (ix1 e)) fun e => x2 (ix2 e ⟨3344 + j.val, by omega⟩)) * val_main_v56 (F := Ideal) (ix2 s j) := by
  rw [val_main_v78_apply, val_main_v74_apply, val_main_v77_apply, val_main_v70_apply, val_main_v71_apply, val_main_v25_apply, val_main_v25_apply,
    val_main_v73_apply, val_main_v72_apply, val_main_v76_apply, val_main_v75_apply,
    ext3 (idx_main_v25 (idx_main_v70 (ix3 b s j))) b s ⟨3328 + j.val, by omega⟩ rfl rfl rfl,
    ext3 (idx_main_v25 (idx_main_v71 (ix3 b s j))) b s ⟨3344 + j.val, by omega⟩ rfl rfl (by show 3328 + (16 + j.val) = 3344 + j.val; omega),
    p_at, p_at, ext2 (idx_main_v72 (idx_main_v73 (ix3 b s j))) s j rfl rfl, ext2 (idx_main_v75 (idx_main_v76 (ix3 b s j))) s j rfl rfl]
  rfl

/-- Its second half. -/
theorem rot1_at (b : Fin 8) (s : Fin 4096) (j : Fin 16) :
    val_main_v85 (F := Ideal) x0 x1 x2 (ix3 b s j)
      = (proj (fun e => x0 (ix3 b s e)) (fun e => x1 (ix1 e)) fun e => x2 (ix2 e ⟨3328 + j.val, by omega⟩)) * val_main_v56 (F := Ideal) (ix2 s j)
        + (proj (fun e => x0 (ix3 b s e)) (fun e => x1 (ix1 e)) fun e => x2 (ix2 e ⟨3344 + j.val, by omega⟩)) * val_main_v55 (F := Ideal) (ix2 s j) := by
  rw [val_main_v85_apply, val_main_v81_apply, val_main_v84_apply, val_main_v70_apply, val_main_v71_apply, val_main_v25_apply, val_main_v25_apply,
    val_main_v80_apply, val_main_v79_apply, val_main_v83_apply, val_main_v82_apply,
    ext3 (idx_main_v25 (idx_main_v70 (ix3 b s j))) b s ⟨3328 + j.val, by omega⟩ rfl rfl rfl,
    ext3 (idx_main_v25 (idx_main_v71 (ix3 b s j))) b s ⟨3344 + j.val, by omega⟩ rfl rfl (by show 3328 + (16 + j.val) = 3344 + j.val; omega),
    p_at, p_at, ext2 (idx_main_v79 (idx_main_v80 (ix3 b s j))) s j rfl rfl, ext2 (idx_main_v82 (idx_main_v83 (ix3 b s j))) s j rfl rfl]
  rfl

/-- The rope key's halves, joined. -/
theorem rope_at (b : Fin 8) (s : Fin 4096) (j : Fin 32) :
    val_main_v86 (F := Ideal) x0 x1 x2 (ix3 b s j)
      = if h : j.val < 16 then val_main_v78 (F := Ideal) x0 x1 x2 (ix3 b s ⟨j.val, h⟩)
        else val_main_v85 (F := Ideal) x0 x1 x2 (ix3 b s ⟨j.val - 16, by omega⟩) := by
  unfold val_main_v86
  pointwise

end Cert.StatesReferenceIdeal.S

end
-- ==== Proof.S.Host.lean ====
module

public import proofs.«01_k».proof.Proof.S.Block
public import proofs.«01_k».proof.Proof.S.Ref

@[expose] public section

set_option maxRecDepth 16384

noncomputable section

/-! # What the host hands the call -/

namespace Cert.StatesIdeal.S

open Idealize.ShloMosaic Idealize.ShloMosaic.TcCoe Idealize.SL.Sem Cert.StatesIdeal Gen

variable (m : (ℓ : Loc nD τ sig) → Buf (Elt Ideal) ℓ) (c : Dev nD)

/-- The arguments' arrays. -/
abbrev a0 : (⟨S8x4096x1024, .f32⟩ : BufTy).Contents (Elt Ideal) := m ((c : Thread nD τ).loc main_arg0)
abbrev a1 : (⟨S1024, .f32⟩ : BufTy).Contents (Elt Ideal) := m ((c : Thread nD τ).loc main_arg1)
abbrev a2 : (⟨S1024x6944, .f32⟩ : BufTy).Contents (Elt Ideal) := m ((c : Thread nD τ).loc main_arg2)
abbrev a5 : (⟨S256, .f32⟩ : BufTy).Contents (Elt Ideal) := m ((c : Thread nD τ).loc main_arg5)

theorem V_x : (V m c main_v27 : Vec Ideal S32768x1024 .f32) = shapeCast S32768x1024 (a0 m c) shapeCasts_S8x4096x1024_S32768x1024 := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- A table of the heads' cosines or sines, of the frequencies'. -/
def tab (y : FVec Ideal S4096x16 .f32) : FVec Ideal S4096x256 .f32 :=
  shapeCast S4096x256 (broadcastInDim S1x4096x8x32 ![0, 1, 2, 3] bcast_S1x4096x1x32_S1x4096x8x32_0_1_2_3
      (shapeCast S1x4096x1x32 (concatenate S4096x32 1 [⟨S4096x16, y⟩, ⟨S4096x16, y⟩] concatenates_S4096x16_S4096x16_S4096x32_d1)
        shapeCasts_S4096x32_S1x4096x1x32)) shapeCasts_S1x4096x8x32_S4096x256

theorem V_cos : (V m c main_v22 : Vec Ideal S4096x256 .f32) = tab (StatesReferenceIdeal.Read.val_main_v55 (F := Ideal)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V_sin : (V m c main_v26 : Vec Ideal S4096x256 .f32) = tab (StatesReferenceIdeal.Read.val_main_v56 (F := Ideal)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V_g : (V m c main_v73 : Vec Ideal S1x1024 .f32) = broadcastInDim S1x1024 ![1] bcast_S1024_S1x1024_1 (a1 m c) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V_q : (V m c main_v82 : Vec Ideal S1x256 .f32) = broadcastInDim S1x256 ![1] bcast_S256_S1x256_1 (a5 m c) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The columns of the convolution's input and its gate. -/
def wa (w : FVec Ideal S1024x6944 .f32) : FVec Ideal S1024x1024 .f32 :=
  concatenate S1024x1024 1 [⟨S1024x512, extractStridedSlice S1024x512 ![0, 0] w slices_S1024x6944_S1024x512_0_0⟩,
    ⟨S1024x512, extractStridedSlice S1024x512 ![0, 512] w slices_S1024x6944_S1024x512_0_512⟩] concatenates_S1024x512_S1024x512_S1024x1024_d1

/-- The columns of the stick-breaking keys and values, behind those of the queries. -/
def wsb (q : FVec Ideal S1024x1024 .f32) (w : FVec Ideal S1024x6944 .f32) : FVec Ideal S1024x1280 .f32 :=
  concatenate S1024x1280 1 [⟨S1024x1024, q⟩, ⟨S1024x128, extractStridedSlice S1024x128 ![0, 2048] w slices_S1024x6944_S1024x128_0_2048⟩,
    ⟨S1024x128, extractStridedSlice S1024x128 ![0, 2176] w slices_S1024x6944_S1024x128_0_2176⟩] concatenates_S1024x1024_S1024x128_S1024x128_S1024x1280_d1

/-- The columns of the rope key. -/
def wr (w : FVec Ideal S1024x6944 .f32) : FVec Ideal S1024x32 .f32 :=
  extractStridedSlice S1024x32 ![0, 3328] w slices_S1024x6944_S1024x32_0_3328

def zs : FVec Ideal S1024x96 .f32 := broadcastInDim S1024x96 ![] bcast_S_S1024x96 (constant (F := Ideal) S_ .f32 0x00000000#32)

/-- The columns of the rope key's turned halves. -/
def wt (w : FVec Ideal S1024x6944 .f32) : FVec Ideal S1024x32 .f32 :=
  concatenate S1024x32 1 [⟨S1024x16, Host.negf (extractStridedSlice S1024x16 ![0, 16] (wr w) slices_S1024x32_S1024x16_0_16)⟩,
    ⟨S1024x16, extractStridedSlice S1024x16 ![0, 0] (wr w) slices_S1024x32_S1024x16_0_0⟩] concatenates_S1024x16_S1024x16_S1024x32_d1

/-- The columns of the latents and the rope key. -/
def wmla (w : FVec Ideal S1024x6944 .f32) : FVec Ideal S1024x768 .f32 :=
  concatenate S1024x768 1 [⟨S1024x256, extractStridedSlice S1024x256 ![0, 2816] w slices_S1024x6944_S1024x256_0_2816⟩,
    ⟨S1024x256, extractStridedSlice S1024x256 ![0, 3072] w slices_S1024x6944_S1024x256_0_3072⟩, ⟨S1024x32, wr w⟩, ⟨S1024x96, zs⟩,
    ⟨S1024x32, wt w⟩, ⟨S1024x96, zs⟩] concatenates_S1024x256_S1024x256_S1024x32_S1024x96_S1024x32_S1024x96_S1024x768_d1

theorem V_wa : (V m c main_v77 : Vec Ideal S1024x1024 .bf16) = truncf (F := Ideal) .bf16 (wa (a2 m c)) bitsLt_bf16_f32 := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V_wsb : ∃ q, (V m c main_v78 : Vec Ideal S1024x1280 .bf16) = truncf (F := Ideal) .bf16 (wsb q (a2 m c)) bitsLt_bf16_f32 := by
  apply Exists.intro
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

theorem V_wmla : (V m c main_v79 : Vec Ideal S1024x768 .bf16) = truncf (F := Ideal) .bf16 (wmla (a2 m c)) bitsLt_bf16_f32 := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

end Cert.StatesIdeal.S

end
-- ==== Proof.S.Read.lean ====
module

public import proofs.«01_k».proof.Proof.S.Host

@[expose] public section

set_option maxRecDepth 16384

noncomputable section

/-! # The host's arrays, at an index -/

namespace Cert.StatesIdeal.S

open Idealize.ShloMosaic Cert.StatesIdeal Gen
open Cert.ReferenceIdeal.V (ext2 ext3)

/-- A row of the flattened tokens, as a batch and a position. -/
def bat (T : Fin 32768) : Fin 8 := ⟨T.val / 4096, by omega⟩
def pos (T : Fin 32768) : Fin 4096 := ⟨T.val % 4096, by omega⟩

theorem flat1024 (y : FVec Ideal S8x4096x1024 .f32) (T : Fin 32768) (d : Fin 1024) :
    shapeCast S32768x1024 y shapeCasts_S8x4096x1024_S32768x1024 (ix2 T d) = y (ix3 (bat T) (pos T) d) := by
  pointwise [bat, pos]

theorem tab_at (y : FVec Ideal S4096x16 .f32) (s : Fin 4096) (j : Fin 32) :
    tab y (ix2 s ⟨j.val, by omega⟩) = y (ix2 s ⟨j.val % 16, by omega⟩) := by
  have hj := j.isLt
  pointwise [tab]
  split
  · exact congrArg y (ext2 _ _ _ rfl (by show j.val % 32 = j.val % 16; omega))
  · exact congrArg y (ext2 _ _ _ rfl (by show j.val % 32 - 16 = j.val % 16; omega))

theorem wa_at (w : FVec Ideal S1024x6944 .f32) (e : Fin 1024) (j : Fin 1024) : wa w (ix2 e j) = w (ix2 e ⟨j.val, by omega⟩) := by
  pointwise [wa]
  split
  · rfl
  · exact congrArg w (ext2 _ _ _ rfl (by show 512 + (j.val - 512) = j.val; omega))

theorem wsb_at (q : FVec Ideal S1024x1024 .f32) (w : FVec Ideal S1024x6944 .f32) (e : Fin 1024) (k : Fin 256) :
    wsb q w (ix2 e ⟨1024 + k.val, by omega⟩) = w (ix2 e ⟨2048 + k.val, by omega⟩) := by
  pointwise [wsb]
  split
  · rfl
  · exact congrArg w (ext2 _ _ _ rfl (by show 2176 + (k.val - 128) = 2048 + k.val; omega))

theorem wmla_c (w : FVec Ideal S1024x6944 .f32) (e : Fin 1024) (k : Fin 256) :
    wmla w (ix2 e ⟨256 + k.val, by omega⟩) = w (ix2 e ⟨3072 + k.val, by omega⟩) := by
  pointwise [wmla]

theorem wr_at (w : FVec Ideal S1024x6944 .f32) (e : Fin 1024) (k : Fin 32) : wr w (ix2 e k) = w (ix2 e ⟨3328 + k.val, by omega⟩) := by
  pointwise [wr]

theorem wmla_r (w : FVec Ideal S1024x6944 .f32) (e : Fin 1024) (k : Fin 32) :
    wmla w (ix2 e ⟨512 + k.val, by omega⟩) = w (ix2 e ⟨3328 + k.val, by omega⟩) := by
  have hk := k.isLt
  refine Eq.trans ?_ (wr_at w e k)
  pointwise [wmla]
  rw [dif_neg (by omega), dif_neg (by omega), dif_pos (by omega)]
  exact congrArg (wr w) (ext2 _ _ _ rfl (by show 512 + k.val - 256 - 256 = k.val; omega))

theorem wmla_t (w : FVec Ideal S1024x6944 .f32) (e : Fin 1024) (k : Fin 32) :
    wmla w (ix2 e ⟨640 + k.val, by omega⟩) = wt w (ix2 e k) := by
  have hk := k.isLt
  pointwise [wmla]
  rw [dif_neg (by omega), dif_neg (by omega), dif_neg (by omega), dif_neg (by omega), dif_pos (by omega)]
  exact congrArg (wt w) (ext2 _ _ _ rfl (by show 640 + k.val - 256 - 256 - 32 - 96 = k.val; omega))

theorem wt_lo (w : FVec Ideal S1024x6944 .f32) (e : Fin 1024) (k : Fin 16) :
    wt w (ix2 e ⟨k.val, by omega⟩) = -w (ix2 e ⟨3344 + k.val, by omega⟩) := by
  pointwise [wt, wr_at]
  exact congrArg (fun y : EReal => -y) (congrArg w (ext2 _ _ _ rfl (by show 3328 + (16 + k.val) = 3344 + k.val; omega)))

theorem wt_hi (w : FVec Ideal S1024x6944 .f32) (e : Fin 1024) (k : Fin 16) :
    wt w (ix2 e ⟨16 + k.val, by omega⟩) = w (ix2 e ⟨3328 + k.val, by omega⟩) := by
  pointwise [wt, wr_at]

theorem row_cast (x : FVec Ideal S1024 .f32) (d : Fin 1024) :
    (broadcastInDim S1x1024 ![1] bcast_S1024_S1x1024_1 x : Vec Ideal S1x1024 .f32) (ix2 0 d) = x (ix1 d) := by
  pointwise

theorem row_cast' (x : FVec Ideal S256 .f32) (d : Fin 256) :
    (broadcastInDim S1x256 ![1] bcast_S256_S1x256_1 x : Vec Ideal S1x256 .f32) (ix2 0 d) = x (ix1 d) := by
  pointwise

end Cert.StatesIdeal.S

end
-- ==== Proof.S.Pre.lean ====
module

public import proofs.«01_k».proof.Proof.Gen.Pre_finite_weights
public import proofs.«01_k».proof.Proof.S.Spec
public import proofs.«01_k».proof.Proof.V.Pre

@[expose] public section

noncomputable section

/-! # The precondition read back, and what it gives: the normed row is real -/

namespace Cert.Pre_finite_weights.S

open Idealize.ShloMosaic Cert.Pre_finite_weights Facts Cert.Online

theorem fin_weights (x0 : FVec Ideal S8x4096x1024 .f32) (x1 : FVec Ideal S1024 .f32) (x2 : FVec Ideal S1024x6944 .f32)
    (x3 : FVec Ideal S256 .f32) (x4 : FVec Ideal S256x768 .f32) (x5 : FVec Ideal S256 .f32) (x6 : FVec Ideal S256x8x64 .f32)
    (h : fn (F := Ideal) x0 x1 x2 x3 x4 x5 x6 = fun _ => 1#1) : (∀ i, Fin' (x1 i)) ∧ ∀ i, Fin' (x2 i) := by
  have e := congrFun h (Shape.Idx.first h_S_)
  unfold fn at e
  obtain ⟨e0, e1⟩ := IntOp.andi_eq_one.1 e
  refine ⟨fun i => Pre_finite.V.fin_of_lt _ ?_, fun i => Pre_finite.V.fin_of_lt _ ?_⟩
  · exact Host.reduce_andi_all _ _ _ _ _ e0 i
  · exact Host.reduce_andi_all _ _ _ _ _ e1 i

end Cert.Pre_finite_weights.S

namespace Cert.StatesRow

open Idealize.ShloMosaic Cert.MergeRow Cert.Online

theorem width_eq : width = ((1024 : ℝ) : EReal) := by unfold width; simp [Ideal.ofBits, Ideal.ieee, -EReal.coe_mul]; norm_num
theorem shift_eq : shift = ((8796093 / 8796093022208 : ℝ) : EReal) := by unfold shift; simp [Ideal.ofBits, Ideal.ieee, -EReal.coe_mul]; norm_num

theorem sq_nonneg' (x : EReal) : 0 ≤ x * x := by
  induction x with
  | bot => simp
  | top => simp
  | coe r => rw [← EReal.coe_mul]; exact_mod_cast mul_self_nonneg r

/-- A number of the row times the inverse of the row's root mean square is real, whatever the row holds. -/
theorem fin_row (x : Fin 1024 → EReal) (d : Fin 1024) :
    Fin' (x d * Ideal.rsqrt (Ideal.div (∑ k, x k * x k) width + shift)) := by
  have hw : width ≠ 0 := by rw [width_eq]; exact_mod_cast (by norm_num : (1024 : ℝ) ≠ 0)
  have hinv : width⁻¹ = ((1024⁻¹ : ℝ) : EReal) := by rw [width_eq, EReal.coe_inv]
  have hdiv : Ideal.div (∑ k, x k * x k) width = (∑ k, x k * x k) * ((1024⁻¹ : ℝ) : EReal) := by
    unfold Ideal.div; rw [if_neg hw, hinv]
  rw [hdiv, shift_eq]
  have h0 : 0 ≤ ∑ k, x k * x k := Finset.sum_nonneg fun k _ => sq_nonneg' (x k)
  have hle : x d * x d ≤ ∑ k, x k * x k := Finset.single_le_sum (f := fun k => x k * x k) (fun k _ => sq_nonneg' (x k)) (Finset.mem_univ d)
  generalize (∑ k, x k * x k) = s at h0 hle
  induction s with
  | bot => simp at h0
  | top =>
    rw [EReal.top_mul_coe_of_pos (by norm_num), EReal.top_add_coe]
    refine ⟨0, ?_⟩
    show x d * 0 = _
    rw [mul_zero]; rfl
  | coe r =>
    have hr : 0 ≤ r := by exact_mod_cast h0
    have hx : Fin' (x d) := by
      generalize x d = y at hle
      induction y with
      | bot => simp at hle
      | top => simp at hle
      | coe q => exact ⟨q, rfl⟩
    refine hx.mul ?_
    rw [← EReal.coe_mul, ← EReal.coe_add, Ideal.rsqrt_coe]
    have hp : 0 < r * 1024⁻¹ + 8796093 / 8796093022208 := by positivity
    rw [if_neg (not_lt.2 hp.le), if_neg hp.ne']
    exact ⟨_, rfl⟩

theorem fin_rnorm (x g : Fin 1024 → EReal) (hg : ∀ d, Fin' (g d)) (d : Fin 1024) : Fin' (rnorm x g d) := (fin_row x d).mul (hg d)

theorem fin_proj (x g w : Fin 1024 → EReal) (hg : ∀ d, Fin' (g d)) (hw : ∀ d, Fin' (w d)) : Fin' (proj x g w) :=
  Fin'.sum _ _ fun d _ => (fin_rnorm x g hg d).mul (hw d)

/-- A projection on the negated column is the projection's negative. -/
theorem proj_neg (x g w : Fin 1024 → EReal) (hg : ∀ d, Fin' (g d)) (hw : ∀ d, Fin' (w d)) :
    proj x g (fun e => -(w e)) = -(proj x g w) := by
  unfold proj
  obtain ⟨u, hu⟩ : ∃ u : Fin 1024 → ℝ, ∀ e, rnorm x g e = (u e : EReal) := ⟨fun e => (rnorm x g e).toReal, fun e => (fin_rnorm x g hg e).eq⟩
  obtain ⟨v, hv⟩ : ∃ v : Fin 1024 → ℝ, ∀ e, w e = (v e : EReal) := ⟨fun e => (w e).toReal, fun e => (hw e).eq⟩
  simp only [hu, hv, ← EReal.coe_neg, ← EReal.coe_mul]
  rw [← coe_sum, ← coe_sum, ← EReal.coe_neg]
  simp

end Cert.StatesRow

end
-- ==== Proof.S.Out.lean ====
module

public import proofs.«01_k».proof.Proof.S.Read
public import proofs.«01_k».proof.Proof.S.Pre
public import Idealize.ShloMosaic.Lib.Pipeline.Value

@[expose] public section

set_option maxRecDepth 16384

noncomputable section

/-! # What the call's result arrays end holding -/

namespace Cert.StatesIdeal.S

open Idealize.ShloMosaic Idealize.ShloMosaic.TcCoe Idealize.SL.Sem Cert.StatesIdeal Gen Cert.MergeRow Cert.StatesRow Cert.Online
open Idealize.ShloMosaic.Pipeline (Dat)
open Cert.ReferenceIdeal.V (ext2 ext3)

variable (m : (ℓ : Loc nD τ sig) → Buf (Elt Ideal) ℓ) (c : Dev nD)

theorem lt_N (t : Fin cfg0.N) : t.val < 128 := lt_of_lt_of_eq t.isLt Gen.N_0
/-- A row of a grid point's block, as a row of the flattened tokens. -/
def tok (t : Fin cfg0.N) (r : Fin 256) : Fin 32768 := ⟨256 * t.val + r.val, by have := lt_N t; omega⟩

theorem index0 : ∀ t : Fin grid0.N, win0_0.index t 0 = t.val ∧ win0_0.index t 1 = 0 := by decide +kernel
theorem index1 : ∀ t : Fin grid0.N, win0_1.index t 0 = t.val % 16 ∧ win0_1.index t 1 = 0 := by decide +kernel
theorem index2 : ∀ t : Fin grid0.N, win0_2.index t 0 = t.val % 16 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index9 : ∀ t : Fin grid0.N, win0_9.index t 0 = 0 ∧ win0_9.index t 1 = 0 := by decide +kernel
theorem index11 : ∀ t : Fin grid0.N, win0_11.index t 0 = t.val ∧ win0_11.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem xsize11 : ∀ t : Fin grid0.N, win0_11.xsize (grid0.coords t) 0 = 256 ∧ win0_11.xsize (grid0.coords t) 1 = 512 := by decide +kernel
theorem xsize13 : ∀ t : Fin grid0.N, win0_13.xsize (grid0.coords t) 0 = 256 ∧ win0_13.xsize (grid0.coords t) 1 = 128 := by decide +kernel
theorem xsize14 : ∀ t : Fin grid0.N, win0_14.xsize (grid0.coords t) 0 = 256 ∧ win0_14.xsize (grid0.coords t) 1 = 128 := by decide +kernel
theorem xsize17 : ∀ t : Fin grid0.N, win0_17.xsize (grid0.coords t) 0 = 256 ∧ win0_17.xsize (grid0.coords t) 1 = 256 := by decide +kernel
theorem xsize18 : ∀ t : Fin grid0.N, win0_18.xsize (grid0.coords t) 0 = 256 ∧ win0_18.xsize (grid0.coords t) 1 = 32 := by decide +kernel

theorem blk0 (t : Fin cfg0.N) (r : Fin 256) (d : Fin 1024) :
    (iblk m c 0 t : Vec Ideal S256x1024 .f32) (ix2 r d) = a0 m c (ix3 (bat (tok t r)) (pos (tok t r)) d) := by
  obtain ⟨i0, i1⟩ := index0 t
  unfold iblk
  rw [View.read_apply]
  show (V m c main_v27 : Vec Ideal S32768x1024 .f32) _ = _
  rw [V_x]
  refine Eq.trans (congrArg (shapeCast S32768x1024 (a0 m c) shapeCasts_S8x4096x1024_S32768x1024) (ext2 _ _ _ ?_ ?_)) (flat1024 (a0 m c) (tok t r) d)
  · show win0_0.index t 0 * 256 + 1 * r.val = 256 * t.val + r.val; rw [i0]; omega
  · show win0_0.index t 1 * 1024 + 1 * d.val = d.val; rw [i1]; omega

theorem blk1 (t : Fin cfg0.N) (r : Fin 256) (d : Fin 256) :
    (iblk m c 1 t : Vec Ideal S256x256 .f32) (ix2 r d) = tab (StatesReferenceIdeal.Read.val_main_v55 (F := Ideal)) (ix2 (pos (tok t r)) d) := by
  obtain ⟨i0, i1⟩ := index1 t
  unfold iblk
  rw [View.read_apply]
  show (V m c main_v22 : Vec Ideal S4096x256 .f32) _ = _
  rw [V_cos]
  refine (congrArg (tab (StatesReferenceIdeal.Read.val_main_v55 (F := Ideal))) (ext2 _ _ _ ?_ ?_))
  · show win0_1.index t 0 * 256 + 1 * r.val = (256 * t.val + r.val) % 4096; rw [i0]; omega
  · show win0_1.index t 1 * 256 + 1 * d.val = d.val; rw [i1]; omega

theorem blk2 (t : Fin cfg0.N) (r : Fin 256) (d : Fin 256) :
    (iblk m c 2 t : Vec Ideal S256x256 .f32) (ix2 r d) = tab (StatesReferenceIdeal.Read.val_main_v56 (F := Ideal)) (ix2 (pos (tok t r)) d) := by
  obtain ⟨i0, i1⟩ := index2 t
  unfold iblk
  rw [View.read_apply]
  show (V m c main_v26 : Vec Ideal S4096x256 .f32) _ = _
  rw [V_sin]
  refine (congrArg (tab (StatesReferenceIdeal.Read.val_main_v56 (F := Ideal))) (ext2 _ _ _ ?_ ?_))
  · show win0_2.index t 0 * 256 + 1 * r.val = (256 * t.val + r.val) % 4096; rw [i0]; omega
  · show win0_2.index t 1 * 256 + 1 * d.val = d.val; rw [i1]; omega

theorem blk4 (t : Fin cfg0.N) (r : Fin 1024) (d : Fin 1024) :
    (iblk m c 4 t : Vec Ideal S1024x1024 .bf16) (ix2 r d) = wa (a2 m c) (ix2 r d) := by
  obtain ⟨i0, i1⟩ := index4 t
  unfold iblk
  rw [View.read_apply]
  show (V m c main_v77 : Vec Ideal S1024x1024 .bf16) _ = _
  rw [V_wa]
  refine (congrArg (wa (a2 m c)) (ext2 _ _ _ ?_ ?_))
  · show win0_4.index t 0 * 1024 + 1 * r.val = r.val; rw [i0]; omega
  · show win0_4.index t 1 * 1024 + 1 * d.val = d.val; rw [i1]; omega

theorem blk6 (t : Fin cfg0.N) (r : Fin 1024) (d : Fin 768) :
    (iblk m c 6 t : Vec Ideal S1024x768 .bf16) (ix2 r d) = wmla (a2 m c) (ix2 r d) := by
  obtain ⟨i0, i1⟩ := index6 t
  unfold iblk
  rw [View.read_apply]
  show (V m c main_v79 : Vec Ideal S1024x768 .bf16) _ = _
  rw [V_wmla]
  refine (congrArg (wmla (a2 m c)) (ext2 _ _ _ ?_ ?_))
  · show win0_6.index t 0 * 1024 + 1 * r.val = r.val; rw [i0]; omega
  · show win0_6.index t 1 * 768 + 1 * d.val = d.val; rw [i1]; omega

theorem blk5 (t : Fin cfg0.N) (r : Fin 1024) (k : Fin 256) :
    (iblk m c 5 t : Vec Ideal S1024x1280 .bf16) (ix2 r ⟨1024 + k.val, by omega⟩) = a2 m c (ix2 r ⟨2048 + k.val, by omega⟩) := by
  obtain ⟨i0, i1⟩ := index5 t
  obtain ⟨q, hq⟩ := V_wsb m c
  unfold iblk
  rw [View.read_apply]
  show (V m c main_v78 : Vec Ideal S1024x1280 .bf16) _ = _
  rw [hq]
  refine Eq.trans (congrArg (wsb q (a2 m c)) (ext2 _ r ⟨1024 + k.val, by omega⟩ ?_ ?_)) (wsb_at q (a2 m c) r k)
  · show win0_5.index t 0 * 1024 + 1 * r.val = r.val; rw [i0]; omega
  · show win0_5.index t 1 * 1280 + 1 * (1024 + k.val) = 1024 + k.val; rw [i1]; omega

theorem blk3 (t : Fin cfg0.N) (d : Fin 1024) : (iblk m c 3 t : Vec Ideal S1x1024 .f32) (ix2 0 d) = a1 m c (ix1 d) := by
  obtain ⟨i0, i1⟩ := index3 t
  unfold iblk
  rw [View.read_apply]
  show (V m c main_v73 : Vec Ideal S1x1024 .f32) _ = _
  rw [V_g]
  refine Eq.trans (congrArg (broadcastInDim S1x1024 ![1] bcast_S1024_S1x1024_1 (a1 m c) : Vec Ideal S1x1024 .f32) (ext2 _ 0 d ?_ ?_)) (row_cast (a1 m c) d)
  · show win0_3.index t 0 * 1 + 1 * 0 = 0; rw [i0]
  · show win0_3.index t 1 * 1024 + 1 * d.val = d.val; rw [i1]; omega

theorem blk9 (t : Fin cfg0.N) (d : Fin 256) : (iblk m c 9 t : Vec Ideal S1x256 .f32) (ix2 0 d) = a5 m c (ix1 d) := by
  obtain ⟨i0, i1⟩ := index9 t
  unfold iblk
  rw [View.read_apply]
  show (V m c main_v82 : Vec Ideal S1x256 .f32) _ = _
  rw [V_q]
  refine Eq.trans (congrArg (broadcastInDim S1x256 ![1] bcast_S256_S1x256_1 (a5 m c) : Vec Ideal S1x256 .f32) (ext2 _ 0 d ?_ ?_)) (row_cast' (a5 m c) d)
  · show win0_9.index t 0 * 1 + 1 * 0 = 0; rw [i0]
  · show win0_9.index t 1 * 256 + 1 * d.val = d.val; rw [i1]; omega

/-! ## The results: the reference's values on the kernel's arguments, the tokens flattened -/

def G11 : (⟨S32768x512, .f32⟩ : BufTy).Contents (Elt Ideal) := fun i =>
  StatesReferenceIdeal.Read.val_main_v34 (F := Ideal) (a0 m c) (a1 m c) (a2 m c) (ix3 (bat (i 0)) (pos (i 0)) (i 1))
def G13 : (⟨S32768x128, .f32⟩ : BufTy).Contents (Elt Ideal) := fun i =>
  StatesReferenceIdeal.Read.val_main_v20 (F := Ideal) (a0 m c) (a1 m c) (a2 m c) (ix3 (bat (i 0)) (pos (i 0)) (i 1))
def G14 : (⟨S32768x128, .f32⟩ : BufTy).Contents (Elt Ideal) := fun i =>
  StatesReferenceIdeal.Read.val_main_v21 (F := Ideal) (a0 m c) (a1 m c) (a2 m c) (ix3 (bat (i 0)) (pos (i 0)) (i 1))
def G17 : (⟨S32768x256, .f32⟩ : BufTy).Contents (Elt Ideal) := fun i =>
  StatesReferenceIdeal.Read.val_main_v69 (F := Ideal) (a0 m c) (a1 m c) (a2 m c) (a5 m c) (ix3 (bat (i 0)) (pos (i 0)) (i 1))
def G18 : (⟨S32768x32, .f32⟩ : BufTy).Contents (Elt Ideal) := fun i =>
  StatesReferenceIdeal.Read.val_main_v86 (F := Ideal) (a0 m c) (a1 m c) (a2 m c) (ix3 (bat (i 0)) (pos (i 0)) (i 1))

/-- The turned key, as the call makes it and as the reference does. -/
theorem rope_eq (x g : Fin 1024 → EReal) (w : FVec Ideal S1024x6944 .f32) (co si : FVec Ideal S4096x16 .f32) (s : Fin 4096) (k : Fin 32)
    (hg : ∀ e, Fin' (g e)) (hw : ∀ i, Fin' (w i)) :
    proj x g (fun e => wmla w (ix2 e ⟨512 + k.val, by omega⟩)) * tab co (ix2 s ⟨k.val, by omega⟩)
        + proj x g (fun e => wmla w (ix2 e ⟨640 + k.val, by omega⟩)) * tab si (ix2 s ⟨k.val, by omega⟩)
      = if h : k.val < 16 then
          proj x g (fun e => w (ix2 e ⟨3328 + k.val, by omega⟩)) * co (ix2 s ⟨k.val, h⟩)
            - proj x g (fun e => w (ix2 e ⟨3344 + k.val, by omega⟩)) * si (ix2 s ⟨k.val, h⟩)
        else
          proj x g (fun e => w (ix2 e ⟨3328 + (k.val - 16), by omega⟩)) * si (ix2 s ⟨k.val - 16, by omega⟩)
            + proj x g (fun e => w (ix2 e ⟨3344 + (k.val - 16), by omega⟩)) * co (ix2 s ⟨k.val - 16, by omega⟩) := by
  have hk := k.isLt
  simp only [wmla_r, wmla_t]
  rw [tab_at, tab_at]
  by_cases h : k.val < 16
  · have e16 : (⟨k.val % 16, Nat.mod_lt _ (by decide)⟩ : Fin 16) = ⟨k.val, h⟩ := Fin.ext (by show k.val % 16 = k.val; omega)
    have et : ∀ e, wt w (ix2 e k) = -w (ix2 e ⟨3344 + k.val, by omega⟩) := fun e => wt_lo w e ⟨k.val, h⟩
    rw [dif_pos h, e16]
    simp only [et]
    rw [proj_neg x g _ hg fun e => hw _, EReal.neg_mul, sub_eq_add_neg]
  · have e16 : (⟨k.val % 16, Nat.mod_lt _ (by decide)⟩ : Fin 16) = ⟨k.val - 16, by omega⟩ := Fin.ext (by show k.val % 16 = k.val - 16; omega)
    have ek : k = ⟨16 + (k.val - 16), by omega⟩ := Fin.ext (by show k.val = 16 + (k.val - 16); omega)
    have et : ∀ e, wt w (ix2 e k) = w (ix2 e ⟨3328 + (k.val - 16), by omega⟩) := fun e =>
      (congrArg (fun j => wt w (ix2 e j)) ek).trans (wt_hi w e ⟨k.val - 16, by omega⟩)
    have e1 : (⟨3328 + k.val, by omega⟩ : Fin 6944) = ⟨3344 + (k.val - 16), by omega⟩ := Fin.ext (by show 3328 + k.val = 3344 + (k.val - 16); omega)
    rw [dif_neg h, e16, e1]
    simp only [et]
    exact add_comm _ _

theorem out11_at (t : Fin cfg0.N) (r : Fin 256) (k : Fin 512) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G11 m c (ix2 (tok t r) k) := by
  show _ = StatesReferenceIdeal.Read.val_main_v34 (F := Ideal) (a0 m c) (a1 m c) (a2 m c) (ix3 (bat (tok t r)) (pos (tok t r)) k)
  rw [StatesReferenceIdeal.S.h_at]
  refine (block11_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk4, wa_at]
  rfl

theorem flushed11 (t : Fin cfg0.N) :
    (dats m 0 c).flushed 11 t = ((cfg0.win 11).blk t).view.read (Elt Ideal) (G11 m c) := by
  obtain ⟨i0, i1⟩ := index11 t
  show (cfg0.win 11).cut (grid0.coords t) ((dats m 0 c).after 11 t) = _
  rw [after0_11]
  funext j
  rw [View.read_apply]
  have hj0 : (j 0).val < 256 := lt_of_lt_of_eq (j 0).isLt (xsize11 t).1
  have hj1 : (j 1).val < 512 := lt_of_lt_of_eq (j 1).isLt (xsize11 t).2
  have e := out11_at m c t ⟨(j 0).val, hj0⟩ ⟨(j 1).val, hj1⟩
  refine Eq.trans (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G11 m c) (ext2 _ _ _ ?_ ?_).symm))
  · show win0_11.index t 0 * 256 + 1 * (j 0).val = 256 * t.val + (j 0).val; rw [i0]; omega
  · show win0_11.index t 1 * 512 + 1 * (j 1).val = (j 1).val; rw [i1]; omega

theorem final11 : (dats m 0 c).arrAt 11 cfg0.N = G11 m c :=
  (dats m 0 c).arrAt_eq_of_cover 11 (G11 m c) (fun t _ => flushed11 m c t) fun i => by
    have hi0 : (i 0).val < 32768 := (i 0).isLt
    have hi1 : (i 1).val < 512 := (i 1).isLt
    have hN : cfg0.N = 128 := Gen.N_0
    let t : Fin cfg0.N := ⟨(i 0).val / 256, by rw [hN]; omega⟩
    obtain ⟨i0, i1⟩ := index11 t
    obtain ⟨x0, x1⟩ := xsize11 t
    refine ⟨t, flush0_11 t, ?_⟩
    show i ∈ ((View.whole main_v84_0).slice (win0_11.rect t)).set
    rw [View.set_slice_whole, Rect.mem_set_unit]
    intro a
    match a with
    | ⟨0, _⟩ =>
      show win0_11.index t 0 * 256 ≤ (i 0).val ∧ (i 0).val < win0_11.index t 0 * 256 + win0_11.xsize (grid0.coords t) 0
      rw [i0, x0]; show (i 0).val / 256 * 256 ≤ _ ∧ _ < (i 0).val / 256 * 256 + 256; omega
    | ⟨1, _⟩ =>
      show win0_11.index t 1 * 512 ≤ (i 1).val ∧ (i 1).val < win0_11.index t 1 * 512 + win0_11.xsize (grid0.coords t) 1
      rw [i1, x1]; omega

theorem out13_at (t : Fin cfg0.N) (r : Fin 256) (k : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G13 m c (ix2 (tok t r) k) := by
  show _ = StatesReferenceIdeal.Read.val_main_v20 (F := Ideal) (a0 m c) (a1 m c) (a2 m c) (ix3 (bat (tok t r)) (pos (tok t r)) k)
  rw [StatesReferenceIdeal.S.k_at]
  refine (block13_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  have e5 : ∀ e : Fin 1024, (iblk m c 5 t : Vec Ideal S1024x1280 .bf16) (ix2 e ⟨1024 + k.val, by omega⟩) = a2 m c (ix2 e ⟨2048 + k.val, by omega⟩) := fun e => blk5 m c t e ⟨k.val, by omega⟩
  simp only [blk0, blk3, e5]

theorem flushed13 (t : Fin cfg0.N) :
    (dats m 0 c).flushed 13 t = ((cfg0.win 13).blk t).view.read (Elt Ideal) (G13 m c) := by
  obtain ⟨i0, i1⟩ := index13 t
  show (cfg0.win 13).cut (grid0.coords t) ((dats m 0 c).after 13 t) = _
  rw [after0_13]
  funext j
  rw [View.read_apply]
  have hj0 : (j 0).val < 256 := lt_of_lt_of_eq (j 0).isLt (xsize13 t).1
  have hj1 : (j 1).val < 128 := lt_of_lt_of_eq (j 1).isLt (xsize13 t).2
  have e := out13_at m c t ⟨(j 0).val, hj0⟩ ⟨(j 1).val, hj1⟩
  refine Eq.trans (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G13 m c) (ext2 _ _ _ ?_ ?_).symm))
  · show win0_13.index t 0 * 256 + 1 * (j 0).val = 256 * t.val + (j 0).val; rw [i0]; omega
  · show win0_13.index t 1 * 128 + 1 * (j 1).val = (j 1).val; rw [i1]; omega

theorem final13 : (dats m 0 c).arrAt 13 cfg0.N = G13 m c :=
  (dats m 0 c).arrAt_eq_of_cover 13 (G13 m c) (fun t _ => flushed13 m c t) fun i => by
    have hi0 : (i 0).val < 32768 := (i 0).isLt
    have hi1 : (i 1).val < 128 := (i 1).isLt
    have hN : cfg0.N = 128 := Gen.N_0
    let t : Fin cfg0.N := ⟨(i 0).val / 256, by rw [hN]; omega⟩
    obtain ⟨i0, i1⟩ := index13 t
    obtain ⟨x0, x1⟩ := xsize13 t
    refine ⟨t, flush0_13 t, ?_⟩
    show i ∈ ((View.whole main_v84_2).slice (win0_13.rect t)).set
    rw [View.set_slice_whole, Rect.mem_set_unit]
    intro a
    match a with
    | ⟨0, _⟩ =>
      show win0_13.index t 0 * 256 ≤ (i 0).val ∧ (i 0).val < win0_13.index t 0 * 256 + win0_13.xsize (grid0.coords t) 0
      rw [i0, x0]; show (i 0).val / 256 * 256 ≤ _ ∧ _ < (i 0).val / 256 * 256 + 256; omega
    | ⟨1, _⟩ =>
      show win0_13.index t 1 * 128 ≤ (i 1).val ∧ (i 1).val < win0_13.index t 1 * 128 + win0_13.xsize (grid0.coords t) 1
      rw [i1, x1]; omega

theorem out14_at (t : Fin cfg0.N) (r : Fin 256) (k : Fin 128) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G14 m c (ix2 (tok t r) k) := by
  show _ = StatesReferenceIdeal.Read.val_main_v21 (F := Ideal) (a0 m c) (a1 m c) (a2 m c) (ix3 (bat (tok t r)) (pos (tok t r)) k)
  rw [StatesReferenceIdeal.S.v_at]
  refine (block14_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  have e5 : ∀ e : Fin 1024, (iblk m c 5 t : Vec Ideal S1024x1280 .bf16) (ix2 e ⟨1152 + k.val, by omega⟩) = a2 m c (ix2 e ⟨2176 + k.val, by omega⟩) := fun e =>
    (congrArg (iblk m c 5 t : Vec Ideal S1024x1280 .bf16) (ext2 _ _ _ rfl (by show 1152 + k.val = 1024 + (128 + k.val); omega))).trans
      ((blk5 m c t e ⟨128 + k.val, by omega⟩).trans (congrArg (a2 m c) (ext2 _ _ _ rfl (by show 2048 + (128 + k.val) = 2176 + k.val; omega))))
  simp only [blk0, blk3, e5]

theorem flushed14 (t : Fin cfg0.N) :
    (dats m 0 c).flushed 14 t = ((cfg0.win 14).blk t).view.read (Elt Ideal) (G14 m c) := by
  obtain ⟨i0, i1⟩ := index14 t
  show (cfg0.win 14).cut (grid0.coords t) ((dats m 0 c).after 14 t) = _
  rw [after0_14]
  funext j
  rw [View.read_apply]
  have hj0 : (j 0).val < 256 := lt_of_lt_of_eq (j 0).isLt (xsize14 t).1
  have hj1 : (j 1).val < 128 := lt_of_lt_of_eq (j 1).isLt (xsize14 t).2
  have e := out14_at m c t ⟨(j 0).val, hj0⟩ ⟨(j 1).val, hj1⟩
  refine Eq.trans (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G14 m c) (ext2 _ _ _ ?_ ?_).symm))
  · show win0_14.index t 0 * 256 + 1 * (j 0).val = 256 * t.val + (j 0).val; rw [i0]; omega
  · show win0_14.index t 1 * 128 + 1 * (j 1).val = (j 1).val; rw [i1]; omega

theorem final14 : (dats m 0 c).arrAt 14 cfg0.N = G14 m c :=
  (dats m 0 c).arrAt_eq_of_cover 14 (G14 m c) (fun t _ => flushed14 m c t) fun i => by
    have hi0 : (i 0).val < 32768 := (i 0).isLt
    have hi1 : (i 1).val < 128 := (i 1).isLt
    have hN : cfg0.N = 128 := Gen.N_0
    let t : Fin cfg0.N := ⟨(i 0).val / 256, by rw [hN]; omega⟩
    obtain ⟨i0, i1⟩ := index14 t
    obtain ⟨x0, x1⟩ := xsize14 t
    refine ⟨t, flush0_14 t, ?_⟩
    show i ∈ ((View.whole main_v84_3).slice (win0_14.rect t)).set
    rw [View.set_slice_whole, Rect.mem_set_unit]
    intro a
    match a with
    | ⟨0, _⟩ =>
      show win0_14.index t 0 * 256 ≤ (i 0).val ∧ (i 0).val < win0_14.index t 0 * 256 + win0_14.xsize (grid0.coords t) 0
      rw [i0, x0]; show (i 0).val / 256 * 256 ≤ _ ∧ _ < (i 0).val / 256 * 256 + 256; omega
    | ⟨1, _⟩ =>
      show win0_14.index t 1 * 128 ≤ (i 1).val ∧ (i 1).val < win0_14.index t 1 * 128 + win0_14.xsize (grid0.coords t) 1
      rw [i1, x1]; omega

theorem out17_at (t : Fin cfg0.N) (r : Fin 256) (k : Fin 256) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G17 m c (ix2 (tok t r) k) := by
  show _ = StatesReferenceIdeal.Read.val_main_v69 (F := Ideal) (a0 m c) (a1 m c) (a2 m c) (a5 m c) (ix3 (bat (tok t r)) (pos (tok t r)) k)
  rw [StatesReferenceIdeal.S.lat_at]
  refine (block17_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk6, blk9, wmla_c]
  rfl

theorem flushed17 (t : Fin cfg0.N) :
    (dats m 0 c).flushed 17 t = ((cfg0.win 17).blk t).view.read (Elt Ideal) (G17 m c) := by
  obtain ⟨i0, i1⟩ := index17 t
  show (cfg0.win 17).cut (grid0.coords t) ((dats m 0 c).after 17 t) = _
  rw [after0_17]
  funext j
  rw [View.read_apply]
  have hj0 : (j 0).val < 256 := lt_of_lt_of_eq (j 0).isLt (xsize17 t).1
  have hj1 : (j 1).val < 256 := lt_of_lt_of_eq (j 1).isLt (xsize17 t).2
  have e := out17_at m c t ⟨(j 0).val, hj0⟩ ⟨(j 1).val, hj1⟩
  refine Eq.trans (congrArg (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G17 m c) (ext2 _ _ _ ?_ ?_).symm))
  · show win0_17.index t 0 * 256 + 1 * (j 0).val = 256 * t.val + (j 0).val; rw [i0]; omega
  · show win0_17.index t 1 * 256 + 1 * (j 1).val = (j 1).val; rw [i1]; omega

theorem final17 : (dats m 0 c).arrAt 17 cfg0.N = G17 m c :=
  (dats m 0 c).arrAt_eq_of_cover 17 (G17 m c) (fun t _ => flushed17 m c t) fun i => by
    have hi0 : (i 0).val < 32768 := (i 0).isLt
    have hi1 : (i 1).val < 256 := (i 1).isLt
    have hN : cfg0.N = 128 := Gen.N_0
    let t : Fin cfg0.N := ⟨(i 0).val / 256, by rw [hN]; omega⟩
    obtain ⟨i0, i1⟩ := index17 t
    obtain ⟨x0, x1⟩ := xsize17 t
    refine ⟨t, flush0_17 t, ?_⟩
    show i ∈ ((View.whole main_v84_6).slice (win0_17.rect t)).set
    rw [View.set_slice_whole, Rect.mem_set_unit]
    intro a
    match a with
    | ⟨0, _⟩ =>
      show win0_17.index t 0 * 256 ≤ (i 0).val ∧ (i 0).val < win0_17.index t 0 * 256 + win0_17.xsize (grid0.coords t) 0
      rw [i0, x0]; show (i 0).val / 256 * 256 ≤ _ ∧ _ < (i 0).val / 256 * 256 + 256; omega
    | ⟨1, _⟩ =>
      show win0_17.index t 1 * 256 ≤ (i 1).val ∧ (i 1).val < win0_17.index t 1 * 256 + win0_17.xsize (grid0.coords t) 1
      rw [i1, x1]; omega

theorem out18_at (hg : ∀ i, Fin' (a1 m c i)) (hw : ∀ i, Fin' (a2 m c i)) (t : Fin cfg0.N) (r : Fin 256) (k : Fin 32) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G18 m c (ix2 (tok t r) k) := by
  show _ = StatesReferenceIdeal.Read.val_main_v86 (F := Ideal) (a0 m c) (a1 m c) (a2 m c) (ix3 (bat (tok t r)) (pos (tok t r)) k)
  rw [StatesReferenceIdeal.S.rope_at]
  refine (block18_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk6, blk1, blk2, StatesReferenceIdeal.S.rot0_at, StatesReferenceIdeal.S.rot1_at]
  exact rope_eq _ _ (a2 m c) _ _ _ k (fun e => hg _) hw

theorem flushed18 (hg : ∀ i, Fin' (a1 m c i)) (hw : ∀ i, Fin' (a2 m c i)) (t : Fin cfg0.N) :
    (dats m 0 c).flushed 18 t = ((cfg0.win 18).blk t).view.read (Elt Ideal) (G18 m c) := by
  obtain ⟨i0, i1⟩ := index18 t
  show (cfg0.win 18).cut (grid0.coords t) ((dats m 0 c).after 18 t) = _
  rw [after0_18]
  funext j
  rw [View.read_apply]
  have hj0 : (j 0).val < 256 := lt_of_lt_of_eq (j 0).isLt (xsize18 t).1
  have hj1 : (j 1).val < 32 := lt_of_lt_of_eq (j 1).isLt (xsize18 t).2
  have e := out18_at m c hg hw t ⟨(j 0).val, hj0⟩ ⟨(j 1).val, hj1⟩
  refine Eq.trans (congrArg (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G18 m c) (ext2 _ _ _ ?_ ?_).symm))
  · show win0_18.index t 0 * 256 + 1 * (j 0).val = 256 * t.val + (j 0).val; rw [i0]; omega
  · show win0_18.index t 1 * 32 + 1 * (j 1).val = (j 1).val; rw [i1]; omega

theorem final18 (hg : ∀ i, Fin' (a1 m c i)) (hw : ∀ i, Fin' (a2 m c i)) : (dats m 0 c).arrAt 18 cfg0.N = G18 m c :=
  (dats m 0 c).arrAt_eq_of_cover 18 (G18 m c) (fun t _ => flushed18 m c hg hw t) fun i => by
    have hi0 : (i 0).val < 32768 := (i 0).isLt
    have hi1 : (i 1).val < 32 := (i 1).isLt
    have hN : cfg0.N = 128 := Gen.N_0
    let t : Fin cfg0.N := ⟨(i 0).val / 256, by rw [hN]; omega⟩
    obtain ⟨i0, i1⟩ := index18 t
    obtain ⟨x0, x1⟩ := xsize18 t
    refine ⟨t, flush0_18 t, ?_⟩
    show i ∈ ((View.whole main_v84_7).slice (win0_18.rect t)).set
    rw [View.set_slice_whole, Rect.mem_set_unit]
    intro a
    match a with
    | ⟨0, _⟩ =>
      show win0_18.index t 0 * 256 ≤ (i 0).val ∧ (i 0).val < win0_18.index t 0 * 256 + win0_18.xsize (grid0.coords t) 0
      rw [i0, x0]; show (i 0).val / 256 * 256 ≤ _ ∧ _ < (i 0).val / 256 * 256 + 256; omega
    | ⟨1, _⟩ =>
      show win0_18.index t 1 * 32 ≤ (i 1).val ∧ (i 1).val < win0_18.index t 1 * 32 + win0_18.xsize (grid0.coords t) 1
      rw [i1, x1]; omega

end Cert.StatesIdeal.S

end
-- ==== Proof.S.Tail.lean ====
module

public import proofs.«01_k».proof.Proof.S.Out

@[expose] public section

set_option maxRecDepth 16384

noncomputable section

/-! # What the host makes of the call's results -/

namespace Cert.StatesIdeal.S

open Idealize.ShloMosaic Idealize.ShloMosaic.TcCoe Idealize.SL.Sem Cert.StatesIdeal Gen Cert.MergeRow Cert.StatesRow Cert.Online
open Idealize.ShloMosaic.Pipeline (Dat)
open Cert.ReferenceIdeal.V (ext2 ext3)

variable (m : (ℓ : Loc nD τ sig) → Buf (Elt Ideal) ℓ) (c : Dev nD)

/-- The arrays after the call. -/
abbrev after0 : Valuation τ sig (Elt Ideal) := Pipeline.withArrays (cfgs 0).spec c (V0 m c) fun w => (dats m 0 c).arrAt w (cfgs 0).N

theorem arr_inj : Function.Injective (Pipeline.arrRef (cfgs 0).spec) := by exact (by decide : Function.Injective (Pipeline.arrRef spec0))

theorem arr11 : (after0 m c (Proc.devRef .tc main_v84_0) : FVec Ideal S32768x512 .f32) = G11 m c :=
  (Pipeline.withArrays_arr (cfgs 0).spec arr_inj c (V0 m c) (fun w => (dats m 0 c).arrAt w (cfgs 0).N) 11).trans (final11 m c)

theorem arr13 : (after0 m c (Proc.devRef .tc main_v84_2) : FVec Ideal S32768x128 .f32) = G13 m c :=
  (Pipeline.withArrays_arr (cfgs 0).spec arr_inj c (V0 m c) (fun w => (dats m 0 c).arrAt w (cfgs 0).N) 13).trans (final13 m c)

theorem arr14 : (after0 m c (Proc.devRef .tc main_v84_3) : FVec Ideal S32768x128 .f32) = G14 m c :=
  (Pipeline.withArrays_arr (cfgs 0).spec arr_inj c (V0 m c) (fun w => (dats m 0 c).arrAt w (cfgs 0).N) 14).trans (final14 m c)

theorem arr17 : (after0 m c (Proc.devRef .tc main_v84_6) : FVec Ideal S32768x256 .f32) = G17 m c :=
  (Pipeline.withArrays_arr (cfgs 0).spec arr_inj c (V0 m c) (fun w => (dats m 0 c).arrAt w (cfgs 0).N) 17).trans (final17 m c)

theorem arr18 (hg : ∀ i, Fin' (a1 m c i)) (hw : ∀ i, Fin' (a2 m c i)) : (after0 m c (Proc.devRef .tc main_v84_7) : FVec Ideal S32768x32 .f32) = G18 m c :=
  (Pipeline.withArrays_arr (cfgs 0).spec arr_inj c (V0 m c) (fun w => (dats m 0 c).arrAt w (cfgs 0).N) 18).trans (final18 m c hg hw)

/-! The tokens unflattened. -/

theorem unflat512 (y : FVec Ideal S8x4096x512 .f32) :
    shapeCast S8x4096x512 (fun i : S32768x512.Idx => y (ix3 (bat (i 0)) (pos (i 0)) (i 1)) : FVec Ideal S32768x512 .f32) shapeCasts_S32768x512_S8x4096x512 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 4096 + s.val) / 4096 = b.val; omega) (by show (b.val * 4096 + s.val) % 4096 = s.val; omega) rfl)

theorem unflat256 (y : FVec Ideal S8x4096x256 .f32) :
    shapeCast S8x4096x256 (fun i : S32768x256.Idx => y (ix3 (bat (i 0)) (pos (i 0)) (i 1)) : FVec Ideal S32768x256 .f32) shapeCasts_S32768x256_S8x4096x256 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 4096 + s.val) / 4096 = b.val; omega) (by show (b.val * 4096 + s.val) % 4096 = s.val; omega) rfl)

theorem unflat32 (y : FVec Ideal S8x4096x32 .f32) :
    shapeCast S8x4096x32 (fun i : S32768x32.Idx => y (ix3 (bat (i 0)) (pos (i 0)) (i 1)) : FVec Ideal S32768x32 .f32) shapeCasts_S32768x32_S8x4096x32 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 4096 + s.val) / 4096 = b.val; omega) (by show (b.val * 4096 + s.val) % 4096 = s.val; omega) rfl)

theorem unflat128 (y : FVec Ideal StatesReferenceIdeal.S8x4096x128 .f32) :
    shapeCast S8x4096x2x64 (fun i : S32768x128.Idx => y (ix3 (bat (i 0)) (pos (i 0)) (i 1)) : FVec Ideal S32768x128 .f32) shapeCasts_S32768x128_S8x4096x2x64
      = shapeCast S8x4096x2x64 y StatesReferenceIdeal.Facts₀.shapeCasts_S8x4096x128_S8x4096x2x64 := by
  funext i
  obtain ⟨b, s, k, l, rfl⟩ : ∃ b s k l, i = ix4 b s k l := ⟨i 0, i 1, i 2, i 3, by funext a; match a with | ⟨0, _⟩ => rfl | ⟨1, _⟩ => rfl | ⟨2, _⟩ => rfl | ⟨3, _⟩ => rfl⟩
  pointwise [bat, pos]
  exact congrArg y (ext3 _ _ _ _ (by show (b.val * 4096 + s.val) / 4096 = b.val; omega) (by show (b.val * 4096 + s.val) % 4096 = s.val; omega) rfl)

theorem tail88 : (Pipeline.afterTail₀ cfgs (dats m) 0 (V0 m) [hostOps1] c main_v88 : FVec Ideal S8x4096x2x64 .f32)
    = StatesReferenceIdeal.Read.val_main_v37 (F := Ideal) (a0 m c) (a1 m c) (a2 m c) := by
  have e : (Pipeline.afterTail₀ cfgs (dats m) 0 (V0 m) [hostOps1] c main_v88 : FVec Ideal S8x4096x2x64 .f32)
      = shapeCast S8x4096x2x64 (after0 m c (Proc.devRef .tc main_v84_2) : FVec Ideal S32768x128 .f32) shapeCasts_S32768x128_S8x4096x2x64 := by
    unfold Pipeline.afterTail₀
    simp only [hostOps1, List.flatten_cons, List.flatten_nil, List.append_nil, List.cons_append, List.nil_append]
    after_results_simp <;> rfl
  rw [e, arr13 m c]
  exact unflat128 _

theorem tail89 : (Pipeline.afterTail₀ cfgs (dats m) 0 (V0 m) [hostOps1] c main_v89 : FVec Ideal S8x4096x2x64 .f32)
    = StatesReferenceIdeal.Read.val_main_v38 (F := Ideal) (a0 m c) (a1 m c) (a2 m c) := by
  have e : (Pipeline.afterTail₀ cfgs (dats m) 0 (V0 m) [hostOps1] c main_v89 : FVec Ideal S8x4096x2x64 .f32)
      = shapeCast S8x4096x2x64 (after0 m c (Proc.devRef .tc main_v84_3) : FVec Ideal S32768x128 .f32) shapeCasts_S32768x128_S8x4096x2x64 := by
    unfold Pipeline.afterTail₀
    simp only [hostOps1, List.flatten_cons, List.flatten_nil, List.append_nil, List.cons_append, List.nil_append]
    after_results_simp <;> rfl
  rw [e, arr14 m c]
  exact unflat128 _

theorem tail90 : (Pipeline.afterTail₀ cfgs (dats m) 0 (V0 m) [hostOps1] c main_v90 : FVec Ideal S8x4096x256 .f32)
    = StatesReferenceIdeal.Read.val_main_v69 (F := Ideal) (a0 m c) (a1 m c) (a2 m c) (a5 m c) := by
  have e : (Pipeline.afterTail₀ cfgs (dats m) 0 (V0 m) [hostOps1] c main_v90 : FVec Ideal S8x4096x256 .f32)
      = shapeCast S8x4096x256 (after0 m c (Proc.devRef .tc main_v84_6) : FVec Ideal S32768x256 .f32) shapeCasts_S32768x256_S8x4096x256 := by
    unfold Pipeline.afterTail₀
    simp only [hostOps1, List.flatten_cons, List.flatten_nil, List.append_nil, List.cons_append, List.nil_append]
    after_results_simp <;> rfl
  rw [e, arr17 m c]
  exact unflat256 _

theorem tail91 (hg : ∀ i, Fin' (a1 m c i)) (hw : ∀ i, Fin' (a2 m c i)) : (Pipeline.afterTail₀ cfgs (dats m) 0 (V0 m) [hostOps1] c main_v91 : FVec Ideal S8x4096x32 .f32)
    = StatesReferenceIdeal.Read.val_main_v86 (F := Ideal) (a0 m c) (a1 m c) (a2 m c) := by
  have e : (Pipeline.afterTail₀ cfgs (dats m) 0 (V0 m) [hostOps1] c main_v91 : FVec Ideal S8x4096x32 .f32)
      = shapeCast S8x4096x32 (after0 m c (Proc.devRef .tc main_v84_7) : FVec Ideal S32768x32 .f32) shapeCasts_S32768x32_S8x4096x32 := by
    unfold Pipeline.afterTail₀
    simp only [hostOps1, List.flatten_cons, List.flatten_nil, List.append_nil, List.cons_append, List.nil_append]
    after_results_simp <;> rfl
  rw [e, arr18 m c hg hw]
  exact unflat32 _

theorem tail92 : (Pipeline.afterTail₀ cfgs (dats m) 0 (V0 m) [hostOps1] c main_v92 : FVec Ideal S8x30x512 .f32)
    = StatesReferenceIdeal.Read.val_main_v36 (F := Ideal) (a0 m c) (a1 m c) (a2 m c) := by
  have e : (Pipeline.afterTail₀ cfgs (dats m) 0 (V0 m) [hostOps1] c main_v92 : FVec Ideal S8x30x512 .f32)
      = extractStridedSlice S8x30x512 ![0, 4096, 0] (concatenate S8x4126x512 1
          [⟨S8x30x512, broadcastInDim S8x30x512 ![] bcast_S_S8x30x512 (constant (F := Ideal) S_ .f32 0x00000000#32)⟩,
            ⟨S8x4096x512, shapeCast S8x4096x512 (after0 m c (Proc.devRef .tc main_v84_0) : FVec Ideal S32768x512 .f32) shapeCasts_S32768x512_S8x4096x512⟩]
          concatenates_S8x30x512_S8x4096x512_S8x4126x512_d1) slices_S8x4126x512_S8x30x512_0_4096_0 := by
    unfold Pipeline.afterTail₀
    simp only [hostOps1, List.flatten_cons, List.flatten_nil, List.append_nil, List.cons_append, List.nil_append]
    after_results_simp <;> rfl
  rw [e, arr11 m c]
  have h : shapeCast S8x4096x512 (G11 m c) shapeCasts_S32768x512_S8x4096x512
      = StatesReferenceIdeal.Read.val_main_v34 (F := Ideal) (a0 m c) (a1 m c) (a2 m c) := unflat512 _
  rw [h]
  rfl

theorem tail85 : (Pipeline.afterTail₀ cfgs (dats m) 0 (V0 m) [hostOps1] c main_v85 : FVec Ideal S8x4096x512 .f32)
    = StatesReferenceIdeal.Read.val_main_v34 (F := Ideal) (a0 m c) (a1 m c) (a2 m c) := by
  have e : (Pipeline.afterTail₀ cfgs (dats m) 0 (V0 m) [hostOps1] c main_v85 : FVec Ideal S8x4096x512 .f32)
      = shapeCast S8x4096x512 (after0 m c (Proc.devRef .tc main_v84_0) : FVec Ideal S32768x512 .f32) shapeCasts_S32768x512_S8x4096x512 := by
    unfold Pipeline.afterTail₀
    simp only [hostOps1, List.flatten_cons, List.flatten_nil, List.append_nil, List.cons_append, List.nil_append]
    after_results_simp <;> rfl
  rw [e, arr11 m c]
  exact unflat512 _

end Cert.StatesIdeal.S

end
-- ==== Proof.S.Claims.lean ====
module

public import proofs.«01_k».proof.Defs
public import proofs.«01_k».proof.Proof.Gen.States.Frame
public import proofs.«01_k».proof.Proof.Gen.StatesReferenceIdeal.Run
public import proofs.«01_k».proof.Proof.S.Tail

@[expose] public section

noncomputable section

open Idealize.ShloMosaic Idealize.ShloMosaic.TcCoe Idealize.SL.Sem

/-! ## The frames of the call that makes the new states, and its values -/

namespace Cert.Proof.Claims

theorem frame_states : Cert.quiescent_States := fun m ρ _ => Cert.States.Gen.frame m ρ
theorem frame_states_ideal : Cert.quiescent_StatesIdeal := fun m ρ _ => Cert.StatesIdeal.Gen.frame m ρ
theorem frame_states_ideal_finite : Cert.quiescent_StatesIdeal_pre_finite_weights := fun m ρ _ => Cert.StatesIdeal.Gen.frame m ρ
theorem frame_states_reference : Cert.quiescent_StatesReferenceIdeal := fun m ρ _ =>
  (θ_run Cert.StatesReferenceIdeal.defs _ _).mono (fun r h => ⟨fun c => (h c).2.2.2.2.2.2,
      Idealize.ShloMosaic.sem_eq_zero_of_no_sems (by decide) r.2⟩)
    (Cert.StatesReferenceIdeal.Value.run (F := Ideal) m ρ)
theorem frame_states_reference_finite : Cert.quiescent_StatesReferenceIdeal_pre_finite_weights := fun m ρ _ => frame_states_reference m ρ trivial

open Cert.StatesReferenceIdeal.Read in
/-- When the norm's weights and the projection are real the call's states are the reference's. -/
theorem algebraic_states : Cert.algebraic_StatesIdeal_StatesReferenceIdeal_pre_finite_weights := by
  intro m g m' g' hpre hagree
  refine ⟨fun c => val_main_v37 (F := Ideal) (Cert.StatesIdeal.S.a0 m c) (Cert.StatesIdeal.S.a1 m c) (Cert.StatesIdeal.S.a2 m c),
    fun c => val_main_v38 (F := Ideal) (Cert.StatesIdeal.S.a0 m c) (Cert.StatesIdeal.S.a1 m c) (Cert.StatesIdeal.S.a2 m c),
    fun c => val_main_v69 (F := Ideal) (Cert.StatesIdeal.S.a0 m c) (Cert.StatesIdeal.S.a1 m c) (Cert.StatesIdeal.S.a2 m c) (Cert.StatesIdeal.S.a5 m c),
    fun c => val_main_v86 (F := Ideal) (Cert.StatesIdeal.S.a0 m c) (Cert.StatesIdeal.S.a1 m c) (Cert.StatesIdeal.S.a2 m c),
    fun c => val_main_v36 (F := Ideal) (Cert.StatesIdeal.S.a0 m c) (Cert.StatesIdeal.S.a1 m c) (Cert.StatesIdeal.S.a2 m c),
    fun c => val_main_v34 (F := Ideal) (Cert.StatesIdeal.S.a0 m c) (Cert.StatesIdeal.S.a1 m c) (Cert.StatesIdeal.S.a2 m c), ?_, ?_⟩
  · refine (θ_run Cert.StatesIdeal.defs _ _).mono (fun r h c => ?_)
      (θ_run_and (Cert.StatesIdeal.Gen.frame m g) (Cert.StatesIdeal.Gen.run_main m g))
    obtain ⟨f1, f2⟩ := Cert.Pre_finite_weights.S.fin_weights _ _ _ _ _ _ _ (hpre c)
    exact ⟨((h.2 c).2 Cert.StatesIdeal.main_v88 (Pipeline.mem_restRefs_of Cert.StatesIdeal.main_v88 (by decide) (by decide))).trans (Cert.StatesIdeal.S.tail88 m c),
      ((h.2 c).2 Cert.StatesIdeal.main_v89 (Pipeline.mem_restRefs_of Cert.StatesIdeal.main_v89 (by decide) (by decide))).trans (Cert.StatesIdeal.S.tail89 m c),
      ((h.2 c).2 Cert.StatesIdeal.main_v90 (Pipeline.mem_restRefs_of Cert.StatesIdeal.main_v90 (by decide) (by decide))).trans (Cert.StatesIdeal.S.tail90 m c),
      ((h.2 c).2 Cert.StatesIdeal.main_v91 (Pipeline.mem_restRefs_of Cert.StatesIdeal.main_v91 (by decide) (by decide))).trans (Cert.StatesIdeal.S.tail91 m c f1 f2),
      ((h.2 c).2 Cert.StatesIdeal.main_v92 (Pipeline.mem_restRefs_of Cert.StatesIdeal.main_v92 (by decide) (by decide))).trans (Cert.StatesIdeal.S.tail92 m c),
      ((h.2 c).2 Cert.StatesIdeal.main_v85 (Pipeline.mem_restRefs_of Cert.StatesIdeal.main_v85 (by decide) (by decide))).trans (Cert.StatesIdeal.S.tail85 m c),
      h.1.1 c⟩
  · refine (θ_run Cert.StatesReferenceIdeal.defs _ _).mono (fun r h c => ?_) (Cert.StatesReferenceIdeal.Value.run (F := Ideal) m' g')
    obtain ⟨e0, e1, e2, e3, e4, e5, e6⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [val_main_v37_eq, e0, e1, e2]
    · rw [val_main_v38_eq, e0, e1, e2]
    · rw [val_main_v69_eq, e0, e1, e2, e5]
    · rw [val_main_v86_eq, e0, e1, e2]
    · rw [val_main_v36_eq, e0, e1, e2]
    · rw [val_main_v34_eq, e0, e1, e2]

end Cert.Proof.Claims

end
-- ==== Proof.N.Pay.lean ====
module

public import proofs.«01_k».proof.Proof.M.Spec
public import proofs.«01_k».proof.Proof.Gen.SampleMergeIdeal.Skeleton
public import Idealize.ShloMosaic.Lib.Pointwise
public import Idealize.ShloMosaic.PureOps.Reduce
public import Idealize.ShloMosaic.PureOps.IdealRules

@[expose] public section

noncomputable section

/-! # The merge's payloads, at an index -/

namespace Cert.SampleMergeIdeal.M

open Idealize.ShloMosaic Cert.SampleMergeIdeal Gen Cert.MergeRow

theorem pay1_at (v0 : Vec Ideal S256x1024 .f32) (v1 : Vec Ideal S1x1024 .f32) (r : Fin 256) (d : Fin 1024) :
    k0_pay1 v0 v1 (ix2 r d) = rnorm (fun d => v0 (ix2 r d)) (fun d => v1 (ix2 0 d)) d := by
  pointwise [k0_pay1]
  rfl

theorem pay2_at (v0 : Vec Ideal S256x1024 .f32) (v1 : Vec Ideal S1x1024 .f32) (w : Vec Ideal S1024x1536 .bf16) (r : Fin 256) (j : Fin 1536) :
    k0_pay2 v0 v1 w (ix2 r j) = ∑ e : Fin 1024, k0_pay1 v0 v1 (ix2 r e) * w (ix2 e j) := by
  pointwise [k0_pay2]

theorem pay3_at (v0 : Vec Ideal S256x1024 .f32) (v1 : Vec Ideal S1x1024 .f32) (w : Vec Ideal S1024x1536 .bf16) (b : Vec Ideal S256x512 .f32) (r : Fin 256) (k : Fin 512) :
    k0_pay3 v0 v1 w b (ix2 r k) = b (ix2 r k) * silu (k0_pay2 v0 v1 w (ix2 r ⟨512 * (0 : Fin 3).val + k.val, by omega⟩)) := by
  pointwise [k0_pay3]
  rfl

theorem pay4_at (v0 : Vec Ideal S256x1024 .f32) (v1 : Vec Ideal S1x1024 .f32) (w : Vec Ideal S1024x1024 .bf16) (r : Fin 256) (d : Fin 1024) :
    k0_pay4 v0 v1 w (ix2 r d) = 1 + Ideal.exp (0 - ∑ e : Fin 1024, k0_pay1 v0 v1 (ix2 r e) * w (ix2 e d)) := by
  pointwise [k0_pay4]

theorem pay5_at (u : FVec Ideal S256x1024 .bf16) (z : FVec Ideal S256x1536 .f32) (b0 : FVec Ideal S256x512 .bf16) (e0 : FVec Ideal S256x1024 .f32)
    (w0 : Vec Ideal S512x1024 .bf16) (b1 : Vec Ideal S256x512 .f32) (wg : Vec Ideal S1024x1024 .bf16) (w1 : Vec Ideal S512x1024 .bf16)
    (r : Fin 256) (d : Fin 1024) :
    k0_pay5 u z b0 e0 w0 b1 wg w1 (ix2 r d)
      = Ideal.div 1 (e0 (ix2 r d)) * (∑ k : Fin 512, b0 (ix2 r k) * w0 (ix2 k d))
        + sigm (∑ e : Fin 1024, u (ix2 r e) * wg (ix2 e d))
          * ∑ k : Fin 512, b1 (ix2 r k) * silu (z (ix2 r ⟨512 * (1 : Fin 3).val + k.val, by omega⟩)) * w1 (ix2 k d) := by
  pointwise [k0_pay5]
  rfl

theorem pay6_at (z : FVec Ideal S256x1536 .f32) (r : Fin 256) (k : Fin 512) :
    k0_pay6 z (ix2 r k) = z (ix2 r ⟨512 * (2 : Fin 3).val + k.val, by omega⟩) := by
  pointwise [k0_pay6]

theorem pay7_at (z : FVec Ideal S256x1536 .f32) (r : Fin 256) (k : Fin 512) :
    k0_pay7 z (ix2 r k) = Ideal.exp (0 - z (ix2 r ⟨512 * (2 : Fin 3).val + k.val, by omega⟩)) := by
  pointwise [k0_pay7, pay6_at]

theorem pay8_at (x : Vec Ideal S256x1024 .f32) (u : FVec Ideal S256x1024 .bf16) (s : FVec Ideal S256x1024 .f32) (b2 : Vec Ideal S256x512 .f32)
    (z e : FVec Ideal S256x512 .f32) (wg : Vec Ideal S1024x1024 .bf16) (w2 : Vec Ideal S512x1024 .bf16) (wo : Vec Ideal S1024x1024 .bf16)
    (fg : Vec Ideal S1x1024 .f32) (r : Fin 256) (d : Fin 1024) :
    k0_pay8 x u s b2 z e (Scalar.ofBits .f32 0x3F800000#32) wg w2 wo fg (ix2 r d)
      = rnorm (fun d => x (ix2 r d) + ∑ j : Fin 1024,
          (s (ix2 r j) + sigm (∑ e : Fin 1024, u (ix2 r e) * wg (ix2 e j))
            * ∑ k : Fin 512, b2 (ix2 r k) * (z (ix2 r k) * Ideal.div 1 (1 + e (ix2 r k))) * w2 (ix2 k j)) * wo (ix2 j d))
        (fun d => fg (ix2 0 d)) d := by
  pointwise [k0_pay8]
  rfl

end Cert.SampleMergeIdeal.M

end
-- ==== Proof.N.Block.lean ====
module

public import proofs.«01_k».proof.Proof.N.Pay
public import proofs.«01_k».proof.Proof.Gen.SampleMergeIdeal.Frame
public import Idealize.ShloMosaic.Lib.Pipeline.ValueKit

@[expose] public section

set_option maxRecDepth 16384

noncomputable section

/-! # A block of the merge's result, at an index -/

namespace Cert.SampleMergeIdeal.M

open Idealize.ShloMosaic Cert.SampleMergeIdeal Gen Cert.MergeRow

theorem off_zero : (![0, 0] : Fin 2 → ℕ) = fun _ => 0 := by funext a; match a with | ⟨0, _⟩ => rfl | ⟨1, _⟩ => rfl

/-! The loads of whole blocks. -/

theorem whole_r0_0 (x : Vec Ideal S256x1024 .f32) : View.ld x r0_0 = x := View.ld_unit_zero (S := S256x1024) off_zero _ x
theorem whole_r0_1 (x : Vec Ideal S1x1024 .f32) : View.ld x r0_1 = x := View.ld_unit_zero (S := S1x1024) off_zero _ x
theorem whole_r0_2 (x : Vec Ideal S1024x1536 .bf16) : View.ld x r0_2 = x := View.ld_unit_zero (S := S1024x1536) off_zero _ x
theorem whole_r0_3 (x : Vec Ideal S256x512 .f32) : View.ld x r0_3 = x := View.ld_unit_zero (S := S256x512) off_zero _ x
theorem whole_r0_5 (x : Vec Ideal S512x1024 .bf16) : View.ld x r0_5 = x := View.ld_unit_zero (S := S512x1024) off_zero _ x
theorem whole_r0_8 (x : Vec Ideal S1024x1024 .bf16) : View.ld x r0_8 = x := View.ld_unit_zero (S := S1024x1024) off_zero _ x

/-- A third of the merge gate's columns, as the body loads it. -/
theorem gate0 (w : Vec Ideal S1024x3072 .bf16) (e d : Fin 1024) : View.ld w r0_4 (ix2 e d) = w (ix2 e ⟨1024 * (0 : Fin 3).val + d.val, by omega⟩) :=
  View.ld_unit_apply_of w _ _ _ _ _ fun a => match a with
    | ⟨0, _⟩ => by show e.val = 0 + e.val; omega
    | ⟨1, _⟩ => by show 1024 * 0 + d.val = 0 + d.val; omega
theorem gate1 (w : Vec Ideal S1024x3072 .bf16) (e d : Fin 1024) : View.ld w r0_6 (ix2 e d) = w (ix2 e ⟨1024 * (1 : Fin 3).val + d.val, by omega⟩) :=
  View.ld_unit_apply_of w _ _ _ _ _ fun a => match a with
    | ⟨0, _⟩ => by show e.val = 0 + e.val; omega
    | ⟨1, _⟩ => by show 1024 * 1 + d.val = 1024 + d.val; omega
theorem gate2 (w : Vec Ideal S1024x3072 .bf16) (e d : Fin 1024) : View.ld w r0_7 (ix2 e d) = w (ix2 e ⟨1024 * (2 : Fin 3).val + d.val, by omega⟩) :=
  View.ld_unit_apply_of w _ _ _ _ _ fun a => match a with
    | ⟨0, _⟩ => by show e.val = 0 + e.val; omega
    | ⟨1, _⟩ => by show 1024 * 2 + d.val = 2048 + d.val; omega

theorem block_at (x0 : Vec Ideal S256x1024 .f32) (x1 x2 x3 : Vec Ideal S256x512 .f32) (x4 : Vec Ideal S1x1024 .f32)
    (x5 : Vec Ideal S1024x1536 .bf16) (x6 : Vec Ideal S1024x3072 .bf16) (x7 x8 x9 : Vec Ideal S512x1024 .bf16)
    (x10 : Vec Ideal S1024x1024 .bf16) (x11 : Vec Ideal S1x1024 .f32) (r : Fin 256) (d : Fin 1024) :
    out0_12 x0 x1 x2 x3 x4 x5 x6 x7 x8 x9 x10 x11 (ix2 r d)
      = row (fun e => x0 (ix2 r e)) (fun k => x1 (ix2 r k)) (fun k => x2 (ix2 r k)) (fun k => x3 (ix2 r k)) (fun e => x4 (ix2 0 e))
          (fun e j => x5 (ix2 e j)) (fun e j => x6 (ix2 e j)) (fun k j => x7 (ix2 k j)) (fun k j => x8 (ix2 k j)) (fun k j => x9 (ix2 k j))
          (fun e j => x10 (ix2 e j)) (fun e => x11 (ix2 0 e)) d := by
  unfold out0_12
  rw [View.canon_unit_zero off_zero]
  unfold k0_pay10 k0_pay9
  simp only [whole_r0_0, whole_r0_1, whole_r0_2, whole_r0_3, whole_r0_5, whole_r0_8]
  have g0 := gate0 x6
  have g1 := gate1 x6
  have g2 := gate2 x6
  generalize (View.ld x6 r0_4 : Vec Ideal S1024x1024 .bf16) = W0 at g0 ⊢
  generalize (View.ld x6 r0_6 : Vec Ideal S1024x1024 .bf16) = W1 at g1 ⊢
  generalize (View.ld x6 r0_7 : Vec Ideal S1024x1024 .bf16) = W2 at g2 ⊢
  rw [pay8_at]
  simp only [g0, g1, g2, pay7_at, pay6_at, pay5_at, pay4_at, pay3_at, pay2_at, pay1_at]
  rfl

end Cert.SampleMergeIdeal.M

end
-- ==== Proof.N.Ref.lean ====
module

public import proofs.«01_k».proof.Proof.Gen.SampleMergeReferenceIdeal.Read
public import proofs.«01_k».proof.Proof.M.Spec
public import proofs.«01_k».proof.Proof.V.Ref

@[expose] public section

noncomputable section

/-! # The merge reference's value, at an index -/

namespace Cert.SampleMergeReferenceIdeal.M

open Idealize.ShloMosaic Cert.SampleMergeReferenceIdeal Cert.SampleMergeReferenceIdeal.Gen Cert.SampleMergeReferenceIdeal.Read Cert.MergeRow
open Cert.ReferenceIdeal.V (ext2 ext3)

theorem ext1 {n : ℕ} (i : (⟨1, ![n]⟩ : Shape).Idx) (a : Fin n) (h : (i 0).val = a.val) : i = ix1 a := by
  funext d; apply Fin.ext
  match d with
  | ⟨0, _⟩ => exact h

variable (x0 : (⟨S1024x1024, .f32⟩ : BufTy).Contents (Elt Ideal)) (x1 x2 x3 : (⟨S1024x512, .f32⟩ : BufTy).Contents (Elt Ideal))
  (x4 : (⟨S1024, .f32⟩ : BufTy).Contents (Elt Ideal)) (x5 : (⟨S1024x1536, .f32⟩ : BufTy).Contents (Elt Ideal))
  (x6 : (⟨S1024x3072, .f32⟩ : BufTy).Contents (Elt Ideal)) (x7 x8 x9 : (⟨S512x1024, .f32⟩ : BufTy).Contents (Elt Ideal))
  (x10 : (⟨S1024x1024, .f32⟩ : BufTy).Contents (Elt Ideal)) (x11 : (⟨S1024, .f32⟩ : BufTy).Contents (Elt Ideal))

/-- The normed input. -/
theorem u_at (t : Fin 1024) (d : Fin 1024) :
    val_main_v12 (F := Ideal) x0 x4 (ix2 t d) = rnorm (fun e => x0 (ix2 t e)) (fun e => x4 (ix1 e)) d := by
  rw [val_main_v12_apply, val_main_v9_apply, val_main_v8_apply, val_main_v7_apply, val_main_v6_apply, val_main_v4_apply, val_main_v5_apply,
    val_main_v2_apply, val_main_v1_apply, val_main_v3_apply, val_main_cst_apply, val_main_cst_0_apply, val_main_cst_1_apply, val_main_v11_apply,
    val_main_v10_apply]
  have es : (FloatOps.ofBits (F := Ideal) .f32 0x00000000#32 : EReal)
      + ∑ k : Fin 1024, val_main_v0 (F := Ideal) x0 (idx_main_v1 (idx_main_v2 (idx_main_v8 (ix2 t d))) k)
      = ∑ k : Fin 1024, x0 (ix2 t k) * x0 (ix2 t k) := by
    refine (congrArg₂ (fun a b : EReal => a + b) Ideal.ofBits_zero_f32 (Finset.sum_congr rfl fun k _ => ?_)).trans (zero_add _)
    rw [val_main_v0_apply, ext2 (idx_main_v1 (idx_main_v2 (idx_main_v8 (ix2 t d))) k) t k rfl rfl]
    rfl
  rw [es, ext1 (idx_main_v10 (idx_main_v11 (ix2 t d))) d rfl]
  rfl

/-- The branches' gates, before the activation. -/
theorem z_at (t : Fin 1024) (j : Fin 1536) :
    val_main_v13 (F := Ideal) x0 x4 x5 (ix2 t j) = ∑ e : Fin 1024, rnorm (fun e => x0 (ix2 t e)) (fun e => x4 (ix1 e)) e * x5 (ix2 e j) := by
  rw [val_main_v13_apply]
  refine Finset.sum_congr rfl fun e _ => ?_
  rw [ext2 (lidx_main_v13 (ix2 t j) e) t e rfl rfl, ext2 (ridx_main_v13 (ix2 t j) e) e j rfl rfl, u_at]

/-- The merge's gates, before the activation. -/
theorem g_at (t : Fin 1024) (j : Fin 3072) :
    val_main_v23 (F := Ideal) x0 x4 x6 (ix2 t j) = ∑ e : Fin 1024, rnorm (fun e => x0 (ix2 t e)) (fun e => x4 (ix1 e)) e * x6 (ix2 e j) := by
  rw [val_main_v23_apply]
  refine Finset.sum_congr rfl fun e _ => ?_
  rw [ext2 (lidx_main_v23 (ix2 t j) e) t e rfl rfl, ext2 (ridx_main_v23 (ix2 t j) e) e j rfl rfl, u_at]

theorem gate_at (t : Fin 1024) (j : Fin 3072) :
    val_main_v29 (F := Ideal) x0 x4 x6 (ix2 t j) = sigm (val_main_v23 (F := Ideal) x0 x4 x6 (ix2 t j)) := by
  rw [val_main_v29_apply, val_main_v28_apply, val_main_v27_apply, val_main_v26_apply, val_main_v25_apply, val_main_v24_apply,
    val_main_cst_2_apply, val_main_cst_3_apply]
  refine Eq.trans ?_ (sigm_neg _)
  exact congrArg₂ (fun a b : EReal => Ideal.div a (b + Ideal.exp _)) Ideal.ofBits_one_f32 Ideal.ofBits_one_f32

theorem b0_at (t : Fin 1024) (k : Fin 512) :
    val_main_v18 (F := Ideal) x0 x1 x4 x5 (ix2 t k)
      = x1 (ix2 t k) * silu (val_main_v13 (F := Ideal) x0 x4 x5 (ix2 t ⟨512 * (0 : Fin 3).val + k.val, by omega⟩)) := by
  have hz : val_main_v14 (F := Ideal) x0 x4 x5 (ix2 t k)
      = val_main_v13 (F := Ideal) x0 x4 x5 (ix2 t ⟨512 * (0 : Fin 3).val + k.val, by omega⟩) := by
    rw [val_main_v14_apply]
    exact congrArg _ (ext2 _ _ _ rfl (by show k.val = 512 * 0 + k.val; omega))
  rw [val_main_v18_apply, val_main_v17_apply, val_main_call0_v5_apply, val_main_call0_v4_apply, val_main_call0_v3_apply, val_main_call0_v2_apply,
    val_main_call0_v1_apply, val_main_call0_v0_apply, val_main_call0_cst_apply, val_main_call0_cst_0_apply, hz]
  refine congrArg (fun y : EReal => x1 (ix2 t k) * (_ * y)) (Eq.trans ?_ (sigm_neg _))
  exact congrArg₂ (fun a b : EReal => Ideal.div a (b + Ideal.exp _)) Ideal.ofBits_one_f32 Ideal.ofBits_one_f32

theorem s0_at (t : Fin 1024) (d : Fin 1024) :
    val_main_v32 (F := Ideal) x0 x4 x6 (ix2 t d)
      = sigm (val_main_v23 (F := Ideal) x0 x4 x6 (ix2 t ⟨1024 * (0 : Fin 3).val + d.val, by omega⟩)) := by
  have ht := t.isLt; have hd := d.isLt
  rw [val_main_v32_apply, val_main_v31_apply, val_main_v30_apply, ← gate_at]
  refine congrArg _ (ext2 _ _ _ ?_ ?_)
  · show (((t.val * 1024 + d.val) / 1024 * 3 + 0) * 1024 + (t.val * 1024 + d.val) % 1024) / 3072 = t.val; omega
  · show (((t.val * 1024 + d.val) / 1024 * 3 + 0) * 1024 + (t.val * 1024 + d.val) % 1024) % 3072 = 1024 * 0 + d.val; omega

theorem t0_at (t : Fin 1024) (d : Fin 1024) :
    val_main_v34 (F := Ideal) x0 x1 x4 x5 x6 x7 (ix2 t d)
      = term (rnorm (fun e => x0 (ix2 t e)) (fun e => x4 (ix1 e))) (fun k => x1 (ix2 t k)) (fun e j => x5 (ix2 e j)) (fun e j => x6 (ix2 e j))
          (fun k j => x7 (ix2 k j)) 0 d := by
  rw [val_main_v34_apply, s0_at, val_main_v33_apply, g_at]
  refine congrArg (fun y : EReal => sigm _ * y) (Finset.sum_congr rfl fun k _ => ?_)
  rw [ext2 (lidx_main_v33 (ix2 t d) k) t k rfl rfl, ext2 (ridx_main_v33 (ix2 t d) k) k d rfl rfl, b0_at, z_at]

theorem b1_at (t : Fin 1024) (k : Fin 512) :
    val_main_v20 (F := Ideal) x0 x2 x4 x5 (ix2 t k)
      = x2 (ix2 t k) * silu (val_main_v13 (F := Ideal) x0 x4 x5 (ix2 t ⟨512 * (1 : Fin 3).val + k.val, by omega⟩)) := by
  have hz : val_main_v15 (F := Ideal) x0 x4 x5 (ix2 t k)
      = val_main_v13 (F := Ideal) x0 x4 x5 (ix2 t ⟨512 * (1 : Fin 3).val + k.val, by omega⟩) := by
    rw [val_main_v15_apply]
    exact congrArg _ (ext2 _ _ _ rfl (by show 512 + k.val = 512 * 1 + k.val; omega))
  rw [val_main_v20_apply, val_main_v19_apply, val_main_call1_v5_apply, val_main_call1_v4_apply, val_main_call1_v3_apply, val_main_call1_v2_apply,
    val_main_call1_v1_apply, val_main_call1_v0_apply, val_main_call1_cst_apply, val_main_call1_cst_0_apply, hz]
  refine congrArg (fun y : EReal => x2 (ix2 t k) * (_ * y)) (Eq.trans ?_ (sigm_neg _))
  exact congrArg₂ (fun a b : EReal => Ideal.div a (b + Ideal.exp _)) Ideal.ofBits_one_f32 Ideal.ofBits_one_f32

theorem s1_at (t : Fin 1024) (d : Fin 1024) :
    val_main_v36 (F := Ideal) x0 x4 x6 (ix2 t d)
      = sigm (val_main_v23 (F := Ideal) x0 x4 x6 (ix2 t ⟨1024 * (1 : Fin 3).val + d.val, by omega⟩)) := by
  have ht := t.isLt; have hd := d.isLt
  rw [val_main_v36_apply, val_main_v35_apply, val_main_v30_apply, ← gate_at]
  refine congrArg _ (ext2 _ _ _ ?_ ?_)
  · show (((t.val * 1024 + d.val) / 1024 * 3 + (1 + 0)) * 1024 + (t.val * 1024 + d.val) % 1024) / 3072 = t.val; omega
  · show (((t.val * 1024 + d.val) / 1024 * 3 + (1 + 0)) * 1024 + (t.val * 1024 + d.val) % 1024) % 3072 = 1024 * 1 + d.val; omega

theorem t1_at (t : Fin 1024) (d : Fin 1024) :
    val_main_v38 (F := Ideal) x0 x2 x4 x5 x6 x8 (ix2 t d)
      = term (rnorm (fun e => x0 (ix2 t e)) (fun e => x4 (ix1 e))) (fun k => x2 (ix2 t k)) (fun e j => x5 (ix2 e j)) (fun e j => x6 (ix2 e j))
          (fun k j => x8 (ix2 k j)) 1 d := by
  rw [val_main_v38_apply, s1_at, val_main_v37_apply, g_at]
  refine congrArg (fun y : EReal => sigm _ * y) (Finset.sum_congr rfl fun k _ => ?_)
  rw [ext2 (lidx_main_v37 (ix2 t d) k) t k rfl rfl, ext2 (ridx_main_v37 (ix2 t d) k) k d rfl rfl, b1_at, z_at]

theorem b2_at (t : Fin 1024) (k : Fin 512) :
    val_main_v22 (F := Ideal) x0 x3 x4 x5 (ix2 t k)
      = x3 (ix2 t k) * silu (val_main_v13 (F := Ideal) x0 x4 x5 (ix2 t ⟨512 * (2 : Fin 3).val + k.val, by omega⟩)) := by
  have hz : val_main_v16 (F := Ideal) x0 x4 x5 (ix2 t k)
      = val_main_v13 (F := Ideal) x0 x4 x5 (ix2 t ⟨512 * (2 : Fin 3).val + k.val, by omega⟩) := by
    rw [val_main_v16_apply]
    exact congrArg _ (ext2 _ _ _ rfl (by show 1024 + k.val = 512 * 2 + k.val; omega))
  rw [val_main_v22_apply, val_main_v21_apply, val_main_call2_v5_apply, val_main_call2_v4_apply, val_main_call2_v3_apply, val_main_call2_v2_apply,
    val_main_call2_v1_apply, val_main_call2_v0_apply, val_main_call2_cst_apply, val_main_call2_cst_0_apply, hz]
  refine congrArg (fun y : EReal => x3 (ix2 t k) * (_ * y)) (Eq.trans ?_ (sigm_neg _))
  exact congrArg₂ (fun a b : EReal => Ideal.div a (b + Ideal.exp _)) Ideal.ofBits_one_f32 Ideal.ofBits_one_f32

theorem s2_at (t : Fin 1024) (d : Fin 1024) :
    val_main_v41 (F := Ideal) x0 x4 x6 (ix2 t d)
      = sigm (val_main_v23 (F := Ideal) x0 x4 x6 (ix2 t ⟨1024 * (2 : Fin 3).val + d.val, by omega⟩)) := by
  have ht := t.isLt; have hd := d.isLt
  rw [val_main_v41_apply, val_main_v40_apply, val_main_v30_apply, ← gate_at]
  refine congrArg _ (ext2 _ _ _ ?_ ?_)
  · show (((t.val * 1024 + d.val) / 1024 * 3 + (2 + 0)) * 1024 + (t.val * 1024 + d.val) % 1024) / 3072 = t.val; omega
  · show (((t.val * 1024 + d.val) / 1024 * 3 + (2 + 0)) * 1024 + (t.val * 1024 + d.val) % 1024) % 3072 = 1024 * 2 + d.val; omega

theorem t2_at (t : Fin 1024) (d : Fin 1024) :
    val_main_v43 (F := Ideal) x0 x3 x4 x5 x6 x9 (ix2 t d)
      = term (rnorm (fun e => x0 (ix2 t e)) (fun e => x4 (ix1 e))) (fun k => x3 (ix2 t k)) (fun e j => x5 (ix2 e j)) (fun e j => x6 (ix2 e j))
          (fun k j => x9 (ix2 k j)) 2 d := by
  rw [val_main_v43_apply, s2_at, val_main_v42_apply, g_at]
  refine congrArg (fun y : EReal => sigm _ * y) (Finset.sum_congr rfl fun k _ => ?_)
  rw [ext2 (lidx_main_v42 (ix2 t d) k) t k rfl rfl, ext2 (ridx_main_v42 (ix2 t d) k) k d rfl rfl, b2_at, z_at]

/-- The layer's output before the last norm. -/
theorem layer_at (t : Fin 1024) (d : Fin 1024) :
    val_main_v46 (F := Ideal) x0 x1 x2 x3 x4 x5 x6 x7 x8 x9 x10 (ix2 t d)
      = layer (fun e => x0 (ix2 t e)) (fun k => x1 (ix2 t k)) (fun k => x2 (ix2 t k)) (fun k => x3 (ix2 t k)) (fun e => x4 (ix1 e))
          (fun e j => x5 (ix2 e j)) (fun e j => x6 (ix2 e j)) (fun k j => x7 (ix2 k j)) (fun k j => x8 (ix2 k j)) (fun k j => x9 (ix2 k j))
          (fun e j => x10 (ix2 e j)) d := by
  rw [val_main_v46_apply, val_main_v45_apply]
  refine congrArg (fun y : EReal => x0 (ix2 t d) + y) (Finset.sum_congr rfl fun e _ => ?_)
  rw [ext2 (lidx_main_v45 (ix2 t d) e) t e rfl rfl, ext2 (ridx_main_v45 (ix2 t d) e) e d rfl rfl, val_main_v44_apply, val_main_v39_apply, t0_at,
    t1_at, t2_at]
  rfl

/-- The result. -/
theorem row_at (t : Fin 1024) (d : Fin 1024) :
    val_main_v59 (F := Ideal) x0 x1 x2 x3 x4 x5 x6 x7 x8 x9 x10 x11 (ix2 t d)
      = row (fun e => x0 (ix2 t e)) (fun k => x1 (ix2 t k)) (fun k => x2 (ix2 t k)) (fun k => x3 (ix2 t k)) (fun e => x4 (ix1 e))
          (fun e j => x5 (ix2 e j)) (fun e j => x6 (ix2 e j)) (fun k j => x7 (ix2 k j)) (fun k j => x8 (ix2 k j)) (fun k j => x9 (ix2 k j))
          (fun e j => x10 (ix2 e j)) (fun e => x11 (ix1 e)) d := by
  rw [val_main_v59_apply, val_main_v56_apply, val_main_v55_apply, val_main_v54_apply, val_main_v53_apply, val_main_v51_apply, val_main_v52_apply,
    val_main_v49_apply, val_main_v48_apply, val_main_v50_apply, val_main_cst_4_apply, val_main_cst_5_apply, val_main_cst_6_apply, val_main_v58_apply,
    val_main_v57_apply]
  have es : (FloatOps.ofBits (F := Ideal) .f32 0x00000000#32 : EReal)
      + ∑ k : Fin 1024, val_main_v47 (F := Ideal) x0 x1 x2 x3 x4 x5 x6 x7 x8 x9 x10 (idx_main_v48 (idx_main_v49 (idx_main_v55 (ix2 t d))) k)
      = ∑ k : Fin 1024, val_main_v46 (F := Ideal) x0 x1 x2 x3 x4 x5 x6 x7 x8 x9 x10 (ix2 t k)
          * val_main_v46 (F := Ideal) x0 x1 x2 x3 x4 x5 x6 x7 x8 x9 x10 (ix2 t k) := by
    refine (congrArg₂ (fun a b : EReal => a + b) Ideal.ofBits_zero_f32 (Finset.sum_congr rfl fun k _ => ?_)).trans (zero_add _)
    rw [val_main_v47_apply, ext2 (idx_main_v48 (idx_main_v49 (idx_main_v55 (ix2 t d))) k) t k rfl rfl]
    rfl
  rw [es, ext1 (idx_main_v57 (idx_main_v58 (ix2 t d))) d rfl]
  simp only [layer_at]
  rfl

end Cert.SampleMergeReferenceIdeal.M

end
-- ==== Proof.N.Out.lean ====
module

public import proofs.«01_k».proof.Proof.N.Block
public import proofs.«01_k».proof.Proof.N.Ref
public import Idealize.ShloMosaic.Lib.Pipeline.Value

@[expose] public section

set_option maxRecDepth 16384

noncomputable section

/-! # What the merge's result array ends holding -/

namespace Cert.SampleMergeIdeal.M

open Idealize.ShloMosaic Idealize.ShloMosaic.TcCoe Idealize.SL.Sem Cert.SampleMergeIdeal Gen Cert.MergeRow
open Idealize.ShloMosaic.Pipeline (Dat)
open Cert.ReferenceIdeal.V (ext2)
open Cert.SampleMergeReferenceIdeal.M (ext1)

variable (m : (ℓ : Loc nD τ sig) → Buf (Elt Ideal) ℓ) (ρ : Dev nD → PrngReg) (c : Dev nD)

/-- The arguments' arrays. -/
abbrev a0 : (⟨S1024x1024, .f32⟩ : BufTy).Contents (Elt Ideal) := m ((c : Thread nD τ).loc main_arg0)
abbrev a1 : (⟨S1024x512, .f32⟩ : BufTy).Contents (Elt Ideal) := m ((c : Thread nD τ).loc main_arg1)
abbrev a2 : (⟨S1024x512, .f32⟩ : BufTy).Contents (Elt Ideal) := m ((c : Thread nD τ).loc main_arg2)
abbrev a3 : (⟨S1024x512, .f32⟩ : BufTy).Contents (Elt Ideal) := m ((c : Thread nD τ).loc main_arg3)
abbrev a4 : (⟨S1024, .f32⟩ : BufTy).Contents (Elt Ideal) := m ((c : Thread nD τ).loc main_arg4)
abbrev a5 : (⟨S1024x1536, .f32⟩ : BufTy).Contents (Elt Ideal) := m ((c : Thread nD τ).loc main_arg5)
abbrev a6 : (⟨S1024x3072, .f32⟩ : BufTy).Contents (Elt Ideal) := m ((c : Thread nD τ).loc main_arg6)
abbrev a7 : (⟨S512x1024, .f32⟩ : BufTy).Contents (Elt Ideal) := m ((c : Thread nD τ).loc main_arg7)
abbrev a8 : (⟨S512x1024, .f32⟩ : BufTy).Contents (Elt Ideal) := m ((c : Thread nD τ).loc main_arg8)
abbrev a9 : (⟨S512x1024, .f32⟩ : BufTy).Contents (Elt Ideal) := m ((c : Thread nD τ).loc main_arg9)
abbrev a10 : (⟨S1024x1024, .f32⟩ : BufTy).Contents (Elt Ideal) := m ((c : Thread nD τ).loc main_arg10)
abbrev a11 : (⟨S1024, .f32⟩ : BufTy).Contents (Elt Ideal) := m ((c : Thread nD τ).loc main_arg11)

/-! ## What the host hands the call -/

theorem V_h4 : (V m c main_v0 : Vec Ideal S1x1024 .f32) = broadcastInDim S1x1024 ![1] bcast_S1024_S1x1024_1 (a4 m c) := by
  unfold V
  simp only [hostOps0]
  after_results_simp <;> rfl
theorem V_h5 : (V m c main_v1 : Vec Ideal S1024x1536 .bf16) = truncf (F := Ideal) .bf16 (a5 m c) bitsLt_bf16_f32 := by
  unfold V
  simp only [hostOps0]
  after_results_simp <;> rfl
theorem V_h6 : (V m c main_v2 : Vec Ideal S1024x3072 .bf16) = truncf (F := Ideal) .bf16 (a6 m c) bitsLt_bf16_f32 := by
  unfold V
  simp only [hostOps0]
  after_results_simp <;> rfl
theorem V_h7 : (V m c main_v3 : Vec Ideal S512x1024 .bf16) = truncf (F := Ideal) .bf16 (a7 m c) bitsLt_bf16_f32 := by
  unfold V
  simp only [hostOps0]
  after_results_simp <;> rfl
theorem V_h8 : (V m c main_v4 : Vec Ideal S512x1024 .bf16) = truncf (F := Ideal) .bf16 (a8 m c) bitsLt_bf16_f32 := by
  unfold V
  simp only [hostOps0]
  after_results_simp <;> rfl
theorem V_h9 : (V m c main_v5 : Vec Ideal S512x1024 .bf16) = truncf (F := Ideal) .bf16 (a9 m c) bitsLt_bf16_f32 := by
  unfold V
  simp only [hostOps0]
  after_results_simp <;> rfl
theorem V_h10 : (V m c main_v6 : Vec Ideal S1024x1024 .bf16) = truncf (F := Ideal) .bf16 (a10 m c) bitsLt_bf16_f32 := by
  unfold V
  simp only [hostOps0]
  after_results_simp <;> rfl
theorem V_h11 : (V m c main_v7 : Vec Ideal S1x1024 .f32) = broadcastInDim S1x1024 ![1] bcast_S1024_S1x1024_1 (a11 m c) := by
  unfold V
  simp only [hostOps0]
  after_results_simp <;> rfl

theorem row_cast (x : (⟨S1024, .f32⟩ : BufTy).Contents (Elt Ideal)) (d : Fin 1024) :
    (broadcastInDim S1x1024 ![1] bcast_S1024_S1x1024_1 x : Vec Ideal S1x1024 .f32) (ix2 0 d) = x (ix1 d) := by
  pointwise

/-! ## The windows' blocks -/

theorem lt_N (t : Fin cfg0.N) : t.val < 4 := lt_of_lt_of_eq t.isLt Gen.N_0
/-- A row of a grid point's block, as a row of the whole array. -/
def tok (t : Fin cfg0.N) (r : Fin 256) : Fin 1024 := ⟨256 * t.val + r.val, by have := lt_N t; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val ∧ win0_12.index t 1 = 0 := by decide +kernel
theorem xsize12 : ∀ t : Fin grid0.N, win0_12.xsize (grid0.coords t) 0 = 256 ∧ win0_12.xsize (grid0.coords t) 1 = 1024 := by decide +kernel

theorem blk0 (t : Fin cfg0.N) (r : Fin 256) (d : Fin 1024) :
    (iblk m c 0 t : Vec Ideal S256x1024 .f32) (ix2 r d) = a0 m c (ix2 (tok t r) d) := by
  obtain ⟨i0, i1⟩ := index0 t
  unfold iblk
  rw [View.read_apply]
  show V m c main_arg0 _ = _
  rw [V_main_arg0]
  refine congrArg (a0 m c) (ext2 _ _ _ ?_ ?_)
  · show win0_0.index t 0 * 256 + 1 * r.val = 256 * t.val + r.val; rw [i0]; omega
  · show win0_0.index t 1 * 1024 + 1 * d.val = d.val; rw [i1]; omega

theorem blk1 (t : Fin cfg0.N) (r : Fin 256) (d : Fin 512) :
    (iblk m c 1 t : Vec Ideal S256x512 .f32) (ix2 r d) = a1 m c (ix2 (tok t r) d) := by
  obtain ⟨i0, i1⟩ := index1 t
  unfold iblk
  rw [View.read_apply]
  show V m c main_arg1 _ = _
  rw [V_main_arg1]
  refine congrArg (a1 m c) (ext2 _ _ _ ?_ ?_)
  · show win0_1.index t 0 * 256 + 1 * r.val = 256 * t.val + r.val; rw [i0]; omega
  · show win0_1.index t 1 * 512 + 1 * d.val = d.val; rw [i1]; omega

theorem blk2 (t : Fin cfg0.N) (r : Fin 256) (d : Fin 512) :
    (iblk m c 2 t : Vec Ideal S256x512 .f32) (ix2 r d) = a2 m c (ix2 (tok t r) d) := by
  obtain ⟨i0, i1⟩ := index2 t
  unfold iblk
  rw [View.read_apply]
  show V m c main_arg2 _ = _
  rw [V_main_arg2]
  refine congrArg (a2 m c) (ext2 _ _ _ ?_ ?_)
  · show win0_2.index t 0 * 256 + 1 * r.val = 256 * t.val + r.val; rw [i0]; omega
  · show win0_2.index t 1 * 512 + 1 * d.val = d.val; rw [i1]; omega

theorem blk3 (t : Fin cfg0.N) (r : Fin 256) (d : Fin 512) :
    (iblk m c 3 t : Vec Ideal S256x512 .f32) (ix2 r d) = a3 m c (ix2 (tok t r) d) := by
  obtain ⟨i0, i1⟩ := index3 t
  unfold iblk
  rw [View.read_apply]
  show V m c main_arg3 _ = _
  rw [V_main_arg3]
  refine congrArg (a3 m c) (ext2 _ _ _ ?_ ?_)
  · show win0_3.index t 0 * 256 + 1 * r.val = 256 * t.val + r.val; rw [i0]; omega
  · show win0_3.index t 1 * 512 + 1 * d.val = d.val; rw [i1]; omega

theorem blk5 (t : Fin cfg0.N) (r : Fin 1024) (d : Fin 1536) :
    (iblk m c 5 t : Vec Ideal S1024x1536 .bf16) (ix2 r d) = a5 m c (ix2 r d) := by
  obtain ⟨i0, i1⟩ := index5 t
  unfold iblk
  rw [View.read_apply]
  show (V m c main_v1 : Vec Ideal S1024x1536 .bf16) _ = _
  rw [V_h5]
  refine congrArg (a5 m c) (ext2 _ _ _ ?_ ?_)
  · show win0_5.index t 0 * 1024 + 1 * r.val = r.val; rw [i0]; omega
  · show win0_5.index t 1 * 1536 + 1 * d.val = d.val; rw [i1]; omega

theorem blk6 (t : Fin cfg0.N) (r : Fin 1024) (d : Fin 3072) :
    (iblk m c 6 t : Vec Ideal S1024x3072 .bf16) (ix2 r d) = a6 m c (ix2 r d) := by
  obtain ⟨i0, i1⟩ := index6 t
  unfold iblk
  rw [View.read_apply]
  show (V m c main_v2 : Vec Ideal S1024x3072 .bf16) _ = _
  rw [V_h6]
  refine congrArg (a6 m c) (ext2 _ _ _ ?_ ?_)
  · show win0_6.index t 0 * 1024 + 1 * r.val = r.val; rw [i0]; omega
  · show win0_6.index t 1 * 3072 + 1 * d.val = d.val; rw [i1]; omega

theorem blk7 (t : Fin cfg0.N) (r : Fin 512) (d : Fin 1024) :
    (iblk m c 7 t : Vec Ideal S512x1024 .bf16) (ix2 r d) = a7 m c (ix2 r d) := by
  obtain ⟨i0, i1⟩ := index7 t
  unfold iblk
  rw [View.read_apply]
  show (V m c main_v3 : Vec Ideal S512x1024 .bf16) _ = _
  rw [V_h7]
  refine congrArg (a7 m c) (ext2 _ _ _ ?_ ?_)
  · show win0_7.index t 0 * 512 + 1 * r.val = r.val; rw [i0]; omega
  · show win0_7.index t 1 * 1024 + 1 * d.val = d.val; rw [i1]; omega

theorem blk8 (t : Fin cfg0.N) (r : Fin 512) (d : Fin 1024) :
    (iblk m c 8 t : Vec Ideal S512x1024 .bf16) (ix2 r d) = a8 m c (ix2 r d) := by
  obtain ⟨i0, i1⟩ := index8 t
  unfold iblk
  rw [View.read_apply]
  show (V m c main_v4 : Vec Ideal S512x1024 .bf16) _ = _
  rw [V_h8]
  refine congrArg (a8 m c) (ext2 _ _ _ ?_ ?_)
  · show win0_8.index t 0 * 512 + 1 * r.val = r.val; rw [i0]; omega
  · show win0_8.index t 1 * 1024 + 1 * d.val = d.val; rw [i1]; omega

theorem blk9 (t : Fin cfg0.N) (r : Fin 512) (d : Fin 1024) :
    (iblk m c 9 t : Vec Ideal S512x1024 .bf16) (ix2 r d) = a9 m c (ix2 r d) := by
  obtain ⟨i0, i1⟩ := index9 t
  unfold iblk
  rw [View.read_apply]
  show (V m c main_v5 : Vec Ideal S512x1024 .bf16) _ = _
  rw [V_h9]
  refine congrArg (a9 m c) (ext2 _ _ _ ?_ ?_)
  · show win0_9.index t 0 * 512 + 1 * r.val = r.val; rw [i0]; omega
  · show win0_9.index t 1 * 1024 + 1 * d.val = d.val; rw [i1]; omega

theorem blk10 (t : Fin cfg0.N) (r : Fin 1024) (d : Fin 1024) :
    (iblk m c 10 t : Vec Ideal S1024x1024 .bf16) (ix2 r d) = a10 m c (ix2 r d) := by
  obtain ⟨i0, i1⟩ := index10 t
  unfold iblk
  rw [View.read_apply]
  show (V m c main_v6 : Vec Ideal S1024x1024 .bf16) _ = _
  rw [V_h10]
  refine congrArg (a10 m c) (ext2 _ _ _ ?_ ?_)
  · show win0_10.index t 0 * 1024 + 1 * r.val = r.val; rw [i0]; omega
  · show win0_10.index t 1 * 1024 + 1 * d.val = d.val; rw [i1]; omega

theorem blk4 (t : Fin cfg0.N) (d : Fin 1024) : (iblk m c 4 t : Vec Ideal S1x1024 .f32) (ix2 0 d) = a4 m c (ix1 d) := by
  obtain ⟨i0, i1⟩ := index4 t
  unfold iblk
  rw [View.read_apply]
  show (V m c main_v0 : Vec Ideal S1x1024 .f32) _ = _
  rw [V_h4]
  refine Eq.trans (congrArg (broadcastInDim S1x1024 ![1] bcast_S1024_S1x1024_1 (a4 m c) : Vec Ideal S1x1024 .f32) (ext2 _ 0 d ?_ ?_)) (row_cast (a4 m c) d)
  · show win0_4.index t 0 * 1 + 1 * 0 = 0; rw [i0]
  · show win0_4.index t 1 * 1024 + 1 * d.val = d.val; rw [i1]; omega

theorem blk11 (t : Fin cfg0.N) (d : Fin 1024) : (iblk m c 11 t : Vec Ideal S1x1024 .f32) (ix2 0 d) = a11 m c (ix1 d) := by
  obtain ⟨i0, i1⟩ := index11 t
  unfold iblk
  rw [View.read_apply]
  show (V m c main_v7 : Vec Ideal S1x1024 .f32) _ = _
  rw [V_h11]
  refine Eq.trans (congrArg (broadcastInDim S1x1024 ![1] bcast_S1024_S1x1024_1 (a11 m c) : Vec Ideal S1x1024 .f32) (ext2 _ 0 d ?_ ?_)) (row_cast (a11 m c) d)
  · show win0_11.index t 0 * 1 + 1 * 0 = 0; rw [i0]
  · show win0_11.index t 1 * 1024 + 1 * d.val = d.val; rw [i1]; omega

/-! ## The result -/

/-- The reference's value on the kernel's arguments. -/
def G : (⟨S1024x1024, .f32⟩ : BufTy).Contents (Elt Ideal) :=
  SampleMergeReferenceIdeal.Read.val_main_v59 (F := Ideal) (a0 m c) (a1 m c) (a2 m c) (a3 m c) (a4 m c) (a5 m c) (a6 m c) (a7 m c) (a8 m c) (a9 m c) (a10 m c) (a11 m c)

theorem out_at (t : Fin cfg0.N) (r : Fin 256) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = G m c (ix2 (tok t r) d) := by
  unfold G
  rw [SampleMergeReferenceIdeal.M.row_at]
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r d).trans ?_
  simp only [blk0, blk1, blk2, blk3, blk4, blk5, blk6, blk7, blk8, blk9, blk10, blk11]

theorem flushed_eq (t : Fin cfg0.N) :
    (dats m 0 c).flushed 12 t = ((cfg0.win 12).blk t).view.read (Elt Ideal) (G m c) := by
  obtain ⟨i0, i1⟩ := index12 t
  show (cfg0.win 12).cut (grid0.coords t) ((dats m 0 c).after 12 t) = _
  rw [after0_12]
  funext j
  rw [View.read_apply]
  have hj0 : (j 0).val < 256 := lt_of_lt_of_eq (j 0).isLt (xsize12 t).1
  have hj1 : (j 1).val < 1024 := lt_of_lt_of_eq (j 1).isLt (xsize12 t).2
  have e := out_at m c t ⟨(j 0).val, hj0⟩ ⟨(j 1).val, hj1⟩
  refine Eq.trans (congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ext2 _ _ _ rfl rfl)) (e.trans (congrArg (G m c) (ext2 _ _ _ ?_ ?_).symm))
  · show win0_12.index t 0 * 256 + 1 * (j 0).val = 256 * t.val + (j 0).val; rw [i0]; omega
  · show win0_12.index t 1 * 1024 + 1 * (j 1).val = (j 1).val; rw [i1]; omega

theorem final_o : (dats m 0 c).arrAt 12 cfg0.N = G m c :=
  (dats m 0 c).arrAt_eq_of_cover 12 (G m c) (fun t _ => flushed_eq m c t) fun i => by
    have hi0 : (i 0).val < 1024 := (i 0).isLt
    have hi1 : (i 1).val < 1024 := (i 1).isLt
    have hN : cfg0.N = 4 := Gen.N_0
    let t : Fin cfg0.N := ⟨(i 0).val / 256, by rw [hN]; omega⟩
    obtain ⟨i0, i1⟩ := index12 t
    obtain ⟨x0, x1⟩ := xsize12 t
    refine ⟨t, flush0_12 t, ?_⟩
    show i ∈ ((View.whole main_v8).slice (win0_12.rect t)).set
    rw [View.set_slice_whole, Rect.mem_set_unit]
    intro a
    match a with
    | ⟨0, _⟩ =>
      show win0_12.index t 0 * 256 ≤ (i 0).val ∧ (i 0).val < win0_12.index t 0 * 256 + win0_12.xsize (grid0.coords t) 0
      rw [i0, x0]; show (i 0).val / 256 * 256 ≤ _ ∧ _ < (i 0).val / 256 * 256 + 256; omega
    | ⟨1, _⟩ =>
      show win0_12.index t 1 * 1024 ≤ (i 1).val ∧ (i 1).val < win0_12.index t 1 * 1024 + win0_12.xsize (grid0.coords t) 1
      rw [i1, x1]; omega

end Cert.SampleMergeIdeal.M

end
-- ==== Proof.N.Claims.lean ====
module

public import proofs.«01_k».proof.Defs
public import proofs.«01_k».proof.Proof.Gen.SampleMerge.Frame
public import proofs.«01_k».proof.Proof.Gen.SampleMergeReferenceIdeal.Run
public import proofs.«01_k».proof.Proof.N.Out

@[expose] public section

noncomputable section

open Idealize.ShloMosaic Idealize.ShloMosaic.TcCoe Idealize.SL.Sem

/-! ## The merge's frames, and its value -/

namespace Cert.Proof.Claims

theorem frame_sample_merge : Cert.quiescent_SampleMerge := fun m ρ _ => Cert.SampleMerge.Gen.frame m ρ
theorem frame_sample_merge_ideal : Cert.quiescent_SampleMergeIdeal := fun m ρ _ => Cert.SampleMergeIdeal.Gen.frame m ρ
theorem frame_sample_merge_reference : Cert.quiescent_SampleMergeReferenceIdeal := fun m ρ _ =>
  (θ_run Cert.SampleMergeReferenceIdeal.defs _ _).mono (fun r h => ⟨fun c => (h c).2,
      Idealize.ShloMosaic.sem_eq_zero_of_no_sems (by decide) r.2⟩)
    (Cert.SampleMergeReferenceIdeal.Value.run (F := Ideal) m ρ)

/-- On any inputs the merge's result is the reference's. -/
theorem algebraic_sample_merge : Cert.algebraic_SampleMergeIdeal_SampleMergeReferenceIdeal := by
  intro m g m' g' _ hagree
  refine ⟨fun c => Cert.SampleMergeIdeal.M.G m c, ?_, ?_⟩
  · refine (θ_run Cert.SampleMergeIdeal.defs _ _).mono (fun r h c => ?_)
      (θ_run_and (Cert.SampleMergeIdeal.Gen.frame m g) (Cert.SampleMergeIdeal.Gen.run_main m g))
    exact ⟨((h.2 c).1 12).trans (Cert.SampleMergeIdeal.M.final_o m c), h.1.1 c⟩
  · refine (θ_run Cert.SampleMergeReferenceIdeal.defs _ _).mono (fun r h c => ?_) (Cert.SampleMergeReferenceIdeal.Value.run (F := Ideal) m' g')
    refine ⟨(h c).1.trans ?_, (h c).2⟩
    obtain ⟨e0, e1, e2, e3, e4, e5, e6, e7, e8, e9, e10, e11⟩ := hagree c
    rw [Cert.SampleMergeReferenceIdeal.Read.val_main_v59_eq, e0, e1, e2, e3, e4, e5, e6, e7, e8, e9, e10, e11]
    rfl

end Cert.Proof.Claims

end
-- ==== Proof.T.Pay.lean ====
module

public import proofs.«01_k».proof.Proof.S.Spec
public import proofs.«01_k».proof.Proof.Gen.SampleStatesIdeal.Skeleton
public import Idealize.ShloMosaic.Lib.Pointwise
public import Idealize.ShloMosaic.PureOps.Reduce
public import Idealize.ShloMosaic.PureOps.IdealRules

@[expose] public section

noncomputable section

/-! # The payloads of the call that makes the new states, at an index -/

namespace Cert.SampleStatesIdeal.S

open Idealize.ShloMosaic Cert.SampleStatesIdeal Gen Cert.MergeRow Cert.StatesRow

theorem pay5_at (v0 : Vec Ideal S256x1024 .f32) (v1 : Vec Ideal S1x1024 .f32) (r : Fin 256) (d : Fin 1024) :
    k0_pay5 v0 v1 (ix2 r d) = rnorm (fun d => v0 (ix2 r d)) (fun d => v1 (ix2 0 d)) d := by
  pointwise [k0_pay5]
  rfl

theorem pay6_at (v0 : Vec Ideal S256x1024 .f32) (v1 : Vec Ideal S1x1024 .f32) (w : Vec Ideal S1024x1024 .bf16) (r : Fin 256) (k : Fin 512) :
    k0_pay6 v0 v1 w (ix2 r k)
      = proj (fun d => v0 (ix2 r d)) (fun d => v1 (ix2 0 d)) (fun e => w (ix2 e ⟨k.val, by omega⟩))
        * sigm (proj (fun d => v0 (ix2 r d)) (fun d => v1 (ix2 0 d)) (fun e => w (ix2 e ⟨512 + k.val, by omega⟩))) := by
  pointwise [k0_pay6, pay5_at]
  rfl

theorem pay7_at (v0 : Vec Ideal S256x1024 .f32) (v1 : Vec Ideal S1x1024 .f32) (w : Vec Ideal S1024x1280 .bf16) (r : Fin 256) (j : Fin 1280) :
    k0_pay7 v0 v1 w (ix2 r j) = proj (fun d => v0 (ix2 r d)) (fun d => v1 (ix2 0 d)) (fun e => w (ix2 e j)) := by
  pointwise [k0_pay7, pay5_at]
  rfl

theorem pay18_at (z : FVec Ideal S256x1280 .f32) (r : Fin 256) (k : Fin 128) :
    k0_pay18 z (ix2 r k) = z (ix2 r ⟨1024 + k.val, by omega⟩) := by
  pointwise [k0_pay18]

theorem pay19_at (z : FVec Ideal S256x1280 .f32) (r : Fin 256) (k : Fin 128) :
    k0_pay19 z (ix2 r k) = z (ix2 r ⟨1152 + k.val, by omega⟩) := by
  pointwise [k0_pay19]

theorem pay22_at (u : FVec Ideal S256x1024 .bf16) (w : Vec Ideal S1024x768 .bf16) (r : Fin 256) (j : Fin 768) :
    k0_pay22 u w (ix2 r j) = ∑ e : Fin 1024, u (ix2 r e) * w (ix2 e j) := by
  pointwise [k0_pay22]

theorem pay25_at (z : FVec Ideal S256x768 .f32) (q : Vec Ideal S1x256 .f32) (r : Fin 256) (k : Fin 256) :
    k0_pay25 z q (ix2 r k) = norm256 (fun l => z (ix2 r ⟨256 + l.val, by omega⟩)) (fun l => q (ix2 0 l)) k := by
  pointwise [k0_pay25]
  rfl

theorem pay23_at (y : Vec Ideal S256x256 .f32) (r : Fin 256) (k : Fin 256) : k0_pay23 y (ix2 r k) = y (ix2 r k) := by
  pointwise [k0_pay23]

theorem pay24_at (y : Vec Ideal S256x256 .f32) (r : Fin 256) (k : Fin 256) : k0_pay24 y (ix2 r k) = y (ix2 r k) := by
  pointwise [k0_pay24]

theorem pay26_at (z : FVec Ideal S256x768 .f32) (co : FVec Ideal S256x256 .f32) (si : Vec Ideal S256x256 .f32) (r : Fin 256) (k : Fin 32) :
    k0_pay26 z co si (ix2 r k)
      = z (ix2 r ⟨512 + k.val, by omega⟩) * co (ix2 r ⟨k.val, by omega⟩) + z (ix2 r ⟨640 + k.val, by omega⟩) * si (ix2 r ⟨k.val, by omega⟩) := by
  pointwise [k0_pay26, pay24_at]

end Cert.SampleStatesIdeal.S

end
-- ==== Proof.T.Block.lean ====
module

public import proofs.«01_k».proof.Proof.T.Pay
public import proofs.«01_k».proof.Proof.Gen.SampleStatesIdeal.Frame
public import Idealize.ShloMosaic.Lib.Pipeline.ValueKit

@[expose] public section

set_option maxRecDepth 16384

noncomputable section

/-! # The blocks of the results, at an index -/

namespace Cert.SampleStatesIdeal.S

open Idealize.ShloMosaic Cert.SampleStatesIdeal Gen Cert.MergeRow Cert.StatesRow

theorem off_zero : (![0, 0] : Fin 2 → ℕ) = fun _ => 0 := by funext a; match a with | ⟨0, _⟩ => rfl | ⟨1, _⟩ => rfl

/-! The loads of whole blocks. -/

theorem whole_r0_0 (x : Vec Ideal S256x1024 .f32) : View.ld x r0_0 = x := View.ld_unit_zero (S := S256x1024) off_zero _ x
theorem whole_r0_1 (x : Vec Ideal S1x1024 .f32) : View.ld x r0_1 = x := View.ld_unit_zero (S := S1x1024) off_zero _ x
theorem whole_r0_2 (x : Vec Ideal S1024x1024 .bf16) : View.ld x r0_2 = x := View.ld_unit_zero (S := S1024x1024) off_zero _ x
theorem whole_r0_4 (x : Vec Ideal S1024x1280 .bf16) : View.ld x r0_4 = x := View.ld_unit_zero (S := S1024x1280) off_zero _ x
theorem whole_r0_14 (x : Vec Ideal S1024x768 .bf16) : View.ld x r0_14 = x := View.ld_unit_zero (S := S1024x768) off_zero _ x
theorem whole_r0_15 (x : Vec Ideal S256x256 .f32) : View.ld x r0_15 = x := View.ld_unit_zero (S := S256x256) off_zero _ x
theorem whole_r0_16 (x : Vec Ideal S1x256 .f32) : View.ld x r0_16 = x := View.ld_unit_zero (S := S1x256) off_zero _ x

theorem block11_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 512) :
    out0_11 x0 x1 x2 x3 x4 x5 x6 x7 x8 x9 x10 (ix2 r k)
      = proj (fun e => x0 (ix2 r e)) (fun e => x3 (ix2 0 e)) (fun e => x4 (ix2 e ⟨k.val, by omega⟩))
        * sigm (proj (fun e => x0 (ix2 r e)) (fun e => x3 (ix2 0 e)) fun e => x4 (ix2 e ⟨512 + k.val, by omega⟩)) := by
  unfold out0_11
  rw [View.canon_unit_zero off_zero]
  simp only [k0_pay50, k0_pay51, k0_pay52, whole_r0_0, whole_r0_1, whole_r0_2, whole_r0_4, whole_r0_14, whole_r0_15, whole_r0_16, pay6_at]

theorem block13_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 128) :
    out0_13 x0 x1 x2 x3 x4 x5 x6 x7 x8 x9 x10 (ix2 r k)
      = proj (fun e => x0 (ix2 r e)) (fun e => x3 (ix2 0 e)) (fun e => x5 (ix2 e ⟨1024 + k.val, by omega⟩)) := by
  unfold out0_13
  rw [View.canon_unit_zero off_zero]
  simp only [k0_pay50, k0_pay51, k0_pay52, whole_r0_0, whole_r0_1, whole_r0_2, whole_r0_4, whole_r0_14, whole_r0_15, whole_r0_16, pay18_at, pay7_at]

theorem block14_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 128) :
    out0_14 x0 x1 x2 x3 x4 x5 x6 x7 x8 x9 x10 (ix2 r k)
      = proj (fun e => x0 (ix2 r e)) (fun e => x3 (ix2 0 e)) (fun e => x5 (ix2 e ⟨1152 + k.val, by omega⟩)) := by
  unfold out0_14
  rw [View.canon_unit_zero off_zero]
  simp only [k0_pay50, k0_pay51, k0_pay52, whole_r0_0, whole_r0_1, whole_r0_2, whole_r0_4, whole_r0_14, whole_r0_15, whole_r0_16, pay19_at, pay7_at]

theorem block17_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 256) :
    out0_17 x0 x1 x2 x3 x4 x5 x6 x7 x8 x9 x10 (ix2 r k)
      = norm256 (fun l => proj (fun e => x0 (ix2 r e)) (fun e => x3 (ix2 0 e)) fun e => x6 (ix2 e ⟨256 + l.val, by omega⟩)) (fun l => x9 (ix2 0 l)) k := by
  unfold out0_17
  rw [View.canon_unit_zero off_zero]
  simp only [k0_pay50, k0_pay51, k0_pay52, whole_r0_0, whole_r0_1, whole_r0_2, whole_r0_4, whole_r0_14, whole_r0_15, whole_r0_16, pay25_at, pay22_at, pay5_at]
  rfl

theorem block18_at (x0 : Vec Ideal S256x1024 .f32) (x1 x2 : Vec Ideal S256x256 .f32) (x3 : Vec Ideal S1x1024 .f32) (x4 : Vec Ideal S1024x1024 .bf16)
    (x5 : Vec Ideal S1024x1280 .bf16) (x6 : Vec Ideal S1024x768 .bf16) (x7 : Vec Ideal S1x256 .f32) (x8 : Vec Ideal S256x1024 .bf16)
    (x9 : Vec Ideal S1x256 .f32) (x10 : Vec Ideal S8x128x256 .bf16) (r : Fin 256) (k : Fin 32) :
    out0_18 x0 x1 x2 x3 x4 x5 x6 x7 x8 x9 x10 (ix2 r k)
      = proj (fun e => x0 (ix2 r e)) (fun e => x3 (ix2 0 e)) (fun e => x6 (ix2 e ⟨512 + k.val, by omega⟩)) * x1 (ix2 r ⟨k.val, by omega⟩)
        + proj (fun e => x0 (ix2 r e)) (fun e => x3 (ix2 0 e)) (fun e => x6 (ix2 e ⟨640 + k.val, by omega⟩)) * x2 (ix2 r ⟨k.val, by omega⟩) := by
  unfold out0_18
  rw [View.canon_unit_zero off_zero]
  simp only [k0_pay50, k0_pay51, k0_pay52, whole_r0_0, whole_r0_1, whole_r0_2, whole_r0_4, whole_r0_14, whole_r0_15, whole_r0_16, pay26_at, pay23_at, pay22_at, pay5_at]
  rfl

end Cert.SampleStatesIdeal.S

end
-- ==== Proof.T.Ref.lean ====
module

public import proofs.«01_k».proof.Proof.Gen.SampleStatesReferenceIdeal.Read
public import proofs.«01_k».proof.Proof.S.Spec
public import proofs.«01_k».proof.Proof.V.Ref

@[expose] public section

noncomputable section

/-! # The reference's states, at an index -/

namespace Cert.SampleStatesReferenceIdeal.S

open Idealize.ShloMosaic Cert.SampleStatesReferenceIdeal Cert.SampleStatesReferenceIdeal.Gen Cert.SampleStatesReferenceIdeal.Read Cert.MergeRow Cert.StatesRow
open Cert.ReferenceIdeal.V (ext2 ext3)

theorem ext1 {n : ℕ} (i : (⟨1, ![n]⟩ : Shape).Idx) (a : Fin n) (h : (i 0).val = a.val) : i = ix1 a := by
  funext d; apply Fin.ext
  match d with
  | ⟨0, _⟩ => exact h

variable (x0 : (⟨S128x8x1024, .f32⟩ : BufTy).Contents (Elt Ideal)) (x1 : (⟨S1024, .f32⟩ : BufTy).Contents (Elt Ideal))
  (x2 : (⟨S1024x6944, .f32⟩ : BufTy).Contents (Elt Ideal)) (x5 : (⟨S256, .f32⟩ : BufTy).Contents (Elt Ideal))

/-- The normed input. -/
theorem u_at (b : Fin 128) (s : Fin 8) (d : Fin 1024) :
    val_main_v15 (F := Ideal) x0 x1 (ix3 b s d) = rnorm (fun e => x0 (ix3 b s e)) (fun e => x1 (ix1 e)) d := by
  rw [val_main_v15_apply, val_main_v12_apply, val_main_v11_apply, val_main_v10_apply, val_main_v9_apply, val_main_v7_apply, val_main_v8_apply,
    val_main_v5_apply, val_main_v4_apply, val_main_v6_apply, val_main_cst_apply, val_main_cst_0_apply, val_main_cst_1_apply, val_main_v14_apply,
    val_main_v13_apply]
  have es : (FloatOps.ofBits (F := Ideal) .f32 0x00000000#32 : EReal)
      + ∑ k : Fin 1024, val_main_v3 (F := Ideal) x0 (idx_main_v4 (idx_main_v5 (idx_main_v11 (ix3 b s d))) k)
      = ∑ k : Fin 1024, x0 (ix3 b s k) * x0 (ix3 b s k) := by
    refine (congrArg₂ (fun a b : EReal => a + b) Ideal.ofBits_zero_f32 (Finset.sum_congr rfl fun k _ => ?_)).trans (zero_add _)
    rw [val_main_v3_apply, ext3 (idx_main_v4 (idx_main_v5 (idx_main_v11 (ix3 b s d))) k) b s k rfl rfl rfl]
    rfl
  rw [es, ext1 (idx_main_v13 (idx_main_v14 (ix3 b s d))) d rfl]
  rfl

/-- The input projection. -/
theorem p_at (b : Fin 128) (s : Fin 8) (j : Fin 6944) :
    val_main_v16 (F := Ideal) x0 x1 x2 (ix3 b s j) = proj (fun e => x0 (ix3 b s e)) (fun e => x1 (ix1 e)) (fun e => x2 (ix2 e j)) := by
  rw [val_main_v16_apply]
  refine Finset.sum_congr rfl fun e _ => ?_
  rw [ext3 (lidx_main_v16 (ix3 b s j) e) b s e rfl rfl rfl, ext2 (ridx_main_v16 (ix3 b s j) e) e j rfl rfl, u_at]

theorem h_at (b : Fin 128) (s : Fin 8) (k : Fin 512) :
    val_main_v35 (F := Ideal) x0 x1 x2 (ix3 b s k) = hid (fun e => x0 (ix3 b s e)) (fun e => x1 (ix1 e)) (fun e j => x2 (ix2 e j)) k := by
  rw [val_main_v35_apply, val_main_v17_apply, val_main_v34_apply, val_main_v33_apply, val_main_v32_apply, val_main_v31_apply, val_main_v30_apply,
    val_main_v29_apply, val_main_v18_apply, val_main_cst_2_apply, val_main_cst_3_apply,
    ext3 (idx_main_v17 (ix3 b s k)) b s ⟨k.val, by omega⟩ rfl rfl rfl, ext3 (idx_main_v18 (ix3 b s k)) b s ⟨512 + k.val, by omega⟩ rfl rfl rfl,
    p_at, p_at]
  refine congrArg (fun y : EReal => proj _ _ _ * y) (Eq.trans ?_ (sigm_neg _))
  exact congrArg₂ (fun a b : EReal => Ideal.div a (b + Ideal.exp _)) Ideal.ofBits_one_f32 Ideal.ofBits_one_f32

theorem k_at (b : Fin 128) (s : Fin 8) (k : Fin 128) :
    val_main_v21 (F := Ideal) x0 x1 x2 (ix3 b s k)
      = proj (fun e => x0 (ix3 b s e)) (fun e => x1 (ix1 e)) (fun e => x2 (ix2 e ⟨2048 + k.val, by omega⟩)) := by
  rw [val_main_v21_apply, ext3 (idx_main_v21 (ix3 b s k)) b s ⟨2048 + k.val, by omega⟩ rfl rfl rfl, p_at]

theorem v_at (b : Fin 128) (s : Fin 8) (k : Fin 128) :
    val_main_v22 (F := Ideal) x0 x1 x2 (ix3 b s k)
      = proj (fun e => x0 (ix3 b s e)) (fun e => x1 (ix1 e)) (fun e => x2 (ix2 e ⟨2176 + k.val, by omega⟩)) := by
  rw [val_main_v22_apply, ext3 (idx_main_v22 (ix3 b s k)) b s ⟨2176 + k.val, by omega⟩ rfl rfl rfl, p_at]

theorem c_at (b : Fin 128) (s : Fin 8) (k : Fin 256) :
    val_main_v25 (F := Ideal) x0 x1 x2 (ix3 b s k)
      = proj (fun e => x0 (ix3 b s e)) (fun e => x1 (ix1 e)) (fun e => x2 (ix2 e ⟨3072 + k.val, by omega⟩)) := by
  rw [val_main_v25_apply, ext3 (idx_main_v25 (ix3 b s k)) b s ⟨3072 + k.val, by omega⟩ rfl rfl rfl, p_at]

theorem lat_at (b : Fin 128) (s : Fin 8) (d : Fin 256) :
    val_main_v70 (F := Ideal) x0 x1 x2 x5 (ix3 b s d)
      = lat (fun e => x0 (ix3 b s e)) (fun e => x1 (ix1 e)) (fun e j => x2 (ix2 e j)) (fun l => x5 (ix1 l)) d := by
  rw [val_main_v70_apply, val_main_v67_apply, val_main_v66_apply, val_main_v65_apply, val_main_v64_apply, val_main_v62_apply, val_main_v63_apply,
    val_main_v60_apply, val_main_v59_apply, val_main_v61_apply, val_main_cst_8_apply, val_main_cst_9_apply, val_main_cst_10_apply, val_main_v69_apply,
    val_main_v68_apply]
  have es : (FloatOps.ofBits (F := Ideal) .f32 0x00000000#32 : EReal)
      + ∑ k : Fin 256, val_main_v58 (F := Ideal) x0 x1 x2 (idx_main_v59 (idx_main_v60 (idx_main_v66 (ix3 b s d))) k)
      = ∑ k : Fin 256, (proj (fun e => x0 (ix3 b s e)) (fun e => x1 (ix1 e)) fun e => x2 (ix2 e ⟨3072 + k.val, by omega⟩))
          * proj (fun e => x0 (ix3 b s e)) (fun e => x1 (ix1 e)) fun e => x2 (ix2 e ⟨3072 + k.val, by omega⟩) := by
    refine (congrArg₂ (fun a b : EReal => a + b) Ideal.ofBits_zero_f32 (Finset.sum_congr rfl fun k _ => ?_)).trans (zero_add _)
    rw [val_main_v58_apply, ext3 (idx_main_v59 (idx_main_v60 (idx_main_v66 (ix3 b s d))) k) b s k rfl rfl rfl, c_at]
    rfl
  rw [es, c_at, ext1 (idx_main_v68 (idx_main_v69 (ix3 b s d))) d rfl]
  rfl

/-- The rope key's first half. -/
theorem rot0_at (b : Fin 128) (s : Fin 8) (j : Fin 16) :
    val_main_v79 (F := Ideal) x0 x1 x2 (ix3 b s j)
      = (proj (fun e => x0 (ix3 b s e)) (fun e => x1 (ix1 e)) fun e => x2 (ix2 e ⟨3328 + j.val, by omega⟩)) * val_main_v56 (F := Ideal) (ix2 s j)
        - (proj (fun e => x0 (ix3 b s e)) (fun e => x1 (ix1 e)) fun e => x2 (ix2 e ⟨3344 + j.val, by omega⟩)) * val_main_v57 (F := Ideal) (ix2 s j) := by
  rw [val_main_v79_apply, val_main_v75_apply, val_main_v78_apply, val_main_v71_apply, val_main_v72_apply, val_main_v26_apply, val_main_v26_apply,
    val_main_v74_apply, val_main_v73_apply, val_main_v77_apply, val_main_v76_apply,
    ext3 (idx_main_v26 (idx_main_v71 (ix3 b s j))) b s ⟨3328 + j.val, by omega⟩ rfl rfl rfl,
    ext3 (idx_main_v26 (idx_main_v72 (ix3 b s j))) b s ⟨3344 + j.val, by omega⟩ rfl rfl (by show 3328 + (16 + j.val) = 3344 + j.val; omega),
    p_at, p_at, ext2 (idx_main_v73 (idx_main_v74 (ix3 b s j))) s j rfl rfl, ext2 (idx_main_v76 (idx_main_v77 (ix3 b s j))) s j rfl rfl]
  rfl

/-- Its second half. -/
theorem rot1_at (b : Fin 128) (s : Fin 8) (j : Fin 16) :
    val_main_v86 (F := Ideal) x0 x1 x2 (ix3 b s j)
      = (proj (fun e => x0 (ix3 b s e)) (fun e => x1 (ix1 e)) fun e => x2 (ix2 e ⟨3328 + j.val, by omega⟩)) * val_main_v57 (F := Ideal) (ix2 s j)
        + (proj (fun e => x0 (ix3 b s e)) (fun e => x1 (ix1 e)) fun e => x2 (ix2 e ⟨3344 + j.val, by omega⟩)) * val_main_v56 (F := Ideal) (ix2 s j) := by
  rw [val_main_v86_apply, val_main_v82_apply, val_main_v85_apply, val_main_v71_apply, val_main_v72_apply, val_main_v26_apply, val_main_v26_apply,
    val_main_v81_apply, val_main_v80_apply, val_main_v84_apply, val_main_v83_apply,
    ext3 (idx_main_v26 (idx_main_v71 (ix3 b s j))) b s ⟨3328 + j.val, by omega⟩ rfl rfl rfl,
    ext3 (idx_main_v26 (idx_main_v72 (ix3 b s j))) b s ⟨3344 + j.val, by omega⟩ rfl rfl (by show 3328 + (16 + j.val) = 3344 + j.val; omega),
    p_at, p_at, ext2 (idx_main_v80 (idx_main_v81 (ix3 b s j))) s j rfl rfl, ext2 (idx_main_v83 (idx_main_v84 (ix3 b s j))) s j rfl rfl]
  rfl

/-- The rope key's halves, joined. -/
theorem rope_at (b : Fin 128) (s : Fin 8) (j : Fin 32) :
    val_main_v87 (F := Ideal) x0 x1 x2 (ix3 b s j)
      = if h : j.val < 16 then val_main_v79 (F := Ideal) x0 x1 x2 (ix3 b s ⟨j.val, h⟩)
        else val_main_v86 (F := Ideal) x0 x1 x2 (ix3 b s ⟨j.val - 16, by omega⟩) := by
  unfold val_main_v87
  pointwise

end Cert.SampleStatesReferenceIdeal.S

end
-- ==== Proof.T.Host.lean ====
module

public import proofs.«01_k».proof.Proof.T.Block
public import proofs.«01_k».proof.Proof.T.Ref

@[expose] public section

set_option maxRecDepth 16384

noncomputable section

/-! # What the host hands the call -/

namespace Cert.SampleStatesIdeal.S

open Idealize.ShloMosaic Idealize.ShloMosaic.TcCoe Idealize.SL.Sem Cert.SampleStatesIdeal Gen

variable (m : (ℓ : Loc nD τ sig) → Buf (Elt Ideal) ℓ) (c : Dev nD)

/-- The arguments' arrays. -/
abbrev a0 : (⟨S128x8x1024, .f32⟩ : BufTy).Contents (Elt Ideal) := m ((c : Thread nD τ).loc main_arg0)
abbrev a1 : (⟨S1024, .f32⟩ : BufTy).Contents (Elt Ideal) := m ((c : Thread nD τ).loc main_arg2)
abbrev ac : (⟨S128x30x512, .f32⟩ : BufTy).Contents (Elt Ideal) := m ((c : Thread nD τ).loc main_arg1)
abbrev a2 : (⟨S1024x6944, .f32⟩ : BufTy).Contents (Elt Ideal) := m ((c : Thread nD τ).loc main_arg3)
abbrev a5 : (⟨S256, .f32⟩ : BufTy).Contents (Elt Ideal) := m ((c : Thread nD τ).loc main_arg6)

theorem V_x : (V m c main_v30 : Vec Ideal S1024x1024 .f32) = shapeCast S1024x1024 (a0 m c) shapeCasts_S128x8x1024_S1024x1024 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

/-- A table of the heads' cosines or sines, of the frequencies'. -/
def tab (y : FVec Ideal S256x16 .f32) : FVec Ideal S256x256 .f32 :=
  shapeCast S256x256 (broadcastInDim S1x256x8x32 ![0, 1, 2, 3] bcast_S1x256x1x32_S1x256x8x32_0_1_2_3
      (shapeCast S1x256x1x32 (concatenate S256x32 1 [⟨S256x16, y⟩, ⟨S256x16, y⟩] concatenates_S256x16_S256x16_S256x32_d1)
        shapeCasts_S256x32_S1x256x1x32)) shapeCasts_S1x256x8x32_S256x256

/-- The number of positions, with one in the place of zero. -/
def dv : Vec Ideal S_ .i32 :=
  select (cmpi .eq (constantI S_ 32 8#32) (constantI S_ 32 0#32)) (constantI S_ 32 1#32) (constantI S_ 32 8#32)

/-- A row's remainder. -/
def rm : Vec Ideal S256 .i32 := Host.remsi (iotaInDim S256 32 0) (broadcastInDim S256 ![] bcast_S_S256 dv)

/-- A row's position, as the host counts it. -/
def pv : Vec Ideal S256 .i32 :=
  addi (broadcastInDim S256 ![] bcast_S_S256 (constantI S_ 32 16384#32))
    (select (andi (cmpi .ne (cmpi .slt rm (broadcastInDim S256 ![] bcast_S_S256 (constantI S_ 32 0#32)))
          (broadcastInDim S256 ![] bcast_S_S256 (cmpi .slt dv (constantI S_ 32 0#32))))
        (cmpi .ne rm (broadcastInDim S256 ![] bcast_S_S256 (constantI S_ 32 0#32))))
      (addi rm (broadcastInDim S256 ![] bcast_S_S256 dv)) rm)

/-- The angles. -/
def ang : FVec Ideal S256x16 .f32 :=
  mulf (broadcastInDim S256x16 ![0, 1] bcast_S256x1_S256x16_0_1
      (broadcastInDim S256x1 ![0] bcast_S256_S256x1_0 (sitofp (F := Ideal) .f32 pv)))
    (broadcastInDim S256x16 ![0, 1] bcast_S1x16_S256x16_0_1
      (broadcastInDim S1x16 ![1] bcast_S16_S1x16_1 (SampleStatesReferenceIdeal.Read.val_main_v49 (F := Ideal))))

theorem V_cos : (V m c main_v25 : Vec Ideal S256x256 .f32) = tab (Host.cos ang) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_sin : (V m c main_v29 : Vec Ideal S256x256 .f32) = tab (Host.sin ang) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

/-- A 32-bit number's position among eight, counted from 16384. -/
def pw (n : BitVec 32) : BitVec 32 :=
  let d : BitVec 32 := Scalar.select (IntOp.cmpi .eq 8#32 0#32) 1#32 8#32
  let q : BitVec 32 := IntOp.remsi .host n d
  IntOp.addi 16384#32 (Scalar.select (IntOp.andi (IntOp.cmpi .ne (IntOp.cmpi .slt q 0#32) (IntOp.cmpi .slt d 0#32))
    (IntOp.cmpi .ne q 0#32)) (IntOp.addi q d) q)

theorem pw_at : ∀ r : Fin 256, pw (BitVec.ofNat 32 r.val) = IntOp.addi 16384#32 (BitVec.ofNat 32 (r.val % 8)) := by
  decide +kernel

theorem pv_at (r : Fin 256) : pv (ix1 r) = IntOp.addi 16384#32 (BitVec.ofNat 32 (r.val % 8)) := by
  pointwise [pv, rm, dv]
  exact pw_at r

open SampleStatesReferenceIdeal.Read in
/-- A row's angles are those of its position. -/
theorem ang_at (r : Fin 256) (j : Fin 16) :
    ang (ix2 r j) = val_main_v55 (F := Ideal) (ix2 (⟨r.val % 8, by omega⟩ : Fin 8) j) := by
  rw [val_main_v55_apply, val_main_v53_apply, val_main_v51_apply, val_main_v50_apply, val_main_v2_apply, val_main_v1_apply,
    val_main_c_apply, val_main_v0_apply, val_main_v54_apply, val_main_v52_apply]
  pointwise [ang]
  rw [pv_at]
  exact congrArg (fun y => _ * y) (congrArg (val_main_v49 (F := Ideal)) (by funext a; match a with | ⟨0, _⟩ => rfl))

theorem V_g : (V m c main_v76 : Vec Ideal S1x1024 .f32) = broadcastInDim S1x1024 ![1] bcast_S1024_S1x1024_1 (a1 m c) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_q : (V m c main_v85 : Vec Ideal S1x256 .f32) = broadcastInDim S1x256 ![1] bcast_S256_S1x256_1 (a5 m c) := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

/-- The columns of the convolution's input and its gate. -/
def wa (w : FVec Ideal S1024x6944 .f32) : FVec Ideal S1024x1024 .f32 :=
  concatenate S1024x1024 1 [⟨S1024x512, extractStridedSlice S1024x512 ![0, 0] w slices_S1024x6944_S1024x512_0_0⟩,
    ⟨S1024x512, extractStridedSlice S1024x512 ![0, 512] w slices_S1024x6944_S1024x512_0_512⟩] concatenates_S1024x512_S1024x512_S1024x1024_d1

/-- The columns of the stick-breaking keys and values, behind those of the queries. -/
def wsb (q : FVec Ideal S1024x1024 .f32) (w : FVec Ideal S1024x6944 .f32) : FVec Ideal S1024x1280 .f32 :=
  concatenate S1024x1280 1 [⟨S1024x1024, q⟩, ⟨S1024x128, extractStridedSlice S1024x128 ![0, 2048] w slices_S1024x6944_S1024x128_0_2048⟩,
    ⟨S1024x128, extractStridedSlice S1024x128 ![0, 2176] w slices_S1024x6944_S1024x128_0_2176⟩] concatenates_S1024x1024_S1024x128_S1024x128_S1024x1280_d1

/-- The columns of the rope key. -/
def wr (w : FVec Ideal S1024x6944 .f32) : FVec Ideal S1024x32 .f32 :=
  extractStridedSlice S1024x32 ![0, 3328] w slices_S1024x6944_S1024x32_0_3328

def zs : FVec Ideal S1024x96 .f32 := broadcastInDim S1024x96 ![] bcast_S_S1024x96 (constant (F := Ideal) S_ .f32 0x00000000#32)

/-- The columns of the rope key's turned halves. -/
def wt (w : FVec Ideal S1024x6944 .f32) : FVec Ideal S1024x32 .f32 :=
  concatenate S1024x32 1 [⟨S1024x16, Host.negf (extractStridedSlice S1024x16 ![0, 16] (wr w) slices_S1024x32_S1024x16_0_16)⟩,
    ⟨S1024x16, extractStridedSlice S1024x16 ![0, 0] (wr w) slices_S1024x32_S1024x16_0_0⟩] concatenates_S1024x16_S1024x16_S1024x32_d1

/-- The columns of the latents and the rope key. -/
def wmla (w : FVec Ideal S1024x6944 .f32) : FVec Ideal S1024x768 .f32 :=
  concatenate S1024x768 1 [⟨S1024x256, extractStridedSlice S1024x256 ![0, 2816] w slices_S1024x6944_S1024x256_0_2816⟩,
    ⟨S1024x256, extractStridedSlice S1024x256 ![0, 3072] w slices_S1024x6944_S1024x256_0_3072⟩, ⟨S1024x32, wr w⟩, ⟨S1024x96, zs⟩,
    ⟨S1024x32, wt w⟩, ⟨S1024x96, zs⟩] concatenates_S1024x256_S1024x256_S1024x32_S1024x96_S1024x32_S1024x96_S1024x768_d1

theorem V_wa : (V m c main_v80 : Vec Ideal S1024x1024 .bf16) = truncf (F := Ideal) .bf16 (wa (a2 m c)) bitsLt_bf16_f32 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_wsb : ∃ q, (V m c main_v81 : Vec Ideal S1024x1280 .bf16) = truncf (F := Ideal) .bf16 (wsb q (a2 m c)) bitsLt_bf16_f32 := by
  apply Exists.intro
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

theorem V_wmla : (V m c main_v82 : Vec Ideal S1024x768 .bf16) = truncf (F := Ideal) .bf16 (wmla (a2 m c)) bitsLt_bf16_f32 := by
  unfold V V0
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.SampleStatesIdeal.S

end
-- ==== Proof.T.Read.lean ====
module

public import proofs.«01_k».proof.Proof.T.Host

@[expose] public section

set_option maxRecDepth 16384

noncomputable section

/-! # The host's arrays, at an index -/

namespace Cert.SampleStatesIdeal.S

open Idealize.ShloMosaic Cert.SampleStatesIdeal Gen
open Cert.ReferenceIdeal.V (ext2 ext3)

/-- A row of the flattened tokens, as a batch and a position. -/
def bat (T : Fin 1024) : Fin 128 := ⟨T.val / 8, by omega⟩
def pos (T : Fin 1024) : Fin 8 := ⟨T.val % 8, by omega⟩

theorem flat1024 (y : FVec Ideal S128x8x1024 .f32) (T : Fin 1024) (d : Fin 1024) :
    shapeCast S1024x1024 y shapeCasts_S128x8x1024_S1024x1024 (ix2 T d) = y (ix3 (bat T) (pos T) d) := by
  pointwise [bat, pos]

theorem tab_at (y : FVec Ideal S256x16 .f32) (s : Fin 256) (j : Fin 32) :
    tab y (ix2 s ⟨j.val, by omega⟩) = y (ix2 s ⟨j.val % 16, by omega⟩) := by
  have hj := j.isLt
  pointwise [tab]
  split
  · exact congrArg y (ext2 _ _ _ rfl (by show j.val % 32 = j.val % 16; omega))
  · exact congrArg y (ext2 _ _ _ rfl (by show j.val % 32 - 16 = j.val % 16; omega))

theorem wa_at (w : FVec Ideal S1024x6944 .f32) (e : Fin 1024) (j : Fin 1024) : wa w (ix2 e j) = w (ix2 e ⟨j.val, by omega⟩) := by
  pointwise [wa]
  split
  · rfl
  · exact congrArg w (ext2 _ _ _ rfl (by show 512 + (j.val - 512) = j.val; omega))

theorem wsb_at (q : FVec Ideal S1024x1024 .f32) (w : FVec Ideal S1024x6944 .f32) (e : Fin 1024) (k : Fin 256) :
    wsb q w (ix2 e ⟨1024 + k.val, by omega⟩) = w (ix2 e ⟨2048 + k.val, by omega⟩) := by
  pointwise [wsb]
  split
  · rfl
  · exact congrArg w (ext2 _ _ _ rfl (by show 2176 + (k.val - 128) = 2048 + k.val; omega))

theorem wmla_c (w : FVec Ideal S1024x6944 .f32) (e : Fin 1024) (k : Fin 256) :
    wmla w (ix2 e ⟨256 + k.val, by omega⟩) = w (ix2 e ⟨3072 + k.val, by omega⟩) := by
  pointwise [wmla]

theorem wr_at (w : FVec Ideal S1024x6944 .f32) (e : Fin 1024) (k : Fin 32) : wr w (ix2 e k) = w (ix2 e ⟨3328 + k.val, by omega⟩) := by
  pointwise [wr]

theorem wmla_r (w : FVec Ideal S1024x6944 .f32) (e : Fin 1024) (k : Fin 32) :
    wmla w (ix2 e ⟨512 + k.val, by omega⟩) = w (ix2 e ⟨3328 + k.val, by omega⟩) := by
  have hk := k.isLt
  refine Eq.trans ?_ (wr_at w e k)
  pointwise [wmla]
  rw [dif_neg (by omega), dif_neg (by omega), dif_pos (by omega)]
  exact congrArg (wr w) (ext2 _ _ _ rfl (by show 512 + k.val - 256 - 256 = k.val; omega))

theorem wmla_t (w : FVec Ideal S1024x6944 .f32) (e : Fin 1024) (k : Fin 32) :
    wmla w (ix2 e ⟨640 + k.val, by omega⟩) = wt w (ix2 e k) := by
  have hk := k.isLt
  pointwise [wmla]
  rw [dif_neg (by omega), dif_neg (by omega), dif_neg (by omega), dif_neg (by omega), dif_pos (by omega)]
  exact congrArg (wt w) (ext2 _ _ _ rfl (by show 640 + k.val - 256 - 256 - 32 - 96 = k.val; omega))

theorem wt_lo (w : FVec Ideal S1024x6944 .f32) (e : Fin 1024) (k : Fin 16) :
    wt w (ix2 e ⟨k.val, by omega⟩) = -w (ix2 e ⟨3344 + k.val, by omega⟩) := by
  pointwise [wt, wr_at]
  exact congrArg (fun y : EReal => -y) (congrArg w (ext2 _ _ _ rfl (by show 3328 + (16 + k.val) = 3344 + k.val; omega)))

theorem wt_hi (w : FVec Ideal S1024x6944 .f32) (e : Fin 1024) (k : Fin 16) :
    wt w (ix2 e ⟨16 + k.val, by omega⟩) = w (ix2 e ⟨3328 + k.val, by omega⟩) := by
  pointwise [wt, wr_at]

theorem row_cast (x : FVec Ideal S1024 .f32) (d : Fin 1024) :
    (broadcastInDim S1x1024 ![1] bcast_S1024_S1x1024_1 x : Vec Ideal S1x1024 .f32) (ix2 0 d) = x (ix1 d) := by
  pointwise

theorem row_cast' (x : FVec Ideal S256 .f32) (d : Fin 256) :
    (broadcastInDim S1x256 ![1] bcast_S256_S1x256_1 x : Vec Ideal S1x256 .f32) (ix2 0 d) = x (ix1 d) := by
  pointwise

end Cert.SampleStatesIdeal.S

end
-- ==== Proof.T.Pre.lean ====
module

public import proofs.«01_k».proof.Proof.Gen.Pre_sample_finite_weights
public import proofs.«01_k».proof.Proof.S.Pre
public import proofs.«01_k».proof.Proof.V.Pre

@[expose] public section

noncomputable section

/-! # The sample's precondition read back -/

namespace Cert.Pre_sample_finite_weights.S

open Idealize.ShloMosaic Cert.Pre_sample_finite_weights Facts Cert.Online

theorem fin_weights (x0 : FVec Ideal S128x8x1024 .f32) (xc : FVec Ideal S128x30x512 .f32) (x1 : FVec Ideal S1024 .f32) (x2 : FVec Ideal S1024x6944 .f32)
    (x3 : FVec Ideal S256 .f32) (x4 : FVec Ideal S256x768 .f32) (x5 : FVec Ideal S256 .f32) (x6 : FVec Ideal S256x8x64 .f32)
    (h : fn (F := Ideal) x0 xc x1 x2 x3 x4 x5 x6 = fun _ => 1#1) : (∀ i, Fin' (x1 i)) ∧ ∀ i, Fin' (x2 i) := by
  have e := congrFun h (Shape.Idx.first h_S_)
  unfold fn at e
  obtain ⟨e0, e1⟩ := IntOp.andi_eq_one.1 e
  refine ⟨fun i => Pre_finite.V.fin_of_lt _ ?_, fun i => Pre_finite.V.fin_of_lt _ ?_⟩
  · exact Host.reduce_andi_all _ _ _ _ _ e0 i
  · exact Host.reduce_andi_all _ _ _ _ _ e1 i

end Cert.Pre_sample_finite_weights.S

end
-- ==== Proof.T.Out.lean ====
module

public import proofs.«01_k».proof.Proof.T.Read
public import proofs.«01_k».proof.Proof.T.Pre
public import Idealize.ShloMosaic.Lib.Pipeline.Value

@[expose] public section

set_option maxRecDepth 16384

noncomputable section

/-! # What the call's result arrays end holding -/

namespace Cert.SampleStatesIdeal.S

open Idealize.ShloMosaic Idealize.ShloMosaic.TcCoe Idealize.SL.Sem Cert.SampleStatesIdeal Gen Cert.MergeRow Cert.StatesRow Cert.Online
open Idealize.ShloMosaic.Pipeline (Dat)
open Cert.ReferenceIdeal.V (ext2 ext3)

variable (m : (ℓ : Loc nD τ sig) → Buf (Elt Ideal) ℓ) (c : Dev nD)

theorem lt_N (t : Fin cfg0.N) : t.val < 4 := lt_of_lt_of_eq t.isLt Gen.N_0
/-- A row of a grid point's block, as a row of the flattened tokens. -/
def tok (t : Fin cfg0.N) (r : Fin 256) : Fin 1024 := ⟨256 * t.val + r.val, by have := lt_N t; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index9 : ∀ t : Fin grid0.N, win0_9.index t 0 = 0 ∧ win0_9.index t 1 = 0 := by decide +kernel
theorem index11 : ∀ t : Fin grid0.N, win0_11.index t 0 = t.val ∧ win0_11.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem xsize11 : ∀ t : Fin grid0.N, win0_11.xsize (grid0.coords t) 0 = 256 ∧ win0_11.xsize (grid0.coords t) 1 = 512 := by decide +kernel
theorem xsize13 : ∀ t : Fin grid0.N, win0_13.xsize (grid0.coords t) 0 = 256 ∧ win0_13.xsize (grid0.coords t) 1 = 128 := by decide +kernel
theorem xsize14 : ∀ t : Fin grid0.N, win0_14.xsize (grid0.coords t) 0 = 256 ∧ win0_14.xsize (grid0.coords t) 1 = 128 := by decide +kernel
theorem xsize17 : ∀ t : Fin grid0.N, win0_17.xsize (grid0.coords t) 0 = 256 ∧ win0_17.xsize (grid0.coords t) 1 = 256 := by decide +kernel
theorem xsize18 : ∀ t : Fin grid0.N, win0_18.xsize (grid0.coords t) 0 = 256 ∧ win0_18.xsize (grid0.coords t) 1 = 32 := by decide +kernel

theorem blk0 (t : Fin cfg0.N) (r : Fin 256) (d : Fin 1024) :
    (iblk m c 0 t : Vec Ideal S256x1024 .f32) (ix2 r d) = a0 m c (ix3 (bat (tok t r)) (pos (tok t r)) d) := by
  obtain ⟨i0, i1⟩ := index0 t
  unfold iblk
  rw [View.read_apply]
  show (V m c main_v30 : Vec Ideal S1024x1024 .f32) _ = _
  rw [V_x]
  refine Eq.trans (congrArg (shapeCast S1024x1024 (a0 m c) shapeCasts_S128x8x1024_S1024x1024) (ext2 _ _ _ ?_ ?_)) (flat1024 (a0 m c) (tok t r) d)
  · show win0_0.index t 0 * 256 + 1 * r.val = 256 * t.val + r.val; rw [i0]; omega
  · show win0_0.index t 1 * 1024 + 1 * d.val = d.val; rw [i1]; omega

theorem blk1 (t : Fin cfg0.N) (r : Fin 256) (d : Fin 256) :
    (iblk m c 1 t : Vec Ideal S256x256 .f32) (ix2 r d) = tab (Host.cos ang) (ix2 r d) := by
  obtain ⟨i0, i1⟩ := index1 t
  unfold iblk
  rw [View.read_apply]
  show (V m c main_v25 : Vec Ideal S256x256 .f32) _ = _
  rw [V_cos]
  refine (congrArg (tab (Host.cos ang)) (ext2 _ _ _ ?_ ?_))
  · show win0_1.index t 0 * 256 + 1 * r.val = r.val; rw [i0]; omega
  · show win0_1.index t 1 * 256 + 1 * d.val = d.val; rw [i1]; omega

theorem blk2 (t : Fin cfg0.N) (r : Fin 256) (d : Fin 256) :
    (iblk m c 2 t : Vec Ideal S256x256 .f32) (ix2 r d) = tab (Host.sin ang) (ix2 r d) := by
  obtain ⟨i0, i1⟩ := index2 t
  unfold iblk
  rw [View.read_apply]
  show (V m c main_v29 : Vec Ideal S256x256 .f32) _ = _
  rw [V_sin]
  refine (congrArg (tab (Host.sin ang)) (ext2 _ _ _ ?_ ?_))
  · show win0_2.index t 0 * 256 + 1 * r.val = r.val; rw [i0]; omega
  · show win0_2.index t 1 * 256 + 1 * d.val = d.val; rw [i1]; omega

theorem blk4 (t : Fin cfg0.N) (r : Fin 1024) (d : Fin 1024) :
    (iblk m c 4 t : Vec Ideal S1024x1024 .bf16) (ix2 r d) = wa (a2 m c) (ix2 r d) := by
  obtain ⟨i0, i1⟩ := index4 t
  unfold iblk
  rw [View.read_apply]
  show (V m c main_v80 : Vec Ideal S1024x1024 .bf16) _ = _
  rw [V_wa]
  refine (congrArg (wa (a2 m c)) (ext2 _ _ _ ?_ ?_))
  · show win0_4.index t 0 * 1024 + 1 * r.val = r.val; rw [i0]; omega
  · show win0_4.index t 1 * 1024 + 1 * d.val = d.val; rw [i1]; omega

theorem blk6 (t : Fin cfg0.N) (r : Fin 1024) (d : Fin 768) :
    (iblk m c 6 t : Vec Ideal S1024x768 .bf16) (ix2 r d) = wmla (a2 m c) (ix2 r d) := by
  obtain ⟨i0, i1⟩ := index6 t
  unfold iblk
  rw [View.read_apply]
  show (V m c main_v82 : Vec Ideal S1024x768 .bf16) _ = _
  rw [V_wmla]
  refine (congrArg (wmla (a2 m c)) (ext2 _ _ _ ?_ ?_))
  · show win0_6.index t 0 * 1024 + 1 * r.val = r.val; rw [i0]; omega
  · show win0_6.index t 1 * 768 + 1 * d.val = d.val; rw [i1]; omega

theorem blk5 (t : Fin cfg0.N) (r : Fin 1024) (k : Fin 256) :
    (iblk m c 5 t : Vec Ideal S1024x1280 .bf16) (ix2 r ⟨1024 + k.val, by omega⟩) = a2 m c (ix2 r ⟨2048 + k.val, by omega⟩) := by
  obtain ⟨i0, i1⟩ := index5 t
  obtain ⟨q, hq⟩ := V_wsb m c
  unfold iblk
  rw [View.read_apply]
  show (V m c main_v81 : Vec Ideal S1024x1280 .bf16) _ = _
  rw [hq]
  refine Eq.trans (congrArg (wsb q (a2 m c)) (ext2 _ r ⟨1024 + k.val, by omega⟩ ?_ ?_)) (wsb_at q (a2 m c) r k)
  · show win0_5.index t 0 * 1024 + 1 * r.val = r.val; rw [i0]; omega
  · show win0_5.index t 1 * 1280 + 1 * (1024 + k.val) = 1024 + k.val; rw [i1]; omega

theorem blk3 (t : Fin cfg0.N) (d : Fin 1024) : (iblk m c 3 t : Vec Ideal S1x1024 .f32) (ix2 0 d) = a1 m c (ix1 d) := by
  obtain ⟨i0, i1⟩ := index3 t
  unfold iblk
  rw [View.read_apply]
  show (V m c main_v76 : Vec Ideal S1x1024 .f32) _ = _
  rw [V_g]
  refine Eq.trans (congrArg (broadcastInDim S1x1024 ![1] bcast_S1024_S1x1024_1 (a1 m c) : Vec Ideal S1x1024 .f32) (ext2 _ 0 d ?_ ?_)) (row_cast (a1 m c) d)
  · show win0_3.index t 0 * 1 + 1 * 0 = 0; rw [i0]
  · show win0_3.index t 1 * 1024 + 1 * d.val = d.val; rw [i1]; omega

theorem blk9 (t : Fin cfg0.N) (d : Fin 256) : (iblk m c 9 t : Vec Ideal S1x256 .f32) (ix2 0 d) = a5 m c (ix1 d) := by
  obtain ⟨i0, i1⟩ := index9 t
  unfold iblk
  rw [View.read_apply]
  show (V m c main_v85 : Vec Ideal S1x256 .f32) _ = _
  rw [V_q]
  refine Eq.trans (congrArg (broadcastInDim S1x256 ![1] bcast_S256_S1x256_1 (a5 m c) : Vec Ideal S1x256 .f32) (ext2 _ 0 d ?_ ?_)) (row_cast' (a5 m c) d)
  · show win0_9.index t 0 * 1 + 1 * 0 = 0; rw [i0]
  · show win0_9.index t 1 * 256 + 1 * d.val = d.val; rw [i1]; omega

/-! ## The results: the reference's values on the kernel's arguments, the tokens flattened -/

def G11 : (⟨S1024x512, .f32⟩ : BufTy).Contents (Elt Ideal) := fun i =>
  SampleStatesReferenceIdeal.Read.val_main_v35 (F := Ideal) (a0 m c) (a1 m c) (a2 m c) (ix3 (bat (i 0)) (pos (i 0)) (i 1))
def G13 : (⟨S1024x128, .f32⟩ : BufTy).Contents (Elt Ideal) := fun i =>
  SampleStatesReferenceIdeal.Read.val_main_v21 (F := Ideal) (a0 m c) (a1 m c) (a2 m c) (ix3 (bat (i 0)) (pos (i 0)) (i 1))
def G14 : (⟨S1024x128, .f32⟩ : BufTy).Contents (Elt Ideal) := fun i =>
  SampleStatesReferenceIdeal.Read.val_main_v22 (F := Ideal) (a0 m c) (a1 m c) (a2 m c) (ix3 (bat (i 0)) (pos (i 0)) (i 1))
def G17 : (⟨S1024x256, .f32⟩ : BufTy).Contents (Elt Ideal) := fun i =>
  SampleStatesReferenceIdeal.Read.val_main_v70 (F := Ideal) (a0 m c) (a1 m c) (a2 m c) (a5 m c) (ix3 (bat (i 0)) (pos (i 0)) (i 1))
def G18 : (⟨S1024x32, .f32⟩ : BufTy).Contents (Elt Ideal) := fun i =>
  SampleStatesReferenceIdeal.Read.val_main_v87 (F := Ideal) (a0 m c) (a1 m c) (a2 m c) (ix3 (bat (i 0)) (pos (i 0)) (i 1))

/-- The turned key, as the call makes it and as the reference does. -/
theorem rope_eq (x g : Fin 1024 → EReal) (w : FVec Ideal S1024x6944 .f32) (co si : FVec Ideal S256x16 .f32) (s : Fin 256) (k : Fin 32)
    (hg : ∀ e, Fin' (g e)) (hw : ∀ i, Fin' (w i)) :
    proj x g (fun e => wmla w (ix2 e ⟨512 + k.val, by omega⟩)) * tab co (ix2 s ⟨k.val, by omega⟩)
        + proj x g (fun e => wmla w (ix2 e ⟨640 + k.val, by omega⟩)) * tab si (ix2 s ⟨k.val, by omega⟩)
      = if h : k.val < 16 then
          proj x g (fun e => w (ix2 e ⟨3328 + k.val, by omega⟩)) * co (ix2 s ⟨k.val, h⟩)
            - proj x g (fun e => w (ix2 e ⟨3344 + k.val, by omega⟩)) * si (ix2 s ⟨k.val, h⟩)
        else
          proj x g (fun e => w (ix2 e ⟨3328 + (k.val - 16), by omega⟩)) * si (ix2 s ⟨k.val - 16, by omega⟩)
            + proj x g (fun e => w (ix2 e ⟨3344 + (k.val - 16), by omega⟩)) * co (ix2 s ⟨k.val - 16, by omega⟩) := by
  have hk := k.isLt
  simp only [wmla_r, wmla_t]
  rw [tab_at, tab_at]
  by_cases h : k.val < 16
  · have e16 : (⟨k.val % 16, Nat.mod_lt _ (by decide)⟩ : Fin 16) = ⟨k.val, h⟩ := Fin.ext (by show k.val % 16 = k.val; omega)
    have et : ∀ e, wt w (ix2 e k) = -w (ix2 e ⟨3344 + k.val, by omega⟩) := fun e => wt_lo w e ⟨k.val, h⟩
    rw [dif_pos h, e16]
    simp only [et]
    rw [proj_neg x g _ hg fun e => hw _, EReal.neg_mul, sub_eq_add_neg]
  · have e16 : (⟨k.val % 16, Nat.mod_lt _ (by decide)⟩ : Fin 16) = ⟨k.val - 16, by omega⟩ := Fin.ext (by show k.val % 16 = k.val - 16; omega)
    have ek : k = ⟨16 + (k.val - 16), by omega⟩ := Fin.ext (by show k.val = 16 + (k.val - 16); omega)
    have et : ∀ e, wt w (ix2 e k) = w (ix2 e ⟨3328 + (k.val - 16), by omega⟩) := fun e =>
      (congrArg (fun j => wt w (ix2 e j)) ek).trans (wt_hi w e ⟨k.val - 16, by omega⟩)
    have e1 : (⟨3328 + k.val, by omega⟩ : Fin 6944) = ⟨3344 + (k.val - 16), by omega⟩ := Fin.ext (by show 3328 + k.val = 3344 + (k.val - 16); omega)
    rw [dif_neg h, e16, e1]
    simp only [et]
    exact add_comm _ _

theorem out11_at (t : Fin cfg0.N) (r : Fin 256) (k : Fin 512) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G11 m c (ix2 (tok t r) k) := by
  show _ = SampleStatesReferenceIdeal.Read.val_main_v35 (F := Ideal) (a0 m c) (a1 m c) (a2 m c) (ix3 (bat (tok t r)) (pos (tok t r)) k)
  rw [SampleStatesReferenceIdeal.S.h_at]
  refine (block11_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk4, wa_at]
  rfl

theorem flushed11 (t : Fin cfg0.N) :
    (dats m 0 c).flushed 11 t = ((cfg0.win 11).blk t).view.read (Elt Ideal) (G11 m c) := by
  obtain ⟨i0, i1⟩ := index11 t
  show (cfg0.win 11).cut (grid0.coords t) ((dats m 0 c).after 11 t) = _
  rw [after0_11]
  funext j
  rw [View.read_apply]
  have hj0 : (j 0).val < 256 := lt_of_lt_of_eq (j 0).isLt (xsize11 t).1
  have hj1 : (j 1).val < 512 := lt_of_lt_of_eq (j 1).isLt (xsize11 t).2
  have e := out11_at m c t ⟨(j 0).val, hj0⟩ ⟨(j 1).val, hj1⟩
  refine Eq.trans (congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G11 m c) (ext2 _ _ _ ?_ ?_).symm))
  · show win0_11.index t 0 * 256 + 1 * (j 0).val = 256 * t.val + (j 0).val; rw [i0]; omega
  · show win0_11.index t 1 * 512 + 1 * (j 1).val = (j 1).val; rw [i1]; omega

theorem final11 : (dats m 0 c).arrAt 11 cfg0.N = G11 m c :=
  (dats m 0 c).arrAt_eq_of_cover 11 (G11 m c) (fun t _ => flushed11 m c t) fun i => by
    have hi0 : (i 0).val < 1024 := (i 0).isLt
    have hi1 : (i 1).val < 512 := (i 1).isLt
    have hN : cfg0.N = 4 := Gen.N_0
    let t : Fin cfg0.N := ⟨(i 0).val / 256, by rw [hN]; omega⟩
    obtain ⟨i0, i1⟩ := index11 t
    obtain ⟨x0, x1⟩ := xsize11 t
    refine ⟨t, flush0_11 t, ?_⟩
    show i ∈ ((View.whole main_v87_0).slice (win0_11.rect t)).set
    rw [View.set_slice_whole, Rect.mem_set_unit]
    intro a
    match a with
    | ⟨0, _⟩ =>
      show win0_11.index t 0 * 256 ≤ (i 0).val ∧ (i 0).val < win0_11.index t 0 * 256 + win0_11.xsize (grid0.coords t) 0
      rw [i0, x0]; show (i 0).val / 256 * 256 ≤ _ ∧ _ < (i 0).val / 256 * 256 + 256; omega
    | ⟨1, _⟩ =>
      show win0_11.index t 1 * 512 ≤ (i 1).val ∧ (i 1).val < win0_11.index t 1 * 512 + win0_11.xsize (grid0.coords t) 1
      rw [i1, x1]; omega

theorem out13_at (t : Fin cfg0.N) (r : Fin 256) (k : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G13 m c (ix2 (tok t r) k) := by
  show _ = SampleStatesReferenceIdeal.Read.val_main_v21 (F := Ideal) (a0 m c) (a1 m c) (a2 m c) (ix3 (bat (tok t r)) (pos (tok t r)) k)
  rw [SampleStatesReferenceIdeal.S.k_at]
  refine (block13_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  have e5 : ∀ e : Fin 1024, (iblk m c 5 t : Vec Ideal S1024x1280 .bf16) (ix2 e ⟨1024 + k.val, by omega⟩) = a2 m c (ix2 e ⟨2048 + k.val, by omega⟩) := fun e => blk5 m c t e ⟨k.val, by omega⟩
  simp only [blk0, blk3, e5]

theorem flushed13 (t : Fin cfg0.N) :
    (dats m 0 c).flushed 13 t = ((cfg0.win 13).blk t).view.read (Elt Ideal) (G13 m c) := by
  obtain ⟨i0, i1⟩ := index13 t
  show (cfg0.win 13).cut (grid0.coords t) ((dats m 0 c).after 13 t) = _
  rw [after0_13]
  funext j
  rw [View.read_apply]
  have hj0 : (j 0).val < 256 := lt_of_lt_of_eq (j 0).isLt (xsize13 t).1
  have hj1 : (j 1).val < 128 := lt_of_lt_of_eq (j 1).isLt (xsize13 t).2
  have e := out13_at m c t ⟨(j 0).val, hj0⟩ ⟨(j 1).val, hj1⟩
  refine Eq.trans (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G13 m c) (ext2 _ _ _ ?_ ?_).symm))
  · show win0_13.index t 0 * 256 + 1 * (j 0).val = 256 * t.val + (j 0).val; rw [i0]; omega
  · show win0_13.index t 1 * 128 + 1 * (j 1).val = (j 1).val; rw [i1]; omega

theorem final13 : (dats m 0 c).arrAt 13 cfg0.N = G13 m c :=
  (dats m 0 c).arrAt_eq_of_cover 13 (G13 m c) (fun t _ => flushed13 m c t) fun i => by
    have hi0 : (i 0).val < 1024 := (i 0).isLt
    have hi1 : (i 1).val < 128 := (i 1).isLt
    have hN : cfg0.N = 4 := Gen.N_0
    let t : Fin cfg0.N := ⟨(i 0).val / 256, by rw [hN]; omega⟩
    obtain ⟨i0, i1⟩ := index13 t
    obtain ⟨x0, x1⟩ := xsize13 t
    refine ⟨t, flush0_13 t, ?_⟩
    show i ∈ ((View.whole main_v87_2).slice (win0_13.rect t)).set
    rw [View.set_slice_whole, Rect.mem_set_unit]
    intro a
    match a with
    | ⟨0, _⟩ =>
      show win0_13.index t 0 * 256 ≤ (i 0).val ∧ (i 0).val < win0_13.index t 0 * 256 + win0_13.xsize (grid0.coords t) 0
      rw [i0, x0]; show (i 0).val / 256 * 256 ≤ _ ∧ _ < (i 0).val / 256 * 256 + 256; omega
    | ⟨1, _⟩ =>
      show win0_13.index t 1 * 128 ≤ (i 1).val ∧ (i 1).val < win0_13.index t 1 * 128 + win0_13.xsize (grid0.coords t) 1
      rw [i1, x1]; omega

theorem out14_at (t : Fin cfg0.N) (r : Fin 256) (k : Fin 128) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G14 m c (ix2 (tok t r) k) := by
  show _ = SampleStatesReferenceIdeal.Read.val_main_v22 (F := Ideal) (a0 m c) (a1 m c) (a2 m c) (ix3 (bat (tok t r)) (pos (tok t r)) k)
  rw [SampleStatesReferenceIdeal.S.v_at]
  refine (block14_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  have e5 : ∀ e : Fin 1024, (iblk m c 5 t : Vec Ideal S1024x1280 .bf16) (ix2 e ⟨1152 + k.val, by omega⟩) = a2 m c (ix2 e ⟨2176 + k.val, by omega⟩) := fun e =>
    (congrArg (iblk m c 5 t : Vec Ideal S1024x1280 .bf16) (ext2 _ _ _ rfl (by show 1152 + k.val = 1024 + (128 + k.val); omega))).trans
      ((blk5 m c t e ⟨128 + k.val, by omega⟩).trans (congrArg (a2 m c) (ext2 _ _ _ rfl (by show 2048 + (128 + k.val) = 2176 + k.val; omega))))
  simp only [blk0, blk3, e5]

theorem flushed14 (t : Fin cfg0.N) :
    (dats m 0 c).flushed 14 t = ((cfg0.win 14).blk t).view.read (Elt Ideal) (G14 m c) := by
  obtain ⟨i0, i1⟩ := index14 t
  show (cfg0.win 14).cut (grid0.coords t) ((dats m 0 c).after 14 t) = _
  rw [after0_14]
  funext j
  rw [View.read_apply]
  have hj0 : (j 0).val < 256 := lt_of_lt_of_eq (j 0).isLt (xsize14 t).1
  have hj1 : (j 1).val < 128 := lt_of_lt_of_eq (j 1).isLt (xsize14 t).2
  have e := out14_at m c t ⟨(j 0).val, hj0⟩ ⟨(j 1).val, hj1⟩
  refine Eq.trans (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G14 m c) (ext2 _ _ _ ?_ ?_).symm))
  · show win0_14.index t 0 * 256 + 1 * (j 0).val = 256 * t.val + (j 0).val; rw [i0]; omega
  · show win0_14.index t 1 * 128 + 1 * (j 1).val = (j 1).val; rw [i1]; omega

theorem final14 : (dats m 0 c).arrAt 14 cfg0.N = G14 m c :=
  (dats m 0 c).arrAt_eq_of_cover 14 (G14 m c) (fun t _ => flushed14 m c t) fun i => by
    have hi0 : (i 0).val < 1024 := (i 0).isLt
    have hi1 : (i 1).val < 128 := (i 1).isLt
    have hN : cfg0.N = 4 := Gen.N_0
    let t : Fin cfg0.N := ⟨(i 0).val / 256, by rw [hN]; omega⟩
    obtain ⟨i0, i1⟩ := index14 t
    obtain ⟨x0, x1⟩ := xsize14 t
    refine ⟨t, flush0_14 t, ?_⟩
    show i ∈ ((View.whole main_v87_3).slice (win0_14.rect t)).set
    rw [View.set_slice_whole, Rect.mem_set_unit]
    intro a
    match a with
    | ⟨0, _⟩ =>
      show win0_14.index t 0 * 256 ≤ (i 0).val ∧ (i 0).val < win0_14.index t 0 * 256 + win0_14.xsize (grid0.coords t) 0
      rw [i0, x0]; show (i 0).val / 256 * 256 ≤ _ ∧ _ < (i 0).val / 256 * 256 + 256; omega
    | ⟨1, _⟩ =>
      show win0_14.index t 1 * 128 ≤ (i 1).val ∧ (i 1).val < win0_14.index t 1 * 128 + win0_14.xsize (grid0.coords t) 1
      rw [i1, x1]; omega

theorem out17_at (t : Fin cfg0.N) (r : Fin 256) (k : Fin 256) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G17 m c (ix2 (tok t r) k) := by
  show _ = SampleStatesReferenceIdeal.Read.val_main_v70 (F := Ideal) (a0 m c) (a1 m c) (a2 m c) (a5 m c) (ix3 (bat (tok t r)) (pos (tok t r)) k)
  rw [SampleStatesReferenceIdeal.S.lat_at]
  refine (block17_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk6, blk9, wmla_c]
  rfl

theorem flushed17 (t : Fin cfg0.N) :
    (dats m 0 c).flushed 17 t = ((cfg0.win 17).blk t).view.read (Elt Ideal) (G17 m c) := by
  obtain ⟨i0, i1⟩ := index17 t
  show (cfg0.win 17).cut (grid0.coords t) ((dats m 0 c).after 17 t) = _
  rw [after0_17]
  funext j
  rw [View.read_apply]
  have hj0 : (j 0).val < 256 := lt_of_lt_of_eq (j 0).isLt (xsize17 t).1
  have hj1 : (j 1).val < 256 := lt_of_lt_of_eq (j 1).isLt (xsize17 t).2
  have e := out17_at m c t ⟨(j 0).val, hj0⟩ ⟨(j 1).val, hj1⟩
  refine Eq.trans (congrArg (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G17 m c) (ext2 _ _ _ ?_ ?_).symm))
  · show win0_17.index t 0 * 256 + 1 * (j 0).val = 256 * t.val + (j 0).val; rw [i0]; omega
  · show win0_17.index t 1 * 256 + 1 * (j 1).val = (j 1).val; rw [i1]; omega

theorem final17 : (dats m 0 c).arrAt 17 cfg0.N = G17 m c :=
  (dats m 0 c).arrAt_eq_of_cover 17 (G17 m c) (fun t _ => flushed17 m c t) fun i => by
    have hi0 : (i 0).val < 1024 := (i 0).isLt
    have hi1 : (i 1).val < 256 := (i 1).isLt
    have hN : cfg0.N = 4 := Gen.N_0
    let t : Fin cfg0.N := ⟨(i 0).val / 256, by rw [hN]; omega⟩
    obtain ⟨i0, i1⟩ := index17 t
    obtain ⟨x0, x1⟩ := xsize17 t
    refine ⟨t, flush0_17 t, ?_⟩
    show i ∈ ((View.whole main_v87_6).slice (win0_17.rect t)).set
    rw [View.set_slice_whole, Rect.mem_set_unit]
    intro a
    match a with
    | ⟨0, _⟩ =>
      show win0_17.index t 0 * 256 ≤ (i 0).val ∧ (i 0).val < win0_17.index t 0 * 256 + win0_17.xsize (grid0.coords t) 0
      rw [i0, x0]; show (i 0).val / 256 * 256 ≤ _ ∧ _ < (i 0).val / 256 * 256 + 256; omega
    | ⟨1, _⟩ =>
      show win0_17.index t 1 * 256 ≤ (i 1).val ∧ (i 1).val < win0_17.index t 1 * 256 + win0_17.xsize (grid0.coords t) 1
      rw [i1, x1]; omega

theorem ang_pos (t : Fin cfg0.N) (r : Fin 256) (j : Fin 16) :
    ang (ix2 r j) = SampleStatesReferenceIdeal.Read.val_main_v55 (F := Ideal) (ix2 (pos (tok t r)) j) :=
  (ang_at r j).trans (congrArg (SampleStatesReferenceIdeal.Read.val_main_v55 (F := Ideal))
    (ext2 _ _ _ (by show r.val % 8 = (256 * t.val + r.val) % 8; omega) rfl))

/-- A row's cosine is that of its position. -/
theorem cos_pos (t : Fin cfg0.N) (r : Fin 256) (j : Fin 16) :
    (Host.cos ang : FVec Ideal S256x16 .f32) (ix2 r j)
      = SampleStatesReferenceIdeal.Read.val_main_v56 (F := Ideal) (ix2 (pos (tok t r)) j) := by
  rw [SampleStatesReferenceIdeal.Read.val_main_v56_apply, ← ang_pos t r j]
  rfl

/-- A row's sine is that of its position. -/
theorem sin_pos (t : Fin cfg0.N) (r : Fin 256) (j : Fin 16) :
    (Host.sin ang : FVec Ideal S256x16 .f32) (ix2 r j)
      = SampleStatesReferenceIdeal.Read.val_main_v57 (F := Ideal) (ix2 (pos (tok t r)) j) := by
  rw [SampleStatesReferenceIdeal.Read.val_main_v57_apply, ← ang_pos t r j]
  rfl

theorem out18_at (hg : ∀ i, Fin' (a1 m c i)) (hw : ∀ i, Fin' (a2 m c i)) (t : Fin cfg0.N) (r : Fin 256) (k : Fin 32) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k)
      = G18 m c (ix2 (tok t r) k) := by
  show _ = SampleStatesReferenceIdeal.Read.val_main_v87 (F := Ideal) (a0 m c) (a1 m c) (a2 m c) (ix3 (bat (tok t r)) (pos (tok t r)) k)
  rw [SampleStatesReferenceIdeal.S.rope_at]
  refine (block18_at (iblk m c 0 t) (iblk m c 1 t) (iblk m c 2 t) (iblk m c 3 t) (iblk m c 4 t) (iblk m c 5 t) (iblk m c 6 t) (iblk m c 7 t) (iblk m c 8 t) (iblk m c 9 t) (iblk m c 10 t) r k).trans ?_
  simp only [blk0, blk3, blk6, blk1, blk2, SampleStatesReferenceIdeal.S.rot0_at, SampleStatesReferenceIdeal.S.rot1_at]
  simp only [← cos_pos t r, ← sin_pos t r]
  exact rope_eq _ _ (a2 m c) _ _ r k (fun e => hg _) hw

theorem flushed18 (hg : ∀ i, Fin' (a1 m c i)) (hw : ∀ i, Fin' (a2 m c i)) (t : Fin cfg0.N) :
    (dats m 0 c).flushed 18 t = ((cfg0.win 18).blk t).view.read (Elt Ideal) (G18 m c) := by
  obtain ⟨i0, i1⟩ := index18 t
  show (cfg0.win 18).cut (grid0.coords t) ((dats m 0 c).after 18 t) = _
  rw [after0_18]
  funext j
  rw [View.read_apply]
  have hj0 : (j 0).val < 256 := lt_of_lt_of_eq (j 0).isLt (xsize18 t).1
  have hj1 : (j 1).val < 32 := lt_of_lt_of_eq (j 1).isLt (xsize18 t).2
  have e := out18_at m c hg hw t ⟨(j 0).val, hj0⟩ ⟨(j 1).val, hj1⟩
  refine Eq.trans (congrArg (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ext2 _ _ _ rfl rfl)) (e.trans (congrArg (G18 m c) (ext2 _ _ _ ?_ ?_).symm))
  · show win0_18.index t 0 * 256 + 1 * (j 0).val = 256 * t.val + (j 0).val; rw [i0]; omega
  · show win0_18.index t 1 * 32 + 1 * (j 1).val = (j 1).val; rw [i1]; omega

theorem final18 (hg : ∀ i, Fin' (a1 m c i)) (hw : ∀ i, Fin' (a2 m c i)) : (dats m 0 c).arrAt 18 cfg0.N = G18 m c :=
  (dats m 0 c).arrAt_eq_of_cover 18 (G18 m c) (fun t _ => flushed18 m c hg hw t) fun i => by
    have hi0 : (i 0).val < 1024 := (i 0).isLt
    have hi1 : (i 1).val < 32 := (i 1).isLt
    have hN : cfg0.N = 4 := Gen.N_0
    let t : Fin cfg0.N := ⟨(i 0).val / 256, by rw [hN]; omega⟩
    obtain ⟨i0, i1⟩ := index18 t
    obtain ⟨x0, x1⟩ := xsize18 t
    refine ⟨t, flush0_18 t, ?_⟩
    show i ∈ ((View.whole main_v87_7).slice (win0_18.rect t)).set
    rw [View.set_slice_whole, Rect.mem_set_unit]
    intro a
    match a with
    | ⟨0, _⟩ =>
      show win0_18.index t 0 * 256 ≤ (i 0).val ∧ (i 0).val < win0_18.index t 0 * 256 + win0_18.xsize (grid0.coords t) 0
      rw [i0, x0]; show (i 0).val / 256 * 256 ≤ _ ∧ _ < (i 0).val / 256 * 256 + 256; omega
    | ⟨1, _⟩ =>
      show win0_18.index t 1 * 32 ≤ (i 1).val ∧ (i 1).val < win0_18.index t 1 * 32 + win0_18.xsize (grid0.coords t) 1
      rw [i1, x1]; omega

end Cert.SampleStatesIdeal.S

end
-- ==== Proof.T.Tail.lean ====
module

public import proofs.«01_k».proof.Proof.T.Out

@[expose] public section

set_option maxRecDepth 16384

noncomputable section

/-! # What the host makes of the call's results -/

namespace Cert.SampleStatesIdeal.S

open Idealize.ShloMosaic Idealize.ShloMosaic.TcCoe Idealize.SL.Sem Cert.SampleStatesIdeal Gen Cert.MergeRow Cert.StatesRow Cert.Online
open Idealize.ShloMosaic.Pipeline (Dat)
open Cert.ReferenceIdeal.V (ext2 ext3)

variable (m : (ℓ : Loc nD τ sig) → Buf (Elt Ideal) ℓ) (c : Dev nD)

/-- The arrays after the call. -/
abbrev after0 : Valuation τ sig (Elt Ideal) := Pipeline.withArrays (cfgs 0).spec c (V0 m c) fun w => (dats m 0 c).arrAt w (cfgs 0).N

theorem arr_inj : Function.Injective (Pipeline.arrRef (cfgs 0).spec) := by exact (by decide : Function.Injective (Pipeline.arrRef spec0))

theorem arr11 : (after0 m c (Proc.devRef .tc main_v87_0) : FVec Ideal S1024x512 .f32) = G11 m c :=
  (Pipeline.withArrays_arr (cfgs 0).spec arr_inj c (V0 m c) (fun w => (dats m 0 c).arrAt w (cfgs 0).N) 11).trans (final11 m c)

theorem arr13 : (after0 m c (Proc.devRef .tc main_v87_2) : FVec Ideal S1024x128 .f32) = G13 m c :=
  (Pipeline.withArrays_arr (cfgs 0).spec arr_inj c (V0 m c) (fun w => (dats m 0 c).arrAt w (cfgs 0).N) 13).trans (final13 m c)

theorem arr14 : (after0 m c (Proc.devRef .tc main_v87_3) : FVec Ideal S1024x128 .f32) = G14 m c :=
  (Pipeline.withArrays_arr (cfgs 0).spec arr_inj c (V0 m c) (fun w => (dats m 0 c).arrAt w (cfgs 0).N) 14).trans (final14 m c)

theorem arr17 : (after0 m c (Proc.devRef .tc main_v87_6) : FVec Ideal S1024x256 .f32) = G17 m c :=
  (Pipeline.withArrays_arr (cfgs 0).spec arr_inj c (V0 m c) (fun w => (dats m 0 c).arrAt w (cfgs 0).N) 17).trans (final17 m c)

theorem arr18 (hg : ∀ i, Fin' (a1 m c i)) (hw : ∀ i, Fin' (a2 m c i)) : (after0 m c (Proc.devRef .tc main_v87_7) : FVec Ideal S1024x32 .f32) = G18 m c :=
  (Pipeline.withArrays_arr (cfgs 0).spec arr_inj c (V0 m c) (fun w => (dats m 0 c).arrAt w (cfgs 0).N) 18).trans (final18 m c hg hw)

/-! The tokens unflattened. -/

theorem unflat512 (y : FVec Ideal S128x8x512 .f32) :
    shapeCast S128x8x512 (fun i : S1024x512.Idx => y (ix3 (bat (i 0)) (pos (i 0)) (i 1)) : FVec Ideal S1024x512 .f32) shapeCasts_S1024x512_S128x8x512 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 8 + s.val) / 8 = b.val; omega) (by show (b.val * 8 + s.val) % 8 = s.val; omega) rfl)

theorem unflat256 (y : FVec Ideal S128x8x256 .f32) :
    shapeCast S128x8x256 (fun i : S1024x256.Idx => y (ix3 (bat (i 0)) (pos (i 0)) (i 1)) : FVec Ideal S1024x256 .f32) shapeCasts_S1024x256_S128x8x256 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 8 + s.val) / 8 = b.val; omega) (by show (b.val * 8 + s.val) % 8 = s.val; omega) rfl)

theorem unflat32 (y : FVec Ideal S128x8x32 .f32) :
    shapeCast S128x8x32 (fun i : S1024x32.Idx => y (ix3 (bat (i 0)) (pos (i 0)) (i 1)) : FVec Ideal S1024x32 .f32) shapeCasts_S1024x32_S128x8x32 = y := by
  funext i
  obtain ⟨b, s, k, rfl⟩ : ∃ b s k, i = ix3 b s k := ⟨i 0, i 1, i 2, ext3 _ _ _ _ rfl rfl rfl⟩
  pointwise [bat, pos]
  exact congrArg y (ext3 _ _ _ _ (by show (b.val * 8 + s.val) / 8 = b.val; omega) (by show (b.val * 8 + s.val) % 8 = s.val; omega) rfl)

theorem unflat128 (y : FVec Ideal SampleStatesReferenceIdeal.S128x8x128 .f32) :
    shapeCast S128x8x2x64 (fun i : S1024x128.Idx => y (ix3 (bat (i 0)) (pos (i 0)) (i 1)) : FVec Ideal S1024x128 .f32) shapeCasts_S1024x128_S128x8x2x64
      = shapeCast S128x8x2x64 y SampleStatesReferenceIdeal.Facts₀.shapeCasts_S128x8x128_S128x8x2x64 := by
  funext i
  obtain ⟨b, s, k, l, rfl⟩ : ∃ b s k l, i = ix4 b s k l := ⟨i 0, i 1, i 2, i 3, by funext a; match a with | ⟨0, _⟩ => rfl | ⟨1, _⟩ => rfl | ⟨2, _⟩ => rfl | ⟨3, _⟩ => rfl⟩
  pointwise [bat, pos]
  exact congrArg y (ext3 _ _ _ _ (by show (b.val * 8 + s.val) / 8 = b.val; omega) (by show (b.val * 8 + s.val) % 8 = s.val; omega) rfl)

theorem tail90 : (Pipeline.afterTail₀ cfgs (dats m) 0 (V0 m) [hostOps1] c main_v90 : FVec Ideal S128x8x2x64 .f32)
    = SampleStatesReferenceIdeal.Read.val_main_v38 (F := Ideal) (a0 m c) (a1 m c) (a2 m c) := by
  have e : (Pipeline.afterTail₀ cfgs (dats m) 0 (V0 m) [hostOps1] c main_v90 : FVec Ideal S128x8x2x64 .f32)
      = shapeCast S128x8x2x64 (after0 m c (Proc.devRef .tc main_v87_2) : FVec Ideal S1024x128 .f32) shapeCasts_S1024x128_S128x8x2x64 := by
    unfold Pipeline.afterTail₀
    simp only [hostOps1, List.flatten_cons, List.flatten_nil, List.append_nil, List.cons_append, List.nil_append]
    after_results_simp <;> rfl
  rw [e, arr13 m c]
  exact unflat128 _

theorem tail91 : (Pipeline.afterTail₀ cfgs (dats m) 0 (V0 m) [hostOps1] c main_v91 : FVec Ideal S128x8x2x64 .f32)
    = SampleStatesReferenceIdeal.Read.val_main_v39 (F := Ideal) (a0 m c) (a1 m c) (a2 m c) := by
  have e : (Pipeline.afterTail₀ cfgs (dats m) 0 (V0 m) [hostOps1] c main_v91 : FVec Ideal S128x8x2x64 .f32)
      = shapeCast S128x8x2x64 (after0 m c (Proc.devRef .tc main_v87_3) : FVec Ideal S1024x128 .f32) shapeCasts_S1024x128_S128x8x2x64 := by
    unfold Pipeline.afterTail₀
    simp only [hostOps1, List.flatten_cons, List.flatten_nil, List.append_nil, List.cons_append, List.nil_append]
    after_results_simp <;> rfl
  rw [e, arr14 m c]
  exact unflat128 _

theorem tail92 : (Pipeline.afterTail₀ cfgs (dats m) 0 (V0 m) [hostOps1] c main_v92 : FVec Ideal S128x8x256 .f32)
    = SampleStatesReferenceIdeal.Read.val_main_v70 (F := Ideal) (a0 m c) (a1 m c) (a2 m c) (a5 m c) := by
  have e : (Pipeline.afterTail₀ cfgs (dats m) 0 (V0 m) [hostOps1] c main_v92 : FVec Ideal S128x8x256 .f32)
      = shapeCast S128x8x256 (after0 m c (Proc.devRef .tc main_v87_6) : FVec Ideal S1024x256 .f32) shapeCasts_S1024x256_S128x8x256 := by
    unfold Pipeline.afterTail₀
    simp only [hostOps1, List.flatten_cons, List.flatten_nil, List.append_nil, List.cons_append, List.nil_append]
    after_results_simp <;> rfl
  rw [e, arr17 m c]
  exact unflat256 _

theorem tail93 (hg : ∀ i, Fin' (a1 m c i)) (hw : ∀ i, Fin' (a2 m c i)) : (Pipeline.afterTail₀ cfgs (dats m) 0 (V0 m) [hostOps1] c main_v93 : FVec Ideal S128x8x32 .f32)
    = SampleStatesReferenceIdeal.Read.val_main_v87 (F := Ideal) (a0 m c) (a1 m c) (a2 m c) := by
  have e : (Pipeline.afterTail₀ cfgs (dats m) 0 (V0 m) [hostOps1] c main_v93 : FVec Ideal S128x8x32 .f32)
      = shapeCast S128x8x32 (after0 m c (Proc.devRef .tc main_v87_7) : FVec Ideal S1024x32 .f32) shapeCasts_S1024x32_S128x8x32 := by
    unfold Pipeline.afterTail₀
    simp only [hostOps1, List.flatten_cons, List.flatten_nil, List.append_nil, List.cons_append, List.nil_append]
    after_results_simp <;> rfl
  rw [e, arr18 m c hg hw]
  exact unflat32 _

theorem tail94 : (Pipeline.afterTail₀ cfgs (dats m) 0 (V0 m) [hostOps1] c main_v94 : FVec Ideal S128x30x512 .f32)
    = SampleStatesReferenceIdeal.Read.val_main_v37 (F := Ideal) (a0 m c) (ac m c) (a1 m c) (a2 m c) := by
  have e : (Pipeline.afterTail₀ cfgs (dats m) 0 (V0 m) [hostOps1] c main_v94 : FVec Ideal S128x30x512 .f32)
      = extractStridedSlice S128x30x512 ![0, 8, 0] (concatenate S128x38x512 1
          [⟨S128x30x512, after0 m c (Proc.devRef .tc main_arg1)⟩,
            ⟨S128x8x512, shapeCast S128x8x512 (after0 m c (Proc.devRef .tc main_v87_0) : FVec Ideal S1024x512 .f32) shapeCasts_S1024x512_S128x8x512⟩]
          concatenates_S128x30x512_S128x8x512_S128x38x512_d1) slices_S128x38x512_S128x30x512_0_8_0 := by
    unfold Pipeline.afterTail₀
    simp only [hostOps1, List.flatten_cons, List.flatten_nil, List.append_nil, List.cons_append, List.nil_append]
    after_results_simp <;> rfl
  have ea : (after0 m c (Proc.devRef .tc main_arg1) : FVec Ideal S128x30x512 .f32) = ac m c :=
    (Pipeline.withArrays_of_ne (cfgs 0).spec c (V0 m c) (fun w => (dats m 0 c).arrAt w (cfgs 0).N) main_arg1 (by decide)).trans rfl
  rw [e, arr11 m c, ea]
  have h : shapeCast S128x8x512 (G11 m c) shapeCasts_S1024x512_S128x8x512
      = SampleStatesReferenceIdeal.Read.val_main_v35 (F := Ideal) (a0 m c) (a1 m c) (a2 m c) := unflat512 _
  rw [h]
  rfl

theorem tail88 : (Pipeline.afterTail₀ cfgs (dats m) 0 (V0 m) [hostOps1] c main_v88 : FVec Ideal S128x8x512 .f32)
    = SampleStatesReferenceIdeal.Read.val_main_v35 (F := Ideal) (a0 m c) (a1 m c) (a2 m c) := by
  have e : (Pipeline.afterTail₀ cfgs (dats m) 0 (V0 m) [hostOps1] c main_v88 : FVec Ideal S128x8x512 .f32)
      = shapeCast S128x8x512 (after0 m c (Proc.devRef .tc main_v87_0) : FVec Ideal S1024x512 .f32) shapeCasts_S1024x512_S128x8x512 := by
    unfold Pipeline.afterTail₀
    simp only [hostOps1, List.flatten_cons, List.flatten_nil, List.append_nil, List.cons_append, List.nil_append]
    after_results_simp <;> rfl
  rw [e, arr11 m c]
  exact unflat512 _

end Cert.SampleStatesIdeal.S

end
-- ==== Proof.T.Claims.lean ====
module

public import proofs.«01_k».proof.Defs
public import proofs.«01_k».proof.Proof.Gen.SampleStates.Frame
public import proofs.«01_k».proof.Proof.Gen.SampleStatesReferenceIdeal.Run
public import proofs.«01_k».proof.Proof.T.Tail

@[expose] public section

noncomputable section

open Idealize.ShloMosaic Idealize.ShloMosaic.TcCoe Idealize.SL.Sem

/-! ## The frames of the call that makes the new states, and its values -/

namespace Cert.Proof.Claims

theorem frame_sample_states : Cert.quiescent_SampleStates := fun m ρ _ => Cert.SampleStates.Gen.frame m ρ
theorem frame_sample_states_ideal : Cert.quiescent_SampleStatesIdeal := fun m ρ _ => Cert.SampleStatesIdeal.Gen.frame m ρ
theorem frame_sample_states_ideal_finite : Cert.quiescent_SampleStatesIdeal_pre_sample_finite_weights := fun m ρ _ => Cert.SampleStatesIdeal.Gen.frame m ρ
theorem frame_sample_states_reference : Cert.quiescent_SampleStatesReferenceIdeal := fun m ρ _ =>
  (θ_run Cert.SampleStatesReferenceIdeal.defs _ _).mono (fun r h => ⟨fun c => (h c).2.2.2.2.2.2,
      Idealize.ShloMosaic.sem_eq_zero_of_no_sems (by decide) r.2⟩)
    (Cert.SampleStatesReferenceIdeal.Value.run (F := Ideal) m ρ)
theorem frame_sample_states_reference_finite : Cert.quiescent_SampleStatesReferenceIdeal_pre_sample_finite_weights := fun m ρ _ => frame_sample_states_reference m ρ trivial

open Cert.SampleStatesReferenceIdeal.Read in
/-- When the norm's weights and the projection are real the call's states are the reference's. -/
theorem algebraic_sample_states : Cert.algebraic_SampleStatesIdeal_SampleStatesReferenceIdeal_pre_sample_finite_weights := by
  intro m g m' g' hpre hagree
  refine ⟨fun c => val_main_v38 (F := Ideal) (Cert.SampleStatesIdeal.S.a0 m c) (Cert.SampleStatesIdeal.S.a1 m c) (Cert.SampleStatesIdeal.S.a2 m c),
    fun c => val_main_v39 (F := Ideal) (Cert.SampleStatesIdeal.S.a0 m c) (Cert.SampleStatesIdeal.S.a1 m c) (Cert.SampleStatesIdeal.S.a2 m c),
    fun c => val_main_v70 (F := Ideal) (Cert.SampleStatesIdeal.S.a0 m c) (Cert.SampleStatesIdeal.S.a1 m c) (Cert.SampleStatesIdeal.S.a2 m c) (Cert.SampleStatesIdeal.S.a5 m c),
    fun c => val_main_v87 (F := Ideal) (Cert.SampleStatesIdeal.S.a0 m c) (Cert.SampleStatesIdeal.S.a1 m c) (Cert.SampleStatesIdeal.S.a2 m c),
    fun c => val_main_v37 (F := Ideal) (Cert.SampleStatesIdeal.S.a0 m c) (Cert.SampleStatesIdeal.S.ac m c) (Cert.SampleStatesIdeal.S.a1 m c) (Cert.SampleStatesIdeal.S.a2 m c),
    fun c => val_main_v35 (F := Ideal) (Cert.SampleStatesIdeal.S.a0 m c) (Cert.SampleStatesIdeal.S.a1 m c) (Cert.SampleStatesIdeal.S.a2 m c), ?_, ?_⟩
  · refine (θ_run Cert.SampleStatesIdeal.defs _ _).mono (fun r h c => ?_)
      (θ_run_and (Cert.SampleStatesIdeal.Gen.frame m g) (Cert.SampleStatesIdeal.Gen.run_main m g))
    obtain ⟨f1, f2⟩ := Cert.Pre_sample_finite_weights.S.fin_weights _ _ _ _ _ _ _ _ (hpre c)
    exact ⟨((h.2 c).2 Cert.SampleStatesIdeal.main_v90 (Pipeline.mem_restRefs_of Cert.SampleStatesIdeal.main_v90 (by decide) (by decide))).trans (Cert.SampleStatesIdeal.S.tail90 m c),
      ((h.2 c).2 Cert.SampleStatesIdeal.main_v91 (Pipeline.mem_restRefs_of Cert.SampleStatesIdeal.main_v91 (by decide) (by decide))).trans (Cert.SampleStatesIdeal.S.tail91 m c),
      ((h.2 c).2 Cert.SampleStatesIdeal.main_v92 (Pipeline.mem_restRefs_of Cert.SampleStatesIdeal.main_v92 (by decide) (by decide))).trans (Cert.SampleStatesIdeal.S.tail92 m c),
      ((h.2 c).2 Cert.SampleStatesIdeal.main_v93 (Pipeline.mem_restRefs_of Cert.SampleStatesIdeal.main_v93 (by decide) (by decide))).trans (Cert.SampleStatesIdeal.S.tail93 m c f1 f2),
      ((h.2 c).2 Cert.SampleStatesIdeal.main_v94 (Pipeline.mem_restRefs_of Cert.SampleStatesIdeal.main_v94 (by decide) (by decide))).trans (Cert.SampleStatesIdeal.S.tail94 m c),
      ((h.2 c).2 Cert.SampleStatesIdeal.main_v88 (Pipeline.mem_restRefs_of Cert.SampleStatesIdeal.main_v88 (by decide) (by decide))).trans (Cert.SampleStatesIdeal.S.tail88 m c),
      h.1.1 c⟩
  · refine (θ_run Cert.SampleStatesReferenceIdeal.defs _ _).mono (fun r h c => ?_) (Cert.SampleStatesReferenceIdeal.Value.run (F := Ideal) m' g')
    obtain ⟨e0, e1, e2, e3, e4, e5, e6, e7⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [val_main_v38_eq, e0, e2, e3]
    · rw [val_main_v39_eq, e0, e2, e3]
    · rw [val_main_v70_eq, e0, e2, e3, e6]
    · rw [val_main_v87_eq, e0, e2, e3]
    · rw [val_main_v37_eq, e0, e1, e2, e3]
    · rw [val_main_v35_eq, e0, e2, e3]

end Cert.Proof.Claims

end
-- ==== Proof.lean ====
module

public import proofs.«01_k».proof.Defs
public import proofs.«01_k».proof.Proof.Claims
public import proofs.«01_k».proof.Proof.Gen.ReferenceIdeal.Read
public import proofs.«01_k».proof.Proof.Gen.Pre_finite
public import proofs.«01_k».proof.Proof.V.Algebraic
public import proofs.«01_k».proof.Proof.M.Claims
public import proofs.«01_k».proof.Proof.L.Claims
public import proofs.«01_k».proof.Proof.S.Claims
public import proofs.«01_k».proof.Proof.N.Claims
public import proofs.«01_k».proof.Proof.T.Claims
public import proofs.«01_k».proof.Proof.Gen.Kernel
public import proofs.«01_k».proof.Proof.Gen.KernelIdeal
public import proofs.«01_k».proof.Proof.Gen.ReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Layer
public import proofs.«01_k».proof.Proof.Gen.Layer.Frame
public import proofs.«01_k».proof.Proof.Gen.LayerIdeal
public import proofs.«01_k».proof.Proof.Gen.LayerIdeal.Frame
public import proofs.«01_k».proof.Proof.Gen.LayerReferenceIdeal
public import proofs.«01_k».proof.Proof.Gen.LayerReferenceIdeal.Run
public import proofs.«01_k».proof.Proof.Gen.LayerReferenceIdeal.Read
public import proofs.«01_k».proof.Proof.Gen.States
public import proofs.«01_k».proof.Proof.Gen.States.Frame
public import proofs.«01_k».proof.Proof.Gen.StatesIdeal
public import proofs.«01_k».proof.Proof.Gen.StatesIdeal.Frame
public import proofs.«01_k».proof.Proof.Gen.StatesReferenceIdeal
public import proofs.«01_k».proof.Proof.Gen.StatesReferenceIdeal.Run
public import proofs.«01_k».proof.Proof.Gen.StatesReferenceIdeal.Read
public import proofs.«01_k».proof.Proof.Gen.Pre_finite_weights
public import proofs.«01_k».proof.Proof.Gen.SampleMerge
public import proofs.«01_k».proof.Proof.Gen.SampleMerge.Frame
public import proofs.«01_k».proof.Proof.Gen.SampleMergeIdeal
public import proofs.«01_k».proof.Proof.Gen.SampleMergeIdeal.Frame
public import proofs.«01_k».proof.Proof.Gen.SampleMergeReferenceIdeal
public import proofs.«01_k».proof.Proof.Gen.SampleMergeReferenceIdeal.Run
public import proofs.«01_k».proof.Proof.Gen.SampleMergeReferenceIdeal.Read
public import proofs.«01_k».proof.Proof.Gen.SampleStates
public import proofs.«01_k».proof.Proof.Gen.SampleStates.Frame
public import proofs.«01_k».proof.Proof.Gen.SampleStatesIdeal
public import proofs.«01_k».proof.Proof.Gen.SampleStatesIdeal.Frame
public import proofs.«01_k».proof.Proof.Gen.SampleStatesReferenceIdeal
public import proofs.«01_k».proof.Proof.Gen.SampleStatesReferenceIdeal.Run
public import proofs.«01_k».proof.Proof.Gen.SampleStatesReferenceIdeal.Read
public import proofs.«01_k».proof.Proof.Gen.Pre_sample_finite_weights
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Layer.Gen.facts, Cert.LayerIdeal.Gen.facts, Cert.LayerReferenceIdeal.Gen.facts,
    Cert.States.Gen.facts, Cert.StatesIdeal.Gen.facts, Cert.StatesReferenceIdeal.Gen.facts,
    Cert.SampleMerge.Gen.facts, Cert.SampleMergeIdeal.Gen.facts, Cert.SampleMergeReferenceIdeal.Gen.facts,
    Cert.SampleStates.Gen.facts, Cert.SampleStatesIdeal.Gen.facts, Cert.SampleStatesReferenceIdeal.Gen.facts,
    Cert.Pre_finite.Gen.facts, Cert.Pre_finite_weights.Gen.facts, Cert.Pre_sample_finite_weights.Gen.facts,
    Claims.frame_p, Claims.frame_pi, Claims.frame_pi_finite, Claims.frame_ri, Claims.frame_ri_finite, Claims.frame_merge,
    Claims.frame_merge_ideal, Claims.frame_merge_reference, Claims.frame_layer, Claims.frame_layer_ideal,
    Claims.frame_layer_reference, Claims.frame_states, Claims.frame_states_ideal, Claims.frame_states_ideal_finite,
    Claims.frame_states_reference, Claims.frame_states_reference_finite,
    Claims.frame_sample_merge, Claims.frame_sample_merge_ideal, Claims.frame_sample_merge_reference,
    Claims.frame_sample_states, Claims.frame_sample_states_ideal, Claims.frame_sample_states_ideal_finite,
    Claims.frame_sample_states_reference, Claims.frame_sample_states_reference_finite, Claims.preserves, Claims.algebraic, trivial,
    Claims.algebraic_merge, trivial, Claims.algebraic_layer, trivial, Claims.algebraic_states, trivial, Claims.algebraic_sample_merge, trivial,
    Claims.algebraic_sample_states⟩

end Cert.Proof

end
